-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Resid (m : (ℓ : Loc Cert.Resid.nD Cert.Resid.τ Cert.Resid.sig) → Buf (Elt Bits) ℓ) : Prop :=
  True

def Pre_ResidIdeal (m : (ℓ : Loc Cert.ResidIdeal.nD Cert.ResidIdeal.τ Cert.ResidIdeal.sig) → Buf (Elt Ideal) ℓ) : Prop :=
  True

def Pre_ResidRefIdeal (m : (ℓ : Loc Cert.ResidRefIdeal.nD Cert.ResidRefIdeal.τ Cert.ResidRefIdeal.sig) → Buf (Elt Ideal) ℓ) : Prop :=
  True

def Pre_SampleProj (m : (ℓ : Loc Cert.SampleProj.nD Cert.SampleProj.τ Cert.SampleProj.sig) → Buf (Elt Bits) ℓ) : Prop :=
  True

def Pre_SampleProjIdeal (m : (ℓ : Loc Cert.SampleProjIdeal.nD Cert.SampleProjIdeal.τ Cert.SampleProjIdeal.sig) → Buf (Elt Ideal) ℓ) : Prop :=
  True

def Pre_SampleProjRefIdeal (m : (ℓ : Loc Cert.SampleProjRefIdeal.nD Cert.SampleProjRefIdeal.τ Cert.SampleProjRefIdeal.sig) → Buf (Elt Ideal) ℓ) : Prop :=
  True

def Pre_SampleResid (m : (ℓ : Loc Cert.SampleResid.nD Cert.SampleResid.τ Cert.SampleResid.sig) → Buf (Elt Bits) ℓ) : Prop :=
  True

def Pre_SampleResidIdeal (m : (ℓ : Loc Cert.SampleResidIdeal.nD Cert.SampleResidIdeal.τ Cert.SampleResidIdeal.sig) → Buf (Elt Ideal) ℓ) : Prop :=
  True

def Pre_SampleResidRefIdeal (m : (ℓ : Loc Cert.SampleResidRefIdeal.nD Cert.SampleResidRefIdeal.τ Cert.SampleResidRefIdeal.sig) → Buf (Elt Ideal) ℓ) : Prop :=
  True

def Pre_SampleIdx [hPre_pages_in_pool : Cert.Pre_pages_in_pool.Facts] (m : (ℓ : Loc Cert.SampleIdx.nD Cert.SampleIdx.τ Cert.SampleIdx.sig) → Buf (Elt Bits) ℓ) : Prop :=
  ∀ c : Dev Cert.SampleIdx.nD,
    (Cert.Pre_pages_in_pool.fn (F := Bits) (m ((c.tc : Thread Cert.SampleIdx.nD Cert.SampleIdx.τ).loc Cert.SampleIdx.main_arg0)) (m ((c.tc : Thread Cert.SampleIdx.nD Cert.SampleIdx.τ).loc Cert.SampleIdx.main_arg1)) (m ((c.tc : Thread Cert.SampleIdx.nD Cert.SampleIdx.τ).loc Cert.SampleIdx.main_arg2)) (m ((c.tc : Thread Cert.SampleIdx.nD Cert.SampleIdx.τ).loc Cert.SampleIdx.main_arg3))) = (fun _ => 1#1)

def Pre_SampleIdxIdeal [hPre_pages_in_pool : Cert.Pre_pages_in_pool.Facts] (m : (ℓ : Loc Cert.SampleIdxIdeal.nD Cert.SampleIdxIdeal.τ Cert.SampleIdxIdeal.sig) → Buf (Elt Ideal) ℓ) : Prop :=
  ∀ c : Dev Cert.SampleIdxIdeal.nD,
    (Cert.Pre_pages_in_pool.fn (F := Ideal) (m ((c.tc : Thread Cert.SampleIdxIdeal.nD Cert.SampleIdxIdeal.τ).loc Cert.SampleIdxIdeal.main_arg0)) (m ((c.tc : Thread Cert.SampleIdxIdeal.nD Cert.SampleIdxIdeal.τ).loc Cert.SampleIdxIdeal.main_arg1)) (m ((c.tc : Thread Cert.SampleIdxIdeal.nD Cert.SampleIdxIdeal.τ).loc Cert.SampleIdxIdeal.main_arg2)) (m ((c.tc : Thread Cert.SampleIdxIdeal.nD Cert.SampleIdxIdeal.τ).loc Cert.SampleIdxIdeal.main_arg3))) = (fun _ => 1#1)

def Pre_SampleIdxRefIdeal (m : (ℓ : Loc Cert.SampleIdxRefIdeal.nD Cert.SampleIdxRefIdeal.τ Cert.SampleIdxRefIdeal.sig) → Buf (Elt Ideal) ℓ) : Prop :=
  True

def Pre_SampleIdxRefIdeal_pages_in_pool [hPre_pages_in_pool : Cert.Pre_pages_in_pool.Facts] (m : (ℓ : Loc Cert.SampleIdxRefIdeal.nD Cert.SampleIdxRefIdeal.τ Cert.SampleIdxRefIdeal.sig) → Buf (Elt Ideal) ℓ) : Prop :=
  ∀ c : Dev Cert.SampleIdxRefIdeal.nD,
    (Cert.Pre_pages_in_pool.fn (F := Ideal) (m ((c.tc : Thread Cert.SampleIdxRefIdeal.nD Cert.SampleIdxRefIdeal.τ).loc Cert.SampleIdxRefIdeal.main_arg0)) (m ((c.tc : Thread Cert.SampleIdxRefIdeal.nD Cert.SampleIdxRefIdeal.τ).loc Cert.SampleIdxRefIdeal.main_arg1)) (m ((c.tc : Thread Cert.SampleIdxRefIdeal.nD Cert.SampleIdxRefIdeal.τ).loc Cert.SampleIdxRefIdeal.main_arg2)) (m ((c.tc : Thread Cert.SampleIdxRefIdeal.nD Cert.SampleIdxRefIdeal.τ).loc Cert.SampleIdxRefIdeal.main_arg3))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Resid [hResid : Cert.Resid.Facts] : Prop :=
  ∀ (m : (ℓ : Loc Cert.Resid.nD Cert.Resid.τ Cert.Resid.sig) → Buf (Elt Bits) ℓ) (g : Dev Cert.Resid.nD → PrngReg), Pre_Resid m →
    θ_run (Cert.Resid.defs (F := Bits)) (onTc (τ := Cert.Resid.τ) (Cert.Resid.main (F := Bits))) ⟨m, fun _ => 0, g⟩ (fun r => (∀ c : Dev Cert.Resid.nD,
      r.2.mem ((c.tc : Thread Cert.Resid.nD Cert.Resid.τ).loc Cert.Resid.main_arg0) = m ((c.tc : Thread Cert.Resid.nD Cert.Resid.τ).loc Cert.Resid.main_arg0)
      ∧ r.2.mem ((c.tc : Thread Cert.Resid.nD Cert.Resid.τ).loc Cert.Resid.main_arg1) = m ((c.tc : Thread Cert.Resid.nD Cert.Resid.τ).loc Cert.Resid.main_arg1)
      ∧ r.2.mem ((c.tc : Thread Cert.Resid.nD Cert.Resid.τ).loc Cert.Resid.main_arg2) = m ((c.tc : Thread Cert.Resid.nD Cert.Resid.τ).loc Cert.Resid.main_arg2)
      ∧ r.2.mem ((c.tc : Thread Cert.Resid.nD Cert.Resid.τ).loc Cert.Resid.main_arg3) = m ((c.tc : Thread Cert.Resid.nD Cert.Resid.τ).loc Cert.Resid.main_arg3)
      ∧ r.2.mem ((c.tc : Thread Cert.Resid.nD Cert.Resid.τ).loc Cert.Resid.main_arg4) = m ((c.tc : Thread Cert.Resid.nD Cert.Resid.τ).loc Cert.Resid.main_arg4)
      ∧ r.2.mem ((c.tc : Thread Cert.Resid.nD Cert.Resid.τ).loc Cert.Resid.main_arg5) = m ((c.tc : Thread Cert.Resid.nD Cert.Resid.τ).loc Cert.Resid.main_arg5)
      ∧ r.2.mem ((c.tc : Thread Cert.Resid.nD Cert.Resid.τ).loc Cert.Resid.main_arg6) = m ((c.tc : Thread Cert.Resid.nD Cert.Resid.τ).loc Cert.Resid.main_arg6)
      ∧ r.2.mem ((c.tc : Thread Cert.Resid.nD Cert.Resid.τ).loc Cert.Resid.main_arg7) = m ((c.tc : Thread Cert.Resid.nD Cert.Resid.τ).loc Cert.Resid.main_arg7)
      ∧ r.2.mem ((c.tc : Thread Cert.Resid.nD Cert.Resid.τ).loc Cert.Resid.main_arg8) = m ((c.tc : Thread Cert.Resid.nD Cert.Resid.τ).loc Cert.Resid.main_arg8)
      ∧ r.2.mem ((c.tc : Thread Cert.Resid.nD Cert.Resid.τ).loc Cert.Resid.main_arg9) = m ((c.tc : Thread Cert.Resid.nD Cert.Resid.τ).loc Cert.Resid.main_arg9)
      ∧ r.2.mem ((c.tc : Thread Cert.Resid.nD Cert.Resid.τ).loc Cert.Resid.main_arg10) = m ((c.tc : Thread Cert.Resid.nD Cert.Resid.τ).loc Cert.Resid.main_arg10))
      ∧ r.2.sem = fun _ => 0)

def quiescent_ResidIdeal [hResidIdeal : Cert.ResidIdeal.Facts] : Prop :=
  ∀ (m : (ℓ : Loc Cert.ResidIdeal.nD Cert.ResidIdeal.τ Cert.ResidIdeal.sig) → Buf (Elt Ideal) ℓ) (g : Dev Cert.ResidIdeal.nD → PrngReg), Pre_ResidIdeal m →
    θ_run (Cert.ResidIdeal.defs (F := Ideal)) (onTc (τ := Cert.ResidIdeal.τ) (Cert.ResidIdeal.main (F := Ideal))) ⟨m, fun _ => 0, g⟩ (fun r => (∀ c : Dev Cert.ResidIdeal.nD,
      r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
      ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
      ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
      ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3)
      ∧ r.2.mem ((c.tc : Thread Cert.ResidIdeal.nD Cert.ResidIdeal.τ).loc Cert.ResidIdeal.main_arg4) = m ((c.tc : Thread Cert.ResidIdeal.nD Cert.ResidIdeal.τ).loc Cert.ResidIdeal.main_arg4)
      ∧ r.2.mem ((c.tc : Thread Cert.ResidIdeal.nD Cert.ResidIdeal.τ).loc Cert.ResidIdeal.main_arg5) = m ((c.tc : Thread Cert.ResidIdeal.nD Cert.ResidIdeal.τ).loc Cert.ResidIdeal.main_arg5)
      ∧ r.2.mem ((c.tc : Thread Cert.ResidIdeal.nD Cert.ResidIdeal.τ).loc Cert.ResidIdeal.main_arg6) = m ((c.tc : Thread Cert.ResidIdeal.nD Cert.ResidIdeal.τ).loc Cert.ResidIdeal.main_arg6)
      ∧ r.2.mem ((c.tc : Thread Cert.ResidIdeal.nD Cert.ResidIdeal.τ).loc Cert.ResidIdeal.main_arg7) = m ((c.tc : Thread Cert.ResidIdeal.nD Cert.ResidIdeal.τ).loc Cert.ResidIdeal.main_arg7)
      ∧ r.2.mem ((c.tc : Thread Cert.ResidIdeal.nD Cert.ResidIdeal.τ).loc Cert.ResidIdeal.main_arg8) = m ((c.tc : Thread Cert.ResidIdeal.nD Cert.ResidIdeal.τ).loc Cert.ResidIdeal.main_arg8)
      ∧ r.2.mem ((c.tc : Thread Cert.ResidIdeal.nD Cert.ResidIdeal.τ).loc Cert.ResidIdeal.main_arg9) = m ((c.tc : Thread Cert.ResidIdeal.nD Cert.ResidIdeal.τ).loc Cert.ResidIdeal.main_arg9)
      ∧ r.2.mem ((c.tc : Thread Cert.ResidIdeal.nD Cert.ResidIdeal.τ).loc Cert.ResidIdeal.main_arg10) = m ((c.tc : Thread Cert.ResidIdeal.nD Cert.ResidIdeal.τ).loc Cert.ResidIdeal.main_arg10))
      ∧ r.2.sem = fun _ => 0)

def quiescent_ResidRefIdeal [hResidRefIdeal : Cert.ResidRefIdeal.Facts] : Prop :=
  ∀ (m : (ℓ : Loc Cert.ResidRefIdeal.nD Cert.ResidRefIdeal.τ Cert.ResidRefIdeal.sig) → Buf (Elt Ideal) ℓ) (g : Dev Cert.ResidRefIdeal.nD → PrngReg), Pre_ResidRefIdeal m →
    θ_run (Cert.ResidRefIdeal.defs (F := Ideal)) (onTc (τ := Cert.ResidRefIdeal.τ) (Cert.ResidRefIdeal.main (F := Ideal))) ⟨m, fun _ => 0, g⟩ (fun r => (∀ c : Dev Cert.ResidRefIdeal.nD,
      r.2.mem ((c.tc : Thread Cert.ResidRefIdeal.nD Cert.ResidRefIdeal.τ).loc Cert.ResidRefIdeal.main_arg0) = m ((c.tc : Thread Cert.ResidRefIdeal.nD Cert.ResidRefIdeal.τ).loc Cert.ResidRefIdeal.main_arg0)
      ∧ r.2.mem ((c.tc : Thread Cert.ResidRefIdeal.nD Cert.ResidRefIdeal.τ).loc Cert.ResidRefIdeal.main_arg1) = m ((c.tc : Thread Cert.ResidRefIdeal.nD Cert.ResidRefIdeal.τ).loc Cert.ResidRefIdeal.main_arg1)
      ∧ r.2.mem ((c.tc : Thread Cert.ResidRefIdeal.nD Cert.ResidRefIdeal.τ).loc Cert.ResidRefIdeal.main_arg2) = m ((c.tc : Thread Cert.ResidRefIdeal.nD Cert.ResidRefIdeal.τ).loc Cert.ResidRefIdeal.main_arg2)
      ∧ r.2.mem ((c.tc : Thread Cert.ResidRefIdeal.nD Cert.ResidRefIdeal.τ).loc Cert.ResidRefIdeal.main_arg3) = m ((c.tc : Thread Cert.ResidRefIdeal.nD Cert.ResidRefIdeal.τ).loc Cert.ResidRefIdeal.main_arg3)
      ∧ r.2.mem ((c.tc : Thread Cert.ResidRefIdeal.nD Cert.ResidRefIdeal.τ).loc Cert.ResidRefIdeal.main_arg4) = m ((c.tc : Thread Cert.ResidRefIdeal.nD Cert.ResidRefIdeal.τ).loc Cert.ResidRefIdeal.main_arg4)
      ∧ r.2.mem ((c.tc : Thread Cert.ResidRefIdeal.nD Cert.ResidRefIdeal.τ).loc Cert.ResidRefIdeal.main_arg5) = m ((c.tc : Thread Cert.ResidRefIdeal.nD Cert.ResidRefIdeal.τ).loc Cert.ResidRefIdeal.main_arg5)
      ∧ r.2.mem ((c.tc : Thread Cert.ResidRefIdeal.nD Cert.ResidRefIdeal.τ).loc Cert.ResidRefIdeal.main_arg6) = m ((c.tc : Thread Cert.ResidRefIdeal.nD Cert.ResidRefIdeal.τ).loc Cert.ResidRefIdeal.main_arg6)
      ∧ r.2.mem ((c.tc : Thread Cert.ResidRefIdeal.nD Cert.ResidRefIdeal.τ).loc Cert.ResidRefIdeal.main_arg7) = m ((c.tc : Thread Cert.ResidRefIdeal.nD Cert.ResidRefIdeal.τ).loc Cert.ResidRefIdeal.main_arg7)
      ∧ r.2.mem ((c.tc : Thread Cert.ResidRefIdeal.nD Cert.ResidRefIdeal.τ).loc Cert.ResidRefIdeal.main_arg8) = m ((c.tc : Thread Cert.ResidRefIdeal.nD Cert.ResidRefIdeal.τ).loc Cert.ResidRefIdeal.main_arg8)
      ∧ r.2.mem ((c.tc : Thread Cert.ResidRefIdeal.nD Cert.ResidRefIdeal.τ).loc Cert.ResidRefIdeal.main_arg9) = m ((c.tc : Thread Cert.ResidRefIdeal.nD Cert.ResidRefIdeal.τ).loc Cert.ResidRefIdeal.main_arg9)
      ∧ r.2.mem ((c.tc : Thread Cert.ResidRefIdeal.nD Cert.ResidRefIdeal.τ).loc Cert.ResidRefIdeal.main_arg10) = m ((c.tc : Thread Cert.ResidRefIdeal.nD Cert.ResidRefIdeal.τ).loc Cert.ResidRefIdeal.main_arg10))
      ∧ r.2.sem = fun _ => 0)

def quiescent_SampleProj [hSampleProj : Cert.SampleProj.Facts] : Prop :=
  ∀ (m : (ℓ : Loc Cert.SampleProj.nD Cert.SampleProj.τ Cert.SampleProj.sig) → Buf (Elt Bits) ℓ) (g : Dev Cert.SampleProj.nD → PrngReg), Pre_SampleProj m →
    θ_run (Cert.SampleProj.defs (F := Bits)) (onTc (τ := Cert.SampleProj.τ) (Cert.SampleProj.main (F := Bits))) ⟨m, fun _ => 0, g⟩ (fun r => (∀ c : Dev Cert.SampleProj.nD,
      r.2.mem ((c.tc : Thread Cert.SampleProj.nD Cert.SampleProj.τ).loc Cert.SampleProj.main_arg0) = m ((c.tc : Thread Cert.SampleProj.nD Cert.SampleProj.τ).loc Cert.SampleProj.main_arg0)
      ∧ r.2.mem ((c.tc : Thread Cert.SampleProj.nD Cert.SampleProj.τ).loc Cert.SampleProj.main_arg1) = m ((c.tc : Thread Cert.SampleProj.nD Cert.SampleProj.τ).loc Cert.SampleProj.main_arg1)
      ∧ r.2.mem ((c.tc : Thread Cert.SampleProj.nD Cert.SampleProj.τ).loc Cert.SampleProj.main_arg2) = m ((c.tc : Thread Cert.SampleProj.nD Cert.SampleProj.τ).loc Cert.SampleProj.main_arg2))
      ∧ r.2.sem = fun _ => 0)

def quiescent_SampleProjIdeal [hSampleProjIdeal : Cert.SampleProjIdeal.Facts] : Prop :=
  ∀ (m : (ℓ : Loc Cert.SampleProjIdeal.nD Cert.SampleProjIdeal.τ Cert.SampleProjIdeal.sig) → Buf (Elt Ideal) ℓ) (g : Dev Cert.SampleProjIdeal.nD → PrngReg), Pre_SampleProjIdeal m →
    θ_run (Cert.SampleProjIdeal.defs (F := Ideal)) (onTc (τ := Cert.SampleProjIdeal.τ) (Cert.SampleProjIdeal.main (F := Ideal))) ⟨m, fun _ => 0, g⟩ (fun r => (∀ c : Dev Cert.SampleProjIdeal.nD,
      r.2.mem ((c.tc : Thread Cert.SampleProjIdeal.nD Cert.SampleProjIdeal.τ).loc Cert.SampleProjIdeal.main_arg0) = m ((c.tc : Thread Cert.SampleProjIdeal.nD Cert.SampleProjIdeal.τ).loc Cert.SampleProjIdeal.main_arg0)
      ∧ r.2.mem ((c.tc : Thread Cert.SampleProjIdeal.nD Cert.SampleProjIdeal.τ).loc Cert.SampleProjIdeal.main_arg1) = m ((c.tc : Thread Cert.SampleProjIdeal.nD Cert.SampleProjIdeal.τ).loc Cert.SampleProjIdeal.main_arg1)
      ∧ r.2.mem ((c.tc : Thread Cert.SampleProjIdeal.nD Cert.SampleProjIdeal.τ).loc Cert.SampleProjIdeal.main_arg2) = m ((c.tc : Thread Cert.SampleProjIdeal.nD Cert.SampleProjIdeal.τ).loc Cert.SampleProjIdeal.main_arg2))
      ∧ r.2.sem = fun _ => 0)

def quiescent_SampleProjRefIdeal [hSampleProjRefIdeal : Cert.SampleProjRefIdeal.Facts] : Prop :=
  ∀ (m : (ℓ : Loc Cert.SampleProjRefIdeal.nD Cert.SampleProjRefIdeal.τ Cert.SampleProjRefIdeal.sig) → Buf (Elt Ideal) ℓ) (g : Dev Cert.SampleProjRefIdeal.nD → PrngReg), Pre_SampleProjRefIdeal m →
    θ_run (Cert.SampleProjRefIdeal.defs (F := Ideal)) (onTc (τ := Cert.SampleProjRefIdeal.τ) (Cert.SampleProjRefIdeal.main (F := Ideal))) ⟨m, fun _ => 0, g⟩ (fun r => (∀ c : Dev Cert.SampleProjRefIdeal.nD,
      r.2.mem ((c.tc : Thread Cert.SampleProjRefIdeal.nD Cert.SampleProjRefIdeal.τ).loc Cert.SampleProjRefIdeal.main_arg0) = m ((c.tc : Thread Cert.SampleProjRefIdeal.nD Cert.SampleProjRefIdeal.τ).loc Cert.SampleProjRefIdeal.main_arg0)
      ∧ r.2.mem ((c.tc : Thread Cert.SampleProjRefIdeal.nD Cert.SampleProjRefIdeal.τ).loc Cert.SampleProjRefIdeal.main_arg1) = m ((c.tc : Thread Cert.SampleProjRefIdeal.nD Cert.SampleProjRefIdeal.τ).loc Cert.SampleProjRefIdeal.main_arg1)
      ∧ r.2.mem ((c.tc : Thread Cert.SampleProjRefIdeal.nD Cert.SampleProjRefIdeal.τ).loc Cert.SampleProjRefIdeal.main_arg2) = m ((c.tc : Thread Cert.SampleProjRefIdeal.nD Cert.SampleProjRefIdeal.τ).loc Cert.SampleProjRefIdeal.main_arg2))
      ∧ r.2.sem = fun _ => 0)

def quiescent_SampleResid [hSampleResid : Cert.SampleResid.Facts] : Prop :=
  ∀ (m : (ℓ : Loc Cert.SampleResid.nD Cert.SampleResid.τ Cert.SampleResid.sig) → Buf (Elt Bits) ℓ) (g : Dev Cert.SampleResid.nD → PrngReg), Pre_SampleResid m →
    θ_run (Cert.SampleResid.defs (F := Bits)) (onTc (τ := Cert.SampleResid.τ) (Cert.SampleResid.main (F := Bits))) ⟨m, fun _ => 0, g⟩ (fun r => (∀ c : Dev Cert.SampleResid.nD,
      r.2.mem ((c.tc : Thread Cert.SampleResid.nD Cert.SampleResid.τ).loc Cert.SampleResid.main_arg0) = m ((c.tc : Thread Cert.SampleResid.nD Cert.SampleResid.τ).loc Cert.SampleResid.main_arg0)
      ∧ r.2.mem ((c.tc : Thread Cert.SampleResid.nD Cert.SampleResid.τ).loc Cert.SampleResid.main_arg1) = m ((c.tc : Thread Cert.SampleResid.nD Cert.SampleResid.τ).loc Cert.SampleResid.main_arg1)
      ∧ r.2.mem ((c.tc : Thread Cert.SampleResid.nD Cert.SampleResid.τ).loc Cert.SampleResid.main_arg2) = m ((c.tc : Thread Cert.SampleResid.nD Cert.SampleResid.τ).loc Cert.SampleResid.main_arg2)
      ∧ r.2.mem ((c.tc : Thread Cert.SampleResid.nD Cert.SampleResid.τ).loc Cert.SampleResid.main_arg3) = m ((c.tc : Thread Cert.SampleResid.nD Cert.SampleResid.τ).loc Cert.SampleResid.main_arg3)
      ∧ r.2.mem ((c.tc : Thread Cert.SampleResid.nD Cert.SampleResid.τ).loc Cert.SampleResid.main_arg4) = m ((c.tc : Thread Cert.SampleResid.nD Cert.SampleResid.τ).loc Cert.SampleResid.main_arg4)
      ∧ r.2.mem ((c.tc : Thread Cert.SampleResid.nD Cert.SampleResid.τ).loc Cert.SampleResid.main_arg5) = m ((c.tc : Thread Cert.SampleResid.nD Cert.SampleResid.τ).loc Cert.SampleResid.main_arg5)
      ∧ r.2.mem ((c.tc : Thread Cert.SampleResid.nD Cert.SampleResid.τ).loc Cert.SampleResid.main_arg6) = m ((c.tc : Thread Cert.SampleResid.nD Cert.SampleResid.τ).loc Cert.SampleResid.main_arg6)
      ∧ r.2.mem ((c.tc : Thread Cert.SampleResid.nD Cert.SampleResid.τ).loc Cert.SampleResid.main_arg7) = m ((c.tc : Thread Cert.SampleResid.nD Cert.SampleResid.τ).loc Cert.SampleResid.main_arg7)
      ∧ r.2.mem ((c.tc : Thread Cert.SampleResid.nD Cert.SampleResid.τ).loc Cert.SampleResid.main_arg8) = m ((c.tc : Thread Cert.SampleResid.nD Cert.SampleResid.τ).loc Cert.SampleResid.main_arg8)
      ∧ r.2.mem ((c.tc : Thread Cert.SampleResid.nD Cert.SampleResid.τ).loc Cert.SampleResid.main_arg9) = m ((c.tc : Thread Cert.SampleResid.nD Cert.SampleResid.τ).loc Cert.SampleResid.main_arg9)
      ∧ r.2.mem ((c.tc : Thread Cert.SampleResid.nD Cert.SampleResid.τ).loc Cert.SampleResid.main_arg10) = m ((c.tc : Thread Cert.SampleResid.nD Cert.SampleResid.τ).loc Cert.SampleResid.main_arg10))
      ∧ r.2.sem = fun _ => 0)

def quiescent_SampleResidIdeal [hSampleResidIdeal : Cert.SampleResidIdeal.Facts] : Prop :=
  ∀ (m : (ℓ : Loc Cert.SampleResidIdeal.nD Cert.SampleResidIdeal.τ Cert.SampleResidIdeal.sig) → Buf (Elt Ideal) ℓ) (g : Dev Cert.SampleResidIdeal.nD → PrngReg), Pre_SampleResidIdeal m →
    θ_run (Cert.SampleResidIdeal.defs (F := Ideal)) (onTc (τ := Cert.SampleResidIdeal.τ) (Cert.SampleResidIdeal.main (F := Ideal))) ⟨m, fun _ => 0, g⟩ (fun r => (∀ c : Dev Cert.SampleResidIdeal.nD,
      r.2.mem ((c.tc : Thread Cert.SampleResidIdeal.nD Cert.SampleResidIdeal.τ).loc Cert.SampleResidIdeal.main_arg0) = m ((c.tc : Thread Cert.SampleResidIdeal.nD Cert.SampleResidIdeal.τ).loc Cert.SampleResidIdeal.main_arg0)
      ∧ r.2.mem ((c.tc : Thread Cert.SampleResidIdeal.nD Cert.SampleResidIdeal.τ).loc Cert.SampleResidIdeal.main_arg1) = m ((c.tc : Thread Cert.SampleResidIdeal.nD Cert.SampleResidIdeal.τ).loc Cert.SampleResidIdeal.main_arg1)
      ∧ r.2.mem ((c.tc : Thread Cert.SampleResidIdeal.nD Cert.SampleResidIdeal.τ).loc Cert.SampleResidIdeal.main_arg2) = m ((c.tc : Thread Cert.SampleResidIdeal.nD Cert.SampleResidIdeal.τ).loc Cert.SampleResidIdeal.main_arg2)
      ∧ r.2.mem ((c.tc : Thread Cert.SampleResidIdeal.nD Cert.SampleResidIdeal.τ).loc Cert.SampleResidIdeal.main_arg3) = m ((c.tc : Thread Cert.SampleResidIdeal.nD Cert.SampleResidIdeal.τ).loc Cert.SampleResidIdeal.main_arg3)
      ∧ r.2.mem ((c.tc : Thread Cert.SampleResidIdeal.nD Cert.SampleResidIdeal.τ).loc Cert.SampleResidIdeal.main_arg4) = m ((c.tc : Thread Cert.SampleResidIdeal.nD Cert.SampleResidIdeal.τ).loc Cert.SampleResidIdeal.main_arg4)
      ∧ r.2.mem ((c.tc : Thread Cert.SampleResidIdeal.nD Cert.SampleResidIdeal.τ).loc Cert.SampleResidIdeal.main_arg5) = m ((c.tc : Thread Cert.SampleResidIdeal.nD Cert.SampleResidIdeal.τ).loc Cert.SampleResidIdeal.main_arg5)
      ∧ r.2.mem ((c.tc : Thread Cert.SampleResidIdeal.nD Cert.SampleResidIdeal.τ).loc Cert.SampleResidIdeal.main_arg6) = m ((c.tc : Thread Cert.SampleResidIdeal.nD Cert.SampleResidIdeal.τ).loc Cert.SampleResidIdeal.main_arg6)
      ∧ r.2.mem ((c.tc : Thread Cert.SampleResidIdeal.nD Cert.SampleResidIdeal.τ).loc Cert.SampleResidIdeal.main_arg7) = m ((c.tc : Thread Cert.SampleResidIdeal.nD Cert.SampleResidIdeal.τ).loc Cert.SampleResidIdeal.main_arg7)
      ∧ r.2.mem ((c.tc : Thread Cert.SampleResidIdeal.nD Cert.SampleResidIdeal.τ).loc Cert.SampleResidIdeal.main_arg8) = m ((c.tc : Thread Cert.SampleResidIdeal.nD Cert.SampleResidIdeal.τ).loc Cert.SampleResidIdeal.main_arg8)
      ∧ r.2.mem ((c.tc : Thread Cert.SampleResidIdeal.nD Cert.SampleResidIdeal.τ).loc Cert.SampleResidIdeal.main_arg9) = m ((c.tc : Thread Cert.SampleResidIdeal.nD Cert.SampleResidIdeal.τ).loc Cert.SampleResidIdeal.main_arg9)
      ∧ r.2.mem ((c.tc : Thread Cert.SampleResidIdeal.nD Cert.SampleResidIdeal.τ).loc Cert.SampleResidIdeal.main_arg10) = m ((c.tc : Thread Cert.SampleResidIdeal.nD Cert.SampleResidIdeal.τ).loc Cert.SampleResidIdeal.main_arg10))
      ∧ r.2.sem = fun _ => 0)

def quiescent_SampleResidRefIdeal [hSampleResidRefIdeal : Cert.SampleResidRefIdeal.Facts] : Prop :=
  ∀ (m : (ℓ : Loc Cert.SampleResidRefIdeal.nD Cert.SampleResidRefIdeal.τ Cert.SampleResidRefIdeal.sig) → Buf (Elt Ideal) ℓ) (g : Dev Cert.SampleResidRefIdeal.nD → PrngReg), Pre_SampleResidRefIdeal m →
    θ_run (Cert.SampleResidRefIdeal.defs (F := Ideal)) (onTc (τ := Cert.SampleResidRefIdeal.τ) (Cert.SampleResidRefIdeal.main (F := Ideal))) ⟨m, fun _ => 0, g⟩ (fun r => (∀ c : Dev Cert.SampleResidRefIdeal.nD,
      r.2.mem ((c.tc : Thread Cert.SampleResidRefIdeal.nD Cert.SampleResidRefIdeal.τ).loc Cert.SampleResidRefIdeal.main_arg0) = m ((c.tc : Thread Cert.SampleResidRefIdeal.nD Cert.SampleResidRefIdeal.τ).loc Cert.SampleResidRefIdeal.main_arg0)
      ∧ r.2.mem ((c.tc : Thread Cert.SampleResidRefIdeal.nD Cert.SampleResidRefIdeal.τ).loc Cert.SampleResidRefIdeal.main_arg1) = m ((c.tc : Thread Cert.SampleResidRefIdeal.nD Cert.SampleResidRefIdeal.τ).loc Cert.SampleResidRefIdeal.main_arg1)
      ∧ r.2.mem ((c.tc : Thread Cert.SampleResidRefIdeal.nD Cert.SampleResidRefIdeal.τ).loc Cert.SampleResidRefIdeal.main_arg2) = m ((c.tc : Thread Cert.SampleResidRefIdeal.nD Cert.SampleResidRefIdeal.τ).loc Cert.SampleResidRefIdeal.main_arg2)
      ∧ r.2.mem ((c.tc : Thread Cert.SampleResidRefIdeal.nD Cert.SampleResidRefIdeal.τ).loc Cert.SampleResidRefIdeal.main_arg3) = m ((c.tc : Thread Cert.SampleResidRefIdeal.nD Cert.SampleResidRefIdeal.τ).loc Cert.SampleResidRefIdeal.main_arg3)
      ∧ r.2.mem ((c.tc : Thread Cert.SampleResidRefIdeal.nD Cert.SampleResidRefIdeal.τ).loc Cert.SampleResidRefIdeal.main_arg4) = m ((c.tc : Thread Cert.SampleResidRefIdeal.nD Cert.SampleResidRefIdeal.τ).loc Cert.SampleResidRefIdeal.main_arg4)
      ∧ r.2.mem ((c.tc : Thread Cert.SampleResidRefIdeal.nD Cert.SampleResidRefIdeal.τ).loc Cert.SampleResidRefIdeal.main_arg5) = m ((c.tc : Thread Cert.SampleResidRefIdeal.nD Cert.SampleResidRefIdeal.τ).loc Cert.SampleResidRefIdeal.main_arg5)
      ∧ r.2.mem ((c.tc : Thread Cert.SampleResidRefIdeal.nD Cert.SampleResidRefIdeal.τ).loc Cert.SampleResidRefIdeal.main_arg6) = m ((c.tc : Thread Cert.SampleResidRefIdeal.nD Cert.SampleResidRefIdeal.τ).loc Cert.SampleResidRefIdeal.main_arg6)
      ∧ r.2.mem ((c.tc : Thread Cert.SampleResidRefIdeal.nD Cert.SampleResidRefIdeal.τ).loc Cert.SampleResidRefIdeal.main_arg7) = m ((c.tc : Thread Cert.SampleResidRefIdeal.nD Cert.SampleResidRefIdeal.τ).loc Cert.SampleResidRefIdeal.main_arg7)
      ∧ r.2.mem ((c.tc : Thread Cert.SampleResidRefIdeal.nD Cert.SampleResidRefIdeal.τ).loc Cert.SampleResidRefIdeal.main_arg8) = m ((c.tc : Thread Cert.SampleResidRefIdeal.nD Cert.SampleResidRefIdeal.τ).loc Cert.SampleResidRefIdeal.main_arg8)
      ∧ r.2.mem ((c.tc : Thread Cert.SampleResidRefIdeal.nD Cert.SampleResidRefIdeal.τ).loc Cert.SampleResidRefIdeal.main_arg9) = m ((c.tc : Thread Cert.SampleResidRefIdeal.nD Cert.SampleResidRefIdeal.τ).loc Cert.SampleResidRefIdeal.main_arg9)
      ∧ r.2.mem ((c.tc : Thread Cert.SampleResidRefIdeal.nD Cert.SampleResidRefIdeal.τ).loc Cert.SampleResidRefIdeal.main_arg10) = m ((c.tc : Thread Cert.SampleResidRefIdeal.nD Cert.SampleResidRefIdeal.τ).loc Cert.SampleResidRefIdeal.main_arg10))
      ∧ r.2.sem = fun _ => 0)

def quiescent_SampleIdx [hSampleIdx : Cert.SampleIdx.Facts] [hPre_pages_in_pool : Cert.Pre_pages_in_pool.Facts] : Prop :=
  ∀ (m : (ℓ : Loc Cert.SampleIdx.nD Cert.SampleIdx.τ Cert.SampleIdx.sig) → Buf (Elt Bits) ℓ) (g : Dev Cert.SampleIdx.nD → PrngReg), Pre_SampleIdx m →
    θ_run (Cert.SampleIdx.defs (F := Bits)) (onTc (τ := Cert.SampleIdx.τ) (Cert.SampleIdx.main (F := Bits))) ⟨m, fun _ => 0, g⟩ (fun r => (∀ c : Dev Cert.SampleIdx.nD,
      r.2.mem ((c.tc : Thread Cert.SampleIdx.nD Cert.SampleIdx.τ).loc Cert.SampleIdx.main_arg0) = m ((c.tc : Thread Cert.SampleIdx.nD Cert.SampleIdx.τ).loc Cert.SampleIdx.main_arg0)
      ∧ r.2.mem ((c.tc : Thread Cert.SampleIdx.nD Cert.SampleIdx.τ).loc Cert.SampleIdx.main_arg1) = m ((c.tc : Thread Cert.SampleIdx.nD Cert.SampleIdx.τ).loc Cert.SampleIdx.main_arg1)
      ∧ r.2.mem ((c.tc : Thread Cert.SampleIdx.nD Cert.SampleIdx.τ).loc Cert.SampleIdx.main_arg2) = m ((c.tc : Thread Cert.SampleIdx.nD Cert.SampleIdx.τ).loc Cert.SampleIdx.main_arg2)
      ∧ r.2.mem ((c.tc : Thread Cert.SampleIdx.nD Cert.SampleIdx.τ).loc Cert.SampleIdx.main_arg3) = m ((c.tc : Thread Cert.SampleIdx.nD Cert.SampleIdx.τ).loc Cert.SampleIdx.main_arg3))
      ∧ r.2.sem = fun _ => 0)

def quiescent_SampleIdxIdeal [hSampleIdxIdeal : Cert.SampleIdxIdeal.Facts] [hPre_pages_in_pool : Cert.Pre_pages_in_pool.Facts] : Prop :=
  ∀ (m : (ℓ : Loc Cert.SampleIdxIdeal.nD Cert.SampleIdxIdeal.τ Cert.SampleIdxIdeal.sig) → Buf (Elt Ideal) ℓ) (g : Dev Cert.SampleIdxIdeal.nD → PrngReg), Pre_SampleIdxIdeal m →
    θ_run (Cert.SampleIdxIdeal.defs (F := Ideal)) (onTc (τ := Cert.SampleIdxIdeal.τ) (Cert.SampleIdxIdeal.main (F := Ideal))) ⟨m, fun _ => 0, g⟩ (fun r => (∀ c : Dev Cert.SampleIdxIdeal.nD,
      r.2.mem ((c.tc : Thread Cert.SampleIdxIdeal.nD Cert.SampleIdxIdeal.τ).loc Cert.SampleIdxIdeal.main_arg0) = m ((c.tc : Thread Cert.SampleIdxIdeal.nD Cert.SampleIdxIdeal.τ).loc Cert.SampleIdxIdeal.main_arg0)
      ∧ r.2.mem ((c.tc : Thread Cert.SampleIdxIdeal.nD Cert.SampleIdxIdeal.τ).loc Cert.SampleIdxIdeal.main_arg1) = m ((c.tc : Thread Cert.SampleIdxIdeal.nD Cert.SampleIdxIdeal.τ).loc Cert.SampleIdxIdeal.main_arg1)
      ∧ r.2.mem ((c.tc : Thread Cert.SampleIdxIdeal.nD Cert.SampleIdxIdeal.τ).loc Cert.SampleIdxIdeal.main_arg2) = m ((c.tc : Thread Cert.SampleIdxIdeal.nD Cert.SampleIdxIdeal.τ).loc Cert.SampleIdxIdeal.main_arg2)
      ∧ r.2.mem ((c.tc : Thread Cert.SampleIdxIdeal.nD Cert.SampleIdxIdeal.τ).loc Cert.SampleIdxIdeal.main_arg3) = m ((c.tc : Thread Cert.SampleIdxIdeal.nD Cert.SampleIdxIdeal.τ).loc Cert.SampleIdxIdeal.main_arg3))
      ∧ r.2.sem = fun _ => 0)

def quiescent_SampleIdxRefIdeal [hSampleIdxRefIdeal : Cert.SampleIdxRefIdeal.Facts] : Prop :=
  ∀ (m : (ℓ : Loc Cert.SampleIdxRefIdeal.nD Cert.SampleIdxRefIdeal.τ Cert.SampleIdxRefIdeal.sig) → Buf (Elt Ideal) ℓ) (g : Dev Cert.SampleIdxRefIdeal.nD → PrngReg), Pre_SampleIdxRefIdeal m →
    θ_run (Cert.SampleIdxRefIdeal.defs (F := Ideal)) (onTc (τ := Cert.SampleIdxRefIdeal.τ) (Cert.SampleIdxRefIdeal.main (F := Ideal))) ⟨m, fun _ => 0, g⟩ (fun r => (∀ c : Dev Cert.SampleIdxRefIdeal.nD,
      r.2.mem ((c.tc : Thread Cert.SampleIdxRefIdeal.nD Cert.SampleIdxRefIdeal.τ).loc Cert.SampleIdxRefIdeal.main_arg0) = m ((c.tc : Thread Cert.SampleIdxRefIdeal.nD Cert.SampleIdxRefIdeal.τ).loc Cert.SampleIdxRefIdeal.main_arg0)
      ∧ r.2.mem ((c.tc : Thread Cert.SampleIdxRefIdeal.nD Cert.SampleIdxRefIdeal.τ).loc Cert.SampleIdxRefIdeal.main_arg1) = m ((c.tc : Thread Cert.SampleIdxRefIdeal.nD Cert.SampleIdxRefIdeal.τ).loc Cert.SampleIdxRefIdeal.main_arg1)
      ∧ r.2.mem ((c.tc : Thread Cert.SampleIdxRefIdeal.nD Cert.SampleIdxRefIdeal.τ).loc Cert.SampleIdxRefIdeal.main_arg2) = m ((c.tc : Thread Cert.SampleIdxRefIdeal.nD Cert.SampleIdxRefIdeal.τ).loc Cert.SampleIdxRefIdeal.main_arg2)
      ∧ r.2.mem ((c.tc : Thread Cert.SampleIdxRefIdeal.nD Cert.SampleIdxRefIdeal.τ).loc Cert.SampleIdxRefIdeal.main_arg3) = m ((c.tc : Thread Cert.SampleIdxRefIdeal.nD Cert.SampleIdxRefIdeal.τ).loc Cert.SampleIdxRefIdeal.main_arg3))
      ∧ r.2.sem = fun _ => 0)

def quiescent_SampleIdxRefIdeal_pre_pages_in_pool [hSampleIdxRefIdeal : Cert.SampleIdxRefIdeal.Facts] [hPre_pages_in_pool : Cert.Pre_pages_in_pool.Facts] : Prop :=
  ∀ (m : (ℓ : Loc Cert.SampleIdxRefIdeal.nD Cert.SampleIdxRefIdeal.τ Cert.SampleIdxRefIdeal.sig) → Buf (Elt Ideal) ℓ) (g : Dev Cert.SampleIdxRefIdeal.nD → PrngReg), Pre_SampleIdxRefIdeal_pages_in_pool m →
    θ_run (Cert.SampleIdxRefIdeal.defs (F := Ideal)) (onTc (τ := Cert.SampleIdxRefIdeal.τ) (Cert.SampleIdxRefIdeal.main (F := Ideal))) ⟨m, fun _ => 0, g⟩ (fun r => (∀ c : Dev Cert.SampleIdxRefIdeal.nD,
      r.2.mem ((c.tc : Thread Cert.SampleIdxRefIdeal.nD Cert.SampleIdxRefIdeal.τ).loc Cert.SampleIdxRefIdeal.main_arg0) = m ((c.tc : Thread Cert.SampleIdxRefIdeal.nD Cert.SampleIdxRefIdeal.τ).loc Cert.SampleIdxRefIdeal.main_arg0)
      ∧ r.2.mem ((c.tc : Thread Cert.SampleIdxRefIdeal.nD Cert.SampleIdxRefIdeal.τ).loc Cert.SampleIdxRefIdeal.main_arg1) = m ((c.tc : Thread Cert.SampleIdxRefIdeal.nD Cert.SampleIdxRefIdeal.τ).loc Cert.SampleIdxRefIdeal.main_arg1)
      ∧ r.2.mem ((c.tc : Thread Cert.SampleIdxRefIdeal.nD Cert.SampleIdxRefIdeal.τ).loc Cert.SampleIdxRefIdeal.main_arg2) = m ((c.tc : Thread Cert.SampleIdxRefIdeal.nD Cert.SampleIdxRefIdeal.τ).loc Cert.SampleIdxRefIdeal.main_arg2)
      ∧ r.2.mem ((c.tc : Thread Cert.SampleIdxRefIdeal.nD Cert.SampleIdxRefIdeal.τ).loc Cert.SampleIdxRefIdeal.main_arg3) = m ((c.tc : Thread Cert.SampleIdxRefIdeal.nD Cert.SampleIdxRefIdeal.τ).loc Cert.SampleIdxRefIdeal.main_arg3))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v5)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v5) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v81) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v11_0)) (v1 : (c : Dev Cert.ProjIdeal.nD) → Buf (Elt Ideal) ((c.tc : Thread Cert.ProjIdeal.nD Cert.ProjIdeal.τ).loc Cert.ProjIdeal.main_v11_1)) (v2 : (c : Dev Cert.ProjIdeal.nD) → Buf (Elt Ideal) ((c.tc : Thread Cert.ProjIdeal.nD Cert.ProjIdeal.τ).loc Cert.ProjIdeal.main_v11_2)) (v3 : (c : Dev Cert.ProjIdeal.nD) → Buf (Elt Ideal) ((c.tc : Thread Cert.ProjIdeal.nD Cert.ProjIdeal.τ).loc Cert.ProjIdeal.main_v11_3)) (v4 : (c : Dev Cert.ProjIdeal.nD) → Buf (Elt Ideal) ((c.tc : Thread Cert.ProjIdeal.nD Cert.ProjIdeal.τ).loc Cert.ProjIdeal.main_v11_4)) (v5 : (c : Dev Cert.ProjIdeal.nD) → Buf (Elt Ideal) ((c.tc : Thread Cert.ProjIdeal.nD Cert.ProjIdeal.τ).loc Cert.ProjIdeal.main_v11_5)) (v6 : (c : Dev Cert.ProjIdeal.nD) → Buf (Elt Ideal) ((c.tc : Thread Cert.ProjIdeal.nD Cert.ProjIdeal.τ).loc Cert.ProjIdeal.main_v11_6)) (v7 : (c : Dev Cert.ProjIdeal.nD) → Buf (Elt Ideal) ((c.tc : Thread Cert.ProjIdeal.nD Cert.ProjIdeal.τ).loc Cert.ProjIdeal.main_v11_7)) (v8 : (c : Dev Cert.ProjIdeal.nD) → Buf (Elt Ideal) ((c.tc : Thread Cert.ProjIdeal.nD Cert.ProjIdeal.τ).loc Cert.ProjIdeal.main_v11_8)) (v9 : (c : Dev Cert.ProjIdeal.nD) → Buf (Elt Ideal) ((c.tc : Thread Cert.ProjIdeal.nD Cert.ProjIdeal.τ).loc Cert.ProjIdeal.main_v11_9)) (v10 : (c : Dev Cert.ProjIdeal.nD) → Buf (Elt Ideal) ((c.tc : Thread Cert.ProjIdeal.nD Cert.ProjIdeal.τ).loc Cert.ProjIdeal.main_v11_10)) (v11 : (c : Dev Cert.ProjIdeal.nD) → Buf (Elt Ideal) ((c.tc : Thread Cert.ProjIdeal.nD Cert.ProjIdeal.τ).loc Cert.ProjIdeal.main_v11_11)) (v12 : (c : Dev Cert.ProjIdeal.nD) → Buf (Elt Ideal) ((c.tc : Thread Cert.ProjIdeal.nD Cert.ProjIdeal.τ).loc Cert.ProjIdeal.main_v11_12)) (v13 : (c : Dev Cert.ProjIdeal.nD) → Buf (Elt Ideal) ((c.tc : Thread Cert.ProjIdeal.nD Cert.ProjIdeal.τ).loc Cert.ProjIdeal.main_v11_13)) (v14 : (c : Dev Cert.ProjIdeal.nD) → Buf (Elt Ideal) ((c.tc : Thread Cert.ProjIdeal.nD Cert.ProjIdeal.τ).loc Cert.ProjIdeal.main_v11_14)) (v15 : (c : Dev Cert.ProjIdeal.nD) → Buf (Elt Ideal) ((c.tc : Thread Cert.ProjIdeal.nD Cert.ProjIdeal.τ).loc Cert.ProjIdeal.main_v11_15)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v11_0) = v0 c
          ∧ r.2.mem ((c.tc : Thread Cert.ProjIdeal.nD Cert.ProjIdeal.τ).loc Cert.ProjIdeal.main_v11_1) = v1 c
          ∧ r.2.mem ((c.tc : Thread Cert.ProjIdeal.nD Cert.ProjIdeal.τ).loc Cert.ProjIdeal.main_v11_2) = v2 c
          ∧ r.2.mem ((c.tc : Thread Cert.ProjIdeal.nD Cert.ProjIdeal.τ).loc Cert.ProjIdeal.main_v11_3) = v3 c
          ∧ r.2.mem ((c.tc : Thread Cert.ProjIdeal.nD Cert.ProjIdeal.τ).loc Cert.ProjIdeal.main_v11_4) = v4 c
          ∧ r.2.mem ((c.tc : Thread Cert.ProjIdeal.nD Cert.ProjIdeal.τ).loc Cert.ProjIdeal.main_v11_5) = v5 c
          ∧ r.2.mem ((c.tc : Thread Cert.ProjIdeal.nD Cert.ProjIdeal.τ).loc Cert.ProjIdeal.main_v11_6) = v6 c
          ∧ r.2.mem ((c.tc : Thread Cert.ProjIdeal.nD Cert.ProjIdeal.τ).loc Cert.ProjIdeal.main_v11_7) = v7 c
          ∧ r.2.mem ((c.tc : Thread Cert.ProjIdeal.nD Cert.ProjIdeal.τ).loc Cert.ProjIdeal.main_v11_8) = v8 c
          ∧ r.2.mem ((c.tc : Thread Cert.ProjIdeal.nD Cert.ProjIdeal.τ).loc Cert.ProjIdeal.main_v11_9) = v9 c
          ∧ r.2.mem ((c.tc : Thread Cert.ProjIdeal.nD Cert.ProjIdeal.τ).loc Cert.ProjIdeal.main_v11_10) = v10 c
          ∧ r.2.mem ((c.tc : Thread Cert.ProjIdeal.nD Cert.ProjIdeal.τ).loc Cert.ProjIdeal.main_v11_11) = v11 c
          ∧ r.2.mem ((c.tc : Thread Cert.ProjIdeal.nD Cert.ProjIdeal.τ).loc Cert.ProjIdeal.main_v11_12) = v12 c
          ∧ r.2.mem ((c.tc : Thread Cert.ProjIdeal.nD Cert.ProjIdeal.τ).loc Cert.ProjIdeal.main_v11_13) = v13 c
          ∧ r.2.mem ((c.tc : Thread Cert.ProjIdeal.nD Cert.ProjIdeal.τ).loc Cert.ProjIdeal.main_v11_14) = v14 c
          ∧ r.2.mem ((c.tc : Thread Cert.ProjIdeal.nD Cert.ProjIdeal.τ).loc Cert.ProjIdeal.main_v11_15) = v15 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v30) = v0 c
          ∧ r.2.mem ((c.tc : Thread Cert.ProjRefIdeal.nD Cert.ProjRefIdeal.τ).loc Cert.ProjRefIdeal.main_v18) = v1 c
          ∧ r.2.mem ((c.tc : Thread Cert.ProjRefIdeal.nD Cert.ProjRefIdeal.τ).loc Cert.ProjRefIdeal.main_v41) = v2 c
          ∧ r.2.mem ((c.tc : Thread Cert.ProjRefIdeal.nD Cert.ProjRefIdeal.τ).loc Cert.ProjRefIdeal.main_v19) = v3 c
          ∧ r.2.mem ((c.tc : Thread Cert.ProjRefIdeal.nD Cert.ProjRefIdeal.τ).loc Cert.ProjRefIdeal.main_v42) = v4 c
          ∧ r.2.mem ((c.tc : Thread Cert.ProjRefIdeal.nD Cert.ProjRefIdeal.τ).loc Cert.ProjRefIdeal.main_v20) = v5 c
          ∧ r.2.mem ((c.tc : Thread Cert.ProjRefIdeal.nD Cert.ProjRefIdeal.τ).loc Cert.ProjRefIdeal.main_v33) = v6 c
          ∧ r.2.mem ((c.tc : Thread Cert.ProjRefIdeal.nD Cert.ProjRefIdeal.τ).loc Cert.ProjRefIdeal.main_v22) = v7 c
          ∧ r.2.mem ((c.tc : Thread Cert.ProjRefIdeal.nD Cert.ProjRefIdeal.τ).loc Cert.ProjRefIdeal.main_v43) = v8 c
          ∧ r.2.mem ((c.tc : Thread Cert.ProjRefIdeal.nD Cert.ProjRefIdeal.τ).loc Cert.ProjRefIdeal.main_v23) = v9 c
          ∧ r.2.mem ((c.tc : Thread Cert.ProjRefIdeal.nD Cert.ProjRefIdeal.τ).loc Cert.ProjRefIdeal.main_v44) = v10 c
          ∧ r.2.mem ((c.tc : Thread Cert.ProjRefIdeal.nD Cert.ProjRefIdeal.τ).loc Cert.ProjRefIdeal.main_v24) = v11 c
          ∧ r.2.mem ((c.tc : Thread Cert.ProjRefIdeal.nD Cert.ProjRefIdeal.τ).loc Cert.ProjRefIdeal.main_v36) = v12 c
          ∧ r.2.mem ((c.tc : Thread Cert.ProjRefIdeal.nD Cert.ProjRefIdeal.τ).loc Cert.ProjRefIdeal.main_v26) = v13 c
          ∧ r.2.mem ((c.tc : Thread Cert.ProjRefIdeal.nD Cert.ProjRefIdeal.τ).loc Cert.ProjRefIdeal.main_v40) = v14 c
          ∧ r.2.mem ((c.tc : Thread Cert.ProjRefIdeal.nD Cert.ProjRefIdeal.τ).loc Cert.ProjRefIdeal.main_v38) = v15 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Resid_ResidIdeal : Prop :=
  True

def algebraic_ResidIdeal_ResidRefIdeal [hResidIdeal : Cert.ResidIdeal.Facts] [hResidRefIdeal : Cert.ResidRefIdeal.Facts] : Prop :=
  ∀ (m : (ℓ : Loc Cert.ResidIdeal.nD Cert.ResidIdeal.τ Cert.ResidIdeal.sig) → Buf (Elt Ideal) ℓ) (g : Dev Cert.ResidIdeal.nD → PrngReg)
    (m' : (ℓ : Loc Cert.ResidRefIdeal.nD Cert.ResidRefIdeal.τ Cert.ResidRefIdeal.sig) → Buf (Elt Ideal) ℓ) (g' : Dev Cert.ResidRefIdeal.nD → PrngReg), Pre_ResidIdeal m →
    (∀ c : Dev Cert.ResidIdeal.nD,
      m' ((c.tc : Thread Cert.ResidRefIdeal.nD Cert.ResidRefIdeal.τ).loc Cert.ResidRefIdeal.main_arg0) = m ((c.tc : Thread Cert.ResidIdeal.nD Cert.ResidIdeal.τ).loc Cert.ResidIdeal.main_arg0)
      ∧ m' ((c.tc : Thread Cert.ResidRefIdeal.nD Cert.ResidRefIdeal.τ).loc Cert.ResidRefIdeal.main_arg1) = m ((c.tc : Thread Cert.ResidIdeal.nD Cert.ResidIdeal.τ).loc Cert.ResidIdeal.main_arg1)
      ∧ m' ((c.tc : Thread Cert.ResidRefIdeal.nD Cert.ResidRefIdeal.τ).loc Cert.ResidRefIdeal.main_arg2) = m ((c.tc : Thread Cert.ResidIdeal.nD Cert.ResidIdeal.τ).loc Cert.ResidIdeal.main_arg2)
      ∧ m' ((c.tc : Thread Cert.ResidRefIdeal.nD Cert.ResidRefIdeal.τ).loc Cert.ResidRefIdeal.main_arg3) = m ((c.tc : Thread Cert.ResidIdeal.nD Cert.ResidIdeal.τ).loc Cert.ResidIdeal.main_arg3)
      ∧ m' ((c.tc : Thread Cert.ResidRefIdeal.nD Cert.ResidRefIdeal.τ).loc Cert.ResidRefIdeal.main_arg4) = m ((c.tc : Thread Cert.ResidIdeal.nD Cert.ResidIdeal.τ).loc Cert.ResidIdeal.main_arg4)
      ∧ m' ((c.tc : Thread Cert.ResidRefIdeal.nD Cert.ResidRefIdeal.τ).loc Cert.ResidRefIdeal.main_arg5) = m ((c.tc : Thread Cert.ResidIdeal.nD Cert.ResidIdeal.τ).loc Cert.ResidIdeal.main_arg5)
      ∧ m' ((c.tc : Thread Cert.ResidRefIdeal.nD Cert.ResidRefIdeal.τ).loc Cert.ResidRefIdeal.main_arg6) = m ((c.tc : Thread Cert.ResidIdeal.nD Cert.ResidIdeal.τ).loc Cert.ResidIdeal.main_arg6)
      ∧ m' ((c.tc : Thread Cert.ResidRefIdeal.nD Cert.ResidRefIdeal.τ).loc Cert.ResidRefIdeal.main_arg7) = m ((c.tc : Thread Cert.ResidIdeal.nD Cert.ResidIdeal.τ).loc Cert.ResidIdeal.main_arg7)
      ∧ m' ((c.tc : Thread Cert.ResidRefIdeal.nD Cert.ResidRefIdeal.τ).loc Cert.ResidRefIdeal.main_arg8) = m ((c.tc : Thread Cert.ResidIdeal.nD Cert.ResidIdeal.τ).loc Cert.ResidIdeal.main_arg8)
      ∧ m' ((c.tc : Thread Cert.ResidRefIdeal.nD Cert.ResidRefIdeal.τ).loc Cert.ResidRefIdeal.main_arg9) = m ((c.tc : Thread Cert.ResidIdeal.nD Cert.ResidIdeal.τ).loc Cert.ResidIdeal.main_arg9)
      ∧ m' ((c.tc : Thread Cert.ResidRefIdeal.nD Cert.ResidRefIdeal.τ).loc Cert.ResidRefIdeal.main_arg10) = m ((c.tc : Thread Cert.ResidIdeal.nD Cert.ResidIdeal.τ).loc Cert.ResidIdeal.main_arg10)) →
    ∃ (v0 : (c : Dev Cert.ResidIdeal.nD) → Buf (Elt Ideal) ((c.tc : Thread Cert.ResidIdeal.nD Cert.ResidIdeal.τ).loc Cert.ResidIdeal.main_v12)),
      θ_run (Cert.ResidIdeal.defs (F := Ideal)) (onTc (τ := Cert.ResidIdeal.τ) (Cert.ResidIdeal.main (F := Ideal))) ⟨m, fun _ => 0, g⟩ (fun r => ∀ c : Dev Cert.ResidIdeal.nD,
          r.2.mem ((c.tc : Thread Cert.ResidIdeal.nD Cert.ResidIdeal.τ).loc Cert.ResidIdeal.main_v12) = v0 c
          ∧ r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
          ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
          ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
          ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3)
          ∧ r.2.mem ((c.tc : Thread Cert.ResidIdeal.nD Cert.ResidIdeal.τ).loc Cert.ResidIdeal.main_arg4) = m ((c.tc : Thread Cert.ResidIdeal.nD Cert.ResidIdeal.τ).loc Cert.ResidIdeal.main_arg4)
          ∧ r.2.mem ((c.tc : Thread Cert.ResidIdeal.nD Cert.ResidIdeal.τ).loc Cert.ResidIdeal.main_arg5) = m ((c.tc : Thread Cert.ResidIdeal.nD Cert.ResidIdeal.τ).loc Cert.ResidIdeal.main_arg5)
          ∧ r.2.mem ((c.tc : Thread Cert.ResidIdeal.nD Cert.ResidIdeal.τ).loc Cert.ResidIdeal.main_arg6) = m ((c.tc : Thread Cert.ResidIdeal.nD Cert.ResidIdeal.τ).loc Cert.ResidIdeal.main_arg6)
          ∧ r.2.mem ((c.tc : Thread Cert.ResidIdeal.nD Cert.ResidIdeal.τ).loc Cert.ResidIdeal.main_arg7) = m ((c.tc : Thread Cert.ResidIdeal.nD Cert.ResidIdeal.τ).loc Cert.ResidIdeal.main_arg7)
          ∧ r.2.mem ((c.tc : Thread Cert.ResidIdeal.nD Cert.ResidIdeal.τ).loc Cert.ResidIdeal.main_arg8) = m ((c.tc : Thread Cert.ResidIdeal.nD Cert.ResidIdeal.τ).loc Cert.ResidIdeal.main_arg8)
          ∧ r.2.mem ((c.tc : Thread Cert.ResidIdeal.nD Cert.ResidIdeal.τ).loc Cert.ResidIdeal.main_arg9) = m ((c.tc : Thread Cert.ResidIdeal.nD Cert.ResidIdeal.τ).loc Cert.ResidIdeal.main_arg9)
          ∧ r.2.mem ((c.tc : Thread Cert.ResidIdeal.nD Cert.ResidIdeal.τ).loc Cert.ResidIdeal.main_arg10) = m ((c.tc : Thread Cert.ResidIdeal.nD Cert.ResidIdeal.τ).loc Cert.ResidIdeal.main_arg10))
      ∧ θ_run (Cert.ResidRefIdeal.defs (F := Ideal)) (onTc (τ := Cert.ResidRefIdeal.τ) (Cert.ResidRefIdeal.main (F := Ideal))) ⟨m', fun _ => 0, g'⟩ (fun r => ∀ c : Dev Cert.ResidRefIdeal.nD,
          r.2.mem ((c.tc : Thread Cert.ResidRefIdeal.nD Cert.ResidRefIdeal.τ).loc Cert.ResidRefIdeal.main_v52) = v0 c
          ∧ r.2.mem ((c.tc : Thread Cert.ResidRefIdeal.nD Cert.ResidRefIdeal.τ).loc Cert.ResidRefIdeal.main_arg0) = m' ((c.tc : Thread Cert.ResidRefIdeal.nD Cert.ResidRefIdeal.τ).loc Cert.ResidRefIdeal.main_arg0)
          ∧ r.2.mem ((c.tc : Thread Cert.ResidRefIdeal.nD Cert.ResidRefIdeal.τ).loc Cert.ResidRefIdeal.main_arg1) = m' ((c.tc : Thread Cert.ResidRefIdeal.nD Cert.ResidRefIdeal.τ).loc Cert.ResidRefIdeal.main_arg1)
          ∧ r.2.mem ((c.tc : Thread Cert.ResidRefIdeal.nD Cert.ResidRefIdeal.τ).loc Cert.ResidRefIdeal.main_arg2) = m' ((c.tc : Thread Cert.ResidRefIdeal.nD Cert.ResidRefIdeal.τ).loc Cert.ResidRefIdeal.main_arg2)
          ∧ r.2.mem ((c.tc : Thread Cert.ResidRefIdeal.nD Cert.ResidRefIdeal.τ).loc Cert.ResidRefIdeal.main_arg3) = m' ((c.tc : Thread Cert.ResidRefIdeal.nD Cert.ResidRefIdeal.τ).loc Cert.ResidRefIdeal.main_arg3)
          ∧ r.2.mem ((c.tc : Thread Cert.ResidRefIdeal.nD Cert.ResidRefIdeal.τ).loc Cert.ResidRefIdeal.main_arg4) = m' ((c.tc : Thread Cert.ResidRefIdeal.nD Cert.ResidRefIdeal.τ).loc Cert.ResidRefIdeal.main_arg4)
          ∧ r.2.mem ((c.tc : Thread Cert.ResidRefIdeal.nD Cert.ResidRefIdeal.τ).loc Cert.ResidRefIdeal.main_arg5) = m' ((c.tc : Thread Cert.ResidRefIdeal.nD Cert.ResidRefIdeal.τ).loc Cert.ResidRefIdeal.main_arg5)
          ∧ r.2.mem ((c.tc : Thread Cert.ResidRefIdeal.nD Cert.ResidRefIdeal.τ).loc Cert.ResidRefIdeal.main_arg6) = m' ((c.tc : Thread Cert.ResidRefIdeal.nD Cert.ResidRefIdeal.τ).loc Cert.ResidRefIdeal.main_arg6)
          ∧ r.2.mem ((c.tc : Thread Cert.ResidRefIdeal.nD Cert.ResidRefIdeal.τ).loc Cert.ResidRefIdeal.main_arg7) = m' ((c.tc : Thread Cert.ResidRefIdeal.nD Cert.ResidRefIdeal.τ).loc Cert.ResidRefIdeal.main_arg7)
          ∧ r.2.mem ((c.tc : Thread Cert.ResidRefIdeal.nD Cert.ResidRefIdeal.τ).loc Cert.ResidRefIdeal.main_arg8) = m' ((c.tc : Thread Cert.ResidRefIdeal.nD Cert.ResidRefIdeal.τ).loc Cert.ResidRefIdeal.main_arg8)
          ∧ r.2.mem ((c.tc : Thread Cert.ResidRefIdeal.nD Cert.ResidRefIdeal.τ).loc Cert.ResidRefIdeal.main_arg9) = m' ((c.tc : Thread Cert.ResidRefIdeal.nD Cert.ResidRefIdeal.τ).loc Cert.ResidRefIdeal.main_arg9)
          ∧ r.2.mem ((c.tc : Thread Cert.ResidRefIdeal.nD Cert.ResidRefIdeal.τ).loc Cert.ResidRefIdeal.main_arg10) = m' ((c.tc : Thread Cert.ResidRefIdeal.nD Cert.ResidRefIdeal.τ).loc Cert.ResidRefIdeal.main_arg10))

def preserves_SampleProj_SampleProjIdeal : Prop :=
  True

def algebraic_SampleProjIdeal_SampleProjRefIdeal [hSampleProjIdeal : Cert.SampleProjIdeal.Facts] [hSampleProjRefIdeal : Cert.SampleProjRefIdeal.Facts] : Prop :=
  ∀ (m : (ℓ : Loc Cert.SampleProjIdeal.nD Cert.SampleProjIdeal.τ Cert.SampleProjIdeal.sig) → Buf (Elt Ideal) ℓ) (g : Dev Cert.SampleProjIdeal.nD → PrngReg)
    (m' : (ℓ : Loc Cert.SampleProjRefIdeal.nD Cert.SampleProjRefIdeal.τ Cert.SampleProjRefIdeal.sig) → Buf (Elt Ideal) ℓ) (g' : Dev Cert.SampleProjRefIdeal.nD → PrngReg), Pre_SampleProjIdeal m →
    (∀ c : Dev Cert.SampleProjIdeal.nD,
      m' ((c.tc : Thread Cert.SampleProjRefIdeal.nD Cert.SampleProjRefIdeal.τ).loc Cert.SampleProjRefIdeal.main_arg0) = m ((c.tc : Thread Cert.SampleProjIdeal.nD Cert.SampleProjIdeal.τ).loc Cert.SampleProjIdeal.main_arg0)
      ∧ m' ((c.tc : Thread Cert.SampleProjRefIdeal.nD Cert.SampleProjRefIdeal.τ).loc Cert.SampleProjRefIdeal.main_arg1) = m ((c.tc : Thread Cert.SampleProjIdeal.nD Cert.SampleProjIdeal.τ).loc Cert.SampleProjIdeal.main_arg1)
      ∧ m' ((c.tc : Thread Cert.SampleProjRefIdeal.nD Cert.SampleProjRefIdeal.τ).loc Cert.SampleProjRefIdeal.main_arg2) = m ((c.tc : Thread Cert.SampleProjIdeal.nD Cert.SampleProjIdeal.τ).loc Cert.SampleProjIdeal.main_arg2)) →
    ∃ (v0 : (c : Dev Cert.SampleProjIdeal.nD) → Buf (Elt Ideal) ((c.tc : Thread Cert.SampleProjIdeal.nD Cert.SampleProjIdeal.τ).loc Cert.SampleProjIdeal.main_v11_0)) (v1 : (c : Dev Cert.SampleProjIdeal.nD) → Buf (Elt Ideal) ((c.tc : Thread Cert.SampleProjIdeal.nD Cert.SampleProjIdeal.τ).loc Cert.SampleProjIdeal.main_v11_1)) (v2 : (c : Dev Cert.SampleProjIdeal.nD) → Buf (Elt Ideal) ((c.tc : Thread Cert.SampleProjIdeal.nD Cert.SampleProjIdeal.τ).loc Cert.SampleProjIdeal.main_v11_2)) (v3 : (c : Dev Cert.SampleProjIdeal.nD) → Buf (Elt Ideal) ((c.tc : Thread Cert.SampleProjIdeal.nD Cert.SampleProjIdeal.τ).loc Cert.SampleProjIdeal.main_v11_3)) (v4 : (c : Dev Cert.SampleProjIdeal.nD) → Buf (Elt Ideal) ((c.tc : Thread Cert.SampleProjIdeal.nD Cert.SampleProjIdeal.τ).loc Cert.SampleProjIdeal.main_v11_4)) (v5 : (c : Dev Cert.SampleProjIdeal.nD) → Buf (Elt Ideal) ((c.tc : Thread Cert.SampleProjIdeal.nD Cert.SampleProjIdeal.τ).loc Cert.SampleProjIdeal.main_v11_5)) (v6 : (c : Dev Cert.SampleProjIdeal.nD) → Buf (Elt Ideal) ((c.tc : Thread Cert.SampleProjIdeal.nD Cert.SampleProjIdeal.τ).loc Cert.SampleProjIdeal.main_v11_6)) (v7 : (c : Dev Cert.SampleProjIdeal.nD) → Buf (Elt Ideal) ((c.tc : Thread Cert.SampleProjIdeal.nD Cert.SampleProjIdeal.τ).loc Cert.SampleProjIdeal.main_v11_7)) (v8 : (c : Dev Cert.SampleProjIdeal.nD) → Buf (Elt Ideal) ((c.tc : Thread Cert.SampleProjIdeal.nD Cert.SampleProjIdeal.τ).loc Cert.SampleProjIdeal.main_v11_8)) (v9 : (c : Dev Cert.SampleProjIdeal.nD) → Buf (Elt Ideal) ((c.tc : Thread Cert.SampleProjIdeal.nD Cert.SampleProjIdeal.τ).loc Cert.SampleProjIdeal.main_v11_9)) (v10 : (c : Dev Cert.SampleProjIdeal.nD) → Buf (Elt Ideal) ((c.tc : Thread Cert.SampleProjIdeal.nD Cert.SampleProjIdeal.τ).loc Cert.SampleProjIdeal.main_v11_10)) (v11 : (c : Dev Cert.SampleProjIdeal.nD) → Buf (Elt Ideal) ((c.tc : Thread Cert.SampleProjIdeal.nD Cert.SampleProjIdeal.τ).loc Cert.SampleProjIdeal.main_v11_11)) (v12 : (c : Dev Cert.SampleProjIdeal.nD) → Buf (Elt Ideal) ((c.tc : Thread Cert.SampleProjIdeal.nD Cert.SampleProjIdeal.τ).loc Cert.SampleProjIdeal.main_v11_12)) (v13 : (c : Dev Cert.SampleProjIdeal.nD) → Buf (Elt Ideal) ((c.tc : Thread Cert.SampleProjIdeal.nD Cert.SampleProjIdeal.τ).loc Cert.SampleProjIdeal.main_v11_13)) (v14 : (c : Dev Cert.SampleProjIdeal.nD) → Buf (Elt Ideal) ((c.tc : Thread Cert.SampleProjIdeal.nD Cert.SampleProjIdeal.τ).loc Cert.SampleProjIdeal.main_v11_14)) (v15 : (c : Dev Cert.SampleProjIdeal.nD) → Buf (Elt Ideal) ((c.tc : Thread Cert.SampleProjIdeal.nD Cert.SampleProjIdeal.τ).loc Cert.SampleProjIdeal.main_v11_15)),
      θ_run (Cert.SampleProjIdeal.defs (F := Ideal)) (onTc (τ := Cert.SampleProjIdeal.τ) (Cert.SampleProjIdeal.main (F := Ideal))) ⟨m, fun _ => 0, g⟩ (fun r => ∀ c : Dev Cert.SampleProjIdeal.nD,
          r.2.mem ((c.tc : Thread Cert.SampleProjIdeal.nD Cert.SampleProjIdeal.τ).loc Cert.SampleProjIdeal.main_v11_0) = v0 c
          ∧ r.2.mem ((c.tc : Thread Cert.SampleProjIdeal.nD Cert.SampleProjIdeal.τ).loc Cert.SampleProjIdeal.main_v11_1) = v1 c
          ∧ r.2.mem ((c.tc : Thread Cert.SampleProjIdeal.nD Cert.SampleProjIdeal.τ).loc Cert.SampleProjIdeal.main_v11_2) = v2 c
          ∧ r.2.mem ((c.tc : Thread Cert.SampleProjIdeal.nD Cert.SampleProjIdeal.τ).loc Cert.SampleProjIdeal.main_v11_3) = v3 c
          ∧ r.2.mem ((c.tc : Thread Cert.SampleProjIdeal.nD Cert.SampleProjIdeal.τ).loc Cert.SampleProjIdeal.main_v11_4) = v4 c
          ∧ r.2.mem ((c.tc : Thread Cert.SampleProjIdeal.nD Cert.SampleProjIdeal.τ).loc Cert.SampleProjIdeal.main_v11_5) = v5 c
          ∧ r.2.mem ((c.tc : Thread Cert.SampleProjIdeal.nD Cert.SampleProjIdeal.τ).loc Cert.SampleProjIdeal.main_v11_6) = v6 c
          ∧ r.2.mem ((c.tc : Thread Cert.SampleProjIdeal.nD Cert.SampleProjIdeal.τ).loc Cert.SampleProjIdeal.main_v11_7) = v7 c
          ∧ r.2.mem ((c.tc : Thread Cert.SampleProjIdeal.nD Cert.SampleProjIdeal.τ).loc Cert.SampleProjIdeal.main_v11_8) = v8 c
          ∧ r.2.mem ((c.tc : Thread Cert.SampleProjIdeal.nD Cert.SampleProjIdeal.τ).loc Cert.SampleProjIdeal.main_v11_9) = v9 c
          ∧ r.2.mem ((c.tc : Thread Cert.SampleProjIdeal.nD Cert.SampleProjIdeal.τ).loc Cert.SampleProjIdeal.main_v11_10) = v10 c
          ∧ r.2.mem ((c.tc : Thread Cert.SampleProjIdeal.nD Cert.SampleProjIdeal.τ).loc Cert.SampleProjIdeal.main_v11_11) = v11 c
          ∧ r.2.mem ((c.tc : Thread Cert.SampleProjIdeal.nD Cert.SampleProjIdeal.τ).loc Cert.SampleProjIdeal.main_v11_12) = v12 c
          ∧ r.2.mem ((c.tc : Thread Cert.SampleProjIdeal.nD Cert.SampleProjIdeal.τ).loc Cert.SampleProjIdeal.main_v11_13) = v13 c
          ∧ r.2.mem ((c.tc : Thread Cert.SampleProjIdeal.nD Cert.SampleProjIdeal.τ).loc Cert.SampleProjIdeal.main_v11_14) = v14 c
          ∧ r.2.mem ((c.tc : Thread Cert.SampleProjIdeal.nD Cert.SampleProjIdeal.τ).loc Cert.SampleProjIdeal.main_v11_15) = v15 c
          ∧ r.2.mem ((c.tc : Thread Cert.SampleProjIdeal.nD Cert.SampleProjIdeal.τ).loc Cert.SampleProjIdeal.main_arg0) = m ((c.tc : Thread Cert.SampleProjIdeal.nD Cert.SampleProjIdeal.τ).loc Cert.SampleProjIdeal.main_arg0)
          ∧ r.2.mem ((c.tc : Thread Cert.SampleProjIdeal.nD Cert.SampleProjIdeal.τ).loc Cert.SampleProjIdeal.main_arg1) = m ((c.tc : Thread Cert.SampleProjIdeal.nD Cert.SampleProjIdeal.τ).loc Cert.SampleProjIdeal.main_arg1)
          ∧ r.2.mem ((c.tc : Thread Cert.SampleProjIdeal.nD Cert.SampleProjIdeal.τ).loc Cert.SampleProjIdeal.main_arg2) = m ((c.tc : Thread Cert.SampleProjIdeal.nD Cert.SampleProjIdeal.τ).loc Cert.SampleProjIdeal.main_arg2))
      ∧ θ_run (Cert.SampleProjRefIdeal.defs (F := Ideal)) (onTc (τ := Cert.SampleProjRefIdeal.τ) (Cert.SampleProjRefIdeal.main (F := Ideal))) ⟨m', fun _ => 0, g'⟩ (fun r => ∀ c : Dev Cert.SampleProjRefIdeal.nD,
          r.2.mem ((c.tc : Thread Cert.SampleProjRefIdeal.nD Cert.SampleProjRefIdeal.τ).loc Cert.SampleProjRefIdeal.main_v30) = v0 c
          ∧ r.2.mem ((c.tc : Thread Cert.SampleProjRefIdeal.nD Cert.SampleProjRefIdeal.τ).loc Cert.SampleProjRefIdeal.main_v18) = v1 c
          ∧ r.2.mem ((c.tc : Thread Cert.SampleProjRefIdeal.nD Cert.SampleProjRefIdeal.τ).loc Cert.SampleProjRefIdeal.main_v41) = v2 c
          ∧ r.2.mem ((c.tc : Thread Cert.SampleProjRefIdeal.nD Cert.SampleProjRefIdeal.τ).loc Cert.SampleProjRefIdeal.main_v19) = v3 c
          ∧ r.2.mem ((c.tc : Thread Cert.SampleProjRefIdeal.nD Cert.SampleProjRefIdeal.τ).loc Cert.SampleProjRefIdeal.main_v42) = v4 c
          ∧ r.2.mem ((c.tc : Thread Cert.SampleProjRefIdeal.nD Cert.SampleProjRefIdeal.τ).loc Cert.SampleProjRefIdeal.main_v20) = v5 c
          ∧ r.2.mem ((c.tc : Thread Cert.SampleProjRefIdeal.nD Cert.SampleProjRefIdeal.τ).loc Cert.SampleProjRefIdeal.main_v33) = v6 c
          ∧ r.2.mem ((c.tc : Thread Cert.SampleProjRefIdeal.nD Cert.SampleProjRefIdeal.τ).loc Cert.SampleProjRefIdeal.main_v22) = v7 c
          ∧ r.2.mem ((c.tc : Thread Cert.SampleProjRefIdeal.nD Cert.SampleProjRefIdeal.τ).loc Cert.SampleProjRefIdeal.main_v43) = v8 c
          ∧ r.2.mem ((c.tc : Thread Cert.SampleProjRefIdeal.nD Cert.SampleProjRefIdeal.τ).loc Cert.SampleProjRefIdeal.main_v23) = v9 c
          ∧ r.2.mem ((c.tc : Thread Cert.SampleProjRefIdeal.nD Cert.SampleProjRefIdeal.τ).loc Cert.SampleProjRefIdeal.main_v44) = v10 c
          ∧ r.2.mem ((c.tc : Thread Cert.SampleProjRefIdeal.nD Cert.SampleProjRefIdeal.τ).loc Cert.SampleProjRefIdeal.main_v24) = v11 c
          ∧ r.2.mem ((c.tc : Thread Cert.SampleProjRefIdeal.nD Cert.SampleProjRefIdeal.τ).loc Cert.SampleProjRefIdeal.main_v36) = v12 c
          ∧ r.2.mem ((c.tc : Thread Cert.SampleProjRefIdeal.nD Cert.SampleProjRefIdeal.τ).loc Cert.SampleProjRefIdeal.main_v26) = v13 c
          ∧ r.2.mem ((c.tc : Thread Cert.SampleProjRefIdeal.nD Cert.SampleProjRefIdeal.τ).loc Cert.SampleProjRefIdeal.main_v40) = v14 c
          ∧ r.2.mem ((c.tc : Thread Cert.SampleProjRefIdeal.nD Cert.SampleProjRefIdeal.τ).loc Cert.SampleProjRefIdeal.main_v38) = v15 c
          ∧ r.2.mem ((c.tc : Thread Cert.SampleProjRefIdeal.nD Cert.SampleProjRefIdeal.τ).loc Cert.SampleProjRefIdeal.main_arg0) = m' ((c.tc : Thread Cert.SampleProjRefIdeal.nD Cert.SampleProjRefIdeal.τ).loc Cert.SampleProjRefIdeal.main_arg0)
          ∧ r.2.mem ((c.tc : Thread Cert.SampleProjRefIdeal.nD Cert.SampleProjRefIdeal.τ).loc Cert.SampleProjRefIdeal.main_arg1) = m' ((c.tc : Thread Cert.SampleProjRefIdeal.nD Cert.SampleProjRefIdeal.τ).loc Cert.SampleProjRefIdeal.main_arg1)
          ∧ r.2.mem ((c.tc : Thread Cert.SampleProjRefIdeal.nD Cert.SampleProjRefIdeal.τ).loc Cert.SampleProjRefIdeal.main_arg2) = m' ((c.tc : Thread Cert.SampleProjRefIdeal.nD Cert.SampleProjRefIdeal.τ).loc Cert.SampleProjRefIdeal.main_arg2))

def preserves_SampleResid_SampleResidIdeal : Prop :=
  True

def algebraic_SampleResidIdeal_SampleResidRefIdeal [hSampleResidIdeal : Cert.SampleResidIdeal.Facts] [hSampleResidRefIdeal : Cert.SampleResidRefIdeal.Facts] : Prop :=
  ∀ (m : (ℓ : Loc Cert.SampleResidIdeal.nD Cert.SampleResidIdeal.τ Cert.SampleResidIdeal.sig) → Buf (Elt Ideal) ℓ) (g : Dev Cert.SampleResidIdeal.nD → PrngReg)
    (m' : (ℓ : Loc Cert.SampleResidRefIdeal.nD Cert.SampleResidRefIdeal.τ Cert.SampleResidRefIdeal.sig) → Buf (Elt Ideal) ℓ) (g' : Dev Cert.SampleResidRefIdeal.nD → PrngReg), Pre_SampleResidIdeal m →
    (∀ c : Dev Cert.SampleResidIdeal.nD,
      m' ((c.tc : Thread Cert.SampleResidRefIdeal.nD Cert.SampleResidRefIdeal.τ).loc Cert.SampleResidRefIdeal.main_arg0) = m ((c.tc : Thread Cert.SampleResidIdeal.nD Cert.SampleResidIdeal.τ).loc Cert.SampleResidIdeal.main_arg0)
      ∧ m' ((c.tc : Thread Cert.SampleResidRefIdeal.nD Cert.SampleResidRefIdeal.τ).loc Cert.SampleResidRefIdeal.main_arg1) = m ((c.tc : Thread Cert.SampleResidIdeal.nD Cert.SampleResidIdeal.τ).loc Cert.SampleResidIdeal.main_arg1)
      ∧ m' ((c.tc : Thread Cert.SampleResidRefIdeal.nD Cert.SampleResidRefIdeal.τ).loc Cert.SampleResidRefIdeal.main_arg2) = m ((c.tc : Thread Cert.SampleResidIdeal.nD Cert.SampleResidIdeal.τ).loc Cert.SampleResidIdeal.main_arg2)
      ∧ m' ((c.tc : Thread Cert.SampleResidRefIdeal.nD Cert.SampleResidRefIdeal.τ).loc Cert.SampleResidRefIdeal.main_arg3) = m ((c.tc : Thread Cert.SampleResidIdeal.nD Cert.SampleResidIdeal.τ).loc Cert.SampleResidIdeal.main_arg3)
      ∧ m' ((c.tc : Thread Cert.SampleResidRefIdeal.nD Cert.SampleResidRefIdeal.τ).loc Cert.SampleResidRefIdeal.main_arg4) = m ((c.tc : Thread Cert.SampleResidIdeal.nD Cert.SampleResidIdeal.τ).loc Cert.SampleResidIdeal.main_arg4)
      ∧ m' ((c.tc : Thread Cert.SampleResidRefIdeal.nD Cert.SampleResidRefIdeal.τ).loc Cert.SampleResidRefIdeal.main_arg5) = m ((c.tc : Thread Cert.SampleResidIdeal.nD Cert.SampleResidIdeal.τ).loc Cert.SampleResidIdeal.main_arg5)
      ∧ m' ((c.tc : Thread Cert.SampleResidRefIdeal.nD Cert.SampleResidRefIdeal.τ).loc Cert.SampleResidRefIdeal.main_arg6) = m ((c.tc : Thread Cert.SampleResidIdeal.nD Cert.SampleResidIdeal.τ).loc Cert.SampleResidIdeal.main_arg6)
      ∧ m' ((c.tc : Thread Cert.SampleResidRefIdeal.nD Cert.SampleResidRefIdeal.τ).loc Cert.SampleResidRefIdeal.main_arg7) = m ((c.tc : Thread Cert.SampleResidIdeal.nD Cert.SampleResidIdeal.τ).loc Cert.SampleResidIdeal.main_arg7)
      ∧ m' ((c.tc : Thread Cert.SampleResidRefIdeal.nD Cert.SampleResidRefIdeal.τ).loc Cert.SampleResidRefIdeal.main_arg8) = m ((c.tc : Thread Cert.SampleResidIdeal.nD Cert.SampleResidIdeal.τ).loc Cert.SampleResidIdeal.main_arg8)
      ∧ m' ((c.tc : Thread Cert.SampleResidRefIdeal.nD Cert.SampleResidRefIdeal.τ).loc Cert.SampleResidRefIdeal.main_arg9) = m ((c.tc : Thread Cert.SampleResidIdeal.nD Cert.SampleResidIdeal.τ).loc Cert.SampleResidIdeal.main_arg9)
      ∧ m' ((c.tc : Thread Cert.SampleResidRefIdeal.nD Cert.SampleResidRefIdeal.τ).loc Cert.SampleResidRefIdeal.main_arg10) = m ((c.tc : Thread Cert.SampleResidIdeal.nD Cert.SampleResidIdeal.τ).loc Cert.SampleResidIdeal.main_arg10)) →
    ∃ (v0 : (c : Dev Cert.SampleResidIdeal.nD) → Buf (Elt Ideal) ((c.tc : Thread Cert.SampleResidIdeal.nD Cert.SampleResidIdeal.τ).loc Cert.SampleResidIdeal.main_v12)),
      θ_run (Cert.SampleResidIdeal.defs (F := Ideal)) (onTc (τ := Cert.SampleResidIdeal.τ) (Cert.SampleResidIdeal.main (F := Ideal))) ⟨m, fun _ => 0, g⟩ (fun r => ∀ c : Dev Cert.SampleResidIdeal.nD,
          r.2.mem ((c.tc : Thread Cert.SampleResidIdeal.nD Cert.SampleResidIdeal.τ).loc Cert.SampleResidIdeal.main_v12) = v0 c
          ∧ r.2.mem ((c.tc : Thread Cert.SampleResidIdeal.nD Cert.SampleResidIdeal.τ).loc Cert.SampleResidIdeal.main_arg0) = m ((c.tc : Thread Cert.SampleResidIdeal.nD Cert.SampleResidIdeal.τ).loc Cert.SampleResidIdeal.main_arg0)
          ∧ r.2.mem ((c.tc : Thread Cert.SampleResidIdeal.nD Cert.SampleResidIdeal.τ).loc Cert.SampleResidIdeal.main_arg1) = m ((c.tc : Thread Cert.SampleResidIdeal.nD Cert.SampleResidIdeal.τ).loc Cert.SampleResidIdeal.main_arg1)
          ∧ r.2.mem ((c.tc : Thread Cert.SampleResidIdeal.nD Cert.SampleResidIdeal.τ).loc Cert.SampleResidIdeal.main_arg2) = m ((c.tc : Thread Cert.SampleResidIdeal.nD Cert.SampleResidIdeal.τ).loc Cert.SampleResidIdeal.main_arg2)
          ∧ r.2.mem ((c.tc : Thread Cert.SampleResidIdeal.nD Cert.SampleResidIdeal.τ).loc Cert.SampleResidIdeal.main_arg3) = m ((c.tc : Thread Cert.SampleResidIdeal.nD Cert.SampleResidIdeal.τ).loc Cert.SampleResidIdeal.main_arg3)
          ∧ r.2.mem ((c.tc : Thread Cert.SampleResidIdeal.nD Cert.SampleResidIdeal.τ).loc Cert.SampleResidIdeal.main_arg4) = m ((c.tc : Thread Cert.SampleResidIdeal.nD Cert.SampleResidIdeal.τ).loc Cert.SampleResidIdeal.main_arg4)
          ∧ r.2.mem ((c.tc : Thread Cert.SampleResidIdeal.nD Cert.SampleResidIdeal.τ).loc Cert.SampleResidIdeal.main_arg5) = m ((c.tc : Thread Cert.SampleResidIdeal.nD Cert.SampleResidIdeal.τ).loc Cert.SampleResidIdeal.main_arg5)
          ∧ r.2.mem ((c.tc : Thread Cert.SampleResidIdeal.nD Cert.SampleResidIdeal.τ).loc Cert.SampleResidIdeal.main_arg6) = m ((c.tc : Thread Cert.SampleResidIdeal.nD Cert.SampleResidIdeal.τ).loc Cert.SampleResidIdeal.main_arg6)
          ∧ r.2.mem ((c.tc : Thread Cert.SampleResidIdeal.nD Cert.SampleResidIdeal.τ).loc Cert.SampleResidIdeal.main_arg7) = m ((c.tc : Thread Cert.SampleResidIdeal.nD Cert.SampleResidIdeal.τ).loc Cert.SampleResidIdeal.main_arg7)
          ∧ r.2.mem ((c.tc : Thread Cert.SampleResidIdeal.nD Cert.SampleResidIdeal.τ).loc Cert.SampleResidIdeal.main_arg8) = m ((c.tc : Thread Cert.SampleResidIdeal.nD Cert.SampleResidIdeal.τ).loc Cert.SampleResidIdeal.main_arg8)
          ∧ r.2.mem ((c.tc : Thread Cert.SampleResidIdeal.nD Cert.SampleResidIdeal.τ).loc Cert.SampleResidIdeal.main_arg9) = m ((c.tc : Thread Cert.SampleResidIdeal.nD Cert.SampleResidIdeal.τ).loc Cert.SampleResidIdeal.main_arg9)
          ∧ r.2.mem ((c.tc : Thread Cert.SampleResidIdeal.nD Cert.SampleResidIdeal.τ).loc Cert.SampleResidIdeal.main_arg10) = m ((c.tc : Thread Cert.SampleResidIdeal.nD Cert.SampleResidIdeal.τ).loc Cert.SampleResidIdeal.main_arg10))
      ∧ θ_run (Cert.SampleResidRefIdeal.defs (F := Ideal)) (onTc (τ := Cert.SampleResidRefIdeal.τ) (Cert.SampleResidRefIdeal.main (F := Ideal))) ⟨m', fun _ => 0, g'⟩ (fun r => ∀ c : Dev Cert.SampleResidRefIdeal.nD,
          r.2.mem ((c.tc : Thread Cert.SampleResidRefIdeal.nD Cert.SampleResidRefIdeal.τ).loc Cert.SampleResidRefIdeal.main_v52) = v0 c
          ∧ r.2.mem ((c.tc : Thread Cert.SampleResidRefIdeal.nD Cert.SampleResidRefIdeal.τ).loc Cert.SampleResidRefIdeal.main_arg0) = m' ((c.tc : Thread Cert.SampleResidRefIdeal.nD Cert.SampleResidRefIdeal.τ).loc Cert.SampleResidRefIdeal.main_arg0)
          ∧ r.2.mem ((c.tc : Thread Cert.SampleResidRefIdeal.nD Cert.SampleResidRefIdeal.τ).loc Cert.SampleResidRefIdeal.main_arg1) = m' ((c.tc : Thread Cert.SampleResidRefIdeal.nD Cert.SampleResidRefIdeal.τ).loc Cert.SampleResidRefIdeal.main_arg1)
          ∧ r.2.mem ((c.tc : Thread Cert.SampleResidRefIdeal.nD Cert.SampleResidRefIdeal.τ).loc Cert.SampleResidRefIdeal.main_arg2) = m' ((c.tc : Thread Cert.SampleResidRefIdeal.nD Cert.SampleResidRefIdeal.τ).loc Cert.SampleResidRefIdeal.main_arg2)
          ∧ r.2.mem ((c.tc : Thread Cert.SampleResidRefIdeal.nD Cert.SampleResidRefIdeal.τ).loc Cert.SampleResidRefIdeal.main_arg3) = m' ((c.tc : Thread Cert.SampleResidRefIdeal.nD Cert.SampleResidRefIdeal.τ).loc Cert.SampleResidRefIdeal.main_arg3)
          ∧ r.2.mem ((c.tc : Thread Cert.SampleResidRefIdeal.nD Cert.SampleResidRefIdeal.τ).loc Cert.SampleResidRefIdeal.main_arg4) = m' ((c.tc : Thread Cert.SampleResidRefIdeal.nD Cert.SampleResidRefIdeal.τ).loc Cert.SampleResidRefIdeal.main_arg4)
          ∧ r.2.mem ((c.tc : Thread Cert.SampleResidRefIdeal.nD Cert.SampleResidRefIdeal.τ).loc Cert.SampleResidRefIdeal.main_arg5) = m' ((c.tc : Thread Cert.SampleResidRefIdeal.nD Cert.SampleResidRefIdeal.τ).loc Cert.SampleResidRefIdeal.main_arg5)
          ∧ r.2.mem ((c.tc : Thread Cert.SampleResidRefIdeal.nD Cert.SampleResidRefIdeal.τ).loc Cert.SampleResidRefIdeal.main_arg6) = m' ((c.tc : Thread Cert.SampleResidRefIdeal.nD Cert.SampleResidRefIdeal.τ).loc Cert.SampleResidRefIdeal.main_arg6)
          ∧ r.2.mem ((c.tc : Thread Cert.SampleResidRefIdeal.nD Cert.SampleResidRefIdeal.τ).loc Cert.SampleResidRefIdeal.main_arg7) = m' ((c.tc : Thread Cert.SampleResidRefIdeal.nD Cert.SampleResidRefIdeal.τ).loc Cert.SampleResidRefIdeal.main_arg7)
          ∧ r.2.mem ((c.tc : Thread Cert.SampleResidRefIdeal.nD Cert.SampleResidRefIdeal.τ).loc Cert.SampleResidRefIdeal.main_arg8) = m' ((c.tc : Thread Cert.SampleResidRefIdeal.nD Cert.SampleResidRefIdeal.τ).loc Cert.SampleResidRefIdeal.main_arg8)
          ∧ r.2.mem ((c.tc : Thread Cert.SampleResidRefIdeal.nD Cert.SampleResidRefIdeal.τ).loc Cert.SampleResidRefIdeal.main_arg9) = m' ((c.tc : Thread Cert.SampleResidRefIdeal.nD Cert.SampleResidRefIdeal.τ).loc Cert.SampleResidRefIdeal.main_arg9)
          ∧ r.2.mem ((c.tc : Thread Cert.SampleResidRefIdeal.nD Cert.SampleResidRefIdeal.τ).loc Cert.SampleResidRefIdeal.main_arg10) = m' ((c.tc : Thread Cert.SampleResidRefIdeal.nD Cert.SampleResidRefIdeal.τ).loc Cert.SampleResidRefIdeal.main_arg10))

def preserves_SampleIdx_SampleIdxIdeal : Prop :=
  True

def algebraic_SampleIdxIdeal_SampleIdxRefIdeal [hSampleIdxIdeal : Cert.SampleIdxIdeal.Facts] [hSampleIdxRefIdeal : Cert.SampleIdxRefIdeal.Facts] [hPre_pages_in_pool : Cert.Pre_pages_in_pool.Facts] : Prop :=
  ∀ (m : (ℓ : Loc Cert.SampleIdxIdeal.nD Cert.SampleIdxIdeal.τ Cert.SampleIdxIdeal.sig) → Buf (Elt Ideal) ℓ) (g : Dev Cert.SampleIdxIdeal.nD → PrngReg)
    (m' : (ℓ : Loc Cert.SampleIdxRefIdeal.nD Cert.SampleIdxRefIdeal.τ Cert.SampleIdxRefIdeal.sig) → Buf (Elt Ideal) ℓ) (g' : Dev Cert.SampleIdxRefIdeal.nD → PrngReg), Pre_SampleIdxIdeal m →
    (∀ c : Dev Cert.SampleIdxIdeal.nD,
      m' ((c.tc : Thread Cert.SampleIdxRefIdeal.nD Cert.SampleIdxRefIdeal.τ).loc Cert.SampleIdxRefIdeal.main_arg0) = m ((c.tc : Thread Cert.SampleIdxIdeal.nD Cert.SampleIdxIdeal.τ).loc Cert.SampleIdxIdeal.main_arg0)
      ∧ m' ((c.tc : Thread Cert.SampleIdxRefIdeal.nD Cert.SampleIdxRefIdeal.τ).loc Cert.SampleIdxRefIdeal.main_arg1) = m ((c.tc : Thread Cert.SampleIdxIdeal.nD Cert.SampleIdxIdeal.τ).loc Cert.SampleIdxIdeal.main_arg1)
      ∧ m' ((c.tc : Thread Cert.SampleIdxRefIdeal.nD Cert.SampleIdxRefIdeal.τ).loc Cert.SampleIdxRefIdeal.main_arg2) = m ((c.tc : Thread Cert.SampleIdxIdeal.nD Cert.SampleIdxIdeal.τ).loc Cert.SampleIdxIdeal.main_arg2)
      ∧ m' ((c.tc : Thread Cert.SampleIdxRefIdeal.nD Cert.SampleIdxRefIdeal.τ).loc Cert.SampleIdxRefIdeal.main_arg3) = m ((c.tc : Thread Cert.SampleIdxIdeal.nD Cert.SampleIdxIdeal.τ).loc Cert.SampleIdxIdeal.main_arg3)) →
    ∃ (v0 : (c : Dev Cert.SampleIdxIdeal.nD) → Buf (Elt Ideal) ((c.tc : Thread Cert.SampleIdxIdeal.nD Cert.SampleIdxIdeal.τ).loc Cert.SampleIdxIdeal.main_v3)),
      θ_run (Cert.SampleIdxIdeal.defs (F := Ideal)) (onTc (τ := Cert.SampleIdxIdeal.τ) (Cert.SampleIdxIdeal.main (F := Ideal))) ⟨m, fun _ => 0, g⟩ (fun r => ∀ c : Dev Cert.SampleIdxIdeal.nD,
          r.2.mem ((c.tc : Thread Cert.SampleIdxIdeal.nD Cert.SampleIdxIdeal.τ).loc Cert.SampleIdxIdeal.main_v3) = v0 c
          ∧ r.2.mem ((c.tc : Thread Cert.SampleIdxIdeal.nD Cert.SampleIdxIdeal.τ).loc Cert.SampleIdxIdeal.main_arg0) = m ((c.tc : Thread Cert.SampleIdxIdeal.nD Cert.SampleIdxIdeal.τ).loc Cert.SampleIdxIdeal.main_arg0)
          ∧ r.2.mem ((c.tc : Thread Cert.SampleIdxIdeal.nD Cert.SampleIdxIdeal.τ).loc Cert.SampleIdxIdeal.main_arg1) = m ((c.tc : Thread Cert.SampleIdxIdeal.nD Cert.SampleIdxIdeal.τ).loc Cert.SampleIdxIdeal.main_arg1)
          ∧ r.2.mem ((c.tc : Thread Cert.SampleIdxIdeal.nD Cert.SampleIdxIdeal.τ).loc Cert.SampleIdxIdeal.main_arg2) = m ((c.tc : Thread Cert.SampleIdxIdeal.nD Cert.SampleIdxIdeal.τ).loc Cert.SampleIdxIdeal.main_arg2)
          ∧ r.2.mem ((c.tc : Thread Cert.SampleIdxIdeal.nD Cert.SampleIdxIdeal.τ).loc Cert.SampleIdxIdeal.main_arg3) = m ((c.tc : Thread Cert.SampleIdxIdeal.nD Cert.SampleIdxIdeal.τ).loc Cert.SampleIdxIdeal.main_arg3))
      ∧ θ_run (Cert.SampleIdxRefIdeal.defs (F := Ideal)) (onTc (τ := Cert.SampleIdxRefIdeal.τ) (Cert.SampleIdxRefIdeal.main (F := Ideal))) ⟨m', fun _ => 0, g'⟩ (fun r => ∀ c : Dev Cert.SampleIdxRefIdeal.nD,
          r.2.mem ((c.tc : Thread Cert.SampleIdxRefIdeal.nD Cert.SampleIdxRefIdeal.τ).loc Cert.SampleIdxRefIdeal.main_v15) = v0 c
          ∧ r.2.mem ((c.tc : Thread Cert.SampleIdxRefIdeal.nD Cert.SampleIdxRefIdeal.τ).loc Cert.SampleIdxRefIdeal.main_arg0) = m' ((c.tc : Thread Cert.SampleIdxRefIdeal.nD Cert.SampleIdxRefIdeal.τ).loc Cert.SampleIdxRefIdeal.main_arg0)
          ∧ r.2.mem ((c.tc : Thread Cert.SampleIdxRefIdeal.nD Cert.SampleIdxRefIdeal.τ).loc Cert.SampleIdxRefIdeal.main_arg1) = m' ((c.tc : Thread Cert.SampleIdxRefIdeal.nD Cert.SampleIdxRefIdeal.τ).loc Cert.SampleIdxRefIdeal.main_arg1)
          ∧ r.2.mem ((c.tc : Thread Cert.SampleIdxRefIdeal.nD Cert.SampleIdxRefIdeal.τ).loc Cert.SampleIdxRefIdeal.main_arg2) = m' ((c.tc : Thread Cert.SampleIdxRefIdeal.nD Cert.SampleIdxRefIdeal.τ).loc Cert.SampleIdxRefIdeal.main_arg2)
          ∧ r.2.mem ((c.tc : Thread Cert.SampleIdxRefIdeal.nD Cert.SampleIdxRefIdeal.τ).loc Cert.SampleIdxRefIdeal.main_arg3) = m' ((c.tc : Thread Cert.SampleIdxRefIdeal.nD Cert.SampleIdxRefIdeal.τ).loc Cert.SampleIdxRefIdeal.main_arg3))

def Claim : Prop :=
  ∃ (hAttn : Cert.Attn.Facts) (hAttnIdeal : Cert.AttnIdeal.Facts) (hAttnRefIdeal : Cert.AttnRefIdeal.Facts) (hProj : Cert.Proj.Facts) (hProjIdeal : Cert.ProjIdeal.Facts) (hProjRefIdeal : Cert.ProjRefIdeal.Facts) (hResid : Cert.Resid.Facts) (hResidIdeal : Cert.ResidIdeal.Facts) (hResidRefIdeal : Cert.ResidRefIdeal.Facts) (hSampleProj : Cert.SampleProj.Facts) (hSampleProjIdeal : Cert.SampleProjIdeal.Facts) (hSampleProjRefIdeal : Cert.SampleProjRefIdeal.Facts) (hSampleResid : Cert.SampleResid.Facts) (hSampleResidIdeal : Cert.SampleResidIdeal.Facts) (hSampleResidRefIdeal : Cert.SampleResidRefIdeal.Facts) (hSampleIdx : Cert.SampleIdx.Facts) (hSampleIdxIdeal : Cert.SampleIdxIdeal.Facts) (hSampleIdxRefIdeal : Cert.SampleIdxRefIdeal.Facts) (hPre_finite : Cert.Pre_finite.Facts) (hPre_pages_in_pool : Cert.Pre_pages_in_pool.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Proj (hProj := hProj)
    ∧ quiescent_ProjIdeal (hProjIdeal := hProjIdeal)
    ∧ quiescent_ProjRefIdeal (hProjRefIdeal := hProjRefIdeal)
    ∧ quiescent_Resid (hResid := hResid)
    ∧ quiescent_ResidIdeal (hResidIdeal := hResidIdeal)
    ∧ quiescent_ResidRefIdeal (hResidRefIdeal := hResidRefIdeal)
    ∧ quiescent_SampleProj (hSampleProj := hSampleProj)
    ∧ quiescent_SampleProjIdeal (hSampleProjIdeal := hSampleProjIdeal)
    ∧ quiescent_SampleProjRefIdeal (hSampleProjRefIdeal := hSampleProjRefIdeal)
    ∧ quiescent_SampleResid (hSampleResid := hSampleResid)
    ∧ quiescent_SampleResidIdeal (hSampleResidIdeal := hSampleResidIdeal)
    ∧ quiescent_SampleResidRefIdeal (hSampleResidRefIdeal := hSampleResidRefIdeal)
    ∧ quiescent_SampleIdx (hSampleIdx := hSampleIdx) (hPre_pages_in_pool := hPre_pages_in_pool)
    ∧ quiescent_SampleIdxIdeal (hSampleIdxIdeal := hSampleIdxIdeal) (hPre_pages_in_pool := hPre_pages_in_pool)
    ∧ quiescent_SampleIdxRefIdeal (hSampleIdxRefIdeal := hSampleIdxRefIdeal)
    ∧ quiescent_SampleIdxRefIdeal_pre_pages_in_pool (hSampleIdxRefIdeal := hSampleIdxRefIdeal) (hPre_pages_in_pool := hPre_pages_in_pool)
    ∧ preserves_Attn_AttnIdeal
    ∧ algebraic_AttnIdeal_AttnRefIdeal_pre_finite (hAttnIdeal := hAttnIdeal) (hAttnRefIdeal := hAttnRefIdeal) (hPre_finite := hPre_finite)
    ∧ preserves_Proj_ProjIdeal
    ∧ algebraic_ProjIdeal_ProjRefIdeal (hProjIdeal := hProjIdeal) (hProjRefIdeal := hProjRefIdeal)
    ∧ preserves_Resid_ResidIdeal
    ∧ algebraic_ResidIdeal_ResidRefIdeal (hResidIdeal := hResidIdeal) (hResidRefIdeal := hResidRefIdeal)
    ∧ preserves_SampleProj_SampleProjIdeal
    ∧ algebraic_SampleProjIdeal_SampleProjRefIdeal (hSampleProjIdeal := hSampleProjIdeal) (hSampleProjRefIdeal := hSampleProjRefIdeal)
    ∧ preserves_SampleResid_SampleResidIdeal
    ∧ algebraic_SampleResidIdeal_SampleResidRefIdeal (hSampleResidIdeal := hSampleResidIdeal) (hSampleResidRefIdeal := hSampleResidRefIdeal)
    ∧ preserves_SampleIdx_SampleIdxIdeal
    ∧ algebraic_SampleIdxIdeal_SampleIdxRefIdeal (hSampleIdxIdeal := hSampleIdxIdeal) (hSampleIdxRefIdeal := hSampleIdxRefIdeal) (hPre_pages_in_pool := hPre_pages_in_pool)
-- ==== Pre_finite.lean ====
abbrev S1x4x64 : Shape := ⟨3, ![1, 4, 64]⟩
abbrev S1x128 : Shape := ⟨2, ![1, 128]⟩
abbrev S32768x512 : Shape := ⟨2, ![32768, 512]⟩
abbrev S_ : Shape := ⟨0, ![]⟩

class Facts : Prop where
  bcast_S_S1x4x64 : S_.BroadcastsInDim S1x4x64 (![] : Fin 0 → Fin S1x4x64.rank)
  reducesTo_S1x4x64_S_d0_1_2 : S1x4x64.ReducesTo [0, 1, 2] S_
  h_S_ : 0 < S_.numel
  bitsLt_bf16_f32 : FTy.bits .bf16 < FTy.bits .f32
  bcast_S_S32768x512 : S_.BroadcastsInDim S32768x512 (![] : Fin 0 → Fin S32768x512.rank)
  reducesTo_S32768x512_S_d0_1 : S32768x512.ReducesTo [0, 1] S_

variable [Facts]

def fn {F : FTy → Type} [FloatOps F] (main_arg0 : FVec F S1x4x64 .f32) (main_arg1 : FVec F S1x128 .f32) (main_arg2 : FVec F S32768x512 .bf16) (main_arg3 : FVec F S32768x512 .bf16) (main_arg4 : FVec F S32768x512 .bf16) : IVec S_ 1 :=
  let main_v0 : FVec F S1x4x64 .f32 := Host.absf main_arg0
  let main_cst : FVec F S_ .f32 := constant S_ .f32 0x7F800000#32
  let main_v1 : FVec F S1x4x64 .f32 := broadcastInDim S1x4x64 ![] bcast_S_S1x4x64 main_cst
  let main_v2 : IVec S1x4x64 1 := cmpf .olt main_v0 main_v1
  let main_c : IVec S_ 1 := constantI S_ 1 1#1
  let main_v3 : IVec S_ 1 := (fun x v => Host.reduce IntOp.andi x v reducesTo_S1x4x64_S_d0_1_2 h_S_) main_v2 main_c
  let main_v4 : FVec F S32768x512 .f32 := (extf .f32 · bitsLt_bf16_f32) main_arg4
  let main_v5 : FVec F S32768x512 .f32 := Host.absf main_v4
  let main_cst_0 : FVec F S_ .f32 := constant S_ .f32 0x7F800000#32
  let main_v6 : FVec F S32768x512 .f32 := broadcastInDim S32768x512 ![] bcast_S_S32768x512 main_cst_0
  let main_v7 : IVec S32768x512 1 := cmpf .olt main_v5 main_v6
  let main_c_1 : IVec S_ 1 := constantI S_ 1 1#1
  let main_v8 : IVec S_ 1 := (fun x v => Host.reduce IntOp.andi x v reducesTo_S32768x512_S_d0_1 h_S_) main_v7 main_c_1
  let main_v9 : IVec S_ 1 := andi main_v3 main_v8
  main_v9
-- ==== Pre_pages_in_pool.lean ====
abbrev S128x64 : Shape := ⟨2, ![128, 64]⟩
abbrev S128x512 : Shape := ⟨2, ![128, 512]⟩
abbrev S128x8 : Shape := ⟨2, ![128, 8]⟩
abbrev S1x10240x128x64 : Shape := ⟨4, ![1, 10240, 128, 64]⟩
abbrev S_ : Shape := ⟨0, ![]⟩

class Facts : Prop where
  bcast_S_S128x64 : S_.BroadcastsInDim S128x64 (![] : Fin 0 → Fin S128x64.rank)
  reducesTo_S128x64_S_d0_1 : S128x64.ReducesTo [0, 1] S_
  h_S_ : 0 < S_.numel

variable [Facts]

def fn {F : FTy → Type} [FloatOps F] (main_arg0 : IVec S128x64 32) (main_arg1 : FVec F S128x512 .bf16) (main_arg2 : FVec F S128x8 .f32) (main_arg3 : FVec F S1x10240x128x64 .f32) : IVec S_ 1 :=
  let main_c : IVec S_ 32 := constantI S_ 32 0#32
  let main_v0 : IVec S128x64 32 := broadcastInDim S128x64 ![] bcast_S_S128x64 main_c
  let main_v1 : IVec S128x64 1 := cmpi .sge main_arg0 main_v0
  let main_c_0 : IVec S_ 32 := constantI S_ 32 10239#32
  let main_v2 : IVec S128x64 32 := broadcastInDim S128x64 ![] bcast_S_S128x64 main_c_0
  let main_v3 : IVec S128x64 1 := cmpi .sle main_arg0 main_v2
  let main_v4 : IVec S128x64 1 := andi main_v1 main_v3
  let main_c_1 : IVec S_ 1 := constantI S_ 1 1#1
  let main_v5 : IVec S_ 1 := (fun x v => Host.reduce IntOp.andi x v reducesTo_S128x64_S_d0_1 h_S_) main_v4 main_c_1
  main_v5
-- ==== Attn.lean ====
abbrev S1x4x64 : Shape := ⟨3, ![1, 4, 64]⟩
abbrev S1x128 : Shape := ⟨2, ![1, 128]⟩
abbrev S32768x512 : Shape := ⟨2, ![32768, 512]⟩
abbrev S128 : Shape := ⟨1, ![128]⟩
abbrev S4x64 : Shape := ⟨2, ![4, 64]⟩
abbrev S128x256x512 : Shape := ⟨3, ![128, 256, 512]⟩
abbrev S256x512 : Shape := ⟨2, ![256, 512]⟩
abbrev S32x256x512 : Shape := ⟨3, ![32, 256, 512]⟩
abbrev S512x128 : Shape := ⟨2, ![512, 128]⟩
abbrev S1x64 : Shape := ⟨2, ![1, 64]⟩
abbrev S1 : Shape := ⟨1, ![1]⟩
abbrev S1x1 : Shape := ⟨2, ![1, 1]⟩
abbrev S512x256 : Shape := ⟨2, ![512, 256]⟩
abbrev S256x128 : Shape := ⟨2, ![256, 128]⟩
abbrev S1x256x512 : Shape := ⟨3, ![1, 256, 512]⟩
abbrev S512 : Shape := ⟨1, ![512]⟩
abbrev S512x1 : Shape := ⟨2, ![512, 1]⟩
abbrev S256 : Shape := ⟨1, ![256]⟩
abbrev S256x1 : Shape := ⟨2, ![256, 1]⟩

abbrev nBuf : Space → Nat
  | .hbm => 11
  | .vmem => 11
  | .smem => 0
  | _ => 0

abbrev bufTy : (tb : Table) → Fin (tcTables nBuf tb) → BufTy
  | .hbm, ⟨0, _⟩ => ⟨S1x4x64, .f32⟩
  | .hbm, ⟨1, _⟩ => ⟨S1x128, .f32⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S128, .f32⟩
  | .hbm, ⟨6, _⟩ => ⟨S1x128, .f32⟩
  | .hbm, ⟨7, _⟩ => ⟨S4x64, .f32⟩
  | .hbm, ⟨8, _⟩ => ⟨S128x256x512, .bf16⟩
  | .hbm, ⟨9, _⟩ => ⟨S128x256x512, .bf16⟩
  | .hbm, ⟨10, _⟩ => ⟨S32768x512, .f32⟩
  | .local _ .vmem, ⟨0, _⟩ => ⟨S4x64, .f32⟩
  | .local _ .vmem, ⟨1, _⟩ => ⟨S1x128, .f32⟩
  | .local _ .vmem, ⟨2, _⟩ => ⟨S256x512, .bf16⟩
  | .local _ .vmem, ⟨3, _⟩ => ⟨S256x512, .bf16⟩
  | .local _ .vmem, ⟨4, _⟩ => ⟨S32x256x512, .bf16⟩
  | .local _ .vmem, ⟨5, _⟩ => ⟨S32x256x512, .bf16⟩
  | .local _ .vmem, ⟨6, _⟩ => ⟨S256x512, .f32⟩
  | .local _ .vmem, ⟨7, _⟩ => ⟨S256x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | _, _ => ⟨S1x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 32], ![false, false]⟩

@[reducible] def k0_t1_loop (i : grid0.Coords) : Scf.Loop 32 :=
  let c0_i32_19 : BitVec 32 := 0#32
  let arg1 : BitVec 32 := BitVec.ofNat 32 (i 1).val
  let v54 : BitVec 32 := Scalar.subi arg1 c0_i32_19
  let c1_i32 : BitVec 32 := 1#32
  let v56 : BitVec 32 := Scalar.divsi v54 c1_i32
  let v57 : BitVec 32 := Scalar.muli v56 c1_i32
  let v58 : BitVec 32 := Scalar.addi c0_i32_19 v57
  let c1_i32_20 : BitVec 32 := 1#32
  ⟨c0_i32_19, v58, c1_i32_20⟩
def k0_off1 (i : grid0.Coords) (k0_t1 : Fin (k0_t1_loop i).trips) : Fin 3 → Nat :=
  let c0_i32_19 : BitVec 32 := 0#32
  let c1_i32_20 : BitVec 32 := 1#32
  let arg11 : BitVec 32 := Scf.iv c0_i32_19 c1_i32_20 k0_t1
  let v456 : Index := Scalar.indexCast arg11
  let c0_222 : Index := 0#32
  let c0_223 : Index := 0#32
  ![v456.toNat, 0, 0]
@[reducible] def k0_t2_loop (i : grid0.Coords) : Scf.Loop 32 :=
  let c0_i32_19 : BitVec 32 := 0#32
  let arg1 : BitVec 32 := BitVec.ofNat 32 (i 1).val
  let v54 : BitVec 32 := Scalar.subi arg1 c0_i32_19
  let c1_i32 : BitVec 32 := 1#32
  let v56 : BitVec 32 := Scalar.divsi v54 c1_i32
  let v57 : BitVec 32 := Scalar.muli v56 c1_i32
  let v58 : BitVec 32 := Scalar.addi c0_i32_19 v57
  let v55 : BitVec 32 := Scalar.addi c0_i32_19 v54
  let c1_i32_21 : BitVec 32 := 1#32
  ⟨v58, v55, c1_i32_21⟩
def k0_off2 (i : grid0.Coords) (k0_t2 : Fin (k0_t2_loop i).trips) : Fin 3 → Nat :=
  let c0_i32_19 : BitVec 32 := 0#32
  let arg1 : BitVec 32 := BitVec.ofNat 32 (i 1).val
  let v54 : BitVec 32 := Scalar.subi arg1 c0_i32_19
  let c1_i32 : BitVec 32 := 1#32
  let v56 : BitVec 32 := Scalar.divsi v54 c1_i32
  let v57 : BitVec 32 := Scalar.muli v56 c1_i32
  let v58 : BitVec 32 := Scalar.addi c0_i32_19 v57
  let c1_i32_21 : BitVec 32 := 1#32
  let arg11 : BitVec 32 := Scf.iv v58 c1_i32_21 k0_t2
  let v456 : Index := Scalar.indexCast arg11
  let c0_222 : Index := 0#32
  let c0_223 : Index := 0#32
  ![v456.toNat, 0, 0]
def k0_off3 (i : grid0.Coords) : Fin 3 → Nat :=
  let arg1 : BitVec 32 := BitVec.ofNat 32 (i 1).val
  let v59 : Index := Scalar.indexCast arg1
  let c0_22 : Index := 0#32
  let c0_23 : Index := 0#32
  ![v59.toNat, 0, 0]
@[reducible] def k0_t3_loop (i : grid0.Coords) : Scf.Loop 32 :=
  let c0_i32_73 : BitVec 32 := 0#32
  let arg1 : BitVec 32 := BitVec.ofNat 32 (i 1).val
  let v161 : BitVec 32 := Scalar.subi arg1 c0_i32_73
  let c1_i32_74 : BitVec 32 := 1#32
  let v163 : BitVec 32 := Scalar.divsi v161 c1_i32_74
  let v164 : BitVec 32 := Scalar.muli v163 c1_i32_74
  let v165 : BitVec 32 := Scalar.addi c0_i32_73 v164
  let c1_i32_75 : BitVec 32 := 1#32
  ⟨c0_i32_73, v165, c1_i32_75⟩
def k0_off4 (i : grid0.Coords) (k0_t3 : Fin (k0_t3_loop i).trips) : Fin 3 → Nat :=
  let c0_i32_73 : BitVec 32 := 0#32
  let c1_i32_75 : BitVec 32 := 1#32
  let arg11 : BitVec 32 := Scf.iv c0_i32_73 c1_i32_75 k0_t3
  let v456 : Index := Scalar.indexCast arg11
  let c0_222 : Index := 0#32
  let c0_223 : Index := 0#32
  ![v456.toNat, 0, 0]
@[reducible] def k0_t4_loop (i : grid0.Coords) : Scf.Loop 32 :=
  let c0_i32_73 : BitVec 32 := 0#32
  let arg1 : BitVec 32 := BitVec.ofNat 32 (i 1).val
  let v161 : BitVec 32 := Scalar.subi arg1 c0_i32_73
  let c1_i32_74 : BitVec 32 := 1#32
  let v163 : BitVec 32 := Scalar.divsi v161 c1_i32_74
  let v164 : BitVec 32 := Scalar.muli v163 c1_i32_74
  let v165 : BitVec 32 := Scalar.addi c0_i32_73 v164
  let v162 : BitVec 32 := Scalar.addi c0_i32_73 v161
  let c1_i32_76 : BitVec 32 := 1#32
  ⟨v165, v162, c1_i32_76⟩
def k0_off5 (i : grid0.Coords) (k0_t4 : Fin (k0_t4_loop i).trips) : Fin 3 → Nat :=
  let c0_i32_73 : BitVec 32 := 0#32
  let arg1 : BitVec 32 := BitVec.ofNat 32 (i 1).val
  let v161 : BitVec 32 := Scalar.subi arg1 c0_i32_73
  let c1_i32_74 : BitVec 32 := 1#32
  let v163 : BitVec 32 := Scalar.divsi v161 c1_i32_74
  let v164 : BitVec 32 := Scalar.muli v163 c1_i32_74
  let v165 : BitVec 32 := Scalar.addi c0_i32_73 v164
  let c1_i32_76 : BitVec 32 := 1#32
  let arg11 : BitVec 32 := Scf.iv v165 c1_i32_76 k0_t4
  let v456 : Index := Scalar.indexCast arg11
  let c0_222 : Index := 0#32
  let c0_223 : Index := 0#32
  ![v456.toNat, 0, 0]
@[reducible] def k0_t5_loop (i : grid0.Coords) : Scf.Loop 32 :=
  let c0_i32_128 : BitVec 32 := 0#32
  let arg1 : BitVec 32 := BitVec.ofNat 32 (i 1).val
  let v268 : BitVec 32 := Scalar.subi arg1 c0_i32_128
  let c1_i32_129 : BitVec 32 := 1#32
  let v270 : BitVec 32 := Scalar.divsi v268 c1_i32_129
  let v271 : BitVec 32 := Scalar.muli v270 c1_i32_129
  let v272 : BitVec 32 := Scalar.addi c0_i32_128 v271
  let c1_i32_130 : BitVec 32 := 1#32
  ⟨c0_i32_128, v272, c1_i32_130⟩
def k0_off6 (i : grid0.Coords) (k0_t5 : Fin (k0_t5_loop i).trips) : Fin 3 → Nat :=
  let c0_i32_128 : BitVec 32 := 0#32
  let c1_i32_130 : BitVec 32 := 1#32
  let arg11 : BitVec 32 := Scf.iv c0_i32_128 c1_i32_130 k0_t5
  let v456 : Index := Scalar.indexCast arg11
  let c0_222 : Index := 0#32
  let c0_223 : Index := 0#32
  ![v456.toNat, 0, 0]
@[reducible] def k0_t6_loop (i : grid0.Coords) : Scf.Loop 32 :=
  let c0_i32_128 : BitVec 32 := 0#32
  let arg1 : BitVec 32 := BitVec.ofNat 32 (i 1).val
  let v268 : BitVec 32 := Scalar.subi arg1 c0_i32_128
  let c1_i32_129 : BitVec 32 := 1#32
  let v270 : BitVec 32 := Scalar.divsi v268 c1_i32_129
  let v271 : BitVec 32 := Scalar.muli v270 c1_i32_129
  let v272 : BitVec 32 := Scalar.addi c0_i32_128 v271
  let v269 : BitVec 32 := Scalar.addi c0_i32_128 v268
  let c1_i32_131 : BitVec 32 := 1#32
  ⟨v272, v269, c1_i32_131⟩
def k0_off7 (i : grid0.Coords) (k0_t6 : Fin (k0_t6_loop i).trips) : Fin 3 → Nat :=
  let c0_i32_128 : BitVec 32 := 0#32
  let arg1 : BitVec 32 := BitVec.ofNat 32 (i 1).val
  let v268 : BitVec 32 := Scalar.subi arg1 c0_i32_128
  let c1_i32_129 : BitVec 32 := 1#32
  let v270 : BitVec 32 := Scalar.divsi v268 c1_i32_129
  let v271 : BitVec 32 := Scalar.muli v270 c1_i32_129
  let v272 : BitVec 32 := Scalar.addi c0_i32_128 v271
  let c1_i32_131 : BitVec 32 := 1#32
  let arg11 : BitVec 32 := Scf.iv v272 c1_i32_131 k0_t6
  let v456 : Index := Scalar.indexCast arg11
  let c0_222 : Index := 0#32
  let c0_223 : Index := 0#32
  ![v456.toNat, 0, 0]
@[reducible] def k0_t7_loop (i : grid0.Coords) : Scf.Loop 32 :=
  let c0_i32_183 : BitVec 32 := 0#32
  let arg1 : BitVec 32 := BitVec.ofNat 32 (i 1).val
  let v375 : BitVec 32 := Scalar.subi arg1 c0_i32_183
  let c1_i32_184 : BitVec 32 := 1#32
  let v377 : BitVec 32 := Scalar.divsi v375 c1_i32_184
  let v378 : BitVec 32 := Scalar.muli v377 c1_i32_184
  let v379 : BitVec 32 := Scalar.addi c0_i32_183 v378
  let c1_i32_185 : BitVec 32 := 1#32
  ⟨c0_i32_183, v379, c1_i32_185⟩
def k0_off8 (i : grid0.Coords) (k0_t7 : Fin (k0_t7_loop i).trips) : Fin 3 → Nat :=
  let c0_i32_183 : BitVec 32 := 0#32
  let c1_i32_185 : BitVec 32 := 1#32
  let arg11 : BitVec 32 := Scf.iv c0_i32_183 c1_i32_185 k0_t7
  let v456 : Index := Scalar.indexCast arg11
  let c0_222 : Index := 0#32
  let c0_223 : Index := 0#32
  ![v456.toNat, 0, 0]
@[reducible] def k0_t8_loop (i : grid0.Coords) : Scf.Loop 32 :=
  let c0_i32_183 : BitVec 32 := 0#32
  let arg1 : BitVec 32 := BitVec.ofNat 32 (i 1).val
  let v375 : BitVec 32 := Scalar.subi arg1 c0_i32_183
  let c1_i32_184 : BitVec 32 := 1#32
  let v377 : BitVec 32 := Scalar.divsi v375 c1_i32_184
  let v378 : BitVec 32 := Scalar.muli v377 c1_i32_184
  let v379 : BitVec 32 := Scalar.addi c0_i32_183 v378
  let v376 : BitVec 32 := Scalar.addi c0_i32_183 v375
  let c1_i32_186 : BitVec 32 := 1#32
  ⟨v379, v376, c1_i32_186⟩
def k0_off9 (i : grid0.Coords) (k0_t8 : Fin (k0_t8_loop i).trips) : Fin 3 → Nat :=
  let c0_i32_183 : BitVec 32 := 0#32
  let arg1 : BitVec 32 := BitVec.ofNat 32 (i 1).val
  let v375 : BitVec 32 := Scalar.subi arg1 c0_i32_183
  let c1_i32_184 : BitVec 32 := 1#32
  let v377 : BitVec 32 := Scalar.divsi v375 c1_i32_184
  let v378 : BitVec 32 := Scalar.muli v377 c1_i32_184
  let v379 : BitVec 32 := Scalar.addi c0_i32_183 v378
  let c1_i32_186 : BitVec 32 := 1#32
  let arg11 : BitVec 32 := Scf.iv v379 c1_i32_186 k0_t8
  let v456 : Index := Scalar.indexCast arg11
  let c0_222 : Index := 0#32
  let c0_223 : Index := 0#32
  ![v456.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S32x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S32x256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S1x4x64 : Shape := ⟨3, ![1, 4, 64]⟩
abbrev S1x128 : Shape := ⟨2, ![1, 128]⟩
abbrev S32768x512 : Shape := ⟨2, ![32768, 512]⟩
abbrev S4 : Shape := ⟨1, ![4]⟩
abbrev S4x64 : Shape := ⟨2, ![4, 64]⟩
abbrev S1x64 : Shape := ⟨2, ![1, 64]⟩
abbrev S64 : Shape := ⟨1, ![64]⟩
abbrev S_ : Shape := ⟨0, ![]⟩
abbrev S4x8192x4x2x64 : Shape := ⟨5, ![4, 8192, 4, 2, 64]⟩
abbrev S4x8192x4x128 : Shape := ⟨4, ![4, 8192, 4, 128]⟩
abbrev S8192 : Shape := ⟨1, ![8192]⟩
abbrev S2x4x4x8192x8192 : Shape := ⟨5, ![2, 4, 4, 8192, 8192]⟩
abbrev S8192x1 : Shape := ⟨2, ![8192, 1]⟩
abbrev S1x8192 : Shape := ⟨2, ![1, 8192]⟩
abbrev S8192x8192 : Shape := ⟨2, ![8192, 8192]⟩
abbrev S4x1x1 : Shape := ⟨3, ![4, 1, 1]⟩
abbrev S1x8192x8192 : Shape := ⟨3, ![1, 8192, 8192]⟩
abbrev S4x8192x8192 : Shape := ⟨3, ![4, 8192, 8192]⟩
abbrev S1x1x4x8192x8192 : Shape := ⟨5, ![1, 1, 4, 8192, 8192]⟩
abbrev S2x4x4x8192 : Shape := ⟨4, ![2, 4, 4, 8192]⟩
abbrev S2x4x4x8192x1 : Shape := ⟨5, ![2, 4, 4, 8192, 1]⟩
abbrev S1x4x4x8192x8192 : Shape := ⟨5, ![1, 4, 4, 8192, 8192]⟩
abbrev S4x4x8192x8192 : Shape := ⟨4, ![4, 4, 8192, 8192]⟩
abbrev S4x4x128x8192 : Shape := ⟨4, ![4, 4, 128, 8192]⟩
abbrev S128 : Shape := ⟨1, ![128]⟩
abbrev S4x8192x4 : Shape := ⟨3, ![4, 8192, 4]⟩
abbrev S4x8192x4x1 : Shape := ⟨4, ![4, 8192, 4, 1]⟩
abbrev S1x1x1x128 : Shape := ⟨4, ![1, 1, 1, 128]⟩

abbrev nBuf : Space → Nat
  | .hbm => 102
  | .vmem => 0
  | .smem => 0
  | _ => 0

abbrev bufTy : (tb : Table) → Fin (tcTables nBuf tb) → BufTy
  | .hbm, ⟨0, _⟩ => ⟨S1x4x64, .f32⟩
  | .hbm, ⟨1, _⟩ => ⟨S1x128, .f32⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S4, .f32⟩
  | .hbm, ⟨6, _⟩ => ⟨S4x64, .f32⟩
  | .hbm, ⟨7, _⟩ => ⟨S1x64, .f32⟩
  | .hbm, ⟨8, _⟩ => ⟨S64, .f32⟩
  | .hbm, ⟨9, _⟩ => ⟨S1x64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S32768x512, .f32⟩
  | .hbm, ⟨27, _⟩ => ⟨S4x8192x4x2x64, .f32⟩
  | .hbm, ⟨28, _⟩ => ⟨S32768x512, .f32⟩
  | .hbm, ⟨29, _⟩ => ⟨S4x8192x4x2x64, .f32⟩
  | .hbm, ⟨30, _⟩ => ⟨S32768x512, .f32⟩
  | .hbm, ⟨31, _⟩ => ⟨S4x8192x4x128, .f32⟩
  | .hbm, ⟨32, _⟩ => ⟨S8192, .i32⟩
  | .hbm, ⟨33, _⟩ => ⟨S2x4x4x8192x8192, .f32⟩
  | .hbm, ⟨34, _⟩ => ⟨S8192x1, .i32⟩
  | .hbm, ⟨35, _⟩ => ⟨S1x8192, .i32⟩
  | .hbm, ⟨36, _⟩ => ⟨S8192x8192, .i32⟩
  | .hbm, ⟨37, _⟩ => ⟨S8192x8192, .i32⟩
  | .hbm, ⟨38, _⟩ => ⟨S8192x8192, .i32⟩
  | .hbm, ⟨39, _⟩ => ⟨S8192x8192, .f32⟩
  | .hbm, ⟨40, _⟩ => ⟨S4x1x1, .f32⟩
  | .hbm, ⟨41, _⟩ => ⟨S1x8192x8192, .f32⟩
  | .hbm, ⟨42, _⟩ => ⟨S4x8192x8192, .f32⟩
  | .hbm, ⟨43, _⟩ => ⟨S4x8192x8192, .f32⟩
  | .hbm, ⟨44, _⟩ => ⟨S4x8192x8192, .f32⟩
  | .hbm, ⟨45, _⟩ => ⟨S1x1x4x8192x8192, .f32⟩
  | .hbm, ⟨46, _⟩ => ⟨S2x4x4x8192x8192, .f32⟩
  | .hbm, ⟨47, _⟩ => ⟨S2x4x4x8192x8192, .f32⟩
  | .hbm, ⟨48, _⟩ => ⟨S1x8192, .i32⟩
  | .hbm, ⟨49, _⟩ => ⟨S8192x1, .i32⟩
  | .hbm, ⟨50, _⟩ => ⟨S8192x8192, .i32⟩
  | .hbm, ⟨51, _⟩ => ⟨S8192x8192, .i32⟩
  | .hbm, ⟨52, _⟩ => ⟨S8192x8192, .i1⟩
  | .hbm, ⟨53, _⟩ => ⟨S_, .f32⟩
  | .hbm, ⟨54, _⟩ => ⟨S_, .f32⟩
  | .hbm, ⟨55, _⟩ => ⟨S2x4x4x8192x8192, .i1⟩
  | .hbm, ⟨56, _⟩ => ⟨S2x4x4x8192x8192, .f32⟩
  | .hbm, ⟨57, _⟩ => ⟨S2x4x4x8192x8192, .f32⟩
  | .hbm, ⟨58, _⟩ => ⟨S_, .f32⟩
  | .hbm, ⟨59, _⟩ => ⟨S2x4x4x8192, .f32⟩
  | .hbm, ⟨60, _⟩ => ⟨S_, .f32⟩
  | .hbm, ⟨61, _⟩ => ⟨S2x4x4x8192, .f32⟩
  | .hbm, ⟨62, _⟩ => ⟨S2x4x4x8192, .f32⟩
  | .hbm, ⟨63, _⟩ => ⟨S2x4x4x8192x1, .f32⟩
  | .hbm, ⟨64, _⟩ => ⟨S2x4x4x8192x8192, .f32⟩
  | .hbm, ⟨65, _⟩ => ⟨S2x4x4x8192x8192, .f32⟩
  | .hbm, ⟨66, _⟩ => ⟨S2x4x4x8192x8192, .f32⟩
  | .hbm, ⟨67, _⟩ => ⟨S_, .f32⟩
  | .hbm, ⟨68, _⟩ => ⟨S2x4x4x8192, .f32⟩
  | .hbm, ⟨69, _⟩ => ⟨S2x4x4x8192x1, .f32⟩
  | .hbm, ⟨70, _⟩ => ⟨S2x4x4x8192x8192, .f32⟩
  | .hbm, ⟨71, _⟩ => ⟨S2x4x4x8192x8192, .f32⟩
  | .hbm, ⟨72, _⟩ => ⟨S1x4x4x8192x8192, .f32⟩
  | .hbm, ⟨73, _⟩ => ⟨S4x4x8192x8192, .f32⟩
  | .hbm, ⟨74, _⟩ => ⟨S1x4x4x8192x8192, .f32⟩
  | .hbm, ⟨75, _⟩ => ⟨S4x4x8192x8192, .f32⟩
  | .hbm, ⟨76, _⟩ => ⟨S4x4x8192x8192, .f32⟩
  | .hbm, ⟨77, _⟩ => ⟨S4x4x8192x8192, .f32⟩
  | .hbm, ⟨78, _⟩ => ⟨S4x4x8192x8192, .f32⟩
  | .hbm, ⟨79, _⟩ => ⟨S4x4x128x8192, .f32⟩
  | .hbm, ⟨80, _⟩ => ⟨S4x8192x4x128, .f32⟩
  | .hbm, ⟨81, _⟩ => ⟨S128, .f32⟩
  | .hbm, ⟨82, _⟩ => ⟨S4x8192x4x128, .f32⟩
  | .hbm, ⟨83, _⟩ => ⟨S_, .f32⟩
  | .hbm, ⟨84, _⟩ => ⟨S4x8192x4, .f32⟩
  | .hbm, ⟨85, _⟩ => ⟨S4x8192x4x1, .f32⟩
  | .hbm, ⟨86, _⟩ => ⟨S_, .f32⟩
  | .hbm, ⟨87, _⟩ => ⟨S4x8192x4x1, .f32⟩
  | .hbm, ⟨88, _⟩ => ⟨S4x8192x4x1, .f32⟩
  | .hbm, ⟨89, _⟩ => ⟨S_, .f32⟩
  | .hbm, ⟨90, _⟩ => ⟨S4x8192x4x1, .f32⟩
  | .hbm, ⟨91, _⟩ => ⟨S4x8192x4x1, .f32⟩
  | .hbm, ⟨92, _⟩ => ⟨S4x8192x4x1, .f32⟩
  | .hbm, ⟨93, _⟩ => ⟨S4x8192x4x128, .f32⟩
  | .hbm, ⟨94, _⟩ => ⟨S4x8192x4x128, .f32⟩
  | .hbm, ⟨95, _⟩ => ⟨S1x1x1x128, .f32⟩
  | .hbm, ⟨96, _⟩ => ⟨S4x8192x4x128, .f32⟩
  | .hbm, ⟨97, _⟩ => ⟨S4x8192x4x128, .f32⟩
  | .hbm, ⟨98, _⟩ => ⟨S_, .f32⟩
  | .hbm, ⟨99, _⟩ => ⟨S4x8192x4x128, .f32⟩
  | .hbm, ⟨100, _⟩ => ⟨S4x8192x4x128, .f32⟩
  | .hbm, ⟨101, _⟩ => ⟨S32768x512, .f32⟩
  | _, _ => ⟨S1x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_3 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_v44 : Ref sig .tc := ⟨.hbm, 57, rfl⟩
abbrev main_cst_4 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_6 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_7 : Ref sig .tc := ⟨.hbm, 83, rfl⟩
abbrev main_v67 : Ref sig .tc := ⟨.hbm, 84, rfl⟩
abbrev main_v68 : Ref sig .tc := ⟨.hbm, 85, rfl⟩
abbrev main_cst_8 : Ref sig .tc := ⟨.hbm, 86, rfl⟩
abbrev main_v69 : Ref sig .tc := ⟨.hbm, 87, rfl⟩
abbrev main_v70 : Ref sig .tc := ⟨.hbm, 88, rfl⟩
abbrev main_cst_9 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_10 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩

abbrev nD : Nat := 1
abbrev τ : Topo := Topo.v7x

variable {F : FTy → Type} [FloatOps F]
-- ==== Proj.lean ====
abbrev S4x8192x1024 : Shape := ⟨3, ![4, 8192, 1024]⟩
abbrev S1x1024 : Shape := ⟨2, ![1, 1024]⟩
abbrev S1x1024x4680 : Shape := ⟨3, ![1, 1024, 4680]⟩
abbrev S1024x4680 : Shape := ⟨2, ![1024, 4680]⟩
abbrev S1024x4608 : Shape := ⟨2, ![1024, 4608]⟩
abbrev S1024x64 : Shape := ⟨2, ![1024, 64]⟩
abbrev S1024x8 : Shape := ⟨2, ![1024, 8]⟩
abbrev S_ : Shape := ⟨0, ![]⟩
abbrev S1024x120 : Shape := ⟨2, ![1024, 120]⟩
abbrev S1024x256 : Shape := ⟨2, ![1024, 256]⟩
abbrev S1024 : Shape := ⟨1, ![1024]⟩
abbrev S32768x1024 : Shape := ⟨2, ![32768, 1024]⟩
abbrev S32768x512 : Shape := ⟨2, ![32768, 512]⟩
abbrev S32768x64 : Shape := ⟨2, ![32768, 64]⟩
abbrev S32768x128 : Shape := ⟨2, ![32768, 128]⟩
abbrev S32768x8 : Shape := ⟨2, ![32768, 8]⟩
abbrev S512x1024 : Shape := ⟨2, ![512, 1024]⟩
abbrev S512x512 : Shape := ⟨2, ![512, 512]⟩
abbrev S512x64 : Shape := ⟨2, ![512, 64]⟩
abbrev S512x128 : Shape := ⟨2, ![512, 128]⟩
abbrev S512x8 : Shape := ⟨2, ![512, 8]⟩
abbrev S512 : Shape := ⟨1, ![512]⟩
abbrev S512x1 : Shape := ⟨2, ![512, 1]⟩
abbrev S1024x512 : Shape := ⟨2, ![1024, 512]⟩
abbrev S512x256 : Shape := ⟨2, ![512, 256]⟩

abbrev nBuf : Space → Nat
  | .hbm => 31
  | .vmem => 37
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x4680, .f32⟩
  | .hbm, ⟨3, _⟩ => ⟨S1024x4680, .f32⟩
  | .hbm, ⟨4, _⟩ => ⟨S1024x4608, .f32⟩
  | .hbm, ⟨5, _⟩ => ⟨S1024x4608, .bf16⟩
  | .hbm, ⟨6, _⟩ => ⟨S1024x64, .f32⟩
  | .hbm, ⟨7, _⟩ => ⟨S1024x8, .f32⟩
  | .hbm, ⟨8, _⟩ => ⟨S_, .f32⟩
  | .hbm, ⟨9, _⟩ => ⟨S1024x120, .f32⟩
  | .hbm, ⟨10, _⟩ => ⟨S1024x256, .f32⟩
  | .hbm, ⟨11, _⟩ => ⟨S1024x256, .bf16⟩
  | .hbm, ⟨12, _⟩ => ⟨S1024, .f32⟩
  | .hbm, ⟨13, _⟩ => ⟨S1x1024, .f32⟩
  | .hbm, ⟨14, _⟩ => ⟨S32768x1024, .f32⟩
  | .hbm, ⟨15, _⟩ => ⟨S32768x512, .bf16⟩
  | .hbm, ⟨16, _⟩ => ⟨S32768x512, .f32⟩
  | .hbm, ⟨17, _⟩ => ⟨S32768x512, .bf16⟩
  | .hbm, ⟨18, _⟩ => ⟨S32768x512, .f32⟩
  | .hbm, ⟨19, _⟩ => ⟨S32768x512, .bf16⟩
  | .hbm, ⟨20, _⟩ => ⟨S32768x512, .f32⟩
  | .hbm, ⟨21, _⟩ => ⟨S32768x512, .bf16⟩
  | .hbm, ⟨22, _⟩ => ⟨S32768x512, .f32⟩
  | .hbm, ⟨23, _⟩ => ⟨S32768x512, .bf16⟩
  | .hbm, ⟨24, _⟩ => ⟨S32768x512, .f32⟩
  | .hbm, ⟨25, _⟩ => ⟨S32768x512, .bf16⟩
  | .hbm, ⟨26, _⟩ => ⟨S32768x512, .f32⟩
  | .hbm, ⟨27, _⟩ => ⟨S32768x512, .bf16⟩
  | .hbm, ⟨28, _⟩ => ⟨S32768x64, .f32⟩
  | .hbm, ⟨29, _⟩ => ⟨S32768x128, .bf16⟩
  | .hbm, ⟨30, _⟩ => ⟨S32768x8, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4608, .bf16⟩
  | .local _ .vmem, ⟨4, _⟩ => ⟨S1024x256, .bf16⟩
  | .local _ .vmem, ⟨5, _⟩ => ⟨S512x512, .bf16⟩
  | .local _ .vmem, ⟨6, _⟩ => ⟨S512x512, .bf16⟩
  | .local _ .vmem, ⟨7, _⟩ => ⟨S512x512, .f32⟩
  | .local _ .vmem, ⟨8, _⟩ => ⟨S512x512, .f32⟩
  | .local _ .vmem, ⟨9, _⟩ => ⟨S512x512, .bf16⟩
  | .local _ .vmem, ⟨10, _⟩ => ⟨S512x512, .bf16⟩
  | .local _ .vmem, ⟨11, _⟩ => ⟨S512x512, .f32⟩
  | .local _ .vmem, ⟨12, _⟩ => ⟨S512x512, .f32⟩
  | .local _ .vmem, ⟨13, _⟩ => ⟨S512x512, .bf16⟩
  | .local _ .vmem, ⟨14, _⟩ => ⟨S512x512, .bf16⟩
  | .local _ .vmem, ⟨15, _⟩ => ⟨S512x512, .f32⟩
  | .local _ .vmem, ⟨16, _⟩ => ⟨S512x512, .f32⟩
  | .local _ .vmem, ⟨17, _⟩ => ⟨S512x512, .bf16⟩
  | .local _ .vmem, ⟨18, _⟩ => ⟨S512x512, .bf16⟩
  | .local _ .vmem, ⟨19, _⟩ => ⟨S512x512, .f32⟩
  | .local _ .vmem, ⟨20, _⟩ => ⟨S512x512, .f32⟩
  | .local _ .vmem, ⟨21, _⟩ => ⟨S512x512, .bf16⟩
  | .local _ .vmem, ⟨22, _⟩ => ⟨S512x512, .bf16⟩
  | .local _ .vmem, ⟨23, _⟩ => ⟨S512x512, .f32⟩
  | .local _ .vmem, ⟨24, _⟩ => ⟨S512x512, .f32⟩
  | .local _ .vmem, ⟨25, _⟩ => ⟨S512x512, .bf16⟩
  | .local _ .vmem, ⟨26, _⟩ => ⟨S512x512, .bf16⟩
  | .local _ .vmem, ⟨27, _⟩ => ⟨S512x512, .f32⟩
  | .local _ .vmem, ⟨28, _⟩ => ⟨S512x512, .f32⟩
  | .local _ .vmem, ⟨29, _⟩ => ⟨S512x512, .bf16⟩
  | .local _ .vmem, ⟨30, _⟩ => ⟨S512x512, .bf16⟩
  | .local _ .vmem, ⟨31, _⟩ => ⟨S512x64, .f32⟩
  | .local _ .vmem, ⟨32, _⟩ => ⟨S512x64, .f32⟩
  | .local _ .vmem, ⟨33, _⟩ => ⟨S512x128, .bf16⟩
  | .local _ .vmem, ⟨34, _⟩ => ⟨S512x128, .bf16⟩
  | .local _ .vmem, ⟨35, _⟩ => ⟨S512x8, .f32⟩
  | .local _ .vmem, ⟨36, _⟩ => ⟨S512x8, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v11_2 : Ref sig .tc := ⟨.hbm, 17, rfl⟩
abbrev main_v11_3 : Ref sig .tc := ⟨.hbm, 18, rfl⟩
abbrev main_v11_4 : Ref sig .tc := ⟨.hbm, 19, rfl⟩
abbrev main_v11_5 : Ref sig .tc := ⟨.hbm, 20, rfl⟩
abbrev main_v11_6 : Ref sig .tc := ⟨.hbm, 21, rfl⟩
abbrev main_v11_7 : Ref sig .tc := ⟨.hbm, 22, rfl⟩
abbrev main_v11_8 : Ref sig .tc := ⟨.hbm, 23, rfl⟩
abbrev main_v11_9 : Ref sig .tc := ⟨.hbm, 24, rfl⟩
abbrev main_v11_10 : Ref sig .tc := ⟨.hbm, 25, rfl⟩
abbrev main_v11_11 : Ref sig .tc := ⟨.hbm, 26, rfl⟩
abbrev main_v11_12 : Ref sig .tc := ⟨.hbm, 27, rfl⟩
abbrev main_v11_13 : Ref sig .tc := ⟨.hbm, 28, rfl⟩
abbrev main_v11_14 : Ref sig .tc := ⟨.hbm, 29, rfl⟩
abbrev main_v11_15 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x8 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ProjIdeal.lean ====
abbrev S4x8192x1024 : Shape := ⟨3, ![4, 8192, 1024]⟩
abbrev S1x1024 : Shape := ⟨2, ![1, 1024]⟩
abbrev S1x1024x4680 : Shape := ⟨3, ![1, 1024, 4680]⟩
abbrev S1024x4680 : Shape := ⟨2, ![1024, 4680]⟩
abbrev S1024x4608 : Shape := ⟨2, ![1024, 4608]⟩
abbrev S1024x64 : Shape := ⟨2, ![1024, 64]⟩
abbrev S1024x8 : Shape := ⟨2, ![1024, 8]⟩
abbrev S_ : Shape := ⟨0, ![]⟩
abbrev S1024x120 : Shape := ⟨2, ![1024, 120]⟩
abbrev S1024x256 : Shape := ⟨2, ![1024, 256]⟩
abbrev S1024 : Shape := ⟨1, ![1024]⟩
abbrev S32768x1024 : Shape := ⟨2, ![32768, 1024]⟩
abbrev S32768x512 : Shape := ⟨2, ![32768, 512]⟩
abbrev S32768x64 : Shape := ⟨2, ![32768, 64]⟩
abbrev S32768x128 : Shape := ⟨2, ![32768, 128]⟩
abbrev S32768x8 : Shape := ⟨2, ![32768, 8]⟩
abbrev S512x1024 : Shape := ⟨2, ![512, 1024]⟩
abbrev S512x512 : Shape := ⟨2, ![512, 512]⟩
abbrev S512x64 : Shape := ⟨2, ![512, 64]⟩
abbrev S512x128 : Shape := ⟨2, ![512, 128]⟩
abbrev S512x8 : Shape := ⟨2, ![512, 8]⟩
abbrev S512 : Shape := ⟨1, ![512]⟩
abbrev S512x1 : Shape := ⟨2, ![512, 1]⟩
abbrev S1024x512 : Shape := ⟨2, ![1024, 512]⟩
abbrev S512x256 : Shape := ⟨2, ![512, 256]⟩

abbrev nBuf : Space → Nat
  | .hbm => 31
  | .vmem => 37
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x4680, .f32⟩
  | .hbm, ⟨3, _⟩ => ⟨S1024x4680, .f32⟩
  | .hbm, ⟨4, _⟩ => ⟨S1024x4608, .f32⟩
  | .hbm, ⟨5, _⟩ => ⟨S1024x4608, .bf16⟩
  | .hbm, ⟨6, _⟩ => ⟨S1024x64, .f32⟩
  | .hbm, ⟨7, _⟩ => ⟨S1024x8, .f32⟩
  | .hbm, ⟨8, _⟩ => ⟨S_, .f32⟩
  | .hbm, ⟨9, _⟩ => ⟨S1024x120, .f32⟩
  | .hbm, ⟨10, _⟩ => ⟨S1024x256, .f32⟩
  | .hbm, ⟨11, _⟩ => ⟨S1024x256, .bf16⟩
  | .hbm, ⟨12, _⟩ => ⟨S1024, .f32⟩
  | .hbm, ⟨13, _⟩ => ⟨S1x1024, .f32⟩
  | .hbm, ⟨14, _⟩ => ⟨S32768x1024, .f32⟩
  | .hbm, ⟨15, _⟩ => ⟨S32768x512, .bf16⟩
  | .hbm, ⟨16, _⟩ => ⟨S32768x512, .f32⟩
  | .hbm, ⟨17, _⟩ => ⟨S32768x512, .bf16⟩
  | .hbm, ⟨18, _⟩ => ⟨S32768x512, .f32⟩
  | .hbm, ⟨19, _⟩ => ⟨S32768x512, .bf16⟩
  | .hbm, ⟨20, _⟩ => ⟨S32768x512, .f32⟩
  | .hbm, ⟨21, _⟩ => ⟨S32768x512, .bf16⟩
  | .hbm, ⟨22, _⟩ => ⟨S32768x512, .f32⟩
  | .hbm, ⟨23, _⟩ => ⟨S32768x512, .bf16⟩
  | .hbm, ⟨24, _⟩ => ⟨S32768x512, .f32⟩
  | .hbm, ⟨25, _⟩ => ⟨S32768x512, .bf16⟩
  | .hbm, ⟨26, _⟩ => ⟨S32768x512, .f32⟩
  | .hbm, ⟨27, _⟩ => ⟨S32768x512, .bf16⟩
  | .hbm, ⟨28, _⟩ => ⟨S32768x64, .f32⟩
  | .hbm, ⟨29, _⟩ => ⟨S32768x128, .bf16⟩
  | .hbm, ⟨30, _⟩ => ⟨S32768x8, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4608, .bf16⟩
  | .local _ .vmem, ⟨4, _⟩ => ⟨S1024x256, .bf16⟩
  | .local _ .vmem, ⟨5, _⟩ => ⟨S512x512, .bf16⟩
  | .local _ .vmem, ⟨6, _⟩ => ⟨S512x512, .bf16⟩
  | .local _ .vmem, ⟨7, _⟩ => ⟨S512x512, .f32⟩
  | .local _ .vmem, ⟨8, _⟩ => ⟨S512x512, .f32⟩
  | .local _ .vmem, ⟨9, _⟩ => ⟨S512x512, .bf16⟩
  | .local _ .vmem, ⟨10, _⟩ => ⟨S512x512, .bf16⟩
  | .local _ .vmem, ⟨11, _⟩ => ⟨S512x512, .f32⟩
  | .local _ .vmem, ⟨12, _⟩ => ⟨S512x512, .f32⟩
  | .local _ .vmem, ⟨13, _⟩ => ⟨S512x512, .bf16⟩
  | .local _ .vmem, ⟨14, _⟩ => ⟨S512x512, .bf16⟩
  | .local _ .vmem, ⟨15, _⟩ => ⟨S512x512, .f32⟩
  | .local _ .vmem, ⟨16, _⟩ => ⟨S512x512, .f32⟩
  | .local _ .vmem, ⟨17, _⟩ => ⟨S512x512, .bf16⟩
  | .local _ .vmem, ⟨18, _⟩ => ⟨S512x512, .bf16⟩
  | .local _ .vmem, ⟨19, _⟩ => ⟨S512x512, .f32⟩
  | .local _ .vmem, ⟨20, _⟩ => ⟨S512x512, .f32⟩
  | .local _ .vmem, ⟨21, _⟩ => ⟨S512x512, .bf16⟩
  | .local _ .vmem, ⟨22, _⟩ => ⟨S512x512, .bf16⟩
  | .local _ .vmem, ⟨23, _⟩ => ⟨S512x512, .f32⟩
  | .local _ .vmem, ⟨24, _⟩ => ⟨S512x512, .f32⟩
  | .local _ .vmem, ⟨25, _⟩ => ⟨S512x512, .bf16⟩
  | .local _ .vmem, ⟨26, _⟩ => ⟨S512x512, .bf16⟩
  | .local _ .vmem, ⟨27, _⟩ => ⟨S512x512, .f32⟩
  | .local _ .vmem, ⟨28, _⟩ => ⟨S512x512, .f32⟩
  | .local _ .vmem, ⟨29, _⟩ => ⟨S512x512, .bf16⟩
  | .local _ .vmem, ⟨30, _⟩ => ⟨S512x512, .bf16⟩
  | .local _ .vmem, ⟨31, _⟩ => ⟨S512x64, .f32⟩
  | .local _ .vmem, ⟨32, _⟩ => ⟨S512x64, .f32⟩
  | .local _ .vmem, ⟨33, _⟩ => ⟨S512x128, .bf16⟩
  | .local _ .vmem, ⟨34, _⟩ => ⟨S512x128, .bf16⟩
  | .local _ .vmem, ⟨35, _⟩ => ⟨S512x8, .f32⟩
  | .local _ .vmem, ⟨36, _⟩ => ⟨S512x8, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v11_2 : Ref sig .tc := ⟨.hbm, 17, rfl⟩
abbrev main_v11_3 : Ref sig .tc := ⟨.hbm, 18, rfl⟩
abbrev main_v11_4 : Ref sig .tc := ⟨.hbm, 19, rfl⟩
abbrev main_v11_5 : Ref sig .tc := ⟨.hbm, 20, rfl⟩
abbrev main_v11_6 : Ref sig .tc := ⟨.hbm, 21, rfl⟩
abbrev main_v11_7 : Ref sig .tc := ⟨.hbm, 22, rfl⟩
abbrev main_v11_8 : Ref sig .tc := ⟨.hbm, 23, rfl⟩
abbrev main_v11_9 : Ref sig .tc := ⟨.hbm, 24, rfl⟩
abbrev main_v11_10 : Ref sig .tc := ⟨.hbm, 25, rfl⟩
abbrev main_v11_11 : Ref sig .tc := ⟨.hbm, 26, rfl⟩
abbrev main_v11_12 : Ref sig .tc := ⟨.hbm, 27, rfl⟩
abbrev main_v11_13 : Ref sig .tc := ⟨.hbm, 28, rfl⟩
abbrev main_v11_14 : Ref sig .tc := ⟨.hbm, 29, rfl⟩
abbrev main_v11_15 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x8 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ProjRefIdeal.lean ====
abbrev S4x8192x1024 : Shape := ⟨3, ![4, 8192, 1024]⟩
abbrev S1x1024 : Shape := ⟨2, ![1, 1024]⟩
abbrev S1x1024x4680 : Shape := ⟨3, ![1, 1024, 4680]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x4680 : Shape := ⟨2, ![1024, 4680]⟩
abbrev S4x8192x4680 : Shape := ⟨3, ![4, 8192, 4680]⟩
abbrev S32768x4680 : Shape := ⟨2, ![32768, 4680]⟩
abbrev S32768x512 : Shape := ⟨2, ![32768, 512]⟩
abbrev S32768x64 : Shape := ⟨2, ![32768, 64]⟩
abbrev S32768x8 : Shape := ⟨2, ![32768, 8]⟩
abbrev S32768x128 : Shape := ⟨2, ![32768, 128]⟩

abbrev nBuf : Space → Nat
  | .hbm => 55
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x4680, .f32⟩
  | .hbm, ⟨3, _⟩ => ⟨S1024, .f32⟩
  | .hbm, ⟨4, _⟩ => ⟨S4x8192x1024, .f32⟩
  | .hbm, ⟨5, _⟩ => ⟨S_, .f32⟩
  | .hbm, ⟨6, _⟩ => ⟨S4x8192, .f32⟩
  | .hbm, ⟨7, _⟩ => ⟨S4x8192x1, .f32⟩
  | .hbm, ⟨8, _⟩ => ⟨S_, .f32⟩
  | .hbm, ⟨9, _⟩ => ⟨S4x8192x1, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S4x8192x1, .f32⟩
  | .hbm, ⟨15, _⟩ => ⟨S4x8192x1024, .f32⟩
  | .hbm, ⟨16, _⟩ => ⟨S4x8192x1024, .f32⟩
  | .hbm, ⟨17, _⟩ => ⟨S1x1x1024, .f32⟩
  | .hbm, ⟨18, _⟩ => ⟨S4x8192x1024, .f32⟩
  | .hbm, ⟨19, _⟩ => ⟨S4x8192x1024, .f32⟩
  | .hbm, ⟨20, _⟩ => ⟨S1024x4680, .f32⟩
  | .hbm, ⟨21, _⟩ => ⟨S4x8192x4680, .f32⟩
  | .hbm, ⟨22, _⟩ => ⟨S32768x4680, .f32⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S32768x512, .f32⟩
  | .hbm, ⟨27, _⟩ => ⟨S32768x512, .f32⟩
  | .hbm, ⟨28, _⟩ => ⟨S32768x512, .f32⟩
  | .hbm, ⟨29, _⟩ => ⟨S32768x512, .f32⟩
  | .hbm, ⟨30, _⟩ => ⟨S32768x512, .f32⟩
  | .hbm, ⟨31, _⟩ => ⟨S32768x512, .f32⟩
  | .hbm, ⟨32, _⟩ => ⟨S32768x64, .f32⟩
  | .hbm, ⟨33, _⟩ => ⟨S32768x8, .f32⟩
  | .hbm, ⟨34, _⟩ => ⟨S_, .f32⟩
  | .hbm, ⟨35, _⟩ => ⟨S32768x512, .f32⟩
  | .hbm, ⟨36, _⟩ => ⟨S32768x512, .f32⟩
  | .hbm, ⟨37, _⟩ => ⟨S32768x512, .bf16⟩
  | .hbm, ⟨38, _⟩ => ⟨S_, .f32⟩
  | .hbm, ⟨39, _⟩ => ⟨S32768x512, .f32⟩
  | .hbm, ⟨40, _⟩ => ⟨S32768x512, .f32⟩
  | .hbm, ⟨41, _⟩ => ⟨S32768x512, .bf16⟩
  | .hbm, ⟨42, _⟩ => ⟨S_, .f32⟩
  | .hbm, ⟨43, _⟩ => ⟨S32768x512, .f32⟩
  | .hbm, ⟨44, _⟩ => ⟨S32768x512, .f32⟩
  | .hbm, ⟨45, _⟩ => ⟨S32768x512, .bf16⟩
  | .hbm, ⟨46, _⟩ => ⟨S_, .f32⟩
  | .hbm, ⟨47, _⟩ => ⟨S32768x8, .f32⟩
  | .hbm, ⟨48, _⟩ => ⟨S32768x8, .f32⟩
  | .hbm, ⟨49, _⟩ => ⟨S32768x128, .f32⟩
  | .hbm, ⟨50, _⟩ => ⟨S32768x128, .bf16⟩
  | .hbm, ⟨51, _⟩ => ⟨S32768x512, .bf16⟩
  | .hbm, ⟨52, _⟩ => ⟨S32768x512, .bf16⟩
  | .hbm, ⟨53, _⟩ => ⟨S32768x512, .bf16⟩
  | .hbm, ⟨54, _⟩ => ⟨S32768x512, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩

abbrev nD : Nat := 1
abbrev τ : Topo := Topo.v7x

variable {F : FTy → Type} [FloatOps F]
-- ==== Resid.lean ====
abbrev S4x8192x1024 : Shape := ⟨3, ![4, 8192, 1024]⟩
abbrev S32768x512 : Shape := ⟨2, ![32768, 512]⟩
abbrev S1x4x8192x256 : Shape := ⟨4, ![1, 4, 8192, 256]⟩
abbrev S1x1024x1024 : Shape := ⟨3, ![1, 1024, 1024]⟩
abbrev S1x1024 : Shape := ⟨2, ![1, 1024]⟩
abbrev S1x256x1024 : Shape := ⟨3, ![1, 256, 1024]⟩
abbrev S1024 : Shape := ⟨1, ![1024]⟩
abbrev S1024x1024 : Shape := ⟨2, ![1024, 1024]⟩
abbrev S256x1024 : Shape := ⟨2, ![256, 1024]⟩
abbrev S32768x1024 : Shape := ⟨2, ![32768, 1024]⟩
abbrev S4x8192x256 : Shape := ⟨3, ![4, 8192, 256]⟩
abbrev S32768x256 : Shape := ⟨2, ![32768, 256]⟩
abbrev S512x1024 : Shape := ⟨2, ![512, 1024]⟩
abbrev S512x512 : Shape := ⟨2, ![512, 512]⟩
abbrev S512x256 : Shape := ⟨2, ![512, 256]⟩
abbrev S512 : Shape := ⟨1, ![512]⟩
abbrev S512x1 : Shape := ⟨2, ![512, 1]⟩

abbrev nBuf : Space → Nat
  | .hbm => 24
  | .vmem => 19
  | .smem => 0
  | _ => 0

abbrev bufTy : (tb : Table) → Fin (tcTables nBuf tb) → BufTy
  | .hbm, ⟨0, _⟩ => ⟨S4x8192x1024, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S32768x512, .f32⟩
  | .hbm, ⟨5, _⟩ => ⟨S1x4x8192x256, .f32⟩
  | .hbm, ⟨6, _⟩ => ⟨S1x1024x1024, .f32⟩
  | .hbm, ⟨7, _⟩ => ⟨S1x1024, .f32⟩
  | .hbm, ⟨8, _⟩ => ⟨S1x1024x1024, .f32⟩
  | .hbm, ⟨9, _⟩ => ⟨S1x256x1024, .f32⟩
  | .hbm, ⟨10, _⟩ => ⟨S1024, .f32⟩
  | .hbm, ⟨11, _⟩ => ⟨S1024x1024, .f32⟩
  | .hbm, ⟨12, _⟩ => ⟨S1024x1024, .bf16⟩
  | .hbm, ⟨13, _⟩ => ⟨S1024, .f32⟩
  | .hbm, ⟨14, _⟩ => ⟨S1x1024, .f32⟩
  | .hbm, ⟨15, _⟩ => ⟨S1024x1024, .f32⟩
  | .hbm, ⟨16, _⟩ => ⟨S1024x1024, .bf16⟩
  | .hbm, ⟨17, _⟩ => ⟨S256x1024, .f32⟩
  | .hbm, ⟨18, _⟩ => ⟨S256x1024, .bf16⟩
  | .hbm, ⟨19, _⟩ => ⟨S1x1024, .f32⟩
  | .hbm, ⟨20, _⟩ => ⟨S32768x1024, .f32⟩
  | .hbm, ⟨21, _⟩ => ⟨S4x8192x256, .f32⟩
  | .hbm, ⟨22, _⟩ => ⟨S32768x256, .f32⟩
  | .hbm, ⟨23, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x256, .f32⟩
  | .local _ .vmem, ⟨11, _⟩ => ⟨S512x256, .f32⟩
  | .local _ .vmem, ⟨12, _⟩ => ⟨S1024x1024, .bf16⟩
  | .local _ .vmem, ⟨13, _⟩ => ⟨S1x1024, .f32⟩
  | .local _ .vmem, ⟨14, _⟩ => ⟨S1024x1024, .bf16⟩
  | .local _ .vmem, ⟨15, _⟩ => ⟨S256x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ResidIdeal.lean ====
abbrev S4x8192x1024 : Shape := ⟨3, ![4, 8192, 1024]⟩
abbrev S32768x512 : Shape := ⟨2, ![32768, 512]⟩
abbrev S1x4x8192x256 : Shape := ⟨4, ![1, 4, 8192, 256]⟩
abbrev S1x1024x1024 : Shape := ⟨3, ![1, 1024, 1024]⟩
abbrev S1x1024 : Shape := ⟨2, ![1, 1024]⟩
abbrev S1x256x1024 : Shape := ⟨3, ![1, 256, 1024]⟩
abbrev S1024 : Shape := ⟨1, ![1024]⟩
abbrev S1024x1024 : Shape := ⟨2, ![1024, 1024]⟩
abbrev S256x1024 : Shape := ⟨2, ![256, 1024]⟩
abbrev S32768x1024 : Shape := ⟨2, ![32768, 1024]⟩
abbrev S4x8192x256 : Shape := ⟨3, ![4, 8192, 256]⟩
abbrev S32768x256 : Shape := ⟨2, ![32768, 256]⟩
abbrev S512x1024 : Shape := ⟨2, ![512, 1024]⟩
abbrev S512x512 : Shape := ⟨2, ![512, 512]⟩
abbrev S512x256 : Shape := ⟨2, ![512, 256]⟩
abbrev S512 : Shape := ⟨1, ![512]⟩
abbrev S512x1 : Shape := ⟨2, ![512, 1]⟩

abbrev nBuf : Space → Nat
  | .hbm => 24
  | .vmem => 19
  | .smem => 0
  | _ => 0

abbrev bufTy : (tb : Table) → Fin (tcTables nBuf tb) → BufTy
  | .hbm, ⟨0, _⟩ => ⟨S4x8192x1024, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S32768x512, .f32⟩
  | .hbm, ⟨5, _⟩ => ⟨S1x4x8192x256, .f32⟩
  | .hbm, ⟨6, _⟩ => ⟨S1x1024x1024, .f32⟩
  | .hbm, ⟨7, _⟩ => ⟨S1x1024, .f32⟩
  | .hbm, ⟨8, _⟩ => ⟨S1x1024x1024, .f32⟩
  | .hbm, ⟨9, _⟩ => ⟨S1x256x1024, .f32⟩
  | .hbm, ⟨10, _⟩ => ⟨S1024, .f32⟩
  | .hbm, ⟨11, _⟩ => ⟨S1024x1024, .f32⟩
  | .hbm, ⟨12, _⟩ => ⟨S1024x1024, .bf16⟩
  | .hbm, ⟨13, _⟩ => ⟨S1024, .f32⟩
  | .hbm, ⟨14, _⟩ => ⟨S1x1024, .f32⟩
  | .hbm, ⟨15, _⟩ => ⟨S1024x1024, .f32⟩
  | .hbm, ⟨16, _⟩ => ⟨S1024x1024, .bf16⟩
  | .hbm, ⟨17, _⟩ => ⟨S256x1024, .f32⟩
  | .hbm, ⟨18, _⟩ => ⟨S256x1024, .bf16⟩
  | .hbm, ⟨19, _⟩ => ⟨S1x1024, .f32⟩
  | .hbm, ⟨20, _⟩ => ⟨S32768x1024, .f32⟩
  | .hbm, ⟨21, _⟩ => ⟨S4x8192x256, .f32⟩
  | .hbm, ⟨22, _⟩ => ⟨S32768x256, .f32⟩
  | .hbm, ⟨23, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x256, .f32⟩
  | .local _ .vmem, ⟨11, _⟩ => ⟨S512x256, .f32⟩
  | .local _ .vmem, ⟨12, _⟩ => ⟨S1024x1024, .bf16⟩
  | .local _ .vmem, ⟨13, _⟩ => ⟨S1x1024, .f32⟩
  | .local _ .vmem, ⟨14, _⟩ => ⟨S1024x1024, .bf16⟩
  | .local _ .vmem, ⟨15, _⟩ => ⟨S256x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ResidRefIdeal.lean ====
abbrev S4x8192x1024 : Shape := ⟨3, ![4, 8192, 1024]⟩
abbrev S32768x512 : Shape := ⟨2, ![32768, 512]⟩
abbrev S1x4x8192x256 : Shape := ⟨4, ![1, 4, 8192, 256]⟩
abbrev S1x1024x1024 : Shape := ⟨3, ![1, 1024, 1024]⟩
abbrev S1x1024 : Shape := ⟨2, ![1, 1024]⟩
abbrev S1x256x1024 : Shape := ⟨3, ![1, 256, 1024]⟩
abbrev S1024 : Shape := ⟨1, ![1024]⟩
abbrev S4x8192x512 : Shape := ⟨3, ![4, 8192, 512]⟩
abbrev S_ : Shape := ⟨0, ![]⟩
abbrev S1024x1024 : Shape := ⟨2, ![1024, 1024]⟩
abbrev S4x8192 : Shape := ⟨2, ![4, 8192]⟩
abbrev S4x8192x1 : Shape := ⟨3, ![4, 8192, 1]⟩
abbrev S1x1x1024 : Shape := ⟨3, ![1, 1, 1024]⟩
abbrev S4x8192x256 : Shape := ⟨3, ![4, 8192, 256]⟩
abbrev S256x1024 : Shape := ⟨2, ![256, 1024]⟩
abbrev S32768x1024 : Shape := ⟨2, ![32768, 1024]⟩

abbrev nBuf : Space → Nat
  | .hbm => 88
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S32768x512, .f32⟩
  | .hbm, ⟨5, _⟩ => ⟨S1x4x8192x256, .f32⟩
  | .hbm, ⟨6, _⟩ => ⟨S1x1024x1024, .f32⟩
  | .hbm, ⟨7, _⟩ => ⟨S1x1024, .f32⟩
  | .hbm, ⟨8, _⟩ => ⟨S1x1024x1024, .f32⟩
  | .hbm, ⟨9, _⟩ => ⟨S1x256x1024, .f32⟩
  | .hbm, ⟨10, _⟩ => ⟨S1024, .f32⟩
  | .hbm, ⟨11, _⟩ => ⟨S4x8192x512, .f32⟩
  | .hbm, ⟨12, _⟩ => ⟨S4x8192x512, .f32⟩
  | .hbm, ⟨13, _⟩ => ⟨S4x8192x512, .f32⟩
  | .hbm, ⟨14, _⟩ => ⟨S4x8192x512, .f32⟩
  | .hbm, ⟨15, _⟩ => ⟨S_, .f32⟩
  | .hbm, ⟨16, _⟩ => ⟨S4x8192x512, .f32⟩
  | .hbm, ⟨17, _⟩ => ⟨S4x8192x512, .f32⟩
  | .hbm, ⟨18, _⟩ => ⟨S_, .f32⟩
  | .hbm, ⟨19, _⟩ => ⟨S4x8192x512, .f32⟩
  | .hbm, ⟨20, _⟩ => ⟨S4x8192x512, .f32⟩
  | .hbm, ⟨21, _⟩ => ⟨S4x8192x512, .f32⟩
  | .hbm, ⟨22, _⟩ => ⟨S4x8192x512, .f32⟩
  | .hbm, ⟨23, _⟩ => ⟨S4x8192x512, .f32⟩
  | .hbm, ⟨24, _⟩ => ⟨S4x8192x512, .f32⟩
  | .hbm, ⟨25, _⟩ => ⟨S4x8192x512, .f32⟩
  | .hbm, ⟨26, _⟩ => ⟨S4x8192x512, .f32⟩
  | .hbm, ⟨27, _⟩ => ⟨S_, .f32⟩
  | .hbm, ⟨28, _⟩ => ⟨S4x8192x512, .f32⟩
  | .hbm, ⟨29, _⟩ => ⟨S4x8192x512, .f32⟩
  | .hbm, ⟨30, _⟩ => ⟨S_, .f32⟩
  | .hbm, ⟨31, _⟩ => ⟨S4x8192x512, .f32⟩
  | .hbm, ⟨32, _⟩ => ⟨S4x8192x512, .f32⟩
  | .hbm, ⟨33, _⟩ => ⟨S4x8192x512, .f32⟩
  | .hbm, ⟨34, _⟩ => ⟨S4x8192x512, .f32⟩
  | .hbm, ⟨35, _⟩ => ⟨S4x8192x1024, .f32⟩
  | .hbm, ⟨36, _⟩ => ⟨S1024x1024, .f32⟩
  | .hbm, ⟨37, _⟩ => ⟨S4x8192x1024, .f32⟩
  | .hbm, ⟨38, _⟩ => ⟨S4x8192x1024, .f32⟩
  | .hbm, ⟨39, _⟩ => ⟨S1024, .f32⟩
  | .hbm, ⟨40, _⟩ => ⟨S4x8192x1024, .f32⟩
  | .hbm, ⟨41, _⟩ => ⟨S_, .f32⟩
  | .hbm, ⟨42, _⟩ => ⟨S4x8192, .f32⟩
  | .hbm, ⟨43, _⟩ => ⟨S4x8192x1, .f32⟩
  | .hbm, ⟨44, _⟩ => ⟨S_, .f32⟩
  | .hbm, ⟨45, _⟩ => ⟨S4x8192x1, .f32⟩
  | .hbm, ⟨46, _⟩ => ⟨S4x8192x1, .f32⟩
  | .hbm, ⟨47, _⟩ => ⟨S_, .f32⟩
  | .hbm, ⟨48, _⟩ => ⟨S4x8192x1, .f32⟩
  | .hbm, ⟨49, _⟩ => ⟨S4x8192x1, .f32⟩
  | .hbm, ⟨50, _⟩ => ⟨S4x8192x1, .f32⟩
  | .hbm, ⟨51, _⟩ => ⟨S4x8192x1024, .f32⟩
  | .hbm, ⟨52, _⟩ => ⟨S4x8192x1024, .f32⟩
  | .hbm, ⟨53, _⟩ => ⟨S1x1x1024, .f32⟩
  | .hbm, ⟨54, _⟩ => ⟨S4x8192x1024, .f32⟩
  | .hbm, ⟨55, _⟩ => ⟨S4x8192x1024, .f32⟩
  | .hbm, ⟨56, _⟩ => ⟨S1024x1024, .f32⟩
  | .hbm, ⟨57, _⟩ => ⟨S4x8192x1024, .f32⟩
  | .hbm, ⟨58, _⟩ => ⟨S4x8192x1024, .f32⟩
  | .hbm, ⟨59, _⟩ => ⟨S4x8192x1024, .f32⟩
  | .hbm, ⟨60, _⟩ => ⟨S_, .f32⟩
  | .hbm, ⟨61, _⟩ => ⟨S4x8192x1024, .f32⟩
  | .hbm, ⟨62, _⟩ => ⟨S4x8192x1024, .f32⟩
  | .hbm, ⟨63, _⟩ => ⟨S_, .f32⟩
  | .hbm, ⟨64, _⟩ => ⟨S4x8192x1024, .f32⟩
  | .hbm, ⟨65, _⟩ => ⟨S4x8192x1024, .f32⟩
  | .hbm, ⟨66, _⟩ => ⟨S4x8192x256, .f32⟩
  | .hbm, ⟨67, _⟩ => ⟨S256x1024, .f32⟩
  | .hbm, ⟨68, _⟩ => ⟨S4x8192x1024, .f32⟩
  | .hbm, ⟨69, _⟩ => ⟨S4x8192x1024, .f32⟩
  | .hbm, ⟨70, _⟩ => ⟨S4x8192x1024, .f32⟩
  | .hbm, ⟨71, _⟩ => ⟨S4x8192x1024, .f32⟩
  | .hbm, ⟨72, _⟩ => ⟨S_, .f32⟩
  | .hbm, ⟨73, _⟩ => ⟨S4x8192, .f32⟩
  | .hbm, ⟨74, _⟩ => ⟨S4x8192x1, .f32⟩
  | .hbm, ⟨75, _⟩ => ⟨S_, .f32⟩
  | .hbm, ⟨76, _⟩ => ⟨S4x8192x1, .f32⟩
  | .hbm, ⟨77, _⟩ => ⟨S4x8192x1, .f32⟩
  | .hbm, ⟨78, _⟩ => ⟨S_, .f32⟩
  | .hbm, ⟨79, _⟩ => ⟨S4x8192x1, .f32⟩
  | .hbm, ⟨80, _⟩ => ⟨S4x8192x1, .f32⟩
  | .hbm, ⟨81, _⟩ => ⟨S4x8192x1, .f32⟩
  | .hbm, ⟨82, _⟩ => ⟨S4x8192x1024, .f32⟩
  | .hbm, ⟨83, _⟩ => ⟨S4x8192x1024, .f32⟩
  | .hbm, ⟨84, _⟩ => ⟨S1x1x1024, .f32⟩
  | .hbm, ⟨85, _⟩ => ⟨S4x8192x1024, .f32⟩
  | .hbm, ⟨86, _⟩ => ⟨S4x8192x1024, .f32⟩
  | .hbm, ⟨87, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst : Ref sig .tc := ⟨.hbm, 41, rfl⟩
abbrev main_v14 : Ref sig .tc := ⟨.hbm, 42, rfl⟩
abbrev main_v15 : Ref sig .tc := ⟨.hbm, 43, rfl⟩
abbrev main_cst_0 : Ref sig .tc := ⟨.hbm, 44, rfl⟩
abbrev main_v16 : Ref sig .tc := ⟨.hbm, 45, rfl⟩
abbrev main_v17 : Ref sig .tc := ⟨.hbm, 46, rfl⟩
abbrev main_cst_1 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_2 : Ref sig .tc := ⟨.hbm, 60, rfl⟩
abbrev main_v30 : Ref sig .tc := ⟨.hbm, 61, rfl⟩
abbrev main_v31 : Ref sig .tc := ⟨.hbm, 62, rfl⟩
abbrev main_cst_3 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_4 : Ref sig .tc := ⟨.hbm, 72, rfl⟩
abbrev main_v40 : Ref sig .tc := ⟨.hbm, 73, rfl⟩
abbrev main_v41 : Ref sig .tc := ⟨.hbm, 74, rfl⟩
abbrev main_cst_5 : Ref sig .tc := ⟨.hbm, 75, rfl⟩
abbrev main_v42 : Ref sig .tc := ⟨.hbm, 76, rfl⟩
abbrev main_v43 : Ref sig .tc := ⟨.hbm, 77, rfl⟩
abbrev main_cst_6 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩

abbrev nD : Nat := 1
abbrev τ : Topo := Topo.v7x

variable {F : FTy → Type} [FloatOps F]
-- ==== SampleProj.lean ====
abbrev S128x1x1024 : Shape := ⟨3, ![128, 1, 1024]⟩
abbrev S1x1024 : Shape := ⟨2, ![1, 1024]⟩
abbrev S1x1024x4680 : Shape := ⟨3, ![1, 1024, 4680]⟩
abbrev S1024x4680 : Shape := ⟨2, ![1024, 4680]⟩
abbrev S1024x4608 : Shape := ⟨2, ![1024, 4608]⟩
abbrev S1024x64 : Shape := ⟨2, ![1024, 64]⟩
abbrev S1024x8 : Shape := ⟨2, ![1024, 8]⟩
abbrev S_ : Shape := ⟨0, ![]⟩
abbrev S1024x120 : Shape := ⟨2, ![1024, 120]⟩
abbrev S1024x256 : Shape := ⟨2, ![1024, 256]⟩
abbrev S1024 : Shape := ⟨1, ![1024]⟩
abbrev S128x1024 : Shape := ⟨2, ![128, 1024]⟩
abbrev S128x512 : Shape := ⟨2, ![128, 512]⟩
abbrev S128x64 : Shape := ⟨2, ![128, 64]⟩
abbrev S128x128 : Shape := ⟨2, ![128, 128]⟩
abbrev S128x8 : Shape := ⟨2, ![128, 8]⟩
abbrev S128 : Shape := ⟨1, ![128]⟩
abbrev S128x1 : Shape := ⟨2, ![128, 1]⟩
abbrev S1024x512 : Shape := ⟨2, ![1024, 512]⟩
abbrev S128x256 : Shape := ⟨2, ![128, 256]⟩

abbrev nBuf : Space → Nat
  | .hbm => 31
  | .vmem => 20
  | .smem => 0
  | _ => 0

abbrev bufTy : (tb : Table) → Fin (tcTables nBuf tb) → BufTy
  | .hbm, ⟨0, _⟩ => ⟨S128x1x1024, .f32⟩
  | .hbm, ⟨1, _⟩ => ⟨S1x1024, .f32⟩
  | .hbm, ⟨2, _⟩ => ⟨S1x1024x4680, .f32⟩
  | .hbm, ⟨3, _⟩ => ⟨S1024x4680, .f32⟩
  | .hbm, ⟨4, _⟩ => ⟨S1024x4608, .f32⟩
  | .hbm, ⟨5, _⟩ => ⟨S1024x4608, .bf16⟩
  | .hbm, ⟨6, _⟩ => ⟨S1024x64, .f32⟩
  | .hbm, ⟨7, _⟩ => ⟨S1024x8, .f32⟩
  | .hbm, ⟨8, _⟩ => ⟨S_, .f32⟩
  | .hbm, ⟨9, _⟩ => ⟨S1024x120, .f32⟩
  | .hbm, ⟨10, _⟩ => ⟨S1024x256, .f32⟩
  | .hbm, ⟨11, _⟩ => ⟨S1024x256, .bf16⟩
  | .hbm, ⟨12, _⟩ => ⟨S1024, .f32⟩
  | .hbm, ⟨13, _⟩ => ⟨S1x1024, .f32⟩
  | .hbm, ⟨14, _⟩ => ⟨S128x1024, .f32⟩
  | .hbm, ⟨15, _⟩ => ⟨S128x512, .bf16⟩
  | .hbm, ⟨16, _⟩ => ⟨S128x512, .f32⟩
  | .hbm, ⟨17, _⟩ => ⟨S128x512, .bf16⟩
  | .hbm, ⟨18, _⟩ => ⟨S128x512, .f32⟩
  | .hbm, ⟨19, _⟩ => ⟨S128x512, .bf16⟩
  | .hbm, ⟨20, _⟩ => ⟨S128x512, .f32⟩
  | .hbm, ⟨21, _⟩ => ⟨S128x512, .bf16⟩
  | .hbm, ⟨22, _⟩ => ⟨S128x512, .f32⟩
  | .hbm, ⟨23, _⟩ => ⟨S128x512, .bf16⟩
  | .hbm, ⟨24, _⟩ => ⟨S128x512, .f32⟩
  | .hbm, ⟨25, _⟩ => ⟨S128x512, .bf16⟩
  | .hbm, ⟨26, _⟩ => ⟨S128x512, .f32⟩
  | .hbm, ⟨27, _⟩ => ⟨S128x512, .bf16⟩
  | .hbm, ⟨28, _⟩ => ⟨S128x64, .f32⟩
  | .hbm, ⟨29, _⟩ => ⟨S128x128, .bf16⟩
  | .hbm, ⟨30, _⟩ => ⟨S128x8, .f32⟩
  | .local _ .vmem, ⟨0, _⟩ => ⟨S128x1024, .f32⟩
  | .local _ .vmem, ⟨1, _⟩ => ⟨S1x1024, .f32⟩
  | .local _ .vmem, ⟨2, _⟩ => ⟨S1024x4608, .bf16⟩
  | .local _ .vmem, ⟨3, _⟩ => ⟨S1024x256, .bf16⟩
  | .local _ .vmem, ⟨4, _⟩ => ⟨S128x512, .bf16⟩
  | .local _ .vmem, ⟨5, _⟩ => ⟨S128x512, .f32⟩
  | .local _ .vmem, ⟨6, _⟩ => ⟨S128x512, .bf16⟩
  | .local _ .vmem, ⟨7, _⟩ => ⟨S128x512, .f32⟩
  | .local _ .vmem, ⟨8, _⟩ => ⟨S128x512, .bf16⟩
  | .local _ .vmem, ⟨9, _⟩ => ⟨S128x512, .f32⟩
  | .local _ .vmem, ⟨10, _⟩ => ⟨S128x512, .bf16⟩
  | .local _ .vmem, ⟨11, _⟩ => ⟨S128x512, .f32⟩
  | .local _ .vmem, ⟨12, _⟩ => ⟨S128x512, .bf16⟩
  | .local _ .vmem, ⟨13, _⟩ => ⟨S128x512, .f32⟩
  | .local _ .vmem, ⟨14, _⟩ => ⟨S128x512, .bf16⟩
  | .local _ .vmem, ⟨15, _⟩ => ⟨S128x512, .f32⟩
  | .local _ .vmem, ⟨16, _⟩ => ⟨S128x512, .bf16⟩
  | .local _ .vmem, ⟨17, _⟩ => ⟨S128x64, .f32⟩
  | .local _ .vmem, ⟨18, _⟩ => ⟨S128x128, .bf16⟩
  | .local _ .vmem, ⟨19, _⟩ => ⟨S128x8, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v11_2 : Ref sig .tc := ⟨.hbm, 17, rfl⟩
abbrev main_v11_3 : Ref sig .tc := ⟨.hbm, 18, rfl⟩
abbrev main_v11_4 : Ref sig .tc := ⟨.hbm, 19, rfl⟩
abbrev main_v11_5 : Ref sig .tc := ⟨.hbm, 20, rfl⟩
abbrev main_v11_6 : Ref sig .tc := ⟨.hbm, 21, rfl⟩
abbrev main_v11_7 : Ref sig .tc := ⟨.hbm, 22, rfl⟩
abbrev main_v11_8 : Ref sig .tc := ⟨.hbm, 23, rfl⟩
abbrev main_v11_9 : Ref sig .tc := ⟨.hbm, 24, rfl⟩
abbrev main_v11_10 : Ref sig .tc := ⟨.hbm, 25, rfl⟩
abbrev main_v11_11 : Ref sig .tc := ⟨.hbm, 26, rfl⟩
abbrev main_v11_12 : Ref sig .tc := ⟨.hbm, 27, rfl⟩
abbrev main_v11_13 : Ref sig .tc := ⟨.hbm, 28, rfl⟩
abbrev main_v11_14 : Ref sig .tc := ⟨.hbm, 29, rfl⟩
abbrev main_v11_15 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S128x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S128x128 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S128x8 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]
-- ==== SampleProjRefIdeal.lean ====
abbrev S128x1x1024 : Shape := ⟨3, ![128, 1, 1024]⟩
abbrev S1x1024 : Shape := ⟨2, ![1, 1024]⟩
abbrev S1x1024x4680 : Shape := ⟨3, ![1, 1024, 4680]⟩
abbrev S1024 : Shape := ⟨1, ![1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S1024x4680 : Shape := ⟨2, ![1024, 4680]⟩
abbrev S128x1x4680 : Shape := ⟨3, ![128, 1, 4680]⟩
abbrev S128x4680 : Shape := ⟨2, ![128, 4680]⟩
abbrev S128x512 : Shape := ⟨2, ![128, 512]⟩
abbrev S128x64 : Shape := ⟨2, ![128, 64]⟩
abbrev S128x8 : Shape := ⟨2, ![128, 8]⟩
abbrev S128x128 : Shape := ⟨2, ![128, 128]⟩

abbrev nBuf : Space → Nat
  | .hbm => 55
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1x1024, .f32⟩
  | .hbm, ⟨2, _⟩ => ⟨S1x1024x4680, .f32⟩
  | .hbm, ⟨3, _⟩ => ⟨S1024, .f32⟩
  | .hbm, ⟨4, _⟩ => ⟨S128x1x1024, .f32⟩
  | .hbm, ⟨5, _⟩ => ⟨S_, .f32⟩
  | .hbm, ⟨6, _⟩ => ⟨S128x1, .f32⟩
  | .hbm, ⟨7, _⟩ => ⟨S128x1x1, .f32⟩
  | .hbm, ⟨8, _⟩ => ⟨S_, .f32⟩
  | .hbm, ⟨9, _⟩ => ⟨S128x1x1, .f32⟩
  | .hbm, ⟨10, _⟩ => ⟨S128x1x1, .f32⟩
  | .hbm, ⟨11, _⟩ => ⟨S_, .f32⟩
  | .hbm, ⟨12, _⟩ => ⟨S128x1x1, .f32⟩
  | .hbm, ⟨13, _⟩ => ⟨S128x1x1, .f32⟩
  | .hbm, ⟨14, _⟩ => ⟨S128x1x1, .f32⟩
  | .hbm, ⟨15, _⟩ => ⟨S128x1x1024, .f32⟩
  | .hbm, ⟨16, _⟩ => ⟨S128x1x1024, .f32⟩
  | .hbm, ⟨17, _⟩ => ⟨S1x1x1024, .f32⟩
  | .hbm, ⟨18, _⟩ => ⟨S128x1x1024, .f32⟩
  | .hbm, ⟨19, _⟩ => ⟨S128x1x1024, .f32⟩
  | .hbm, ⟨20, _⟩ => ⟨S1024x4680, .f32⟩
  | .hbm, ⟨21, _⟩ => ⟨S128x1x4680, .f32⟩
  | .hbm, ⟨22, _⟩ => ⟨S128x4680, .f32⟩
  | .hbm, ⟨23, _⟩ => ⟨S128x512, .f32⟩
  | .hbm, ⟨24, _⟩ => ⟨S128x512, .f32⟩
  | .hbm, ⟨25, _⟩ => ⟨S128x512, .f32⟩
  | .hbm, ⟨26, _⟩ => ⟨S128x512, .f32⟩
  | .hbm, ⟨27, _⟩ => ⟨S128x512, .f32⟩
  | .hbm, ⟨28, _⟩ => ⟨S128x512, .f32⟩
  | .hbm, ⟨29, _⟩ => ⟨S128x512, .f32⟩
  | .hbm, ⟨30, _⟩ => ⟨S128x512, .f32⟩
  | .hbm, ⟨31, _⟩ => ⟨S128x512, .f32⟩
  | .hbm, ⟨32, _⟩ => ⟨S128x64, .f32⟩
  | .hbm, ⟨33, _⟩ => ⟨S128x8, .f32⟩
  | .hbm, ⟨34, _⟩ => ⟨S_, .f32⟩
  | .hbm, ⟨35, _⟩ => ⟨S128x512, .f32⟩
  | .hbm, ⟨36, _⟩ => ⟨S128x512, .f32⟩
  | .hbm, ⟨37, _⟩ => ⟨S128x512, .bf16⟩
  | .hbm, ⟨38, _⟩ => ⟨S_, .f32⟩
  | .hbm, ⟨39, _⟩ => ⟨S128x512, .f32⟩
  | .hbm, ⟨40, _⟩ => ⟨S128x512, .f32⟩
  | .hbm, ⟨41, _⟩ => ⟨S128x512, .bf16⟩
  | .hbm, ⟨42, _⟩ => ⟨S_, .f32⟩
  | .hbm, ⟨43, _⟩ => ⟨S128x512, .f32⟩
  | .hbm, ⟨44, _⟩ => ⟨S128x512, .f32⟩
  | .hbm, ⟨45, _⟩ => ⟨S128x512, .bf16⟩
  | .hbm, ⟨46, _⟩ => ⟨S_, .f32⟩
  | .hbm, ⟨47, _⟩ => ⟨S128x8, .f32⟩
  | .hbm, ⟨48, _⟩ => ⟨S128x8, .f32⟩
  | .hbm, ⟨49, _⟩ => ⟨S128x128, .f32⟩
  | .hbm, ⟨50, _⟩ => ⟨S128x128, .bf16⟩
  | .hbm, ⟨51, _⟩ => ⟨S128x512, .bf16⟩
  | .hbm, ⟨52, _⟩ => ⟨S128x512, .bf16⟩
  | .hbm, ⟨53, _⟩ => ⟨S128x512, .bf16⟩
  | .hbm, ⟨54, _⟩ => ⟨S128x512, .bf16⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩

abbrev nD : Nat := 1
abbrev τ : Topo := Topo.v7x

variable {F : FTy → Type} [FloatOps F]
-- ==== SampleResid.lean ====
abbrev S128x1x1024 : Shape := ⟨3, ![128, 1, 1024]⟩
abbrev S128x512 : Shape := ⟨2, ![128, 512]⟩
abbrev S1x128x1x256 : Shape := ⟨4, ![1, 128, 1, 256]⟩
abbrev S1x1024x1024 : Shape := ⟨3, ![1, 1024, 1024]⟩
abbrev S1x1024 : Shape := ⟨2, ![1, 1024]⟩
abbrev S1x256x1024 : Shape := ⟨3, ![1, 256, 1024]⟩
abbrev S1024 : Shape := ⟨1, ![1024]⟩
abbrev S1024x1024 : Shape := ⟨2, ![1024, 1024]⟩
abbrev S256x1024 : Shape := ⟨2, ![256, 1024]⟩
abbrev S128x1024 : Shape := ⟨2, ![128, 1024]⟩
abbrev S128x1x256 : Shape := ⟨3, ![128, 1, 256]⟩
abbrev S128x256 : Shape := ⟨2, ![128, 256]⟩
abbrev S512x1024 : Shape := ⟨2, ![512, 1024]⟩
abbrev S128 : Shape := ⟨1, ![128]⟩
abbrev S128x1 : Shape := ⟨2, ![128, 1]⟩

abbrev nBuf : Space → Nat
  | .hbm => 24
  | .vmem => 12
  | .smem => 0
  | _ => 0

abbrev bufTy : (tb : Table) → Fin (tcTables nBuf tb) → BufTy
  | .hbm, ⟨0, _⟩ => ⟨S128x1x1024, .f32⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S1x128x1x256, .f32⟩
  | .hbm, ⟨6, _⟩ => ⟨S1x1024x1024, .f32⟩
  | .hbm, ⟨7, _⟩ => ⟨S1x1024, .f32⟩
  | .hbm, ⟨8, _⟩ => ⟨S1x1024x1024, .f32⟩
  | .hbm, ⟨9, _⟩ => ⟨S1x256x1024, .f32⟩
  | .hbm, ⟨10, _⟩ => ⟨S1024, .f32⟩
  | .hbm, ⟨11, _⟩ => ⟨S1024x1024, .f32⟩
  | .hbm, ⟨12, _⟩ => ⟨S1024x1024, .bf16⟩
  | .hbm, ⟨13, _⟩ => ⟨S1024, .f32⟩
  | .hbm, ⟨14, _⟩ => ⟨S1x1024, .f32⟩
  | .hbm, ⟨15, _⟩ => ⟨S1024x1024, .f32⟩
  | .hbm, ⟨16, _⟩ => ⟨S1024x1024, .bf16⟩
  | .hbm, ⟨17, _⟩ => ⟨S256x1024, .f32⟩
  | .hbm, ⟨18, _⟩ => ⟨S256x1024, .bf16⟩
  | .hbm, ⟨19, _⟩ => ⟨S1x1024, .f32⟩
  | .hbm, ⟨20, _⟩ => ⟨S128x1024, .f32⟩
  | .hbm, ⟨21, _⟩ => ⟨S128x1x256, .f32⟩
  | .hbm, ⟨22, _⟩ => ⟨S128x256, .f32⟩
  | .hbm, ⟨23, _⟩ => ⟨S128x1024, .f32⟩
  | .local _ .vmem, ⟨0, _⟩ => ⟨S128x1024, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x256, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S256x1024, .bf16⟩
  | .local _ .vmem, ⟨10, _⟩ => ⟨S1x1024, .f32⟩
  | .local _ .vmem, ⟨11, _⟩ => ⟨S128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== SampleResidRefIdeal.lean ====
abbrev S128x1x1024 : Shape := ⟨3, ![128, 1, 1024]⟩
abbrev S128x512 : Shape := ⟨2, ![128, 512]⟩
abbrev S1x128x1x256 : Shape := ⟨4, ![1, 128, 1, 256]⟩
abbrev S1x1024x1024 : Shape := ⟨3, ![1, 1024, 1024]⟩
abbrev S1x1024 : Shape := ⟨2, ![1, 1024]⟩
abbrev S1x256x1024 : Shape := ⟨3, ![1, 256, 1024]⟩
abbrev S1024 : Shape := ⟨1, ![1024]⟩
abbrev S128x1x512 : Shape := ⟨3, ![128, 1, 512]⟩
abbrev S_ : Shape := ⟨0, ![]⟩
abbrev S1024x1024 : Shape := ⟨2, ![1024, 1024]⟩
abbrev S128x1 : Shape := ⟨2, ![128, 1]⟩
abbrev S128x1x1 : Shape := ⟨3, ![128, 1, 1]⟩
abbrev S1x1x1024 : Shape := ⟨3, ![1, 1, 1024]⟩
abbrev S128x1x256 : Shape := ⟨3, ![128, 1, 256]⟩
abbrev S256x1024 : Shape := ⟨2, ![256, 1024]⟩
abbrev S128x1024 : Shape := ⟨2, ![128, 1024]⟩

abbrev nBuf : Space → Nat
  | .hbm => 88
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S1x128x1x256, .f32⟩
  | .hbm, ⟨6, _⟩ => ⟨S1x1024x1024, .f32⟩
  | .hbm, ⟨7, _⟩ => ⟨S1x1024, .f32⟩
  | .hbm, ⟨8, _⟩ => ⟨S1x1024x1024, .f32⟩
  | .hbm, ⟨9, _⟩ => ⟨S1x256x1024, .f32⟩
  | .hbm, ⟨10, _⟩ => ⟨S1024, .f32⟩
  | .hbm, ⟨11, _⟩ => ⟨S128x1x512, .f32⟩
  | .hbm, ⟨12, _⟩ => ⟨S128x1x512, .f32⟩
  | .hbm, ⟨13, _⟩ => ⟨S128x1x512, .f32⟩
  | .hbm, ⟨14, _⟩ => ⟨S128x1x512, .f32⟩
  | .hbm, ⟨15, _⟩ => ⟨S_, .f32⟩
  | .hbm, ⟨16, _⟩ => ⟨S128x1x512, .f32⟩
  | .hbm, ⟨17, _⟩ => ⟨S128x1x512, .f32⟩
  | .hbm, ⟨18, _⟩ => ⟨S_, .f32⟩
  | .hbm, ⟨19, _⟩ => ⟨S128x1x512, .f32⟩
  | .hbm, ⟨20, _⟩ => ⟨S128x1x512, .f32⟩
  | .hbm, ⟨21, _⟩ => ⟨S128x1x512, .f32⟩
  | .hbm, ⟨22, _⟩ => ⟨S128x1x512, .f32⟩
  | .hbm, ⟨23, _⟩ => ⟨S128x1x512, .f32⟩
  | .hbm, ⟨24, _⟩ => ⟨S128x1x512, .f32⟩
  | .hbm, ⟨25, _⟩ => ⟨S128x1x512, .f32⟩
  | .hbm, ⟨26, _⟩ => ⟨S128x1x512, .f32⟩
  | .hbm, ⟨27, _⟩ => ⟨S_, .f32⟩
  | .hbm, ⟨28, _⟩ => ⟨S128x1x512, .f32⟩
  | .hbm, ⟨29, _⟩ => ⟨S128x1x512, .f32⟩
  | .hbm, ⟨30, _⟩ => ⟨S_, .f32⟩
  | .hbm, ⟨31, _⟩ => ⟨S128x1x512, .f32⟩
  | .hbm, ⟨32, _⟩ => ⟨S128x1x512, .f32⟩
  | .hbm, ⟨33, _⟩ => ⟨S128x1x512, .f32⟩
  | .hbm, ⟨34, _⟩ => ⟨S128x1x512, .f32⟩
  | .hbm, ⟨35, _⟩ => ⟨S128x1x1024, .f32⟩
  | .hbm, ⟨36, _⟩ => ⟨S1024x1024, .f32⟩
  | .hbm, ⟨37, _⟩ => ⟨S128x1x1024, .f32⟩
  | .hbm, ⟨38, _⟩ => ⟨S128x1x1024, .f32⟩
  | .hbm, ⟨39, _⟩ => ⟨S1024, .f32⟩
  | .hbm, ⟨40, _⟩ => ⟨S128x1x1024, .f32⟩
  | .hbm, ⟨41, _⟩ => ⟨S_, .f32⟩
  | .hbm, ⟨42, _⟩ => ⟨S128x1, .f32⟩
  | .hbm, ⟨43, _⟩ => ⟨S128x1x1, .f32⟩
  | .hbm, ⟨44, _⟩ => ⟨S_, .f32⟩
  | .hbm, ⟨45, _⟩ => ⟨S128x1x1, .f32⟩
  | .hbm, ⟨46, _⟩ => ⟨S128x1x1, .f32⟩
  | .hbm, ⟨47, _⟩ => ⟨S_, .f32⟩
  | .hbm, ⟨48, _⟩ => ⟨S128x1x1, .f32⟩
  | .hbm, ⟨49, _⟩ => ⟨S128x1x1, .f32⟩
  | .hbm, ⟨50, _⟩ => ⟨S128x1x1, .f32⟩
  | .hbm, ⟨51, _⟩ => ⟨S128x1x1024, .f32⟩
  | .hbm, ⟨52, _⟩ => ⟨S128x1x1024, .f32⟩
  | .hbm, ⟨53, _⟩ => ⟨S1x1x1024, .f32⟩
  | .hbm, ⟨54, _⟩ => ⟨S128x1x1024, .f32⟩
  | .hbm, ⟨55, _⟩ => ⟨S128x1x1024, .f32⟩
  | .hbm, ⟨56, _⟩ => ⟨S1024x1024, .f32⟩
  | .hbm, ⟨57, _⟩ => ⟨S128x1x1024, .f32⟩
  | .hbm, ⟨58, _⟩ => ⟨S128x1x1024, .f32⟩
  | .hbm, ⟨59, _⟩ => ⟨S128x1x1024, .f32⟩
  | .hbm, ⟨60, _⟩ => ⟨S_, .f32⟩
  | .hbm, ⟨61, _⟩ => ⟨S128x1x1024, .f32⟩
  | .hbm, ⟨62, _⟩ => ⟨S128x1x1024, .f32⟩
  | .hbm, ⟨63, _⟩ => ⟨S_, .f32⟩
  | .hbm, ⟨64, _⟩ => ⟨S128x1x1024, .f32⟩
  | .hbm, ⟨65, _⟩ => ⟨S128x1x1024, .f32⟩
  | .hbm, ⟨66, _⟩ => ⟨S128x1x256, .f32⟩
  | .hbm, ⟨67, _⟩ => ⟨S256x1024, .f32⟩
  | .hbm, ⟨68, _⟩ => ⟨S128x1x1024, .f32⟩
  | .hbm, ⟨69, _⟩ => ⟨S128x1x1024, .f32⟩
  | .hbm, ⟨70, _⟩ => ⟨S128x1x1024, .f32⟩
  | .hbm, ⟨71, _⟩ => ⟨S128x1x1024, .f32⟩
  | .hbm, ⟨72, _⟩ => ⟨S_, .f32⟩
  | .hbm, ⟨73, _⟩ => ⟨S128x1, .f32⟩
  | .hbm, ⟨74, _⟩ => ⟨S128x1x1, .f32⟩
  | .hbm, ⟨75, _⟩ => ⟨S_, .f32⟩
  | .hbm, ⟨76, _⟩ => ⟨S128x1x1, .f32⟩
  | .hbm, ⟨77, _⟩ => ⟨S128x1x1, .f32⟩
  | .hbm, ⟨78, _⟩ => ⟨S_, .f32⟩
  | .hbm, ⟨79, _⟩ => ⟨S128x1x1, .f32⟩
  | .hbm, ⟨80, _⟩ => ⟨S128x1x1, .f32⟩
  | .hbm, ⟨81, _⟩ => ⟨S128x1x1, .f32⟩
  | .hbm, ⟨82, _⟩ => ⟨S128x1x1024, .f32⟩
  | .hbm, ⟨83, _⟩ => ⟨S128x1x1024, .f32⟩
  | .hbm, ⟨84, _⟩ => ⟨S1x1x1024, .f32⟩
  | .hbm, ⟨85, _⟩ => ⟨S128x1x1024, .f32⟩
  | .hbm, ⟨86, _⟩ => ⟨S128x1x1024, .f32⟩
  | .hbm, ⟨87, _⟩ => ⟨S128x1024, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst : Ref sig .tc := ⟨.hbm, 41, rfl⟩
abbrev main_v14 : Ref sig .tc := ⟨.hbm, 42, rfl⟩
abbrev main_v15 : Ref sig .tc := ⟨.hbm, 43, rfl⟩
abbrev main_cst_0 : Ref sig .tc := ⟨.hbm, 44, rfl⟩
abbrev main_v16 : Ref sig .tc := ⟨.hbm, 45, rfl⟩
abbrev main_v17 : Ref sig .tc := ⟨.hbm, 46, rfl⟩
abbrev main_cst_1 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_2 : Ref sig .tc := ⟨.hbm, 60, rfl⟩
abbrev main_v30 : Ref sig .tc := ⟨.hbm, 61, rfl⟩
abbrev main_v31 : Ref sig .tc := ⟨.hbm, 62, rfl⟩
abbrev main_cst_3 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_4 : Ref sig .tc := ⟨.hbm, 72, rfl⟩
abbrev main_v40 : Ref sig .tc := ⟨.hbm, 73, rfl⟩
abbrev main_v41 : Ref sig .tc := ⟨.hbm, 74, rfl⟩
abbrev main_cst_5 : Ref sig .tc := ⟨.hbm, 75, rfl⟩
abbrev main_v42 : Ref sig .tc := ⟨.hbm, 76, rfl⟩
abbrev main_v43 : Ref sig .tc := ⟨.hbm, 77, rfl⟩
abbrev main_cst_6 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩

abbrev nD : Nat := 1
abbrev τ : Topo := Topo.v7x

variable {F : FTy → Type} [FloatOps F]
-- ==== SampleIdx.lean ====
abbrev S128x64 : Shape := ⟨2, ![128, 64]⟩
abbrev S128x512 : Shape := ⟨2, ![128, 512]⟩
abbrev S128x8 : Shape := ⟨2, ![128, 8]⟩
abbrev S1x10240x128x64 : Shape := ⟨4, ![1, 10240, 128, 64]⟩
abbrev S128x8x64 : Shape := ⟨3, ![128, 8, 64]⟩
abbrev S128x8x1 : Shape := ⟨3, ![128, 8, 1]⟩
abbrev S128x1x8192 : Shape := ⟨3, ![128, 1, 8192]⟩
abbrev S1x8x64 : Shape := ⟨3, ![1, 8, 64]⟩
abbrev S1x8x1 : Shape := ⟨3, ![1, 8, 1]⟩
abbrev S1x1x128x64 : Shape := ⟨4, ![1, 1, 128, 64]⟩
abbrev S1x1 : Shape := ⟨2, ![1, 1]⟩
abbrev S1x1x1024 : Shape := ⟨3, ![1, 1, 1024]⟩
abbrev S8x64 : Shape := ⟨2, ![8, 64]⟩
abbrev S16x64 : Shape := ⟨2, ![16, 64]⟩
abbrev S8x1 : Shape := ⟨2, ![8, 1]⟩
abbrev S16x1 : Shape := ⟨2, ![16, 1]⟩
abbrev S16x128 : Shape := ⟨2, ![16, 128]⟩
abbrev S128 : Shape := ⟨1, ![128]⟩
abbrev S1x128 : Shape := ⟨2, ![1, 128]⟩
abbrev S1x1x128 : Shape := ⟨3, ![1, 1, 128]⟩
abbrev S128x8192 : Shape := ⟨2, ![128, 8192]⟩

abbrev nBuf : Space → Nat
  | .hbm => 7
  | .vmem => 22
  | .smem => 1
  | _ => 0

abbrev bufTy : (tb : Table) → Fin (tcTables nBuf tb) → BufTy
  | .hbm, ⟨0, _⟩ => ⟨S128x512, .bf16⟩
  | .hbm, ⟨1, _⟩ => ⟨S128x8, .f32⟩
  | .hbm, ⟨2, _⟩ => ⟨S1x10240x128x64, .f32⟩
  | .hbm, ⟨3, _⟩ => ⟨S128x8x64, .bf16⟩
  | .hbm, ⟨4, _⟩ => ⟨S128x8x1, .f32⟩
  | .hbm, ⟨5, _⟩ => ⟨S128x1x8192, .f32⟩
  | .hbm, ⟨6, _⟩ => ⟨S128x8192, .f32⟩
  | .local _ .vmem, ⟨0, _⟩ => ⟨S1x8x64, .bf16⟩
  | .local _ .vmem, ⟨1, _⟩ => ⟨S1x8x64, .bf16⟩
  | .local _ .vmem, ⟨2, _⟩ => ⟨S1x8x1, .f32⟩
  | .local _ .vmem, ⟨3, _⟩ => ⟨S1x8x1, .f32⟩
  | .local _ .vmem, ⟨4, _⟩ => ⟨S1x1x128x64, .f32⟩
  | .local _ .vmem, ⟨5, _⟩ => ⟨S1x1x128x64, .f32⟩
  | .local _ .vmem, ⟨6, _⟩ => ⟨S1x1x128x64, .f32⟩
  | .local _ .vmem, ⟨7, _⟩ => ⟨S1x1x128x64, .f32⟩
  | .local _ .vmem, ⟨8, _⟩ => ⟨S1x1x128x64, .f32⟩
  | .local _ .vmem, ⟨9, _⟩ => ⟨S1x1x128x64, .f32⟩
  | .local _ .vmem, ⟨10, _⟩ => ⟨S1x1x128x64, .f32⟩
  | .local _ .vmem, ⟨11, _⟩ => ⟨S1x1x128x64, .f32⟩
  | .local _ .vmem, ⟨12, _⟩ => ⟨S1x1x128x64, .f32⟩
  | .local _ .vmem, ⟨13, _⟩ => ⟨S1x1x128x64, .f32⟩
  | .local _ .vmem, ⟨14, _⟩ => ⟨S1x1x128x64, .f32⟩
  | .local _ .vmem, ⟨15, _⟩ => ⟨S1x1x128x64, .f32⟩
  | .local _ .vmem, ⟨16, _⟩ => ⟨S1x1x128x64, .f32⟩
  | .local _ .vmem, ⟨17, _⟩ => ⟨S1x1x128x64, .f32⟩
  | .local _ .vmem, ⟨18, _⟩ => ⟨S1x1x128x64, .f32⟩
  | .local _ .vmem, ⟨19, _⟩ => ⟨S1x1x128x64, .f32⟩
  | .local _ .vmem, ⟨20, _⟩ => ⟨S1x1x1024, .f32⟩
  | .local _ .vmem, ⟨21, _⟩ => ⟨S1x1x1024, .f32⟩
  | .local _ .smem, ⟨0, _⟩ => ⟨S128x64, .i32⟩
  | _, _ => ⟨S128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![128, 8], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 2 → Nat :=
  let arg0 : BitVec 32 := BitVec.ofNat 32 (i 0).val
  let v2 : Index := Scalar.indexCast arg0
  let arg1 : BitVec 32 := BitVec.ofNat 32 (i 1).val
  let c8_i32 : BitVec 32 := 8#32
  let v0 : BitVec 32 := Scalar.muli arg1 c8_i32
  let v1 : BitVec 32 := Scalar.addi v0 c0_i32
  let v3 : Index := Scalar.indexCast v1
  ![v2.toNat, v3.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (k0_off1_inb : ∀ i : grid0.Coords, ∀ (r : Fin 8), ∀ a, (k0_off1 i (BitVec.ofNat 32 r.val)) a + S1x1.size a ≤ S128x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v2 : Index := Scalar.indexCast arg0
  let v3 : Index := Scalar.indexCast v1
  let v4 : BitVec 32 := pf.at 0 (Rect.unit (s := S128x64) ![v2.toNat, v3.toNat] S1x1.size (k0_off1_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v4.toNat, c0_i32_1.toNat, c0_i32_2.toNat]

def cc0_transform_3 (k0_off1_inb : ∀ i : grid0.Coords, ∀ (r : Fin 8), ∀ a, (k0_off1 i (BitVec.ofNat 32 r.val)) a + S1x1.size a ≤ S128x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.addi v0 c1_i32
  let v2 : Index := Scalar.indexCast arg0
  let v3 : Index := Scalar.indexCast v1
  let v4 : BitVec 32 := pf.at 0 (Rect.unit (s := S128x64) ![v2.toNat, v3.toNat] S1x1.size (k0_off1_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_4 (k0_off1_inb : ∀ i : grid0.Coords, ∀ (r : Fin 8), ∀ a, (k0_off1 i (BitVec.ofNat 32 r.val)) a + S1x1.size a ≤ S128x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c2_i32 : BitVec 32 := 2#32
  let v1 : BitVec 32 := Scalar.addi v0 c2_i32
  let v2 : Index := Scalar.indexCast arg0
  let v3 : Index := Scalar.indexCast v1
  let v4 : BitVec 32 := pf.at 0 (Rect.unit (s := S128x64) ![v2.toNat, v3.toNat] S1x1.size (k0_off1_inb i 2)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_5 (k0_off1_inb : ∀ i : grid0.Coords, ∀ (r : Fin 8), ∀ a, (k0_off1 i (BitVec.ofNat 32 r.val)) a + S1x1.size a ≤ S128x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c3_i32 : BitVec 32 := 3#32
  let v1 : BitVec 32 := Scalar.addi v0 c3_i32
  let v2 : Index := Scalar.indexCast arg0
  let v3 : Index := Scalar.indexCast v1
  let v4 : BitVec 32 := pf.at 0 (Rect.unit (s := S128x64) ![v2.toNat, v3.toNat] S1x1.size (k0_off1_inb i 3)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_6 (k0_off1_inb : ∀ i : grid0.Coords, ∀ (r : Fin 8), ∀ a, (k0_off1 i (BitVec.ofNat 32 r.val)) a + S1x1.size a ≤ S128x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c4_i32 : BitVec 32 := 4#32
  let v1 : BitVec 32 := Scalar.addi v0 c4_i32
  let v2 : Index := Scalar.indexCast arg0
  let v3 : Index := Scalar.indexCast v1
  let v4 : BitVec 32 := pf.at 0 (Rect.unit (s := S128x64) ![v2.toNat, v3.toNat] S1x1.size (k0_off1_inb i 4)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_7 (k0_off1_inb : ∀ i : grid0.Coords, ∀ (r : Fin 8), ∀ a, (k0_off1 i (BitVec.ofNat 32 r.val)) a + S1x1.size a ≤ S128x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c5_i32 : BitVec 32 := 5#32
  let v1 : BitVec 32 := Scalar.addi v0 c5_i32
  let v2 : Index := Scalar.indexCast arg0
  let v3 : Index := Scalar.indexCast v1
  let v4 : BitVec 32 := pf.at 0 (Rect.unit (s := S128x64) ![v2.toNat, v3.toNat] S1x1.size (k0_off1_inb i 5)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_8 (k0_off1_inb : ∀ i : grid0.Coords, ∀ (r : Fin 8), ∀ a, (k0_off1 i (BitVec.ofNat 32 r.val)) a + S1x1.size a ≤ S128x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c6_i32 : BitVec 32 := 6#32
  let v1 : BitVec 32 := Scalar.addi v0 c6_i32
  let v2 : Index := Scalar.indexCast arg0
  let v3 : Index := Scalar.indexCast v1
  let v4 : BitVec 32 := pf.at 0 (Rect.unit (s := S128x64) ![v2.toNat, v3.toNat] S1x1.size (k0_off1_inb i 6)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_9 (k0_off1_inb : ∀ i : grid0.Coords, ∀ (r : Fin 8), ∀ a, (k0_off1 i (BitVec.ofNat 32 r.val)) a + S1x1.size a ≤ S128x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c7_i32 : BitVec 32 := 7#32
  let v1 : BitVec 32 := Scalar.addi v0 c7_i32
  let v2 : Index := Scalar.indexCast arg0
  let v3 : Index := Scalar.indexCast v1
  let v4 : BitVec 32 := pf.at 0 (Rect.unit (s := S128x64) ![v2.toNat, v3.toNat] S1x1.size (k0_off1_inb i 7)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x128x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x128x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== SampleIdxRefIdeal.lean ====
abbrev S128x64 : Shape := ⟨2, ![128, 64]⟩
abbrev S128x512 : Shape := ⟨2, ![128, 512]⟩
abbrev S128x8 : Shape := ⟨2, ![128, 8]⟩
abbrev S1x10240x128x64 : Shape := ⟨4, ![1, 10240, 128, 64]⟩
abbrev S_ : Shape := ⟨0, ![]⟩
abbrev S128x64x1 : Shape := ⟨3, ![128, 64, 1]⟩
abbrev S128x64x2 : Shape := ⟨3, ![128, 64, 2]⟩
abbrev S128x64x128x64 : Shape := ⟨4, ![128, 64, 128, 64]⟩
abbrev S128x8192x64 : Shape := ⟨3, ![128, 8192, 64]⟩
abbrev S128x8x64 : Shape := ⟨3, ![128, 8, 64]⟩
abbrev S128x8x8192 : Shape := ⟨3, ![128, 8, 8192]⟩
abbrev S128x8192 : Shape := ⟨2, ![128, 8192]⟩

abbrev nBuf : Space → Nat
  | .hbm => 25
  | .vmem => 0
  | .smem => 0
  | _ => 0

abbrev bufTy : (tb : Table) → Fin (tcTables nBuf tb) → BufTy
  | .hbm, ⟨0, _⟩ => ⟨S128x64, .i32⟩
  | .hbm, ⟨1, _⟩ => ⟨S128x512, .bf16⟩
  | .hbm, ⟨2, _⟩ => ⟨S128x8, .f32⟩
  | .hbm, ⟨3, _⟩ => ⟨S1x10240x128x64, .f32⟩
  | .hbm, ⟨4, _⟩ => ⟨S_, .i32⟩
  | .hbm, ⟨5, _⟩ => ⟨S128x64, .i32⟩
  | .hbm, ⟨6, _⟩ => ⟨S128x64, .i1⟩
  | .hbm, ⟨7, _⟩ => ⟨S_, .i32⟩
  | .hbm, ⟨8, _⟩ => ⟨S128x64, .i32⟩
  | .hbm, ⟨9, _⟩ => ⟨S128x64, .i32⟩
  | .hbm, ⟨10, _⟩ => ⟨S128x64, .i32⟩
  | .hbm, ⟨11, _⟩ => ⟨S_, .i32⟩
  | .hbm, ⟨12, _⟩ => ⟨S128x64, .i32⟩
  | .hbm, ⟨13, _⟩ => ⟨S128x64, .i32⟩
  | .hbm, ⟨14, _⟩ => ⟨S128x64x1, .i32⟩
  | .hbm, ⟨15, _⟩ => ⟨S128x64x1, .i32⟩
  | .hbm, ⟨16, _⟩ => ⟨S128x64x2, .i32⟩
  | .hbm, ⟨17, _⟩ => ⟨S128x64x128x64, .f32⟩
  | .hbm, ⟨18, _⟩ => ⟨S128x8192x64, .f32⟩
  | .hbm, ⟨19, _⟩ => ⟨S128x8x64, .bf16⟩
  | .hbm, ⟨20, _⟩ => ⟨S128x8x8192, .f32⟩
  | .hbm, ⟨21, _⟩ => ⟨S_, .f32⟩
  | .hbm, ⟨22, _⟩ => ⟨S128x8x8192, .f32⟩
  | .hbm, ⟨23, _⟩ => ⟨S128x8x8192, .f32⟩
  | .hbm, ⟨24, _⟩ => ⟨S128x8192, .f32⟩
  | _, _ => ⟨S128x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Proof.ResidSpec.lean ====
/- The residual update of one row, as formulas over the extended reals, and what the kernel's payload computes of them. -/
module

public import proofs.«01_k».proof.Proof.Gen.ResidIdeal.Frame
public import Idealize.ShloMosaic.Lib.Pointwise

@[expose] public section

set_option maxRecDepth 16384

noncomputable section

open Idealize.ShloMosaic Idealize.ShloMosaic.TcCoe Idealize.SL.Sem

namespace ResidRow

/-- The gate `1 / (1 + exp(-x))`. -/
def sigm (x : EReal) : EReal := Ideal.div 1 (1 + Ideal.exp (-x))

/-- A row after the two halves of the output projection, added to its input. -/
def h1 (x : Fin 1024 → EReal) (a b : Fin 512 → EReal) (wo : Fin 1024 → Fin 1024 → EReal) (l : Fin 1024) : EReal :=
  x l + ∑ k : Fin 512, a k * wo ⟨k, by omega⟩ l + ∑ k : Fin 512, b k * wo ⟨512 + k, by omega⟩ l

/-- The root-mean-square normalisation of a row of 1024 numbers, scaled by `g`. -/
def rms (h g : Fin 1024 → EReal) (l : Fin 1024) : EReal :=
  h l * Ideal.rsqrt (Ideal.div (∑ k, h k * h k) (Ideal.ofBits .f32 0x44800000#32) + Ideal.ofBits .f32 0x358637BD#32) * g l

/-- A row after the gated projection of `p`. -/
def h2 (h : Fin 1024 → EReal) (p : Fin 256 → EReal) (gp : Fin 1024 → EReal) (wg : Fin 1024 → Fin 1024 → EReal)
    (wp : Fin 256 → Fin 1024 → EReal) (l : Fin 1024) : EReal :=
  h l + sigm (∑ k, rms h gp k * wg k l) * ∑ k : Fin 256, p k * wp k l

theorem exp_nonneg (x : EReal) : 0 ≤ Ideal.exp x := by
  induction x using EReal.rec with
  | bot => exact le_refl (0 : EReal)
  | top => exact le_top
  | coe r => exact EReal.coe_nonneg.mpr (Real.exp_pos r).le

theorem sigm_pos (x : EReal) : 1 + Ideal.exp (-x) ≠ 0 := by
  have h := exp_nonneg (-x)
  intro h0
  have : (1 : EReal) ≤ 0 := by
    calc (1 : EReal) = 1 + 0 := by simp
      _ ≤ 1 + Ideal.exp (-x) := add_le_add le_rfl h
      _ = 0 := h0
  exact absurd this (by norm_num)

/-- `x / (1 + exp(-x))` is `x` times the gate. -/
theorem silu_eq (x : EReal) : Ideal.div x (1 + Ideal.exp (-x)) = x * sigm x := by
  unfold sigm Ideal.div
  rw [if_neg (sigm_pos x), if_neg (sigm_pos x), one_mul]

end ResidRow

namespace Cert.ResidIdeal.Value

open Cert.ResidIdeal Cert.ResidIdeal.Gen ResidRow

/-- The first payload at row `r`, lane `l`: the row after the output projection. -/
theorem pay1_at (v0 v1 v10 v11 : FVec Ideal S512x512 .f32) (v20 : FVec Ideal S512x1024 .f32) (v22 v26 : FVec Ideal S512x1024 .bf16)
    (wo : Fin 1024 → Fin 1024 → EReal) (h22 : ∀ (k : Fin 512) (l : Fin 1024), v22 (ix2 k l) = wo ⟨k, by omega⟩ l)
    (h26 : ∀ (k : Fin 512) (l : Fin 1024), v26 (ix2 k l) = wo ⟨512 + k, by omega⟩ l) (r : Fin 512) (l : Fin 1024) :
    k0_pay1 (F := Ideal) v0 v1 v10 v11 v20 v22 v26 (ix2 r l)
      = h1 (fun l => v20 (ix2 r l)) (fun k => v0 (ix2 r k) * (v1 (ix2 r k) * sigm (v1 (ix2 r k))))
          (fun k => v10 (ix2 r k) * (v11 (ix2 r k) * sigm (v11 (ix2 r k)))) wo l := by
  pointwise [k0_pay1]
  simp only [h1, h22, h26, ← silu_eq, zero_sub, sub_eq_add_neg, zero_add]

/-- The stored payload at row `r`, lane `l`. -/
theorem pay4_at (v29 : FVec Ideal S512x1024 .f32) (v31 : FVec Ideal S1x1024 .f32) (v34 : FVec Ideal S512x1 .f32)
    (v45 : FVec Ideal S1024x1024 .bf16) (v55 : FVec Ideal S512x256 .f32) (v58 : FVec Ideal S256x1024 .bf16) (v63 : FVec Ideal S1x1024 .f32)
    (r : Fin 512) (h34 : v34 (ix2 r 0) = ∑ k : Fin 1024, v29 (ix2 r k) * v29 (ix2 r k)) (l : Fin 1024) :
    k0_pay4 (F := Ideal) v29 v31 v34 (Scalar.ofBits .f32 0x44800000#32) v45 v55 v58 v63 (ix2 r l)
      = rms (h2 (fun l => v29 (ix2 r l)) (fun k => v55 (ix2 r k)) (fun l => v31 (ix2 0 l)) (fun k l => v45 (ix2 k l)) (fun k l => v58 (ix2 k l)))
          (fun l => v63 (ix2 0 l)) l := by
  pointwise [k0_pay4]
  simp only [rms, h2, sigm, h34, zero_sub, sub_eq_add_neg, zero_add]

end Cert.ResidIdeal.Value

end
-- ==== Proof.ProjRow.lean ====
/- The input projection: the projected row, in the reference and in one block of the kernel. -/
module

public import proofs.«01_k».proof.Proof.Gen.ProjIdeal.Value
public import proofs.«01_k».proof.Proof.Gen.ProjRefIdeal.Run
public import proofs.«01_k».proof.Proof.ResidSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjRefIdeal.Value

open Cert.ProjRefIdeal Cert.ProjRefIdeal.Gen ResidRow

/-- All 4680 projected columns of every row, as the reference writes them. -/
def zall (X : FVec Ideal S4x8192x1024 .f32) (G : FVec Ideal S1x1024 .f32) (W : FVec Ideal S1x1024x4680 .f32) : FVec Ideal S32768x4680 .f32 :=
  shapeCast _ (Host.dotGeneral dot_S4x8192x1024_S1024x4680_S4x8192x4680_2_0_01_1_n_n none (mulf (mulf X (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf X X) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast _ G shapeCasts_S1x1024_S1024)))) (shapeCast _ W shapeCasts_S1x1024x4680_S1024x4680)) shapeCasts_S4x8192x4680_S32768x4680

/-- Row `R`, normalised. -/
def xrow (X : FVec Ideal S4x8192x1024 .f32) (G : FVec Ideal S1x1024 .f32) (R : Fin 32768) : Fin 1024 → EReal :=
  rms (fun l => X (ix3 ⟨R / 8192, by omega⟩ ⟨R % 8192, by omega⟩ l)) (fun l => G (ix2 0 l))

/-- A projected column of a row is the sum of the normalised row times the weight column. -/
theorem zall_at (X : FVec Ideal S4x8192x1024 .f32) (G : FVec Ideal S1x1024 .f32) (W : FVec Ideal S1x1024x4680 .f32) (R : Fin 32768) (l : Fin 4680) :
    zall X G W (ix2 R l) = ∑ k : Fin 1024, xrow X G R k * W (ix3 0 k l) := by
  pointwise [zall]
  simp only [xrow, rms]

end Cert.ProjRefIdeal.Value

namespace Cert.ProjIdeal.Value

open Cert.ProjIdeal Cert.ProjIdeal.Gen ResidRow Cert.ProjRefIdeal.Value

variable (m : (ℓ : Loc nD τ sig) → Buf (Elt Ideal) ℓ)

/-- The windows' block indices at every grid point: rows move with the point, the scale and the weights stay. -/
theorem idx : ∀ t : Fin cfg0.N, win0_0.index t = ![t.val, 0] ∧ win0_1.index t = ![0, 0] ∧ win0_2.index t = ![0, 0] ∧ win0_3.index t = ![0, 0]
    ∧ win0_4.index t = ![t.val, 0]    ∧ win0_5.index t = ![t.val, 0]    ∧ win0_6.index t = ![t.val, 0]    ∧ win0_7.index t = ![t.val, 0]
    ∧ win0_8.index t = ![t.val, 0]    ∧ win0_9.index t = ![t.val, 0]    ∧ win0_10.index t = ![t.val, 0]    ∧ win0_11.index t = ![t.val, 0]
    ∧ win0_12.index t = ![t.val, 0]    ∧ win0_13.index t = ![t.val, 0]    ∧ win0_14.index t = ![t.val, 0]    ∧ win0_15.index t = ![t.val, 0]
    ∧ win0_16.index t = ![t.val, 0]    ∧ win0_17.index t = ![t.val, 0]    ∧ win0_18.index t = ![t.val, 0]    ∧ win0_19.index t = ![t.val, 0] :=
  (by decide +kernel : ∀ t : Fin grid0.N, _)

/-- The normalised rows of one block. -/
theorem pay7_at (b0 : FVec Ideal S512x1024 .f32) (b1 : FVec Ideal S1x1024 .f32) (r : Fin 512) (k : Fin 1024) :
    k0_pay7 (F := Ideal) b0 b1 (ix2 r k) = rms (fun l => b0 (ix2 r l)) (fun l => b1 (ix2 0 l)) k := by
  pointwise [k0_pay7]
  simp only [rms]

/-- The staged rows are the rows of the reshaped input. -/
theorem x_at (c : Dev nD) (t : Fin cfg0.N) (r : Fin 512) (R : Fin 32768) (hR : R.val = t.val * 512 + r.val) (l : Fin 1024) :
    (show FVec Ideal S512x1024 .f32 from iblk m c 0 t) (ix2 r l) = m ((c : Thread nD τ).loc main_arg0) (ix3 ⟨R / 8192, by omega⟩ ⟨R % 8192, by omega⟩ l) := by
  blk_point [iblk, V, idx t]

theorem g_at (c : Dev nD) (t : Fin cfg0.N) (l : Fin 1024) :
    (show FVec Ideal S1x1024 .f32 from iblk m c 1 t) (ix2 0 l) = m ((c : Thread nD τ).loc main_arg1) (ix2 0 l) := by
  blk_point [iblk, V, idx t]

/-- The staged main weights are the first 4608 columns. -/
theorem w_at (c : Dev nD) (t : Fin cfg0.N) (k : Fin 1024) (l : Fin 4608) :
    (show FVec Ideal S1024x4608 .bf16 from iblk m c 2 t) (ix2 k l) = m ((c : Thread nD τ).loc main_arg2) (ix3 0 k ⟨l, by omega⟩) := by
  blk_point [iblk, V, idx t]

/-- Block row `r` of point `t`, normalised, is row `512·t + r` of the reference's normalised rows. -/
theorem xn_at (c : Dev nD) (t : Fin cfg0.N) (r : Fin 512) (R : Fin 32768) (hR : R.val = t.val * 512 + r.val) (k : Fin 1024) :
    k0_pay7 (F := Ideal) (iblk m c 0 t) (iblk m c 1 t) (ix2 r k) = xrow (m ((c : Thread nD τ).loc main_arg0)) (m ((c : Thread nD τ).loc main_arg1)) R k := by
  refine (pay7_at _ _ r k).trans ?_
  unfold xrow
  congr 1
  · funext l; exact x_at m c t r R hR l
  · funext l; exact g_at m c t l

/-- The normalised block rows, as the body's later parts name them. -/
theorem pay19_eq (x0 : FVec Ideal S512x1024 .f32) (x1 : FVec Ideal S1x1024 .f32) (x2 : FVec Ideal S1024x4608 .bf16) (x3 : FVec Ideal S1024x256 .bf16) :
    k0_pay19 (F := Ideal) x0 x1 x2 x3 = k0_pay7 x0 x1 := by
  funext j
  idx_vars j
  pointwise [k0_pay19, k0_pay7]

/-- The third column block's products, as a matmul of the normalised block rows. -/
theorem pay20_eq (x0 : FVec Ideal S512x1024 .f32) (x1 : FVec Ideal S1x1024 .f32) (x2 : FVec Ideal S1024x4608 .bf16) (x3 : FVec Ideal S1024x256 .bf16) :
    k0_pay20 (F := Ideal) x0 x1 x2 x3 = k0_pay9 x0 x1 (View.ld x2 r0_5) := by
  funext j
  idx_vars j
  pointwise [k0_pay20, k0_pay11, k0_pay9, k0_pay7]

/-- A projected column block: the normalised block rows times a column block of the weights is the reference's columns. -/
theorem seg_at (c : Dev nD) (t : Fin cfg0.N) (r : Fin 512) (R : Fin 32768) (hR : R.val = t.val * 512 + r.val) (l : Fin 4608) (z : Fin 4680) (hz : z.val = l.val) :
    ∑ k : Fin 1024, k0_pay7 (F := Ideal) (iblk m c 0 t) (iblk m c 1 t) (ix2 r k) * (show FVec Ideal S1024x4608 .bf16 from iblk m c 2 t) (ix2 k l)
      = zall (m ((c : Thread nD τ).loc main_arg0)) (m ((c : Thread nD τ).loc main_arg1)) (m ((c : Thread nD τ).loc main_arg2)) (ix2 R z) := by
  have hzz : (⟨l, by omega⟩ : Fin 4680) = z := Fin.ext hz.symm
  refine Eq.trans ?_ (zall_at ..).symm
  refine Finset.sum_congr rfl fun k _ => ?_
  rw [xn_at m c t r R hR k, w_at m c t k l, hzz]

/-- The tail weights as the host assembles them. -/
def tailW (W : FVec Ideal S1x1024x4680 .f32) : FVec Ideal S1024x256 .f32 :=
  concatenate S1024x256 1 [⟨S1024x64, extractStridedSlice S1024x64 ![0, 4608] (shapeCast S1024x4680 W shapeCasts_S1x1024x4680_S1024x4680) slices_S1024x4680_S1024x64_0_4608⟩,
    ⟨S1024x64, extractStridedSlice S1024x64 ![0, 4608] (shapeCast S1024x4680 W shapeCasts_S1x1024x4680_S1024x4680) slices_S1024x4680_S1024x64_0_4608⟩,
    ⟨S1024x8, extractStridedSlice S1024x8 ![0, 4672] (shapeCast S1024x4680 W shapeCasts_S1x1024x4680_S1024x4680) slices_S1024x4680_S1024x8_0_4672⟩,
    ⟨S1024x120, broadcastInDim S1024x120 ![] bcast_S_S1024x120 (constant S_ .f32 0x00000000#32)⟩]
    concatenates_S1024x64_S1024x64_S1024x8_S1024x120_S1024x256_d1

/-- Its column `l < 136`, as a column of the whole weight. -/
theorem tailW_at (W : FVec Ideal S1x1024x4680 .f32) (k : Fin 1024) (l : Fin 256) (hl : l.val < 136) (z : Fin 4680)
    (hz : z.val = if l.val < 64 then 4608 + l.val else 4544 + l.val) : tailW W (ix2 k l) = W (ix3 0 k z) := by
  unfold tailW
  by_cases h1 : (l : ℕ) < 64
  · rw [if_pos h1] at hz
    refine (concatenate_apply_piece (1 : Fin S1024x256.rank) _ _ (ix2 k l) 0 (by simp) S1024x64 _ rfl rfl 0 rfl (ix2 k ⟨l, h1⟩) ?_ ?_).trans ?_
    · intro ⟨b, hb2⟩ hb; have hb3 : b < 2 := hb2; interval_cases b
      · rfl
      · exact (hb (Fin.ext rfl)).elim
    · simp
    · pointwise
      congr 1; refine (ix3_inj ..).2 ⟨rfl, rfl, Fin.ext ?_⟩; dsimp only; omega
  · rw [if_neg h1] at hz
    by_cases h2 : (l : ℕ) < 128
    · refine (concatenate_apply_piece (1 : Fin S1024x256.rank) _ _ (ix2 k l) 1 (by simp) S1024x64 _ rfl rfl 64 rfl (ix2 k ⟨l - 64, by omega⟩) ?_ ?_).trans ?_
      · intro ⟨b, hb2⟩ hb; have hb3 : b < 2 := hb2; interval_cases b
        · rfl
        · exact (hb (Fin.ext rfl)).elim
      · simp; omega
      · pointwise
        congr 1; refine (ix3_inj ..).2 ⟨rfl, rfl, Fin.ext ?_⟩; dsimp only; omega
    · refine (concatenate_apply_piece (1 : Fin S1024x256.rank) _ _ (ix2 k l) 2 (by simp) S1024x8 _ rfl rfl 128 rfl (ix2 k ⟨l - 128, by omega⟩) ?_ ?_).trans ?_
      · intro ⟨b, hb2⟩ hb; have hb3 : b < 2 := hb2; interval_cases b
        · rfl
        · exact (hb (Fin.ext rfl)).elim
      · simp; omega
      · pointwise
        congr 1; refine (ix3_inj ..).2 ⟨rfl, rfl, Fin.ext ?_⟩; dsimp only; omega

/-- The tail weights at the region's entry. -/
theorem v7_eq (c : Dev nD) : V m c main_v7 = truncf .bf16 (tailW (m ((c : Thread nD τ).loc main_arg2))) bitsLt_bf16_f32 := by
  rfl

set_option maxHeartbeats 1600000 in
/-- The staged tail weights: the 64 index-key columns, the same again, the 8 head-weight columns. -/
theorem tail_at (c : Dev nD) (t : Fin cfg0.N) (k : Fin 1024) (l : Fin 256) (hl : l.val < 136) (z : Fin 4680)
    (hz : z.val = if l.val < 64 then 4608 + l.val else 4544 + l.val) :
    (show FVec Ideal S1024x256 .bf16 from iblk m c 3 t) (ix2 k l) = m ((c : Thread nD τ).loc main_arg2) (ix3 0 k z) := by
  refine Eq.trans ?_ (tailW_at _ k l hl z hz)
  have e : (show FVec Ideal S1024x256 .bf16 from iblk m c 3 t) (ix2 k l) = V m c main_v7 (ix2 k l) := by
    blk_simp [iblk]
    congr 1
    blk_ext [idx t]
  rw [e, v7_eq]
  rfl

/-- The same for the tail's columns. -/
theorem tseg_at (c : Dev nD) (t : Fin cfg0.N) (r : Fin 512) (R : Fin 32768) (hR : R.val = t.val * 512 + r.val) (l : Fin 256) (hl : l.val < 136) (z : Fin 4680)
    (hz : z.val = if l.val < 64 then 4608 + l.val else 4544 + l.val) :
    ∑ k : Fin 1024, k0_pay7 (F := Ideal) (iblk m c 0 t) (iblk m c 1 t) (ix2 r k) * (show FVec Ideal S1024x256 .bf16 from iblk m c 3 t) (ix2 k l)
      = zall (m ((c : Thread nD τ).loc main_arg0)) (m ((c : Thread nD τ).loc main_arg1)) (m ((c : Thread nD τ).loc main_arg2)) (ix2 R z) := by
  refine Eq.trans ?_ (zall_at ..).symm
  refine Finset.sum_congr rfl fun k _ => ?_
  rw [xn_at m c t r R hR k, tail_at m c t k l hl z hz]

end Cert.ProjIdeal.Value

end
-- ==== Proof.ProjA.lean ====
/- The input projection: each result array of the kernel is the reference's. -/
module

public import proofs.«01_k».proof.Proof.ProjRow

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen ResidRow Cert.ProjRefIdeal.Value

variable (m : (ℓ : Loc nD τ sig) → Buf (Elt Ideal) ℓ)

/-- All projected columns of every row, over the kernel's arguments. -/
abbrev zkProjA (c : Dev nD) := zall (m ((c : Thread nD τ).loc main_arg0)) (m ((c : Thread nD τ).loc main_arg1)) (m ((c : Thread nD τ).loc main_arg2))

/-- Result 0 of the call is the reference's. -/
theorem final4 (c : Dev nD) : (dats m 0 c).arrAt 4 (cfgs 0).N = (show FVec Ideal Cert.ProjRefIdeal.S32768x512 .bf16 from truncf .bf16 (mulf (extractStridedSlice Cert.ProjRefIdeal.S32768x512 ![0, 0] (zkProjA m c) Cert.ProjRefIdeal.Gen.slices_S32768x4680_S32768x512_0_0) (broadcastInDim Cert.ProjRefIdeal.S32768x512 ![] Cert.ProjRefIdeal.Gen.bcast_S_S32768x512 (constant Cert.ProjRefIdeal.S_ .f32 0x3E000000#32))) Cert.ProjRefIdeal.Gen.bitsLt_bf16_f32) := by
  refine (dats m 0 c).arrAt_eq_of_covers 4 _ (by decide +kernel) fun t _ y => ?_
  have ht : t.val < 64 := lt_of_lt_of_eq t.isLt N_0
  blk_simp
  rw [after0_4]; frame_out
  have e : (((View.whole main_v11_0).slice (win0_4.rect t)).emb y : S32768x512.Idx)
      = ix2 ⟨t.val * 512 + (y 0).val, by have : (y 0).val < 512 := (y 0).isLt; omega⟩ ⟨(y 1).val, (y 1).isLt⟩ := by blk_ext [idx t]
  rw [e]
  rw [show y = ix2 (⟨(y 0).val, (y 0).isLt⟩ : Fin 512) (⟨(y 1).val, (y 1).isLt⟩ : Fin 512) from by blk_ext]
  generalize hr : (⟨(y 0).val, (y 0).isLt⟩ : Fin 512) = r
  generalize hl : (⟨(y 1).val, (y 1).isLt⟩ : Fin 512) = l
  clear hr hl e y
  try rw [pay19_eq]
  try rw [pay20_eq]
  pointwise [k0_pay8]
  exact Ideal.mul_congr (seg_at m c t r _ rfl ⟨l.val, by omega⟩ _ rfl) rfl

/-- Result 1 of the call is the reference's. -/
theorem final5 (c : Dev nD) : (dats m 0 c).arrAt 5 (cfgs 0).N = (show FVec Ideal Cert.ProjRefIdeal.S32768x512 .f32 from extractStridedSlice Cert.ProjRefIdeal.S32768x512 ![0, 512] (zkProjA m c) Cert.ProjRefIdeal.Gen.slices_S32768x4680_S32768x512_0_512) := by
  refine (dats m 0 c).arrAt_eq_of_covers 5 _ (by decide +kernel) fun t _ y => ?_
  have ht : t.val < 64 := lt_of_lt_of_eq t.isLt N_0
  blk_simp
  rw [after0_5]; frame_out
  have e : (((View.whole main_v11_1).slice (win0_5.rect t)).emb y : S32768x512.Idx)
      = ix2 ⟨t.val * 512 + (y 0).val, by have : (y 0).val < 512 := (y 0).isLt; omega⟩ ⟨(y 1).val, (y 1).isLt⟩ := by blk_ext [idx t]
  rw [e]
  rw [show y = ix2 (⟨(y 0).val, (y 0).isLt⟩ : Fin 512) (⟨(y 1).val, (y 1).isLt⟩ : Fin 512) from by blk_ext]
  generalize hr : (⟨(y 0).val, (y 0).isLt⟩ : Fin 512) = r
  generalize hl : (⟨(y 1).val, (y 1).isLt⟩ : Fin 512) = l
  clear hr hl e y
  try rw [pay19_eq]
  try rw [pay20_eq]
  pointwise [k0_pay9]
  exact seg_at m c t r _ rfl ⟨512 + l.val, by omega⟩ _ rfl

/-- Result 2 of the call is the reference's. -/
theorem final6 (c : Dev nD) : (dats m 0 c).arrAt 6 (cfgs 0).N = (show FVec Ideal Cert.ProjRefIdeal.S32768x512 .bf16 from truncf .bf16 (extractStridedSlice Cert.ProjRefIdeal.S32768x512 ![0, 512] (zkProjA m c) Cert.ProjRefIdeal.Gen.slices_S32768x4680_S32768x512_0_512) Cert.ProjRefIdeal.Gen.bitsLt_bf16_f32) := by
  refine (dats m 0 c).arrAt_eq_of_covers 6 _ (by decide +kernel) fun t _ y => ?_
  have ht : t.val < 64 := lt_of_lt_of_eq t.isLt N_0
  blk_simp
  rw [after0_6]; frame_out
  have e : (((View.whole main_v11_2).slice (win0_6.rect t)).emb y : S32768x512.Idx)
      = ix2 ⟨t.val * 512 + (y 0).val, by have : (y 0).val < 512 := (y 0).isLt; omega⟩ ⟨(y 1).val, (y 1).isLt⟩ := by blk_ext [idx t]
  rw [e]
  rw [show y = ix2 (⟨(y 0).val, (y 0).isLt⟩ : Fin 512) (⟨(y 1).val, (y 1).isLt⟩ : Fin 512) from by blk_ext]
  generalize hr : (⟨(y 0).val, (y 0).isLt⟩ : Fin 512) = r
  generalize hl : (⟨(y 1).val, (y 1).isLt⟩ : Fin 512) = l
  clear hr hl e y
  try rw [pay19_eq]
  try rw [pay20_eq]
  pointwise [k0_pay10, k0_pay9]
  exact seg_at m c t r _ rfl ⟨512 + l.val, by omega⟩ _ rfl

/-- Result 3 of the call is the reference's. -/
theorem final7 (c : Dev nD) : (dats m 0 c).arrAt 7 (cfgs 0).N = (show FVec Ideal Cert.ProjRefIdeal.S32768x512 .f32 from extractStridedSlice Cert.ProjRefIdeal.S32768x512 ![0, 1024] (zkProjA m c) Cert.ProjRefIdeal.Gen.slices_S32768x4680_S32768x512_0_1024) := by
  refine (dats m 0 c).arrAt_eq_of_covers 7 _ (by decide +kernel) fun t _ y => ?_
  have ht : t.val < 64 := lt_of_lt_of_eq t.isLt N_0
  blk_simp
  rw [after0_7]; frame_out
  have e : (((View.whole main_v11_3).slice (win0_7.rect t)).emb y : S32768x512.Idx)
      = ix2 ⟨t.val * 512 + (y 0).val, by have : (y 0).val < 512 := (y 0).isLt; omega⟩ ⟨(y 1).val, (y 1).isLt⟩ := by blk_ext [idx t]
  rw [e]
  rw [show y = ix2 (⟨(y 0).val, (y 0).isLt⟩ : Fin 512) (⟨(y 1).val, (y 1).isLt⟩ : Fin 512) from by blk_ext]
  generalize hr : (⟨(y 0).val, (y 0).isLt⟩ : Fin 512) = r
  generalize hl : (⟨(y 1).val, (y 1).isLt⟩ : Fin 512) = l
  clear hr hl e y
  try rw [pay19_eq]
  try rw [pay20_eq]
  pointwise [k0_pay9]
  exact seg_at m c t r _ rfl ⟨1024 + l.val, by omega⟩ _ rfl

/-- Result 4 of the call is the reference's. -/
theorem final8 (c : Dev nD) : (dats m 0 c).arrAt 8 (cfgs 0).N = (show FVec Ideal Cert.ProjRefIdeal.S32768x512 .bf16 from truncf .bf16 (extractStridedSlice Cert.ProjRefIdeal.S32768x512 ![0, 1024] (zkProjA m c) Cert.ProjRefIdeal.Gen.slices_S32768x4680_S32768x512_0_1024) Cert.ProjRefIdeal.Gen.bitsLt_bf16_f32) := by
  refine (dats m 0 c).arrAt_eq_of_covers 8 _ (by decide +kernel) fun t _ y => ?_
  have ht : t.val < 64 := lt_of_lt_of_eq t.isLt N_0
  blk_simp
  rw [after0_8]; frame_out
  have e : (((View.whole main_v11_4).slice (win0_8.rect t)).emb y : S32768x512.Idx)
      = ix2 ⟨t.val * 512 + (y 0).val, by have : (y 0).val < 512 := (y 0).isLt; omega⟩ ⟨(y 1).val, (y 1).isLt⟩ := by blk_ext [idx t]
  rw [e]
  rw [show y = ix2 (⟨(y 0).val, (y 0).isLt⟩ : Fin 512) (⟨(y 1).val, (y 1).isLt⟩ : Fin 512) from by blk_ext]
  generalize hr : (⟨(y 0).val, (y 0).isLt⟩ : Fin 512) = r
  generalize hl : (⟨(y 1).val, (y 1).isLt⟩ : Fin 512) = l
  clear hr hl e y
  try rw [pay19_eq]
  try rw [pay20_eq]
  pointwise [k0_pay12, k0_pay9]
  exact seg_at m c t r _ rfl ⟨1024 + l.val, by omega⟩ _ rfl

/-- Result 5 of the call is the reference's. -/
theorem final9 (c : Dev nD) : (dats m 0 c).arrAt 9 (cfgs 0).N = (show FVec Ideal Cert.ProjRefIdeal.S32768x512 .f32 from extractStridedSlice Cert.ProjRefIdeal.S32768x512 ![0, 1536] (zkProjA m c) Cert.ProjRefIdeal.Gen.slices_S32768x4680_S32768x512_0_1536) := by
  refine (dats m 0 c).arrAt_eq_of_covers 9 _ (by decide +kernel) fun t _ y => ?_
  have ht : t.val < 64 := lt_of_lt_of_eq t.isLt N_0
  blk_simp
  rw [after0_9]; frame_out
  have e : (((View.whole main_v11_5).slice (win0_9.rect t)).emb y : S32768x512.Idx)
      = ix2 ⟨t.val * 512 + (y 0).val, by have : (y 0).val < 512 := (y 0).isLt; omega⟩ ⟨(y 1).val, (y 1).isLt⟩ := by blk_ext [idx t]
  rw [e]
  rw [show y = ix2 (⟨(y 0).val, (y 0).isLt⟩ : Fin 512) (⟨(y 1).val, (y 1).isLt⟩ : Fin 512) from by blk_ext]
  generalize hr : (⟨(y 0).val, (y 0).isLt⟩ : Fin 512) = r
  generalize hl : (⟨(y 1).val, (y 1).isLt⟩ : Fin 512) = l
  clear hr hl e y
  try rw [pay19_eq]
  try rw [pay20_eq]
  pointwise [k0_pay13]
  exact seg_at m c t r _ rfl ⟨1536 + l.val, by omega⟩ _ rfl

/-- Result 6 of the call is the reference's. -/
theorem final10 (c : Dev nD) : (dats m 0 c).arrAt 10 (cfgs 0).N = (show FVec Ideal Cert.ProjRefIdeal.S32768x512 .bf16 from truncf .bf16 (mulf (extractStridedSlice Cert.ProjRefIdeal.S32768x512 ![0, 2048] (zkProjA m c) Cert.ProjRefIdeal.Gen.slices_S32768x4680_S32768x512_0_2048) (broadcastInDim Cert.ProjRefIdeal.S32768x512 ![] Cert.ProjRefIdeal.Gen.bcast_S_S32768x512 (constant Cert.ProjRefIdeal.S_ .f32 0x3DB504F3#32))) Cert.ProjRefIdeal.Gen.bitsLt_bf16_f32) := by
  refine (dats m 0 c).arrAt_eq_of_covers 10 _ (by decide +kernel) fun t _ y => ?_
  have ht : t.val < 64 := lt_of_lt_of_eq t.isLt N_0
  blk_simp
  rw [after0_10]; frame_out
  have e : (((View.whole main_v11_6).slice (win0_10.rect t)).emb y : S32768x512.Idx)
      = ix2 ⟨t.val * 512 + (y 0).val, by have : (y 0).val < 512 := (y 0).isLt; omega⟩ ⟨(y 1).val, (y 1).isLt⟩ := by blk_ext [idx t]
  rw [e]
  rw [show y = ix2 (⟨(y 0).val, (y 0).isLt⟩ : Fin 512) (⟨(y 1).val, (y 1).isLt⟩ : Fin 512) from by blk_ext]
  generalize hr : (⟨(y 0).val, (y 0).isLt⟩ : Fin 512) = r
  generalize hl : (⟨(y 1).val, (y 1).isLt⟩ : Fin 512) = l
  clear hr hl e y
  try rw [pay19_eq]
  try rw [pay20_eq]
  pointwise [k0_pay14]
  exact Ideal.mul_congr (seg_at m c t r _ rfl ⟨2048 + l.val, by omega⟩ _ rfl) rfl

/-- Result 7 of the call is the reference's. -/
theorem final11 (c : Dev nD) : (dats m 0 c).arrAt 11 (cfgs 0).N = (show FVec Ideal Cert.ProjRefIdeal.S32768x512 .f32 from extractStridedSlice Cert.ProjRefIdeal.S32768x512 ![0, 2560] (zkProjA m c) Cert.ProjRefIdeal.Gen.slices_S32768x4680_S32768x512_0_2560) := by
  refine (dats m 0 c).arrAt_eq_of_covers 11 _ (by decide +kernel) fun t _ y => ?_
  have ht : t.val < 64 := lt_of_lt_of_eq t.isLt N_0
  blk_simp
  rw [after0_11]; frame_out
  have e : (((View.whole main_v11_7).slice (win0_11.rect t)).emb y : S32768x512.Idx)
      = ix2 ⟨t.val * 512 + (y 0).val, by have : (y 0).val < 512 := (y 0).isLt; omega⟩ ⟨(y 1).val, (y 1).isLt⟩ := by blk_ext [idx t]
  rw [e]
  rw [show y = ix2 (⟨(y 0).val, (y 0).isLt⟩ : Fin 512) (⟨(y 1).val, (y 1).isLt⟩ : Fin 512) from by blk_ext]
  generalize hr : (⟨(y 0).val, (y 0).isLt⟩ : Fin 512) = r
  generalize hl : (⟨(y 1).val, (y 1).isLt⟩ : Fin 512) = l
  clear hr hl e y
  try rw [pay19_eq]
  try rw [pay20_eq]
  pointwise [k0_pay15]
  exact seg_at m c t r _ rfl ⟨2560 + l.val, by omega⟩ _ rfl

end Cert.ProjIdeal.Value

end
-- ==== Proof.ProjB.lean ====
/- The input projection: each result array of the kernel is the reference's. -/
module

public import proofs.«01_k».proof.Proof.ProjRow

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen ResidRow Cert.ProjRefIdeal.Value

variable (m : (ℓ : Loc nD τ sig) → Buf (Elt Ideal) ℓ)

/-- All projected columns of every row, over the kernel's arguments. -/
abbrev zkProjB (c : Dev nD) := zall (m ((c : Thread nD τ).loc main_arg0)) (m ((c : Thread nD τ).loc main_arg1)) (m ((c : Thread nD τ).loc main_arg2))

/-- Result 8 of the call is the reference's. -/
theorem final12 (c : Dev nD) : (dats m 0 c).arrAt 12 (cfgs 0).N = (show FVec Ideal Cert.ProjRefIdeal.S32768x512 .bf16 from truncf .bf16 (extractStridedSlice Cert.ProjRefIdeal.S32768x512 ![0, 2560] (zkProjB m c) Cert.ProjRefIdeal.Gen.slices_S32768x4680_S32768x512_0_2560) Cert.ProjRefIdeal.Gen.bitsLt_bf16_f32) := by
  refine (dats m 0 c).arrAt_eq_of_covers 12 _ (by decide +kernel) fun t _ y => ?_
  have ht : t.val < 64 := lt_of_lt_of_eq t.isLt N_0
  blk_simp
  rw [after0_12]; frame_out
  have e : (((View.whole main_v11_8).slice (win0_12.rect t)).emb y : S32768x512.Idx)
      = ix2 ⟨t.val * 512 + (y 0).val, by have : (y 0).val < 512 := (y 0).isLt; omega⟩ ⟨(y 1).val, (y 1).isLt⟩ := by blk_ext [idx t]
  rw [e]
  rw [show y = ix2 (⟨(y 0).val, (y 0).isLt⟩ : Fin 512) (⟨(y 1).val, (y 1).isLt⟩ : Fin 512) from by blk_ext]
  generalize hr : (⟨(y 0).val, (y 0).isLt⟩ : Fin 512) = r
  generalize hl : (⟨(y 1).val, (y 1).isLt⟩ : Fin 512) = l
  clear hr hl e y
  try rw [pay19_eq]
  try rw [pay20_eq]
  pointwise [k0_pay16, k0_pay15]
  exact seg_at m c t r _ rfl ⟨2560 + l.val, by omega⟩ _ rfl

/-- Result 9 of the call is the reference's. -/
theorem final13 (c : Dev nD) : (dats m 0 c).arrAt 13 (cfgs 0).N = (show FVec Ideal Cert.ProjRefIdeal.S32768x512 .f32 from extractStridedSlice Cert.ProjRefIdeal.S32768x512 ![0, 3072] (zkProjB m c) Cert.ProjRefIdeal.Gen.slices_S32768x4680_S32768x512_0_3072) := by
  refine (dats m 0 c).arrAt_eq_of_covers 13 _ (by decide +kernel) fun t _ y => ?_
  have ht : t.val < 64 := lt_of_lt_of_eq t.isLt N_0
  blk_simp
  rw [after0_13]; frame_out
  have e : (((View.whole main_v11_9).slice (win0_13.rect t)).emb y : S32768x512.Idx)
      = ix2 ⟨t.val * 512 + (y 0).val, by have : (y 0).val < 512 := (y 0).isLt; omega⟩ ⟨(y 1).val, (y 1).isLt⟩ := by blk_ext [idx t]
  rw [e]
  rw [show y = ix2 (⟨(y 0).val, (y 0).isLt⟩ : Fin 512) (⟨(y 1).val, (y 1).isLt⟩ : Fin 512) from by blk_ext]
  generalize hr : (⟨(y 0).val, (y 0).isLt⟩ : Fin 512) = r
  generalize hl : (⟨(y 1).val, (y 1).isLt⟩ : Fin 512) = l
  clear hr hl e y
  try rw [pay19_eq]
  try rw [pay20_eq]
  pointwise [k0_pay17]
  exact seg_at m c t r _ rfl ⟨3072 + l.val, by omega⟩ _ rfl

/-- Result 10 of the call is the reference's. -/
theorem final14 (c : Dev nD) : (dats m 0 c).arrAt 14 (cfgs 0).N = (show FVec Ideal Cert.ProjRefIdeal.S32768x512 .bf16 from truncf .bf16 (extractStridedSlice Cert.ProjRefIdeal.S32768x512 ![0, 3072] (zkProjB m c) Cert.ProjRefIdeal.Gen.slices_S32768x4680_S32768x512_0_3072) Cert.ProjRefIdeal.Gen.bitsLt_bf16_f32) := by
  refine (dats m 0 c).arrAt_eq_of_covers 14 _ (by decide +kernel) fun t _ y => ?_
  have ht : t.val < 64 := lt_of_lt_of_eq t.isLt N_0
  blk_simp
  rw [after0_14]; frame_out
  have e : (((View.whole main_v11_10).slice (win0_14.rect t)).emb y : S32768x512.Idx)
      = ix2 ⟨t.val * 512 + (y 0).val, by have : (y 0).val < 512 := (y 0).isLt; omega⟩ ⟨(y 1).val, (y 1).isLt⟩ := by blk_ext [idx t]
  rw [e]
  rw [show y = ix2 (⟨(y 0).val, (y 0).isLt⟩ : Fin 512) (⟨(y 1).val, (y 1).isLt⟩ : Fin 512) from by blk_ext]
  generalize hr : (⟨(y 0).val, (y 0).isLt⟩ : Fin 512) = r
  generalize hl : (⟨(y 1).val, (y 1).isLt⟩ : Fin 512) = l
  clear hr hl e y
  try rw [pay19_eq]
  try rw [pay20_eq]
  pointwise [k0_pay18, k0_pay17]
  exact seg_at m c t r _ rfl ⟨3072 + l.val, by omega⟩ _ rfl

/-- Result 11 of the call is the reference's. -/
theorem final15 (c : Dev nD) : (dats m 0 c).arrAt 15 (cfgs 0).N = (show FVec Ideal Cert.ProjRefIdeal.S32768x512 .f32 from extractStridedSlice Cert.ProjRefIdeal.S32768x512 ![0, 3584] (zkProjB m c) Cert.ProjRefIdeal.Gen.slices_S32768x4680_S32768x512_0_3584) := by
  refine (dats m 0 c).arrAt_eq_of_covers 15 _ (by decide +kernel) fun t _ y => ?_
  have ht : t.val < 64 := lt_of_lt_of_eq t.isLt N_0
  blk_simp
  rw [after0_15]; frame_out
  have e : (((View.whole main_v11_11).slice (win0_15.rect t)).emb y : S32768x512.Idx)
      = ix2 ⟨t.val * 512 + (y 0).val, by have : (y 0).val < 512 := (y 0).isLt; omega⟩ ⟨(y 1).val, (y 1).isLt⟩ := by blk_ext [idx t]
  rw [e]
  rw [show y = ix2 (⟨(y 0).val, (y 0).isLt⟩ : Fin 512) (⟨(y 1).val, (y 1).isLt⟩ : Fin 512) from by blk_ext]
  generalize hr : (⟨(y 0).val, (y 0).isLt⟩ : Fin 512) = r
  generalize hl : (⟨(y 1).val, (y 1).isLt⟩ : Fin 512) = l
  clear hr hl e y
  try rw [pay19_eq]
  try rw [pay20_eq]
  pointwise [k0_pay1]
  exact seg_at m c t r _ rfl ⟨3584 + l.val, by omega⟩ _ rfl

/-- Result 12 of the call is the reference's. -/
theorem final16 (c : Dev nD) : (dats m 0 c).arrAt 16 (cfgs 0).N = (show FVec Ideal Cert.ProjRefIdeal.S32768x512 .bf16 from truncf .bf16 (mulf (extractStridedSlice Cert.ProjRefIdeal.S32768x512 ![0, 4096] (zkProjB m c) Cert.ProjRefIdeal.Gen.slices_S32768x4680_S32768x512_0_4096) (broadcastInDim Cert.ProjRefIdeal.S32768x512 ![] Cert.ProjRefIdeal.Gen.bcast_S_S32768x512 (constant Cert.ProjRefIdeal.S_ .f32 0x3E000000#32))) Cert.ProjRefIdeal.Gen.bitsLt_bf16_f32) := by
  refine (dats m 0 c).arrAt_eq_of_covers 16 _ (by decide +kernel) fun t _ y => ?_
  have ht : t.val < 64 := lt_of_lt_of_eq t.isLt N_0
  blk_simp
  rw [after0_16]; frame_out
  have e : (((View.whole main_v11_12).slice (win0_16.rect t)).emb y : S32768x512.Idx)
      = ix2 ⟨t.val * 512 + (y 0).val, by have : (y 0).val < 512 := (y 0).isLt; omega⟩ ⟨(y 1).val, (y 1).isLt⟩ := by blk_ext [idx t]
  rw [e]
  rw [show y = ix2 (⟨(y 0).val, (y 0).isLt⟩ : Fin 512) (⟨(y 1).val, (y 1).isLt⟩ : Fin 512) from by blk_ext]
  generalize hr : (⟨(y 0).val, (y 0).isLt⟩ : Fin 512) = r
  generalize hl : (⟨(y 1).val, (y 1).isLt⟩ : Fin 512) = l
  clear hr hl e y
  try rw [pay19_eq]
  try rw [pay20_eq]
  pointwise [k0_pay2]
  exact Ideal.mul_congr (seg_at m c t r _ rfl ⟨4096 + l.val, by omega⟩ _ rfl) rfl

/-- Result 13 of the call is the reference's. -/
theorem final17 (c : Dev nD) : (dats m 0 c).arrAt 17 (cfgs 0).N = (show FVec Ideal Cert.ProjRefIdeal.S32768x64 .f32 from (extractStridedSlice Cert.ProjRefIdeal.S32768x64 ![0, 4608] (zkProjB m c) Cert.ProjRefIdeal.Gen.slices_S32768x4680_S32768x64_0_4608)) := by
  refine (dats m 0 c).arrAt_eq_of_covers 17 _ (by decide +kernel) fun t _ y => ?_
  have ht : t.val < 64 := lt_of_lt_of_eq t.isLt N_0
  blk_simp
  rw [after0_17]; frame_out
  have e : (((View.whole main_v11_13).slice (win0_17.rect t)).emb y : S32768x64.Idx)
      = ix2 ⟨t.val * 512 + (y 0).val, by have : (y 0).val < 512 := (y 0).isLt; omega⟩ ⟨(y 1).val, (y 1).isLt⟩ := by blk_ext [idx t]
  rw [e]
  rw [show y = ix2 (⟨(y 0).val, (y 0).isLt⟩ : Fin 512) (⟨(y 1).val, (y 1).isLt⟩ : Fin 64) from by blk_ext]
  generalize hr : (⟨(y 0).val, (y 0).isLt⟩ : Fin 512) = r
  generalize hl : (⟨(y 1).val, (y 1).isLt⟩ : Fin 64) = l
  clear hr hl e y
  try rw [pay19_eq]
  try rw [pay20_eq]
  pointwise [k0_pay4, k0_pay3]
  exact tseg_at m c t r _ rfl ⟨l.val, by omega⟩ (by dsimp only; omega) _ (by dsimp only; split <;> omega)

/-- Result 14 of the call is the reference's. -/
theorem final18 (c : Dev nD) : (dats m 0 c).arrAt 18 (cfgs 0).N = (show FVec Ideal Cert.ProjRefIdeal.S32768x128 .bf16 from truncf .bf16 (concatenate Cert.ProjRefIdeal.S32768x128 1 [⟨Cert.ProjRefIdeal.S32768x64, (extractStridedSlice Cert.ProjRefIdeal.S32768x64 ![0, 4608] (zkProjB m c) Cert.ProjRefIdeal.Gen.slices_S32768x4680_S32768x64_0_4608)⟩, ⟨Cert.ProjRefIdeal.S32768x64, (extractStridedSlice Cert.ProjRefIdeal.S32768x64 ![0, 4608] (zkProjB m c) Cert.ProjRefIdeal.Gen.slices_S32768x4680_S32768x64_0_4608)⟩] Cert.ProjRefIdeal.Gen.concatenates_S32768x64_S32768x64_S32768x128_d1) Cert.ProjRefIdeal.Gen.bitsLt_bf16_f32) := by
  refine (dats m 0 c).arrAt_eq_of_covers 18 _ (by decide +kernel) fun t _ y => ?_
  have ht : t.val < 64 := lt_of_lt_of_eq t.isLt N_0
  blk_simp
  rw [after0_18]; frame_out
  have e : (((View.whole main_v11_14).slice (win0_18.rect t)).emb y : S32768x128.Idx)
      = ix2 ⟨t.val * 512 + (y 0).val, by have : (y 0).val < 512 := (y 0).isLt; omega⟩ ⟨(y 1).val, (y 1).isLt⟩ := by blk_ext [idx t]
  rw [e]
  rw [show y = ix2 (⟨(y 0).val, (y 0).isLt⟩ : Fin 512) (⟨(y 1).val, (y 1).isLt⟩ : Fin 128) from by blk_ext]
  generalize hr : (⟨(y 0).val, (y 0).isLt⟩ : Fin 512) = r
  generalize hl : (⟨(y 1).val, (y 1).isLt⟩ : Fin 128) = l
  clear hr hl e y
  try rw [pay19_eq]
  try rw [pay20_eq]
  pointwise [k0_pay5, k0_pay3]
  split
  · exact tseg_at m c t r _ rfl ⟨l.val, by omega⟩ (by dsimp only; omega) _ (by dsimp only; split <;> omega)
  · exact tseg_at m c t r _ rfl ⟨l.val, by omega⟩ (by dsimp only; omega) _ (by dsimp only; split <;> omega)

/-- Result 15 of the call is the reference's. -/
theorem final19 (c : Dev nD) : (dats m 0 c).arrAt 19 (cfgs 0).N = (show FVec Ideal Cert.ProjRefIdeal.S32768x8 .f32 from mulf (extractStridedSlice Cert.ProjRefIdeal.S32768x8 ![0, 4672] (zkProjB m c) Cert.ProjRefIdeal.Gen.slices_S32768x4680_S32768x8_0_4672) (broadcastInDim Cert.ProjRefIdeal.S32768x8 ![] Cert.ProjRefIdeal.Gen.bcast_S_S32768x8 (constant Cert.ProjRefIdeal.S_ .f32 0x3EB504F3#32))) := by
  refine (dats m 0 c).arrAt_eq_of_covers 19 _ (by decide +kernel) fun t _ y => ?_
  have ht : t.val < 64 := lt_of_lt_of_eq t.isLt N_0
  blk_simp
  rw [after0_19]; frame_out
  have e : (((View.whole main_v11_15).slice (win0_19.rect t)).emb y : S32768x8.Idx)
      = ix2 ⟨t.val * 512 + (y 0).val, by have : (y 0).val < 512 := (y 0).isLt; omega⟩ ⟨(y 1).val, (y 1).isLt⟩ := by blk_ext [idx t]
  rw [e]
  rw [show y = ix2 (⟨(y 0).val, (y 0).isLt⟩ : Fin 512) (⟨(y 1).val, (y 1).isLt⟩ : Fin 8) from by blk_ext]
  generalize hr : (⟨(y 0).val, (y 0).isLt⟩ : Fin 512) = r
  generalize hl : (⟨(y 1).val, (y 1).isLt⟩ : Fin 8) = l
  clear hr hl e y
  try rw [pay19_eq]
  try rw [pay20_eq]
  pointwise [k0_pay6, k0_pay3]
  exact Ideal.mul_congr (tseg_at m c t r _ rfl ⟨128 + l.val, by omega⟩ (by dsimp only; omega) _ (by dsimp only; split <;> omega)) rfl

end Cert.ProjIdeal.Value

end
-- ==== Proof.ProjClaim.lean ====
/- The input projection: kernel and reference end with equal results. -/
module

public import proofs.«01_k».proof.Defs
public import proofs.«01_k».proof.Proof.ProjA
public import proofs.«01_k».proof.Proof.ProjB
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof

set_option maxHeartbeats 1600000 in
/-- On equal arguments the projection kernel's sixteen results are the reference's. -/
theorem proj : @Cert.algebraic_ProjIdeal_ProjRefIdeal Cert.ProjIdeal.Gen.facts Cert.ProjRefIdeal.Gen.facts := by
  pair_intro
  · run_from Cert.ProjIdeal.Value.run_blocks m g
  · run_from Cert.ProjRefIdeal.Value.run m' g'
    · exact (Cert.ProjIdeal.Value.final4 m c).symm
    · exact (Cert.ProjIdeal.Value.final5 m c).symm
    · exact (Cert.ProjIdeal.Value.final6 m c).symm
    · exact (Cert.ProjIdeal.Value.final7 m c).symm
    · exact (Cert.ProjIdeal.Value.final8 m c).symm
    · exact (Cert.ProjIdeal.Value.final9 m c).symm
    · exact (Cert.ProjIdeal.Value.final10 m c).symm
    · exact (Cert.ProjIdeal.Value.final11 m c).symm
    · exact (Cert.ProjIdeal.Value.final12 m c).symm
    · exact (Cert.ProjIdeal.Value.final13 m c).symm
    · exact (Cert.ProjIdeal.Value.final14 m c).symm
    · exact (Cert.ProjIdeal.Value.final15 m c).symm
    · exact (Cert.ProjIdeal.Value.final16 m c).symm
    · exact (Cert.ProjIdeal.Value.final17 m c).symm
    · have h2 := (hagree c).2.2
      rw [h2]
      exact (Cert.ProjIdeal.Value.final18 m c).symm
    · exact (Cert.ProjIdeal.Value.final19 m c).symm

end Cert.Proof

end
-- ==== Proof.ResidRef.lean ====
/- What the residual update's reference computes, row by row. -/
module

public import proofs.«01_k».proof.Proof.Gen.ResidRefIdeal.Run
public import proofs.«01_k».proof.Proof.ResidSpec

@[expose] public section

set_option maxRecDepth 16384

noncomputable section

open Idealize.ShloMosaic Idealize.ShloMosaic.TcCoe Idealize.SL.Sem

namespace Cert.ResidRefIdeal.Value

open Cert.ResidRefIdeal Cert.ResidRefIdeal.Gen ResidRow

/-- `a · silu(d)` on rows, as the reference writes it. -/
def gated (a d : FVec Ideal S32768x512 .f32) : FVec Ideal S4x8192x512 .f32 :=
  mulf (shapeCast _ a shapeCasts_S32768x512_S4x8192x512) (mulf (shapeCast _ d shapeCasts_S32768x512_S4x8192x512) (Host.divf (broadcastInDim S4x8192x512 ![] bcast_S_S4x8192x512 (constant S_ .f32 0x3F800000#32)) (addf (broadcastInDim S4x8192x512 ![] bcast_S_S4x8192x512 (constant S_ .f32 0x3F800000#32)) (Host.exp (Host.negf (shapeCast _ d shapeCasts_S32768x512_S4x8192x512))))))

/-- The stream after the output projection. -/
def hid (x : FVec Ideal S4x8192x1024 .f32) (a b d e : FVec Ideal S32768x512 .f32) (wo : FVec Ideal S1x1024x1024 .f32) : FVec Ideal S4x8192x1024 .f32 :=
  addf x (Host.dotGeneral dot_S4x8192x1024_S1024x1024_S4x8192x1024_2_0_01_1_n_n none (concatenate S4x8192x1024 2 [⟨S4x8192x512, gated a d⟩, ⟨S4x8192x512, gated b e⟩] concatenates_S4x8192x512_S4x8192x512_S4x8192x1024_d2) (shapeCast _ wo shapeCasts_S1x1024x1024_S1024x1024))

/-- The root-mean-square normalisation without its scale. -/
def nrm (h : FVec Ideal S4x8192x1024 .f32) : FVec Ideal S4x8192x1024 .f32 :=
  mulf h (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf h h) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))

/-- The stream after the gated projection. -/
def upd (h : FVec Ideal S4x8192x1024 .f32) (p : FVec Ideal S1x4x8192x256 .f32) (gp : FVec Ideal S1x1024 .f32) (wg : FVec Ideal S1x1024x1024 .f32)
    (wp : FVec Ideal S1x256x1024 .f32) : FVec Ideal S4x8192x1024 .f32 :=
  addf h (mulf (Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf (Host.dotGeneral dot_S4x8192x1024_S1024x1024_S4x8192x1024_2_0_01_1_n_n none (mulf (nrm h) (broadcastInDim S4x8192x1024 ![0, 1, 2] bcast_S1x1x1024_S4x8192x1024_0_1_2 (broadcastInDim S1x1x1024 ![2] bcast_S1024_S1x1x1024_2 (shapeCast _ gp shapeCasts_S1x1024_S1024)))) (shapeCast _ wg shapeCasts_S1x1024x1024_S1024x1024)))))) (Host.dotGeneral dot_S4x8192x256_S256x1024_S4x8192x1024_2_0_01_1_n_n none (shapeCast _ p shapeCasts_S1x4x8192x256_S4x8192x256) (shapeCast _ wp shapeCasts_S1x256x1024_S256x1024)))

/-- The normalised stream as rows: the reference's result. -/
def fin (h : FVec Ideal S4x8192x1024 .f32) (g : FVec Ideal S1024 .f32) : FVec Ideal S32768x1024 .f32 :=
  shapeCast _ (mulf (nrm h) (broadcastInDim S4x8192x1024 ![0, 1, 2] bcast_S1x1x1024_S4x8192x1024_0_1_2 (broadcastInDim S1x1x1024 ![2] bcast_S1024_S1x1x1024_2 g))) shapeCasts_S4x8192x1024_S32768x1024

/-- The reference's result is the composition of the four steps above. -/
theorem res_eq (m : (ℓ : Loc nD τ sig) → Buf (Elt Ideal) ℓ) (c : Dev nD) : res_out0 m c
    = fin (upd (hid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)))
        (m ((c.tc : Thread nD τ).loc main_arg5)) (m ((c.tc : Thread nD τ).loc main_arg7)) (m ((c.tc : Thread nD τ).loc main_arg8)) (m ((c.tc : Thread nD τ).loc main_arg9)))
        (m ((c.tc : Thread nD τ).loc main_arg10)) := by
  unfold res_out0 res_main_v52 fin upd hid nrm gated
  rfl

theorem gated_at (a d : FVec Ideal S32768x512 .f32) (b : Fin 4) (s : Fin 8192) (k : Fin 512) :
    gated a d (ix3 b s k) = a (ix2 ⟨b * 8192 + s, by omega⟩ k) * (d (ix2 ⟨b * 8192 + s, by omega⟩ k) * sigm (d (ix2 ⟨b * 8192 + s, by omega⟩ k))) := by
  pointwise [gated]
  simp only [sigm]

theorem hid_at (x : FVec Ideal S4x8192x1024 .f32) (a b d e : FVec Ideal S32768x512 .f32) (wo : FVec Ideal S1x1024x1024 .f32)
    (i : Fin 4) (s : Fin 8192) (l : Fin 1024) :
    hid x a b d e wo (ix3 i s l) = h1 (fun l => x (ix3 i s l)) (fun k => gated a d (ix3 i s k)) (fun k => gated b e (ix3 i s k)) (fun k l => wo (ix3 0 k l)) l := by
  pointwise [hid]
  simp only [h1, add_assoc]

theorem nrm_at (h : FVec Ideal S4x8192x1024 .f32) (g : Fin 1024 → EReal) (i : Fin 4) (s : Fin 8192) (l : Fin 1024) :
    nrm h (ix3 i s l) * g l = rms (fun l => h (ix3 i s l)) g l := by
  pointwise [nrm]
  simp only [rms]

theorem upd_at (h : FVec Ideal S4x8192x1024 .f32) (p : FVec Ideal S1x4x8192x256 .f32) (gp : FVec Ideal S1x1024 .f32) (wg : FVec Ideal S1x1024x1024 .f32)
    (wp : FVec Ideal S1x256x1024 .f32) (i : Fin 4) (s : Fin 8192) (l : Fin 1024) :
    upd h p gp wg wp (ix3 i s l) = h2 (fun l => h (ix3 i s l)) (fun k => p (ix4 0 i s k)) (fun l => gp (ix2 0 l)) (fun k l => wg (ix3 0 k l)) (fun k l => wp (ix3 0 k l)) l := by
  pointwise [upd]
  simp only [h2, sigm, ← nrm_at]

theorem fin_at (h : FVec Ideal S4x8192x1024 .f32) (g : FVec Ideal S1024 .f32) (r : Fin 32768) (l : Fin 1024) :
    fin h g (ix2 r l) = rms (fun l => h (ix3 ⟨r / 8192, by omega⟩ ⟨r % 8192, by omega⟩ l)) (fun l => g (ix1 l)) l := by
  rw [← nrm_at]
  pointwise [fin]

end Cert.ResidRefIdeal.Value

end
-- ==== Proof.ResidValue.lean ====
/- The residual update: the kernel's result array is the reference's result of the same arguments. -/
module

public import proofs.«01_k».proof.Proof.Gen.ResidIdeal.Value
public import proofs.«01_k».proof.Proof.ResidRef
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ResidIdeal.Value

open Cert.ResidIdeal Cert.ResidIdeal.Gen ResidRow

variable (m : (ℓ : Loc nD τ sig) → Buf (Elt Ideal) ℓ)

/-- The windows' block indices at every grid point: the row windows move with the point, the weights stay. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![0, 0] ∧ win0_7.index t = ![0, 0] ∧ win0_8.index t = ![0, 0] ∧ win0_9.index t = ![0, 0]
    ∧ win0_10.index t = ![0, 0] ∧ win0_11.index t = ![t.val, 0] :=
  (by decide +kernel : ∀ t : Fin grid0.N, _)

/-- The reference's result over the kernel's argument arrays. -/
abbrev goal (c : Dev nD) : FVec Ideal S32768x1024 .f32 :=
  Cert.ResidRefIdeal.Value.fin (Cert.ResidRefIdeal.Value.upd (Cert.ResidRefIdeal.Value.hid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)))
        (m ((c : Thread nD τ).loc main_arg5)) (m ((c : Thread nD τ).loc main_arg7)) (m ((c : Thread nD τ).loc main_arg8)) (m ((c : Thread nD τ).loc main_arg9)))
        (m ((c : Thread nD τ).loc main_arg10))

/-- One row of one block: when the staged blocks hold row `R` of the row arrays and the whole weights, the body's stored
    payload at (`r`, `l`) is the reference's result at (`R`, `l`). -/
theorem core (b0 : FVec Ideal S512x1024 .f32) (b1 b2 b3 b4 : FVec Ideal S512x512 .f32) (b5 : FVec Ideal S512x256 .f32)
    (w1 w2 : FVec Ideal S512x1024 .bf16) (b7 : FVec Ideal S1x1024 .f32) (b8 : FVec Ideal S1024x1024 .bf16) (b9 : FVec Ideal S256x1024 .bf16) (b10 : FVec Ideal S1x1024 .f32)
    (X : FVec Ideal S4x8192x1024 .f32) (A1 A2 A3 A4 : FVec Ideal S32768x512 .f32) (P : FVec Ideal S1x4x8192x256 .f32)
    (W : FVec Ideal S1x1024x1024 .f32) (G : FVec Ideal S1x1024 .f32) (Wg : FVec Ideal S1x1024x1024 .f32) (Wp : FVec Ideal S1x256x1024 .f32)
    (Gf : FVec Ideal S1024 .f32) (R : Fin 32768) (r : Fin 512)
    (h0 : ∀ l : Fin 1024, b0 (ix2 r l) = X (ix3 ⟨R / 8192, by omega⟩ ⟨R % 8192, by omega⟩ l))
    (h1' : ∀ k : Fin 512, b1 (ix2 r k) = A1 (ix2 R k)) (h2' : ∀ k : Fin 512, b2 (ix2 r k) = A2 (ix2 R k))
    (h3 : ∀ k : Fin 512, b3 (ix2 r k) = A3 (ix2 R k)) (h4 : ∀ k : Fin 512, b4 (ix2 r k) = A4 (ix2 R k))
    (h5 : ∀ k : Fin 256, b5 (ix2 r k) = P (ix4 0 ⟨R / 8192, by omega⟩ ⟨R % 8192, by omega⟩ k))
    (hw1 : ∀ (k : Fin 512) (l : Fin 1024), w1 (ix2 k l) = W (ix3 0 ⟨k, by omega⟩ l))
    (hw2 : ∀ (k : Fin 512) (l : Fin 1024), w2 (ix2 k l) = W (ix3 0 ⟨512 + k, by omega⟩ l))
    (h7 : ∀ l : Fin 1024, b7 (ix2 0 l) = G (ix2 0 l)) (h8 : ∀ k l : Fin 1024, b8 (ix2 k l) = Wg (ix3 0 k l))
    (h9 : ∀ (k : Fin 256) (l : Fin 1024), b9 (ix2 k l) = Wp (ix3 0 k l)) (h10 : ∀ l : Fin 1024, b10 (ix2 0 l) = Gf (ix1 l))
    (l : Fin 1024) :
    k0_pay4 (F := Ideal) (k0_pay1 b1 b3 b2 b4 b0 w1 w2) (k0_pay2 b7) (k0_pay3 b1 b3 b2 b4 b0 w1 w2) (FloatOps.ofBits .f32 0x44800000#32) b8 b5 b9 b10 (ix2 r l)
      = Cert.ResidRefIdeal.Value.fin (Cert.ResidRefIdeal.Value.upd (Cert.ResidRefIdeal.Value.hid X A1 A2 A3 A4 W) P G Wg Wp) Gf (ix2 R l) := by
  have hR : (⟨(⟨(R : ℕ) / 8192, by omega⟩ : Fin 4) * 8192 + (⟨(R : ℕ) % 8192, by omega⟩ : Fin 8192), by dsimp only; omega⟩ : Fin 32768) = R :=
    Fin.ext (by dsimp only; omega)
  refine (pay4_at _ _ _ b8 b5 b9 b10 r (by pointwise [k0_pay3]) l).trans ?_
  refine Eq.trans ?_ (Cert.ResidRefIdeal.Value.fin_at _ Gf R l).symm
  have e7 : ∀ l : Fin 1024, k0_pay2 (F := Ideal) b7 (ix2 0 l) = G (ix2 0 l) := fun l => by pointwise [k0_pay2]; exact h7 l
  have eh : ∀ l : Fin 1024, k0_pay1 (F := Ideal) b1 b3 b2 b4 b0 w1 w2 (ix2 r l)
      = Cert.ResidRefIdeal.Value.hid X A1 A2 A3 A4 W (ix3 ⟨R / 8192, by omega⟩ ⟨R % 8192, by omega⟩ l) := fun l => by
    refine (pay1_at b1 b3 b2 b4 b0 w1 w2 (fun k l => W (ix3 0 k l)) hw1 hw2 r l).trans ?_
    refine Eq.trans ?_ (Cert.ResidRefIdeal.Value.hid_at ..).symm
    simp only [h0, h1', h2', h3, h4, Cert.ResidRefIdeal.Value.gated_at, hR]
  simp only [Cert.ResidRefIdeal.Value.upd_at, e7, eh, h5, h8, h9, h10]

/-- The staged output weights are the whole weight argument. -/
theorem wout_at (c : Dev nD) (t : Fin cfg0.N) (k l : Fin 1024) :
    (show FVec Ideal S1024x1024 .bf16 from iblk m c 6 t) (ix2 k l) = m ((c : Thread nD τ).loc main_arg6) (ix3 0 k l) := by
  blk_point [iblk, V, idx t]

/-- The result array after the run is the reference's result. -/
theorem final (c : Dev nD) : (dats m 0 c).arrAt 11 (cfgs 0).N = goal m c := by
  refine (dats m 0 c).arrAt_eq_of_covers 11 _ (by decide +kernel) fun t _ y => ?_
  have ht : t.val < 64 := lt_of_lt_of_eq t.isLt N_0
  blk_simp
  rw [after0_11]; frame_out
  have e : (((View.whole main_v12).slice (win0_11.rect t)).emb y : S32768x1024.Idx)
      = ix2 ⟨t.val * 512 + (y 0).val, by have : (y 0).val < 512 := (y 0).isLt; omega⟩ ⟨(y 1).val, (y 1).isLt⟩ := by
    blk_ext [idx t]
  rw [e]
  rw [show y = ix2 (⟨(y 0).val, (y 0).isLt⟩ : Fin 512) (⟨(y 1).val, (y 1).isLt⟩ : Fin 1024) from by blk_ext]
  refine core (iblk m c 0 t) (iblk m c 1 t) (iblk m c 2 t) (iblk m c 3 t) (iblk m c 4 t) (iblk m c 5 t) _ _ (iblk m c 7 t) (iblk m c 8 t) (iblk m c 9 t) (iblk m c 10 t)
    _ _ _ _ _ _ _ _ _ _ _ _ _ ?_ ?_ ?_ ?_ ?_ ?_ ?_ ?_ ?_ ?_ ?_ ?_ _
  all_goals intros
  case refine_7 => pointwise; refine Eq.trans ?_ (wout_at m c t _ _); rfl
  case refine_8 => pointwise; refine Eq.trans ?_ (wout_at m c t _ _); rfl
  all_goals blk_point [iblk, V, idx t]

end Cert.ResidIdeal.Value

end
-- ==== Proof.ResidClaim.lean ====
/- The residual update: kernel and reference end with equal results. -/
module

public import proofs.«01_k».proof.Defs
public import proofs.«01_k».proof.Proof.ResidValue
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof

set_option maxHeartbeats 1600000 in
/-- On equal arguments the residual kernel's result is the reference's. -/
theorem resid : @Cert.algebraic_ResidIdeal_ResidRefIdeal Cert.ResidIdeal.Gen.facts Cert.ResidRefIdeal.Gen.facts := by
  pair_intro
  · run_from Cert.ResidIdeal.Value.run_blocks m g
  · run_from Cert.ResidRefIdeal.Value.run m' g'
    obtain ⟨h0, h1, h2, h3, h4, h5, h6, h7, h8, h9, h10⟩ := hagree c
    refine Eq.trans ?_ (Cert.ResidIdeal.Value.final m c).symm
    refine (Cert.ResidRefIdeal.Value.res_eq m' c).trans ?_
    rw [h0, h1, h2, h3, h4, h5, h6, h7, h8, h9, h10]

end Cert.Proof

end
-- ==== Proof.AttnStep.lean ====
/- One step of the attention kernel's running softmax, as functions of the row and the lane. -/
module

public import proofs.«01_k».proof.AttnIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnMath

/-- What the three scratch buffers hold: the running maximum, the running normaliser, the running weighted sum. -/
structure St where
  /-- the running maximum of row `r` (in every lane) -/
  mx : Fin 512 → Fin 128 → EReal
  /-- the running normaliser of row `r` (in every lane) -/
  nr : Fin 512 → Fin 128 → EReal
  /-- the running weighted sum of the value rows -/
  ac : Fin 512 → Fin 128 → EReal

/-- The largest of 256 scores (`⊥` if there were none). -/
def rowMax (s : Fin 256 → EReal) : EReal := Finset.univ.fold max ⊥ s

/-- A tile's maximum folded into the running maximum. -/
def stepM (s : Fin 512 → Fin 256 → EReal) (off : EReal) (m : Fin 512 → Fin 128 → EReal) (r : Fin 512) (d : Fin 128) : EReal :=
  max (m r d) (rowMax (s r) - off)

/-- The tile's unnormalised weights, over the new running maximum of lane 0. -/
def stepP (s : Fin 512 → Fin 256 → EReal) (off : EReal) (m : Fin 512 → Fin 128 → EReal) (r : Fin 512) (c : Fin 256) : EReal :=
  (Ideal.exp (s r c - (stepM s off m r 0 + off) : EReal) : EReal)

/-- What the older weights are scaled by. -/
def stepA (s : Fin 512 → Fin 256 → EReal) (off : EReal) (m : Fin 512 → Fin 128 → EReal) (r : Fin 512) (d : Fin 128) : EReal :=
  (Ideal.exp (m r d - stepM s off m r d : EReal) : EReal)

/-- One tile of scores `s` (still without the tile's offset) and value rows `v` folded into the running softmax. -/
def step (s : Fin 512 → Fin 256 → EReal) (v : Fin 256 → Fin 128 → EReal) (off : EReal) (S : St) : St where
  mx := stepM s off S.mx
  nr := fun r d => stepA s off S.mx r d * S.nr r d + ∑ c, stepP s off S.mx r c
  ac := fun r d => stepA s off S.mx r d * S.ac r d + ∑ c, stepP s off S.mx r c * v c d

/-- The scores of a tile: query row times key row plus the bias. -/
def score (q : Fin 512 → Fin 128 → EReal) (b : Fin 512 → Fin 256 → EReal) (k : Fin 256 → Fin 128 → EReal) (r : Fin 512) (c : Fin 256) : EReal :=
  (∑ d, q r d * k c d) + b r c

/-- A 2-d array as a function of row and lane. -/
def fn2 {a b : Nat} (v : (⟨2, ![a, b]⟩ : Shape).Idx → EReal) (r : Fin a) (d : Fin b) : EReal := v (ix2 r d)

/-- Lanes `o ..` of tile `j` of a three-axis array. -/
def tile (o : Nat) (ho : o + 128 ≤ 512) (X : FVec Ideal ⟨3, ![32, 256, 512]⟩ .bf16) (j : Fin 32) (c : Fin 256) (d : Fin 128) : EReal :=
  X (ix3 j c ⟨o + d.val, by omega⟩)

/-- Tile number `k` (below 32). -/
def jj (k : Nat) : Fin 32 := ⟨k % 32, Nat.mod_lt _ (by decide)⟩

/-- The state after `k` tiles. -/
def run (s : Nat → Fin 512 → Fin 256 → EReal) (v : Nat → Fin 256 → Fin 128 → EReal) (off : Nat → EReal) : Nat → St → St
  | 0, S => S
  | k + 1, S => step (s k) (v k) (off k) (run s v off k S)

end Cert.AttnMath

end
-- ==== Proof.AttnTripBase.lean ====
/- Reading back a buffer whose last store covers it, and the tile offset. -/
module

public import proofs.«01_k».proof.Proof.Gen.AttnIdeal.Value
public import proofs.«01_k».proof.Proof.AttnStep
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnIdeal.Value
open Cert.AttnIdeal Cert.AttnIdeal.Gen Cert.AttnMath

/-- The offset of tile `k`, as the kernel's scalar code computes it. -/
def toff (w : BitVec 32) (a : BitVec 32) (k : Nat) : EReal :=
  (Scalar.mulf (FloatOps.ofBits (F := Ideal) .f32 w) (Scalar.sitofp .f32 (Scalar.muli (Scalar.subi a (Scf.iv 0#32 1#32 k)) 256#32)) : Ideal .f32)

theorem hz : (![0, 0] : Fin 2 → Nat) = fun _ => 0 := by funext a; fin_cases a <;> rfl

/-- The pattern of negative infinity is `⊥`. -/
theorem ninf : Ideal.ofBits .f32 0xFF800000#32 = ⊥ := by
  simp [Ideal.ofBits, Ideal.ieee]

/-- A trip's index as the row of the three-axis blocks. -/
theorem iv_val (j : Fin 32) (k : Nat) (hj : j.val = k) : BitVec.toNat (Scalar.indexCast (Scf.iv 0#32 1#32 k) : BitVec 32) = j.val := by
  subst hj; revert j; decide +kernel

/-- Block `j` of a three-axis array, its first axis kept. -/
def blk (X : FVec Ideal S32x256x512 .bf16) (j : Fin 32) : FVec Ideal S1x256x512 .bf16 := fun y => X (ix3 j (y 1) (y 2))

theorem blk_apply (X : FVec Ideal S32x256x512 .bf16) (j : Fin 32) (a : Fin 1) (b : Fin 256) (d : Fin 512) :
    blk X j (ix3 a b d) = X (ix3 j b d) := rfl

/-- The load of one row of the three-axis array is its block. -/
theorem ld_blk (X : FVec Ideal S32x256x512 .bf16) (j : Fin 32) (off : Fin 3 → Nat) (h : off = ![j.val, 0, 0])
    (inb : ∀ a, off a + S1x256x512.size a ≤ S32x256x512.size a) :
    View.ld (Val := Elt Ideal) (e' := .bf16) X (Rect.unit (s := S32x256x512) off S1x256x512.size inb) = blk X j := by
  subst h
  funext y
  unfold blk
  show X _ = X _
  congr 1
  funext a
  fin_cases a
  · have h0 : (y 0).val = 0 := by have := (y 0).isLt; change _ < 1 at this; omega
    apply Fin.ext
    show j.val + 1 * (y 0).val = j.val
    omega
  · apply Fin.ext
    show 0 + 1 * (y 1).val = (y 1).val
    omega
  · apply Fin.ext
    show 0 + 1 * (y 2).val = (y 2).val
    omega

/-- The last store over the whole buffer is what the buffer reads. -/
theorem read_last {sig : RefSig} {κ : Kind} {sp : Space} {S : Shape} {e : EltTy} (v : View sig κ sp S e) (f : v.ty.Contents (Elt Ideal))
    (off : Fin S.rank → Nat) (h : off = fun _ => 0) (inb : ∀ a, off a + S.size a ≤ S.size a) (p : S.Idx → Elt Ideal e)
    (L : List (View.Piece (Elt Ideal) S e)) :
    v.read (Elt Ideal) (v.writes (Elt Ideal) f (⟨Rect.unit off S.size inb, p⟩ :: L)) = p := by
  rw [View.read_writes_eq_canon v f (⟨Rect.unit off S.size inb, p⟩ :: L) (fun y => ⟨⟨Rect.unit off S.size inb, p⟩, List.mem_cons_self, View.mem_set_unit_zero h inb y⟩)]
  exact View.canon_cons_unit_zero h inb p L

end Cert.AttnIdeal.Value

end
-- ==== Proof.AttnLoopBase.lean ====
/- Reading the three scratch buffers as one state. -/
module

public import proofs.«01_k».proof.Proof.AttnTripBase

@[expose] public section

set_option maxRecDepth 16384

noncomputable section

open Idealize.ShloMosaic Idealize.ShloMosaic.TcCoe Idealize.SL.Sem
open Idealize.ShloMosaic.Pipeline (Dat)

namespace Cert.AttnIdeal.Value
open Cert.AttnIdeal Cert.AttnIdeal.Gen Cert.AttnMath

/-- The three buffers' contents as a state. -/
def rd (a8 a9 a10 : Memref sig .tc .vmem S512x128 .f32) (f8 : BufTy.Contents (Elt Ideal) a8.view.ty) (f9 : BufTy.Contents (Elt Ideal) a9.view.ty)
    (f10 : BufTy.Contents (Elt Ideal) a10.view.ty) : St :=
  ⟨fn2 (a8.view.read (Elt Ideal) f8), fn2 (a9.view.read (Elt Ideal) f9), fn2 (a10.view.read (Elt Ideal) f10)⟩

/-- A function of row and lane as an array. -/
def vec (f : Fin 512 → Fin 128 → EReal) : FVec Ideal S512x128 .f32 := fun y => f (y 0) (y 1)

theorem vec_apply (f : Fin 512 → Fin 128 → EReal) (r : Fin 512) (d : Fin 128) : vec f (ix2 r d) = f r d := rfl

theorem vec_fn2 (v : FVec Ideal S512x128 .f32) : vec (fn2 v) = v := by
  funext y; idx_vars y; rfl

theorem fn2_vec (f : Fin 512 → Fin 128 → EReal) : fn2 (vec f) = f := rfl

/-- Two states that agree at every row and lane are the same. -/
theorem St.ext_at {A B : St} (h1 : ∀ r d, A.mx r d = B.mx r d) (h2 : ∀ r d, A.nr r d = B.nr r d) (h3 : ∀ r d, A.ac r d = B.ac r d) : A = B := by
  cases A; cases B
  congr 1
  · funext r d; exact h1 r d
  · funext r d; exact h2 r d
  · funext r d; exact h3 r d

end Cert.AttnIdeal.Value

end
-- ==== Proof.AttnTrip1.lean ====
/- One trip of head 0's loop, element by element. -/
module

public import proofs.«01_k».proof.Proof.AttnTripBase

@[expose] public section

set_option maxRecDepth 16384

noncomputable section

open Idealize.ShloMosaic Idealize.ShloMosaic.TcCoe Idealize.SL.Sem
open Idealize.ShloMosaic.Pipeline (Dat)

namespace Cert.AttnIdeal.Value
open Cert.AttnIdeal Cert.AttnIdeal.Gen Cert.AttnMath

/-- Buffer 8 after one trip of head 0's loop, element by element: the step's `mx`. -/
theorem trip1_8 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v39 : FVec Ideal S512x128 .bf16) (v41 : FVec Ideal S512x256 .f32) (v42 : FVec Ideal S512x128 .f32) (X_arg5 : BufTy.Contents (Elt Ideal) arg5.view.ty) (X_arg6 : BufTy.Contents (Elt Ideal) arg6.view.ty) (k : Fin (k0_t1_loop i).trips) (f8 : BufTy.Contents (Elt Ideal) arg8.view.ty) (f9 : BufTy.Contents (Elt Ideal) arg9.view.ty) (f10 : BufTy.Contents (Elt Ideal) arg10.view.ty)  (j : Fin 32) (hj : j.val = k.val) (r : Fin 512) (d : Fin 128) :
    arg8.view.read (Elt Ideal) (arg8.view.writes (Elt Ideal) f8 (tripL_k0_t1 (F := Ideal) 𝒱 c bd i arg2 harg2 arg3 harg3 arg4 harg4 arg5 harg5 arg6 harg6 arg7 harg7 arg8 harg8 arg9 harg9 arg10 harg10 arg1 v26 v39 v41 v42 X_arg5 X_arg6 k f8 f9 f10).1) (ix2 r d)
      = (step (score (fn2 v39) (fn2 v41) (tile 0 (by decide) (arg5.view.read (Elt Ideal) X_arg5) j)) (tile 0 (by decide) (arg6.view.read (Elt Ideal) X_arg6) j)
          (toff 0x3F000000#32 arg1 k.val) ⟨fn2 (arg8.view.read (Elt Ideal) f8), fn2 (arg9.view.read (Elt Ideal) f9), fn2 (arg10.view.read (Elt Ideal) f10)⟩).mx r d := by
  have hk : BitVec.toNat (Scalar.indexCast (Scf.iv 0#32 1#32 k.val) : BitVec 32) = j.val := iv_val j k.val hj
  unfold tripL_k0_t1 trip_k0_t1
  dsimp only
  sl_unfold_words
  rw [read_last (S := S512x128) _ _ _ hz]
  simp only [View.readAt_eq_ld, View.ld_unit_zero (S := S512x128) hz]
  have hb5 := ld_blk (arg5.view.read (Elt Ideal) X_arg5) j (![BitVec.toNat (Scalar.indexCast (Scf.iv 0#32 1#32 k.val) : BitVec 32), 0, 0]) (by rw [hk])
  have hb6 := ld_blk (arg6.view.read (Elt Ideal) X_arg6) j (![BitVec.toNat (Scalar.indexCast (Scf.iv 0#32 1#32 k.val) : BitVec 32), 0, 0]) (by rw [hk])
  erw [hb5]
  pointwise [k0_pay84, k0_pay85, k0_pay86, blk_apply, ninf, step, stepM, stepP, stepA, score, rowMax, fn2, tile, toff]

/-- Buffer 9 after one trip of head 0's loop, element by element: the step's `nr`. -/
theorem trip1_9 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v39 : FVec Ideal S512x128 .bf16) (v41 : FVec Ideal S512x256 .f32) (v42 : FVec Ideal S512x128 .f32) (X_arg5 : BufTy.Contents (Elt Ideal) arg5.view.ty) (X_arg6 : BufTy.Contents (Elt Ideal) arg6.view.ty) (k : Fin (k0_t1_loop i).trips) (f8 : BufTy.Contents (Elt Ideal) arg8.view.ty) (f9 : BufTy.Contents (Elt Ideal) arg9.view.ty) (f10 : BufTy.Contents (Elt Ideal) arg10.view.ty)  (j : Fin 32) (hj : j.val = k.val) (r : Fin 512) (d : Fin 128) :
    arg9.view.read (Elt Ideal) (arg9.view.writes (Elt Ideal) f9 (tripL_k0_t1 (F := Ideal) 𝒱 c bd i arg2 harg2 arg3 harg3 arg4 harg4 arg5 harg5 arg6 harg6 arg7 harg7 arg8 harg8 arg9 harg9 arg10 harg10 arg1 v26 v39 v41 v42 X_arg5 X_arg6 k f8 f9 f10).2.1) (ix2 r d)
      = (step (score (fn2 v39) (fn2 v41) (tile 0 (by decide) (arg5.view.read (Elt Ideal) X_arg5) j)) (tile 0 (by decide) (arg6.view.read (Elt Ideal) X_arg6) j)
          (toff 0x3F000000#32 arg1 k.val) ⟨fn2 (arg8.view.read (Elt Ideal) f8), fn2 (arg9.view.read (Elt Ideal) f9), fn2 (arg10.view.read (Elt Ideal) f10)⟩).nr r d := by
  have hk : BitVec.toNat (Scalar.indexCast (Scf.iv 0#32 1#32 k.val) : BitVec 32) = j.val := iv_val j k.val hj
  unfold tripL_k0_t1 trip_k0_t1
  dsimp only
  sl_unfold_words
  rw [read_last (S := S512x128) _ _ _ hz]
  simp only [View.readAt_eq_ld, View.ld_unit_zero (S := S512x128) hz]
  have hb5 := ld_blk (arg5.view.read (Elt Ideal) X_arg5) j (![BitVec.toNat (Scalar.indexCast (Scf.iv 0#32 1#32 k.val) : BitVec 32), 0, 0]) (by rw [hk])
  have hb6 := ld_blk (arg6.view.read (Elt Ideal) X_arg6) j (![BitVec.toNat (Scalar.indexCast (Scf.iv 0#32 1#32 k.val) : BitVec 32), 0, 0]) (by rw [hk])
  erw [hb5]
  pointwise [k0_pay84, k0_pay85, k0_pay86, blk_apply, ninf, step, stepM, stepP, stepA, score, rowMax, fn2, tile, toff]

/-- Buffer 10 after one trip of head 0's loop, element by element: the step's `ac`. -/
theorem trip1_10 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v39 : FVec Ideal S512x128 .bf16) (v41 : FVec Ideal S512x256 .f32) (v42 : FVec Ideal S512x128 .f32) (X_arg5 : BufTy.Contents (Elt Ideal) arg5.view.ty) (X_arg6 : BufTy.Contents (Elt Ideal) arg6.view.ty) (k : Fin (k0_t1_loop i).trips) (f8 : BufTy.Contents (Elt Ideal) arg8.view.ty) (f9 : BufTy.Contents (Elt Ideal) arg9.view.ty) (f10 : BufTy.Contents (Elt Ideal) arg10.view.ty)  (j : Fin 32) (hj : j.val = k.val) (r : Fin 512) (d : Fin 128) :
    arg10.view.read (Elt Ideal) (arg10.view.writes (Elt Ideal) f10 (tripL_k0_t1 (F := Ideal) 𝒱 c bd i arg2 harg2 arg3 harg3 arg4 harg4 arg5 harg5 arg6 harg6 arg7 harg7 arg8 harg8 arg9 harg9 arg10 harg10 arg1 v26 v39 v41 v42 X_arg5 X_arg6 k f8 f9 f10).2.2) (ix2 r d)
      = (step (score (fn2 v39) (fn2 v41) (tile 0 (by decide) (arg5.view.read (Elt Ideal) X_arg5) j)) (tile 0 (by decide) (arg6.view.read (Elt Ideal) X_arg6) j)
          (toff 0x3F000000#32 arg1 k.val) ⟨fn2 (arg8.view.read (Elt Ideal) f8), fn2 (arg9.view.read (Elt Ideal) f9), fn2 (arg10.view.read (Elt Ideal) f10)⟩).ac r d := by
  have hk : BitVec.toNat (Scalar.indexCast (Scf.iv 0#32 1#32 k.val) : BitVec 32) = j.val := iv_val j k.val hj
  unfold tripL_k0_t1 trip_k0_t1
  dsimp only
  sl_unfold_words
  rw [read_last (S := S512x128) _ _ _ hz]
  simp only [View.readAt_eq_ld, View.ld_unit_zero (S := S512x128) hz]
  have hb5 := ld_blk (arg5.view.read (Elt Ideal) X_arg5) j (![BitVec.toNat (Scalar.indexCast (Scf.iv 0#32 1#32 k.val) : BitVec 32), 0, 0]) (by rw [hk])
  have hb6 := ld_blk (arg6.view.read (Elt Ideal) X_arg6) j (![BitVec.toNat (Scalar.indexCast (Scf.iv 0#32 1#32 k.val) : BitVec 32), 0, 0]) (by rw [hk])
  erw [hb5, hb6]
  pointwise [k0_pay84, k0_pay85, k0_pay86, blk_apply, ninf, step, stepM, stepP, stepA, score, rowMax, fn2, tile, toff]

end Cert.AttnIdeal.Value

end
-- ==== Proof.AttnLoop1.lean ====
/- The loop of head 0: as many steps of the running softmax as it has trips. -/
module

public import proofs.«01_k».proof.Proof.AttnLoopBase
public import proofs.«01_k».proof.Proof.AttnTrip1

@[expose] public section

set_option maxRecDepth 16384

noncomputable section

open Idealize.ShloMosaic Idealize.ShloMosaic.TcCoe Idealize.SL.Sem
open Idealize.ShloMosaic.Pipeline (Dat)

namespace Cert.AttnIdeal.Value
open Cert.AttnIdeal Cert.AttnIdeal.Gen Cert.AttnMath

/-- The three buffers after `n` trips of head 0's loop: `n` steps of the running softmax. -/
theorem loop1 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v39 : FVec Ideal S512x128 .bf16) (v41 : FVec Ideal S512x256 .f32) (v42 : FVec Ideal S512x128 .f32) (X_arg5 : BufTy.Contents (Elt Ideal) arg5.view.ty) (X_arg6 : BufTy.Contents (Elt Ideal) arg6.view.ty) (G8 : BufTy.Contents (Elt Ideal) arg8.view.ty) (G9 : BufTy.Contents (Elt Ideal) arg9.view.ty) (G10 : BufTy.Contents (Elt Ideal) arg10.view.ty) (hT : (k0_t1_loop i).trips ≤ 32) :
    ∀ n : Nat, n ≤ (k0_t1_loop i).trips →
    rd arg8 arg9 arg10 (arg8.view.writes (Elt Ideal) G8 (pb_k0_t1 (F := Ideal) 𝒱 c bd i arg2 harg2 arg3 harg3 arg4 harg4 arg5 harg5 arg6 harg6 arg7 harg7 arg8 harg8 arg9 harg9 arg10 harg10 arg1 v26 v39 v41 v42 X_arg5 X_arg6 G8 G9 G10 n).1) (arg9.view.writes (Elt Ideal) G9 (pb_k0_t1 (F := Ideal) 𝒱 c bd i arg2 harg2 arg3 harg3 arg4 harg4 arg5 harg5 arg6 harg6 arg7 harg7 arg8 harg8 arg9 harg9 arg10 harg10 arg1 v26 v39 v41 v42 X_arg5 X_arg6 G8 G9 G10 n).2.1) (arg10.view.writes (Elt Ideal) G10 (pb_k0_t1 (F := Ideal) 𝒱 c bd i arg2 harg2 arg3 harg3 arg4 harg4 arg5 harg5 arg6 harg6 arg7 harg7 arg8 harg8 arg9 harg9 arg10 harg10 arg1 v26 v39 v41 v42 X_arg5 X_arg6 G8 G9 G10 n).2.2)
      = run (fun k => score (fn2 v39) (fn2 v41) (tile 0 (by decide) (arg5.view.read (Elt Ideal) X_arg5) (jj k))) (fun k => tile 0 (by decide) (arg6.view.read (Elt Ideal) X_arg6) (jj k)) (toff 0x3F000000#32 arg1) n (rd arg8 arg9 arg10 G8 G9 G10)
  | 0, _ => rfl
  | n + 1, hn => by
    have ih := loop1 𝒱 c bd i arg2 harg2 arg3 harg3 arg4 harg4 arg5 harg5 arg6 harg6 arg7 harg7 arg8 harg8 arg9 harg9 arg10 harg10 arg1 v26 v39 v41 v42 X_arg5 X_arg6 G8 G9 G10 hT n (Nat.le_of_succ_le hn)
    have hj : (jj n).val = n := Nat.mod_eq_of_lt (lt_of_lt_of_le hn hT)
    rw [run, ← ih]
    have e := pb_k0_t1_succ (F := Ideal) 𝒱 c bd i arg2 harg2 arg3 harg3 arg4 harg4 arg5 harg5 arg6 harg6 arg7 harg7 arg8 harg8 arg9 harg9 arg10 harg10 arg1 v26 v39 v41 v42 X_arg5 X_arg6 G8 G9 G10 ⟨n, hn⟩
    dsimp only at e
    rw [e]
    dsimp only
    rw [View.writes_append, View.writes_append, View.writes_append]
    have e8 := trip1_8 𝒱 c bd i arg2 harg2 arg3 harg3 arg4 harg4 arg5 harg5 arg6 harg6 arg7 harg7 arg8 harg8 arg9 harg9 arg10 harg10 arg1 v26 v39 v41 v42 X_arg5 X_arg6 ⟨n, hn⟩ (arg8.view.writes (Elt Ideal) G8 (pb_k0_t1 (F := Ideal) 𝒱 c bd i arg2 harg2 arg3 harg3 arg4 harg4 arg5 harg5 arg6 harg6 arg7 harg7 arg8 harg8 arg9 harg9 arg10 harg10 arg1 v26 v39 v41 v42 X_arg5 X_arg6 G8 G9 G10 n).1) (arg9.view.writes (Elt Ideal) G9 (pb_k0_t1 (F := Ideal) 𝒱 c bd i arg2 harg2 arg3 harg3 arg4 harg4 arg5 harg5 arg6 harg6 arg7 harg7 arg8 harg8 arg9 harg9 arg10 harg10 arg1 v26 v39 v41 v42 X_arg5 X_arg6 G8 G9 G10 n).2.1) (arg10.view.writes (Elt Ideal) G10 (pb_k0_t1 (F := Ideal) 𝒱 c bd i arg2 harg2 arg3 harg3 arg4 harg4 arg5 harg5 arg6 harg6 arg7 harg7 arg8 harg8 arg9 harg9 arg10 harg10 arg1 v26 v39 v41 v42 X_arg5 X_arg6 G8 G9 G10 n).2.2) (jj n) hj
    have e9 := trip1_9 𝒱 c bd i arg2 harg2 arg3 harg3 arg4 harg4 arg5 harg5 arg6 harg6 arg7 harg7 arg8 harg8 arg9 harg9 arg10 harg10 arg1 v26 v39 v41 v42 X_arg5 X_arg6 ⟨n, hn⟩ (arg8.view.writes (Elt Ideal) G8 (pb_k0_t1 (F := Ideal) 𝒱 c bd i arg2 harg2 arg3 harg3 arg4 harg4 arg5 harg5 arg6 harg6 arg7 harg7 arg8 harg8 arg9 harg9 arg10 harg10 arg1 v26 v39 v41 v42 X_arg5 X_arg6 G8 G9 G10 n).1) (arg9.view.writes (Elt Ideal) G9 (pb_k0_t1 (F := Ideal) 𝒱 c bd i arg2 harg2 arg3 harg3 arg4 harg4 arg5 harg5 arg6 harg6 arg7 harg7 arg8 harg8 arg9 harg9 arg10 harg10 arg1 v26 v39 v41 v42 X_arg5 X_arg6 G8 G9 G10 n).2.1) (arg10.view.writes (Elt Ideal) G10 (pb_k0_t1 (F := Ideal) 𝒱 c bd i arg2 harg2 arg3 harg3 arg4 harg4 arg5 harg5 arg6 harg6 arg7 harg7 arg8 harg8 arg9 harg9 arg10 harg10 arg1 v26 v39 v41 v42 X_arg5 X_arg6 G8 G9 G10 n).2.2) (jj n) hj
    have e10 := trip1_10 𝒱 c bd i arg2 harg2 arg3 harg3 arg4 harg4 arg5 harg5 arg6 harg6 arg7 harg7 arg8 harg8 arg9 harg9 arg10 harg10 arg1 v26 v39 v41 v42 X_arg5 X_arg6 ⟨n, hn⟩ (arg8.view.writes (Elt Ideal) G8 (pb_k0_t1 (F := Ideal) 𝒱 c bd i arg2 harg2 arg3 harg3 arg4 harg4 arg5 harg5 arg6 harg6 arg7 harg7 arg8 harg8 arg9 harg9 arg10 harg10 arg1 v26 v39 v41 v42 X_arg5 X_arg6 G8 G9 G10 n).1) (arg9.view.writes (Elt Ideal) G9 (pb_k0_t1 (F := Ideal) 𝒱 c bd i arg2 harg2 arg3 harg3 arg4 harg4 arg5 harg5 arg6 harg6 arg7 harg7 arg8 harg8 arg9 harg9 arg10 harg10 arg1 v26 v39 v41 v42 X_arg5 X_arg6 G8 G9 G10 n).2.1) (arg10.view.writes (Elt Ideal) G10 (pb_k0_t1 (F := Ideal) 𝒱 c bd i arg2 harg2 arg3 harg3 arg4 harg4 arg5 harg5 arg6 harg6 arg7 harg7 arg8 harg8 arg9 harg9 arg10 harg10 arg1 v26 v39 v41 v42 X_arg5 X_arg6 G8 G9 G10 n).2.2) (jj n) hj
    exact St.ext_at e8 e9 e10

/-- Buffer 8 read after all the trips of head 0's loop. -/
theorem loop1_8 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v39 : FVec Ideal S512x128 .bf16) (v41 : FVec Ideal S512x256 .f32) (v42 : FVec Ideal S512x128 .f32) (X_arg5 : BufTy.Contents (Elt Ideal) arg5.view.ty) (X_arg6 : BufTy.Contents (Elt Ideal) arg6.view.ty) (L8 : List (View.Piece (Elt Ideal) S512x128 .f32)) (L9 : List (View.Piece (Elt Ideal) S512x128 .f32)) (L10 : List (View.Piece (Elt Ideal) S512x128 .f32)) (T : Nat) (hT : T = (k0_t1_loop i).trips) (hT2 : (k0_t1_loop i).trips ≤ 32) :
    arg8.view.read (Elt Ideal) (arg8.view.writes (Elt Ideal) arg8.view.junk ((pb_k0_t1 (F := Ideal) 𝒱 c bd i arg2 harg2 arg3 harg3 arg4 harg4 arg5 harg5 arg6 harg6 arg7 harg7 arg8 harg8 arg9 harg9 arg10 harg10 arg1 v26 v39 v41 v42 X_arg5 X_arg6 (arg8.view.writes (Elt Ideal) arg8.view.junk L8) (arg9.view.writes (Elt Ideal) arg9.view.junk L9) (arg10.view.writes (Elt Ideal) arg10.view.junk L10) T).1 ++ L8))
      = vec (run (fun k => score (fn2 v39) (fn2 v41) (tile 0 (by decide) (arg5.view.read (Elt Ideal) X_arg5) (jj k))) (fun k => tile 0 (by decide) (arg6.view.read (Elt Ideal) X_arg6) (jj k)) (toff 0x3F000000#32 arg1) T (rd arg8 arg9 arg10 (arg8.view.writes (Elt Ideal) arg8.view.junk L8) (arg9.view.writes (Elt Ideal) arg9.view.junk L9) (arg10.view.writes (Elt Ideal) arg10.view.junk L10))).mx := by
  rw [View.writes_append, ← loop1 𝒱 c bd i arg2 harg2 arg3 harg3 arg4 harg4 arg5 harg5 arg6 harg6 arg7 harg7 arg8 harg8 arg9 harg9 arg10 harg10 arg1 v26 v39 v41 v42 X_arg5 X_arg6 _ _ _ hT2 T hT.le]
  exact (vec_fn2 _).symm

/-- Buffer 9 read after all the trips of head 0's loop. -/
theorem loop1_9 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v39 : FVec Ideal S512x128 .bf16) (v41 : FVec Ideal S512x256 .f32) (v42 : FVec Ideal S512x128 .f32) (X_arg5 : BufTy.Contents (Elt Ideal) arg5.view.ty) (X_arg6 : BufTy.Contents (Elt Ideal) arg6.view.ty) (L8 : List (View.Piece (Elt Ideal) S512x128 .f32)) (L9 : List (View.Piece (Elt Ideal) S512x128 .f32)) (L10 : List (View.Piece (Elt Ideal) S512x128 .f32)) (T : Nat) (hT : T = (k0_t1_loop i).trips) (hT2 : (k0_t1_loop i).trips ≤ 32) :
    arg9.view.read (Elt Ideal) (arg9.view.writes (Elt Ideal) arg9.view.junk ((pb_k0_t1 (F := Ideal) 𝒱 c bd i arg2 harg2 arg3 harg3 arg4 harg4 arg5 harg5 arg6 harg6 arg7 harg7 arg8 harg8 arg9 harg9 arg10 harg10 arg1 v26 v39 v41 v42 X_arg5 X_arg6 (arg8.view.writes (Elt Ideal) arg8.view.junk L8) (arg9.view.writes (Elt Ideal) arg9.view.junk L9) (arg10.view.writes (Elt Ideal) arg10.view.junk L10) T).2.1 ++ L9))
      = vec (run (fun k => score (fn2 v39) (fn2 v41) (tile 0 (by decide) (arg5.view.read (Elt Ideal) X_arg5) (jj k))) (fun k => tile 0 (by decide) (arg6.view.read (Elt Ideal) X_arg6) (jj k)) (toff 0x3F000000#32 arg1) T (rd arg8 arg9 arg10 (arg8.view.writes (Elt Ideal) arg8.view.junk L8) (arg9.view.writes (Elt Ideal) arg9.view.junk L9) (arg10.view.writes (Elt Ideal) arg10.view.junk L10))).nr := by
  rw [View.writes_append, ← loop1 𝒱 c bd i arg2 harg2 arg3 harg3 arg4 harg4 arg5 harg5 arg6 harg6 arg7 harg7 arg8 harg8 arg9 harg9 arg10 harg10 arg1 v26 v39 v41 v42 X_arg5 X_arg6 _ _ _ hT2 T hT.le]
  exact (vec_fn2 _).symm

/-- Buffer 10 read after all the trips of head 0's loop. -/
theorem loop1_10 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v39 : FVec Ideal S512x128 .bf16) (v41 : FVec Ideal S512x256 .f32) (v42 : FVec Ideal S512x128 .f32) (X_arg5 : BufTy.Contents (Elt Ideal) arg5.view.ty) (X_arg6 : BufTy.Contents (Elt Ideal) arg6.view.ty) (L8 : List (View.Piece (Elt Ideal) S512x128 .f32)) (L9 : List (View.Piece (Elt Ideal) S512x128 .f32)) (L10 : List (View.Piece (Elt Ideal) S512x128 .f32)) (T : Nat) (hT : T = (k0_t1_loop i).trips) (hT2 : (k0_t1_loop i).trips ≤ 32) :
    arg10.view.read (Elt Ideal) (arg10.view.writes (Elt Ideal) arg10.view.junk ((pb_k0_t1 (F := Ideal) 𝒱 c bd i arg2 harg2 arg3 harg3 arg4 harg4 arg5 harg5 arg6 harg6 arg7 harg7 arg8 harg8 arg9 harg9 arg10 harg10 arg1 v26 v39 v41 v42 X_arg5 X_arg6 (arg8.view.writes (Elt Ideal) arg8.view.junk L8) (arg9.view.writes (Elt Ideal) arg9.view.junk L9) (arg10.view.writes (Elt Ideal) arg10.view.junk L10) T).2.2 ++ L10))
      = vec (run (fun k => score (fn2 v39) (fn2 v41) (tile 0 (by decide) (arg5.view.read (Elt Ideal) X_arg5) (jj k))) (fun k => tile 0 (by decide) (arg6.view.read (Elt Ideal) X_arg6) (jj k)) (toff 0x3F000000#32 arg1) T (rd arg8 arg9 arg10 (arg8.view.writes (Elt Ideal) arg8.view.junk L8) (arg9.view.writes (Elt Ideal) arg9.view.junk L9) (arg10.view.writes (Elt Ideal) arg10.view.junk L10))).ac := by
  rw [View.writes_append, ← loop1 𝒱 c bd i arg2 harg2 arg3 harg3 arg4 harg4 arg5 harg5 arg6 harg6 arg7 harg7 arg8 harg8 arg9 harg9 arg10 harg10 arg1 v26 v39 v41 v42 X_arg5 X_arg6 _ _ _ hT2 T hT.le]
  exact (vec_fn2 _).symm

end Cert.AttnIdeal.Value

end
-- ==== Proof.AttnAfter1.lean ====
/- Head 0: what the buffers read after its loops. -/
module

public import proofs.«01_k».proof.Proof.AttnLoop1

@[expose] public section

set_option maxRecDepth 16384

noncomputable section

open Idealize.ShloMosaic Idealize.ShloMosaic.TcCoe Idealize.SL.Sem
open Idealize.ShloMosaic.Pipeline (Dat)

namespace Cert.AttnIdeal.Value
open Cert.AttnIdeal Cert.AttnIdeal.Gen Cert.AttnMath

theorem trips1 (i : grid0.Coords) : (Scf.trips (k0_t1_loop i).lb (k0_t1_loop i).ub (k0_t1_loop i).st) = (i 1).val := by
  have h : ∀ a : Fin 32, Scf.trips 0#32 (Scalar.addi 0#32 (Scalar.muli (Scalar.divsi (Scalar.subi (BitVec.ofNat 32 a.val) 0#32) 1#32) 1#32)) 1#32 = a.val := by decide +kernel
  exact h (i 1)

theorem trips2 (i : grid0.Coords) : (Scf.trips (k0_t2_loop i).lb (k0_t2_loop i).ub (k0_t2_loop i).st) = 0 := by
  have h : ∀ a : Fin 32, Scf.trips (Scalar.addi 0#32 (Scalar.muli (Scalar.divsi (Scalar.subi (BitVec.ofNat 32 a.val) 0#32) 1#32) 1#32)) (Scalar.addi 0#32 (Scalar.subi (BitVec.ofNat 32 a.val) 0#32)) 1#32 = 0 := by decide +kernel
  exact h (i 1)

/-- Buffer 8 after the whole loop of head 0, in the state the stores before it left. -/
theorem after1_8 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v39 : FVec Ideal S512x128 .bf16) (v41 : FVec Ideal S512x256 .f32) (v42 : FVec Ideal S512x128 .f32) (X_arg5 : BufTy.Contents (Elt Ideal) arg5.view.ty) (X_arg6 : BufTy.Contents (Elt Ideal) arg6.view.ty) (L8 : List (View.Piece (Elt Ideal) S512x128 .f32)) (L9 : List (View.Piece (Elt Ideal) S512x128 .f32)) (L10 : List (View.Piece (Elt Ideal) S512x128 .f32)) :
    arg8.view.read (Elt Ideal) (arg8.view.writes (Elt Ideal) arg8.view.junk ((pb_k0_t1 (F := Ideal) 𝒱 c bd i arg2 harg2 arg3 harg3 arg4 harg4 arg5 harg5 arg6 harg6 arg7 harg7 arg8 harg8 arg9 harg9 arg10 harg10 arg1 v26 v39 v41 v42 X_arg5 X_arg6 (arg8.view.writes (Elt Ideal) arg8.view.junk L8) (arg9.view.writes (Elt Ideal) arg9.view.junk L9) (arg10.view.writes (Elt Ideal) arg10.view.junk L10) (Scf.trips (k0_t1_loop i).lb (k0_t1_loop i).ub (k0_t1_loop i).st)).1 ++ L8))
      = vec (run (fun k => score (fn2 v39) (fn2 v41) (tile 0 (by decide) (arg5.view.read (Elt Ideal) X_arg5) (jj k))) (fun k => tile 0 (by decide) (arg6.view.read (Elt Ideal) X_arg6) (jj k)) (toff 0x3F000000#32 arg1) (i 1).val (rd arg8 arg9 arg10 (arg8.view.writes (Elt Ideal) arg8.view.junk L8) (arg9.view.writes (Elt Ideal) arg9.view.junk L9) (arg10.view.writes (Elt Ideal) arg10.view.junk L10))).mx := by
  rw [loop1_8 𝒱 c bd i arg2 harg2 arg3 harg3 arg4 harg4 arg5 harg5 arg6 harg6 arg7 harg7 arg8 harg8 arg9 harg9 arg10 harg10 arg1 v26 v39 v41 v42 X_arg5 X_arg6 L8 L9 L10 _ rfl (by rw [show (k0_t1_loop i).trips = (i 1).val from trips1 i]; exact (i 1).isLt.le), show (k0_t1_loop i).trips = (i 1).val from trips1 i]

/-- Buffer 9 after the whole loop of head 0, in the state the stores before it left. -/
theorem after1_9 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v39 : FVec Ideal S512x128 .bf16) (v41 : FVec Ideal S512x256 .f32) (v42 : FVec Ideal S512x128 .f32) (X_arg5 : BufTy.Contents (Elt Ideal) arg5.view.ty) (X_arg6 : BufTy.Contents (Elt Ideal) arg6.view.ty) (L8 : List (View.Piece (Elt Ideal) S512x128 .f32)) (L9 : List (View.Piece (Elt Ideal) S512x128 .f32)) (L10 : List (View.Piece (Elt Ideal) S512x128 .f32)) :
    arg9.view.read (Elt Ideal) (arg9.view.writes (Elt Ideal) arg9.view.junk ((pb_k0_t1 (F := Ideal) 𝒱 c bd i arg2 harg2 arg3 harg3 arg4 harg4 arg5 harg5 arg6 harg6 arg7 harg7 arg8 harg8 arg9 harg9 arg10 harg10 arg1 v26 v39 v41 v42 X_arg5 X_arg6 (arg8.view.writes (Elt Ideal) arg8.view.junk L8) (arg9.view.writes (Elt Ideal) arg9.view.junk L9) (arg10.view.writes (Elt Ideal) arg10.view.junk L10) (Scf.trips (k0_t1_loop i).lb (k0_t1_loop i).ub (k0_t1_loop i).st)).2.1 ++ L9))
      = vec (run (fun k => score (fn2 v39) (fn2 v41) (tile 0 (by decide) (arg5.view.read (Elt Ideal) X_arg5) (jj k))) (fun k => tile 0 (by decide) (arg6.view.read (Elt Ideal) X_arg6) (jj k)) (toff 0x3F000000#32 arg1) (i 1).val (rd arg8 arg9 arg10 (arg8.view.writes (Elt Ideal) arg8.view.junk L8) (arg9.view.writes (Elt Ideal) arg9.view.junk L9) (arg10.view.writes (Elt Ideal) arg10.view.junk L10))).nr := by
  rw [loop1_9 𝒱 c bd i arg2 harg2 arg3 harg3 arg4 harg4 arg5 harg5 arg6 harg6 arg7 harg7 arg8 harg8 arg9 harg9 arg10 harg10 arg1 v26 v39 v41 v42 X_arg5 X_arg6 L8 L9 L10 _ rfl (by rw [show (k0_t1_loop i).trips = (i 1).val from trips1 i]; exact (i 1).isLt.le), show (k0_t1_loop i).trips = (i 1).val from trips1 i]

/-- Buffer 10 after the whole loop of head 0, in the state the stores before it left. -/
theorem after1_10 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v39 : FVec Ideal S512x128 .bf16) (v41 : FVec Ideal S512x256 .f32) (v42 : FVec Ideal S512x128 .f32) (X_arg5 : BufTy.Contents (Elt Ideal) arg5.view.ty) (X_arg6 : BufTy.Contents (Elt Ideal) arg6.view.ty) (L8 : List (View.Piece (Elt Ideal) S512x128 .f32)) (L9 : List (View.Piece (Elt Ideal) S512x128 .f32)) (L10 : List (View.Piece (Elt Ideal) S512x128 .f32)) :
    arg10.view.read (Elt Ideal) (arg10.view.writes (Elt Ideal) arg10.view.junk ((pb_k0_t1 (F := Ideal) 𝒱 c bd i arg2 harg2 arg3 harg3 arg4 harg4 arg5 harg5 arg6 harg6 arg7 harg7 arg8 harg8 arg9 harg9 arg10 harg10 arg1 v26 v39 v41 v42 X_arg5 X_arg6 (arg8.view.writes (Elt Ideal) arg8.view.junk L8) (arg9.view.writes (Elt Ideal) arg9.view.junk L9) (arg10.view.writes (Elt Ideal) arg10.view.junk L10) (Scf.trips (k0_t1_loop i).lb (k0_t1_loop i).ub (k0_t1_loop i).st)).2.2 ++ L10))
      = vec (run (fun k => score (fn2 v39) (fn2 v41) (tile 0 (by decide) (arg5.view.read (Elt Ideal) X_arg5) (jj k))) (fun k => tile 0 (by decide) (arg6.view.read (Elt Ideal) X_arg6) (jj k)) (toff 0x3F000000#32 arg1) (i 1).val (rd arg8 arg9 arg10 (arg8.view.writes (Elt Ideal) arg8.view.junk L8) (arg9.view.writes (Elt Ideal) arg9.view.junk L9) (arg10.view.writes (Elt Ideal) arg10.view.junk L10))).ac := by
  rw [loop1_10 𝒱 c bd i arg2 harg2 arg3 harg3 arg4 harg4 arg5 harg5 arg6 harg6 arg7 harg7 arg8 harg8 arg9 harg9 arg10 harg10 arg1 v26 v39 v41 v42 X_arg5 X_arg6 L8 L9 L10 _ rfl (by rw [show (k0_t1_loop i).trips = (i 1).val from trips1 i]; exact (i 1).isLt.le), show (k0_t1_loop i).trips = (i 1).val from trips1 i]

/-- The remainder loop stores nothing. -/
theorem rem2 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v39 : FVec Ideal S512x128 .bf16) (v41 : FVec Ideal S512x256 .f32) (v42 : FVec Ideal S512x128 .f32) (v58 : BitVec 32) (X_arg5 : BufTy.Contents (Elt Ideal) arg5.view.ty) (X_arg6 : BufTy.Contents (Elt Ideal) arg6.view.ty) (G8 : BufTy.Contents (Elt Ideal) arg8.view.ty) (G9 : BufTy.Contents (Elt Ideal) arg9.view.ty) (G10 : BufTy.Contents (Elt Ideal) arg10.view.ty) :
    pb_k0_t2 (F := Ideal) 𝒱 c bd i arg2 harg2 arg3 harg3 arg4 harg4 arg5 harg5 arg6 harg6 arg7 harg7 arg8 harg8 arg9 harg9 arg10 harg10 arg1 v26 v39 v41 v42 v58 X_arg5 X_arg6 G8 G9 G10 (Scf.trips (k0_t2_loop i).lb (k0_t2_loop i).ub (k0_t2_loop i).st) = ([], [], []) := by
  rw [trips2]; rfl

end Cert.AttnIdeal.Value

end
-- ==== Proof.AttnTrip3.lean ====
/- One trip of head 1's loop, element by element. -/
module

public import proofs.«01_k».proof.Proof.AttnTripBase

@[expose] public section

set_option maxRecDepth 16384

noncomputable section

open Idealize.ShloMosaic Idealize.ShloMosaic.TcCoe Idealize.SL.Sem
open Idealize.ShloMosaic.Pipeline (Dat)

namespace Cert.AttnIdeal.Value
open Cert.AttnIdeal Cert.AttnIdeal.Gen Cert.AttnMath

/-- Buffer 8 after one trip of head 1's loop, element by element: the step's `mx`. -/
theorem trip3_8 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v146 : FVec Ideal S512x128 .bf16) (v148 : FVec Ideal S512x256 .f32) (v153 : FVec Ideal S512x128 .f32) (X_arg5 : BufTy.Contents (Elt Ideal) arg5.view.ty) (X_arg6 : BufTy.Contents (Elt Ideal) arg6.view.ty) (k : Fin (k0_t3_loop i).trips) (f8 : BufTy.Contents (Elt Ideal) arg8.view.ty) (f9 : BufTy.Contents (Elt Ideal) arg9.view.ty) (f10 : BufTy.Contents (Elt Ideal) arg10.view.ty)  (j : Fin 32) (hj : j.val = k.val) (r : Fin 512) (d : Fin 128) :
    arg8.view.read (Elt Ideal) (arg8.view.writes (Elt Ideal) f8 (tripL_k0_t3 (F := Ideal) 𝒱 c bd i arg2 harg2 arg3 harg3 arg4 harg4 arg5 harg5 arg6 harg6 arg7 harg7 arg8 harg8 arg9 harg9 arg10 harg10 arg1 v26 v146 v148 v153 X_arg5 X_arg6 k f8 f9 f10).1) (ix2 r d)
      = (step (score (fn2 v146) (fn2 v148) (tile 128 (by decide) (arg5.view.read (Elt Ideal) X_arg5) j)) (tile 128 (by decide) (arg6.view.read (Elt Ideal) X_arg6) j)
          (toff 0x3E000000#32 arg1 k.val) ⟨fn2 (arg8.view.read (Elt Ideal) f8), fn2 (arg9.view.read (Elt Ideal) f9), fn2 (arg10.view.read (Elt Ideal) f10)⟩).mx r d := by
  have hk : BitVec.toNat (Scalar.indexCast (Scf.iv 0#32 1#32 k.val) : BitVec 32) = j.val := iv_val j k.val hj
  unfold tripL_k0_t3 trip_k0_t3
  dsimp only
  sl_unfold_words
  rw [read_last (S := S512x128) _ _ _ hz]
  simp only [View.readAt_eq_ld, View.ld_unit_zero (S := S512x128) hz]
  have hb5 := ld_blk (arg5.view.read (Elt Ideal) X_arg5) j (![BitVec.toNat (Scalar.indexCast (Scf.iv 0#32 1#32 k.val) : BitVec 32), 0, 0]) (by rw [hk])
  have hb6 := ld_blk (arg6.view.read (Elt Ideal) X_arg6) j (![BitVec.toNat (Scalar.indexCast (Scf.iv 0#32 1#32 k.val) : BitVec 32), 0, 0]) (by rw [hk])
  erw [hb5]
  pointwise [k0_pay105, k0_pay106, blk_apply, ninf, step, stepM, stepP, stepA, score, rowMax, fn2, tile, toff]

/-- Buffer 9 after one trip of head 1's loop, element by element: the step's `nr`. -/
theorem trip3_9 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v146 : FVec Ideal S512x128 .bf16) (v148 : FVec Ideal S512x256 .f32) (v153 : FVec Ideal S512x128 .f32) (X_arg5 : BufTy.Contents (Elt Ideal) arg5.view.ty) (X_arg6 : BufTy.Contents (Elt Ideal) arg6.view.ty) (k : Fin (k0_t3_loop i).trips) (f8 : BufTy.Contents (Elt Ideal) arg8.view.ty) (f9 : BufTy.Contents (Elt Ideal) arg9.view.ty) (f10 : BufTy.Contents (Elt Ideal) arg10.view.ty)  (j : Fin 32) (hj : j.val = k.val) (r : Fin 512) (d : Fin 128) :
    arg9.view.read (Elt Ideal) (arg9.view.writes (Elt Ideal) f9 (tripL_k0_t3 (F := Ideal) 𝒱 c bd i arg2 harg2 arg3 harg3 arg4 harg4 arg5 harg5 arg6 harg6 arg7 harg7 arg8 harg8 arg9 harg9 arg10 harg10 arg1 v26 v146 v148 v153 X_arg5 X_arg6 k f8 f9 f10).2.1) (ix2 r d)
      = (step (score (fn2 v146) (fn2 v148) (tile 128 (by decide) (arg5.view.read (Elt Ideal) X_arg5) j)) (tile 128 (by decide) (arg6.view.read (Elt Ideal) X_arg6) j)
          (toff 0x3E000000#32 arg1 k.val) ⟨fn2 (arg8.view.read (Elt Ideal) f8), fn2 (arg9.view.read (Elt Ideal) f9), fn2 (arg10.view.read (Elt Ideal) f10)⟩).nr r d := by
  have hk : BitVec.toNat (Scalar.indexCast (Scf.iv 0#32 1#32 k.val) : BitVec 32) = j.val := iv_val j k.val hj
  unfold tripL_k0_t3 trip_k0_t3
  dsimp only
  sl_unfold_words
  rw [read_last (S := S512x128) _ _ _ hz]
  simp only [View.readAt_eq_ld, View.ld_unit_zero (S := S512x128) hz]
  have hb5 := ld_blk (arg5.view.read (Elt Ideal) X_arg5) j (![BitVec.toNat (Scalar.indexCast (Scf.iv 0#32 1#32 k.val) : BitVec 32), 0, 0]) (by rw [hk])
  have hb6 := ld_blk (arg6.view.read (Elt Ideal) X_arg6) j (![BitVec.toNat (Scalar.indexCast (Scf.iv 0#32 1#32 k.val) : BitVec 32), 0, 0]) (by rw [hk])
  erw [hb5]
  pointwise [k0_pay105, k0_pay106, blk_apply, ninf, step, stepM, stepP, stepA, score, rowMax, fn2, tile, toff]

/-- Buffer 10 after one trip of head 1's loop, element by element: the step's `ac`. -/
theorem trip3_10 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v146 : FVec Ideal S512x128 .bf16) (v148 : FVec Ideal S512x256 .f32) (v153 : FVec Ideal S512x128 .f32) (X_arg5 : BufTy.Contents (Elt Ideal) arg5.view.ty) (X_arg6 : BufTy.Contents (Elt Ideal) arg6.view.ty) (k : Fin (k0_t3_loop i).trips) (f8 : BufTy.Contents (Elt Ideal) arg8.view.ty) (f9 : BufTy.Contents (Elt Ideal) arg9.view.ty) (f10 : BufTy.Contents (Elt Ideal) arg10.view.ty)  (j : Fin 32) (hj : j.val = k.val) (r : Fin 512) (d : Fin 128) :
    arg10.view.read (Elt Ideal) (arg10.view.writes (Elt Ideal) f10 (tripL_k0_t3 (F := Ideal) 𝒱 c bd i arg2 harg2 arg3 harg3 arg4 harg4 arg5 harg5 arg6 harg6 arg7 harg7 arg8 harg8 arg9 harg9 arg10 harg10 arg1 v26 v146 v148 v153 X_arg5 X_arg6 k f8 f9 f10).2.2) (ix2 r d)
      = (step (score (fn2 v146) (fn2 v148) (tile 128 (by decide) (arg5.view.read (Elt Ideal) X_arg5) j)) (tile 128 (by decide) (arg6.view.read (Elt Ideal) X_arg6) j)
          (toff 0x3E000000#32 arg1 k.val) ⟨fn2 (arg8.view.read (Elt Ideal) f8), fn2 (arg9.view.read (Elt Ideal) f9), fn2 (arg10.view.read (Elt Ideal) f10)⟩).ac r d := by
  have hk : BitVec.toNat (Scalar.indexCast (Scf.iv 0#32 1#32 k.val) : BitVec 32) = j.val := iv_val j k.val hj
  unfold tripL_k0_t3 trip_k0_t3
  dsimp only
  sl_unfold_words
  rw [read_last (S := S512x128) _ _ _ hz]
  simp only [View.readAt_eq_ld, View.ld_unit_zero (S := S512x128) hz]
  have hb5 := ld_blk (arg5.view.read (Elt Ideal) X_arg5) j (![BitVec.toNat (Scalar.indexCast (Scf.iv 0#32 1#32 k.val) : BitVec 32), 0, 0]) (by rw [hk])
  have hb6 := ld_blk (arg6.view.read (Elt Ideal) X_arg6) j (![BitVec.toNat (Scalar.indexCast (Scf.iv 0#32 1#32 k.val) : BitVec 32), 0, 0]) (by rw [hk])
  erw [hb5, hb6]
  pointwise [k0_pay105, k0_pay106, blk_apply, ninf, step, stepM, stepP, stepA, score, rowMax, fn2, tile, toff]

end Cert.AttnIdeal.Value

end
-- ==== Proof.AttnLoop3.lean ====
/- The loop of head 1: as many steps of the running softmax as it has trips. -/
module

public import proofs.«01_k».proof.Proof.AttnLoopBase
public import proofs.«01_k».proof.Proof.AttnTrip3

@[expose] public section

set_option maxRecDepth 16384

noncomputable section

open Idealize.ShloMosaic Idealize.ShloMosaic.TcCoe Idealize.SL.Sem
open Idealize.ShloMosaic.Pipeline (Dat)

namespace Cert.AttnIdeal.Value
open Cert.AttnIdeal Cert.AttnIdeal.Gen Cert.AttnMath

/-- The three buffers after `n` trips of head 1's loop: `n` steps of the running softmax. -/
theorem loop3 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v146 : FVec Ideal S512x128 .bf16) (v148 : FVec Ideal S512x256 .f32) (v153 : FVec Ideal S512x128 .f32) (X_arg5 : BufTy.Contents (Elt Ideal) arg5.view.ty) (X_arg6 : BufTy.Contents (Elt Ideal) arg6.view.ty) (G8 : BufTy.Contents (Elt Ideal) arg8.view.ty) (G9 : BufTy.Contents (Elt Ideal) arg9.view.ty) (G10 : BufTy.Contents (Elt Ideal) arg10.view.ty) (hT : (k0_t3_loop i).trips ≤ 32) :
    ∀ n : Nat, n ≤ (k0_t3_loop i).trips →
    rd arg8 arg9 arg10 (arg8.view.writes (Elt Ideal) G8 (pb_k0_t3 (F := Ideal) 𝒱 c bd i arg2 harg2 arg3 harg3 arg4 harg4 arg5 harg5 arg6 harg6 arg7 harg7 arg8 harg8 arg9 harg9 arg10 harg10 arg1 v26 v146 v148 v153 X_arg5 X_arg6 G8 G9 G10 n).1) (arg9.view.writes (Elt Ideal) G9 (pb_k0_t3 (F := Ideal) 𝒱 c bd i arg2 harg2 arg3 harg3 arg4 harg4 arg5 harg5 arg6 harg6 arg7 harg7 arg8 harg8 arg9 harg9 arg10 harg10 arg1 v26 v146 v148 v153 X_arg5 X_arg6 G8 G9 G10 n).2.1) (arg10.view.writes (Elt Ideal) G10 (pb_k0_t3 (F := Ideal) 𝒱 c bd i arg2 harg2 arg3 harg3 arg4 harg4 arg5 harg5 arg6 harg6 arg7 harg7 arg8 harg8 arg9 harg9 arg10 harg10 arg1 v26 v146 v148 v153 X_arg5 X_arg6 G8 G9 G10 n).2.2)
      = run (fun k => score (fn2 v146) (fn2 v148) (tile 128 (by decide) (arg5.view.read (Elt Ideal) X_arg5) (jj k))) (fun k => tile 128 (by decide) (arg6.view.read (Elt Ideal) X_arg6) (jj k)) (toff 0x3E000000#32 arg1) n (rd arg8 arg9 arg10 G8 G9 G10)
  | 0, _ => rfl
  | n + 1, hn => by
    have ih := loop3 𝒱 c bd i arg2 harg2 arg3 harg3 arg4 harg4 arg5 harg5 arg6 harg6 arg7 harg7 arg8 harg8 arg9 harg9 arg10 harg10 arg1 v26 v146 v148 v153 X_arg5 X_arg6 G8 G9 G10 hT n (Nat.le_of_succ_le hn)
    have hj : (jj n).val = n := Nat.mod_eq_of_lt (lt_of_lt_of_le hn hT)
    rw [run, ← ih]
    have e := pb_k0_t3_succ (F := Ideal) 𝒱 c bd i arg2 harg2 arg3 harg3 arg4 harg4 arg5 harg5 arg6 harg6 arg7 harg7 arg8 harg8 arg9 harg9 arg10 harg10 arg1 v26 v146 v148 v153 X_arg5 X_arg6 G8 G9 G10 ⟨n, hn⟩
    dsimp only at e
    rw [e]
    dsimp only
    rw [View.writes_append, View.writes_append, View.writes_append]
    have e8 := trip3_8 𝒱 c bd i arg2 harg2 arg3 harg3 arg4 harg4 arg5 harg5 arg6 harg6 arg7 harg7 arg8 harg8 arg9 harg9 arg10 harg10 arg1 v26 v146 v148 v153 X_arg5 X_arg6 ⟨n, hn⟩ (arg8.view.writes (Elt Ideal) G8 (pb_k0_t3 (F := Ideal) 𝒱 c bd i arg2 harg2 arg3 harg3 arg4 harg4 arg5 harg5 arg6 harg6 arg7 harg7 arg8 harg8 arg9 harg9 arg10 harg10 arg1 v26 v146 v148 v153 X_arg5 X_arg6 G8 G9 G10 n).1) (arg9.view.writes (Elt Ideal) G9 (pb_k0_t3 (F := Ideal) 𝒱 c bd i arg2 harg2 arg3 harg3 arg4 harg4 arg5 harg5 arg6 harg6 arg7 harg7 arg8 harg8 arg9 harg9 arg10 harg10 arg1 v26 v146 v148 v153 X_arg5 X_arg6 G8 G9 G10 n).2.1) (arg10.view.writes (Elt Ideal) G10 (pb_k0_t3 (F := Ideal) 𝒱 c bd i arg2 harg2 arg3 harg3 arg4 harg4 arg5 harg5 arg6 harg6 arg7 harg7 arg8 harg8 arg9 harg9 arg10 harg10 arg1 v26 v146 v148 v153 X_arg5 X_arg6 G8 G9 G10 n).2.2) (jj n) hj
    have e9 := trip3_9 𝒱 c bd i arg2 harg2 arg3 harg3 arg4 harg4 arg5 harg5 arg6 harg6 arg7 harg7 arg8 harg8 arg9 harg9 arg10 harg10 arg1 v26 v146 v148 v153 X_arg5 X_arg6 ⟨n, hn⟩ (arg8.view.writes (Elt Ideal) G8 (pb_k0_t3 (F := Ideal) 𝒱 c bd i arg2 harg2 arg3 harg3 arg4 harg4 arg5 harg5 arg6 harg6 arg7 harg7 arg8 harg8 arg9 harg9 arg10 harg10 arg1 v26 v146 v148 v153 X_arg5 X_arg6 G8 G9 G10 n).1) (arg9.view.writes (Elt Ideal) G9 (pb_k0_t3 (F := Ideal) 𝒱 c bd i arg2 harg2 arg3 harg3 arg4 harg4 arg5 harg5 arg6 harg6 arg7 harg7 arg8 harg8 arg9 harg9 arg10 harg10 arg1 v26 v146 v148 v153 X_arg5 X_arg6 G8 G9 G10 n).2.1) (arg10.view.writes (Elt Ideal) G10 (pb_k0_t3 (F := Ideal) 𝒱 c bd i arg2 harg2 arg3 harg3 arg4 harg4 arg5 harg5 arg6 harg6 arg7 harg7 arg8 harg8 arg9 harg9 arg10 harg10 arg1 v26 v146 v148 v153 X_arg5 X_arg6 G8 G9 G10 n).2.2) (jj n) hj
    have e10 := trip3_10 𝒱 c bd i arg2 harg2 arg3 harg3 arg4 harg4 arg5 harg5 arg6 harg6 arg7 harg7 arg8 harg8 arg9 harg9 arg10 harg10 arg1 v26 v146 v148 v153 X_arg5 X_arg6 ⟨n, hn⟩ (arg8.view.writes (Elt Ideal) G8 (pb_k0_t3 (F := Ideal) 𝒱 c bd i arg2 harg2 arg3 harg3 arg4 harg4 arg5 harg5 arg6 harg6 arg7 harg7 arg8 harg8 arg9 harg9 arg10 harg10 arg1 v26 v146 v148 v153 X_arg5 X_arg6 G8 G9 G10 n).1) (arg9.view.writes (Elt Ideal) G9 (pb_k0_t3 (F := Ideal) 𝒱 c bd i arg2 harg2 arg3 harg3 arg4 harg4 arg5 harg5 arg6 harg6 arg7 harg7 arg8 harg8 arg9 harg9 arg10 harg10 arg1 v26 v146 v148 v153 X_arg5 X_arg6 G8 G9 G10 n).2.1) (arg10.view.writes (Elt Ideal) G10 (pb_k0_t3 (F := Ideal) 𝒱 c bd i arg2 harg2 arg3 harg3 arg4 harg4 arg5 harg5 arg6 harg6 arg7 harg7 arg8 harg8 arg9 harg9 arg10 harg10 arg1 v26 v146 v148 v153 X_arg5 X_arg6 G8 G9 G10 n).2.2) (jj n) hj
    exact St.ext_at e8 e9 e10

/-- Buffer 8 read after all the trips of head 1's loop. -/
theorem loop3_8 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v146 : FVec Ideal S512x128 .bf16) (v148 : FVec Ideal S512x256 .f32) (v153 : FVec Ideal S512x128 .f32) (X_arg5 : BufTy.Contents (Elt Ideal) arg5.view.ty) (X_arg6 : BufTy.Contents (Elt Ideal) arg6.view.ty) (L8 : List (View.Piece (Elt Ideal) S512x128 .f32)) (L9 : List (View.Piece (Elt Ideal) S512x128 .f32)) (L10 : List (View.Piece (Elt Ideal) S512x128 .f32)) (T : Nat) (hT : T = (k0_t3_loop i).trips) (hT2 : (k0_t3_loop i).trips ≤ 32) :
    arg8.view.read (Elt Ideal) (arg8.view.writes (Elt Ideal) arg8.view.junk ((pb_k0_t3 (F := Ideal) 𝒱 c bd i arg2 harg2 arg3 harg3 arg4 harg4 arg5 harg5 arg6 harg6 arg7 harg7 arg8 harg8 arg9 harg9 arg10 harg10 arg1 v26 v146 v148 v153 X_arg5 X_arg6 (arg8.view.writes (Elt Ideal) arg8.view.junk L8) (arg9.view.writes (Elt Ideal) arg9.view.junk L9) (arg10.view.writes (Elt Ideal) arg10.view.junk L10) T).1 ++ L8))
      = vec (run (fun k => score (fn2 v146) (fn2 v148) (tile 128 (by decide) (arg5.view.read (Elt Ideal) X_arg5) (jj k))) (fun k => tile 128 (by decide) (arg6.view.read (Elt Ideal) X_arg6) (jj k)) (toff 0x3E000000#32 arg1) T (rd arg8 arg9 arg10 (arg8.view.writes (Elt Ideal) arg8.view.junk L8) (arg9.view.writes (Elt Ideal) arg9.view.junk L9) (arg10.view.writes (Elt Ideal) arg10.view.junk L10))).mx := by
  rw [View.writes_append, ← loop3 𝒱 c bd i arg2 harg2 arg3 harg3 arg4 harg4 arg5 harg5 arg6 harg6 arg7 harg7 arg8 harg8 arg9 harg9 arg10 harg10 arg1 v26 v146 v148 v153 X_arg5 X_arg6 _ _ _ hT2 T hT.le]
  exact (vec_fn2 _).symm

/-- Buffer 9 read after all the trips of head 1's loop. -/
theorem loop3_9 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v146 : FVec Ideal S512x128 .bf16) (v148 : FVec Ideal S512x256 .f32) (v153 : FVec Ideal S512x128 .f32) (X_arg5 : BufTy.Contents (Elt Ideal) arg5.view.ty) (X_arg6 : BufTy.Contents (Elt Ideal) arg6.view.ty) (L8 : List (View.Piece (Elt Ideal) S512x128 .f32)) (L9 : List (View.Piece (Elt Ideal) S512x128 .f32)) (L10 : List (View.Piece (Elt Ideal) S512x128 .f32)) (T : Nat) (hT : T = (k0_t3_loop i).trips) (hT2 : (k0_t3_loop i).trips ≤ 32) :
    arg9.view.read (Elt Ideal) (arg9.view.writes (Elt Ideal) arg9.view.junk ((pb_k0_t3 (F := Ideal) 𝒱 c bd i arg2 harg2 arg3 harg3 arg4 harg4 arg5 harg5 arg6 harg6 arg7 harg7 arg8 harg8 arg9 harg9 arg10 harg10 arg1 v26 v146 v148 v153 X_arg5 X_arg6 (arg8.view.writes (Elt Ideal) arg8.view.junk L8) (arg9.view.writes (Elt Ideal) arg9.view.junk L9) (arg10.view.writes (Elt Ideal) arg10.view.junk L10) T).2.1 ++ L9))
      = vec (run (fun k => score (fn2 v146) (fn2 v148) (tile 128 (by decide) (arg5.view.read (Elt Ideal) X_arg5) (jj k))) (fun k => tile 128 (by decide) (arg6.view.read (Elt Ideal) X_arg6) (jj k)) (toff 0x3E000000#32 arg1) T (rd arg8 arg9 arg10 (arg8.view.writes (Elt Ideal) arg8.view.junk L8) (arg9.view.writes (Elt Ideal) arg9.view.junk L9) (arg10.view.writes (Elt Ideal) arg10.view.junk L10))).nr := by
  rw [View.writes_append, ← loop3 𝒱 c bd i arg2 harg2 arg3 harg3 arg4 harg4 arg5 harg5 arg6 harg6 arg7 harg7 arg8 harg8 arg9 harg9 arg10 harg10 arg1 v26 v146 v148 v153 X_arg5 X_arg6 _ _ _ hT2 T hT.le]
  exact (vec_fn2 _).symm

/-- Buffer 10 read after all the trips of head 1's loop. -/
theorem loop3_10 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v146 : FVec Ideal S512x128 .bf16) (v148 : FVec Ideal S512x256 .f32) (v153 : FVec Ideal S512x128 .f32) (X_arg5 : BufTy.Contents (Elt Ideal) arg5.view.ty) (X_arg6 : BufTy.Contents (Elt Ideal) arg6.view.ty) (L8 : List (View.Piece (Elt Ideal) S512x128 .f32)) (L9 : List (View.Piece (Elt Ideal) S512x128 .f32)) (L10 : List (View.Piece (Elt Ideal) S512x128 .f32)) (T : Nat) (hT : T = (k0_t3_loop i).trips) (hT2 : (k0_t3_loop i).trips ≤ 32) :
    arg10.view.read (Elt Ideal) (arg10.view.writes (Elt Ideal) arg10.view.junk ((pb_k0_t3 (F := Ideal) 𝒱 c bd i arg2 harg2 arg3 harg3 arg4 harg4 arg5 harg5 arg6 harg6 arg7 harg7 arg8 harg8 arg9 harg9 arg10 harg10 arg1 v26 v146 v148 v153 X_arg5 X_arg6 (arg8.view.writes (Elt Ideal) arg8.view.junk L8) (arg9.view.writes (Elt Ideal) arg9.view.junk L9) (arg10.view.writes (Elt Ideal) arg10.view.junk L10) T).2.2 ++ L10))
      = vec (run (fun k => score (fn2 v146) (fn2 v148) (tile 128 (by decide) (arg5.view.read (Elt Ideal) X_arg5) (jj k))) (fun k => tile 128 (by decide) (arg6.view.read (Elt Ideal) X_arg6) (jj k)) (toff 0x3E000000#32 arg1) T (rd arg8 arg9 arg10 (arg8.view.writes (Elt Ideal) arg8.view.junk L8) (arg9.view.writes (Elt Ideal) arg9.view.junk L9) (arg10.view.writes (Elt Ideal) arg10.view.junk L10))).ac := by
  rw [View.writes_append, ← loop3 𝒱 c bd i arg2 harg2 arg3 harg3 arg4 harg4 arg5 harg5 arg6 harg6 arg7 harg7 arg8 harg8 arg9 harg9 arg10 harg10 arg1 v26 v146 v148 v153 X_arg5 X_arg6 _ _ _ hT2 T hT.le]
  exact (vec_fn2 _).symm

end Cert.AttnIdeal.Value

end
-- ==== Proof.AttnAfter3.lean ====
/- Head 1: what the buffers read after its loops. -/
module

public import proofs.«01_k».proof.Proof.AttnLoop3

@[expose] public section

set_option maxRecDepth 16384

noncomputable section

open Idealize.ShloMosaic Idealize.ShloMosaic.TcCoe Idealize.SL.Sem
open Idealize.ShloMosaic.Pipeline (Dat)

namespace Cert.AttnIdeal.Value
open Cert.AttnIdeal Cert.AttnIdeal.Gen Cert.AttnMath

theorem trips3 (i : grid0.Coords) : (Scf.trips (k0_t3_loop i).lb (k0_t3_loop i).ub (k0_t3_loop i).st) = (i 1).val := by
  have h : ∀ a : Fin 32, Scf.trips 0#32 (Scalar.addi 0#32 (Scalar.muli (Scalar.divsi (Scalar.subi (BitVec.ofNat 32 a.val) 0#32) 1#32) 1#32)) 1#32 = a.val := by decide +kernel
  exact h (i 1)

theorem trips4 (i : grid0.Coords) : (Scf.trips (k0_t4_loop i).lb (k0_t4_loop i).ub (k0_t4_loop i).st) = 0 := by
  have h : ∀ a : Fin 32, Scf.trips (Scalar.addi 0#32 (Scalar.muli (Scalar.divsi (Scalar.subi (BitVec.ofNat 32 a.val) 0#32) 1#32) 1#32)) (Scalar.addi 0#32 (Scalar.subi (BitVec.ofNat 32 a.val) 0#32)) 1#32 = 0 := by decide +kernel
  exact h (i 1)

/-- Buffer 8 after the whole loop of head 1, in the state the stores before it left. -/
theorem after3_8 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v146 : FVec Ideal S512x128 .bf16) (v148 : FVec Ideal S512x256 .f32) (v153 : FVec Ideal S512x128 .f32) (X_arg5 : BufTy.Contents (Elt Ideal) arg5.view.ty) (X_arg6 : BufTy.Contents (Elt Ideal) arg6.view.ty) (L8 : List (View.Piece (Elt Ideal) S512x128 .f32)) (L9 : List (View.Piece (Elt Ideal) S512x128 .f32)) (L10 : List (View.Piece (Elt Ideal) S512x128 .f32)) :
    arg8.view.read (Elt Ideal) (arg8.view.writes (Elt Ideal) arg8.view.junk ((pb_k0_t3 (F := Ideal) 𝒱 c bd i arg2 harg2 arg3 harg3 arg4 harg4 arg5 harg5 arg6 harg6 arg7 harg7 arg8 harg8 arg9 harg9 arg10 harg10 arg1 v26 v146 v148 v153 X_arg5 X_arg6 (arg8.view.writes (Elt Ideal) arg8.view.junk L8) (arg9.view.writes (Elt Ideal) arg9.view.junk L9) (arg10.view.writes (Elt Ideal) arg10.view.junk L10) (Scf.trips (k0_t3_loop i).lb (k0_t3_loop i).ub (k0_t3_loop i).st)).1 ++ L8))
      = vec (run (fun k => score (fn2 v146) (fn2 v148) (tile 128 (by decide) (arg5.view.read (Elt Ideal) X_arg5) (jj k))) (fun k => tile 128 (by decide) (arg6.view.read (Elt Ideal) X_arg6) (jj k)) (toff 0x3E000000#32 arg1) (i 1).val (rd arg8 arg9 arg10 (arg8.view.writes (Elt Ideal) arg8.view.junk L8) (arg9.view.writes (Elt Ideal) arg9.view.junk L9) (arg10.view.writes (Elt Ideal) arg10.view.junk L10))).mx := by
  rw [loop3_8 𝒱 c bd i arg2 harg2 arg3 harg3 arg4 harg4 arg5 harg5 arg6 harg6 arg7 harg7 arg8 harg8 arg9 harg9 arg10 harg10 arg1 v26 v146 v148 v153 X_arg5 X_arg6 L8 L9 L10 _ rfl (by rw [show (k0_t3_loop i).trips = (i 1).val from trips3 i]; exact (i 1).isLt.le), show (k0_t3_loop i).trips = (i 1).val from trips3 i]

/-- Buffer 9 after the whole loop of head 1, in the state the stores before it left. -/
theorem after3_9 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v146 : FVec Ideal S512x128 .bf16) (v148 : FVec Ideal S512x256 .f32) (v153 : FVec Ideal S512x128 .f32) (X_arg5 : BufTy.Contents (Elt Ideal) arg5.view.ty) (X_arg6 : BufTy.Contents (Elt Ideal) arg6.view.ty) (L8 : List (View.Piece (Elt Ideal) S512x128 .f32)) (L9 : List (View.Piece (Elt Ideal) S512x128 .f32)) (L10 : List (View.Piece (Elt Ideal) S512x128 .f32)) :
    arg9.view.read (Elt Ideal) (arg9.view.writes (Elt Ideal) arg9.view.junk ((pb_k0_t3 (F := Ideal) 𝒱 c bd i arg2 harg2 arg3 harg3 arg4 harg4 arg5 harg5 arg6 harg6 arg7 harg7 arg8 harg8 arg9 harg9 arg10 harg10 arg1 v26 v146 v148 v153 X_arg5 X_arg6 (arg8.view.writes (Elt Ideal) arg8.view.junk L8) (arg9.view.writes (Elt Ideal) arg9.view.junk L9) (arg10.view.writes (Elt Ideal) arg10.view.junk L10) (Scf.trips (k0_t3_loop i).lb (k0_t3_loop i).ub (k0_t3_loop i).st)).2.1 ++ L9))
      = vec (run (fun k => score (fn2 v146) (fn2 v148) (tile 128 (by decide) (arg5.view.read (Elt Ideal) X_arg5) (jj k))) (fun k => tile 128 (by decide) (arg6.view.read (Elt Ideal) X_arg6) (jj k)) (toff 0x3E000000#32 arg1) (i 1).val (rd arg8 arg9 arg10 (arg8.view.writes (Elt Ideal) arg8.view.junk L8) (arg9.view.writes (Elt Ideal) arg9.view.junk L9) (arg10.view.writes (Elt Ideal) arg10.view.junk L10))).nr := by
  rw [loop3_9 𝒱 c bd i arg2 harg2 arg3 harg3 arg4 harg4 arg5 harg5 arg6 harg6 arg7 harg7 arg8 harg8 arg9 harg9 arg10 harg10 arg1 v26 v146 v148 v153 X_arg5 X_arg6 L8 L9 L10 _ rfl (by rw [show (k0_t3_loop i).trips = (i 1).val from trips3 i]; exact (i 1).isLt.le), show (k0_t3_loop i).trips = (i 1).val from trips3 i]

/-- Buffer 10 after the whole loop of head 1, in the state the stores before it left. -/
theorem after3_10 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v146 : FVec Ideal S512x128 .bf16) (v148 : FVec Ideal S512x256 .f32) (v153 : FVec Ideal S512x128 .f32) (X_arg5 : BufTy.Contents (Elt Ideal) arg5.view.ty) (X_arg6 : BufTy.Contents (Elt Ideal) arg6.view.ty) (L8 : List (View.Piece (Elt Ideal) S512x128 .f32)) (L9 : List (View.Piece (Elt Ideal) S512x128 .f32)) (L10 : List (View.Piece (Elt Ideal) S512x128 .f32)) :
    arg10.view.read (Elt Ideal) (arg10.view.writes (Elt Ideal) arg10.view.junk ((pb_k0_t3 (F := Ideal) 𝒱 c bd i arg2 harg2 arg3 harg3 arg4 harg4 arg5 harg5 arg6 harg6 arg7 harg7 arg8 harg8 arg9 harg9 arg10 harg10 arg1 v26 v146 v148 v153 X_arg5 X_arg6 (arg8.view.writes (Elt Ideal) arg8.view.junk L8) (arg9.view.writes (Elt Ideal) arg9.view.junk L9) (arg10.view.writes (Elt Ideal) arg10.view.junk L10) (Scf.trips (k0_t3_loop i).lb (k0_t3_loop i).ub (k0_t3_loop i).st)).2.2 ++ L10))
      = vec (run (fun k => score (fn2 v146) (fn2 v148) (tile 128 (by decide) (arg5.view.read (Elt Ideal) X_arg5) (jj k))) (fun k => tile 128 (by decide) (arg6.view.read (Elt Ideal) X_arg6) (jj k)) (toff 0x3E000000#32 arg1) (i 1).val (rd arg8 arg9 arg10 (arg8.view.writes (Elt Ideal) arg8.view.junk L8) (arg9.view.writes (Elt Ideal) arg9.view.junk L9) (arg10.view.writes (Elt Ideal) arg10.view.junk L10))).ac := by
  rw [loop3_10 𝒱 c bd i arg2 harg2 arg3 harg3 arg4 harg4 arg5 harg5 arg6 harg6 arg7 harg7 arg8 harg8 arg9 harg9 arg10 harg10 arg1 v26 v146 v148 v153 X_arg5 X_arg6 L8 L9 L10 _ rfl (by rw [show (k0_t3_loop i).trips = (i 1).val from trips3 i]; exact (i 1).isLt.le), show (k0_t3_loop i).trips = (i 1).val from trips3 i]

/-- The remainder loop stores nothing. -/
theorem rem4 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v146 : FVec Ideal S512x128 .bf16) (v148 : FVec Ideal S512x256 .f32) (v153 : FVec Ideal S512x128 .f32) (v165 : BitVec 32) (X_arg5 : BufTy.Contents (Elt Ideal) arg5.view.ty) (X_arg6 : BufTy.Contents (Elt Ideal) arg6.view.ty) (G8 : BufTy.Contents (Elt Ideal) arg8.view.ty) (G9 : BufTy.Contents (Elt Ideal) arg9.view.ty) (G10 : BufTy.Contents (Elt Ideal) arg10.view.ty) :
    pb_k0_t4 (F := Ideal) 𝒱 c bd i arg2 harg2 arg3 harg3 arg4 harg4 arg5 harg5 arg6 harg6 arg7 harg7 arg8 harg8 arg9 harg9 arg10 harg10 arg1 v26 v146 v148 v153 v165 X_arg5 X_arg6 G8 G9 G10 (Scf.trips (k0_t4_loop i).lb (k0_t4_loop i).ub (k0_t4_loop i).st) = ([], [], []) := by
  rw [trips4]; rfl

end Cert.AttnIdeal.Value

end
-- ==== Proof.AttnTrip5.lean ====
/- One trip of head 2's loop, element by element. -/
module

public import proofs.«01_k».proof.Proof.AttnTripBase

@[expose] public section

set_option maxRecDepth 16384

noncomputable section

open Idealize.ShloMosaic Idealize.ShloMosaic.TcCoe Idealize.SL.Sem
open Idealize.ShloMosaic.Pipeline (Dat)

namespace Cert.AttnIdeal.Value
open Cert.AttnIdeal Cert.AttnIdeal.Gen Cert.AttnMath

/-- Buffer 8 after one trip of head 2's loop, element by element: the step's `mx`. -/
theorem trip5_8 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v253 : FVec Ideal S512x128 .bf16) (v255 : FVec Ideal S512x256 .f32) (v264 : FVec Ideal S512x128 .f32) (X_arg5 : BufTy.Contents (Elt Ideal) arg5.view.ty) (X_arg6 : BufTy.Contents (Elt Ideal) arg6.view.ty) (k : Fin (k0_t5_loop i).trips) (f8 : BufTy.Contents (Elt Ideal) arg8.view.ty) (f9 : BufTy.Contents (Elt Ideal) arg9.view.ty) (f10 : BufTy.Contents (Elt Ideal) arg10.view.ty)  (j : Fin 32) (hj : j.val = k.val) (r : Fin 512) (d : Fin 128) :
    arg8.view.read (Elt Ideal) (arg8.view.writes (Elt Ideal) f8 (tripL_k0_t5 (F := Ideal) 𝒱 c bd i arg2 harg2 arg3 harg3 arg4 harg4 arg5 harg5 arg6 harg6 arg7 harg7 arg8 harg8 arg9 harg9 arg10 harg10 arg1 v26 v253 v255 v264 X_arg5 X_arg6 k f8 f9 f10).1) (ix2 r d)
      = (step (score (fn2 v253) (fn2 v255) (tile 256 (by decide) (arg5.view.read (Elt Ideal) X_arg5) j)) (tile 256 (by decide) (arg6.view.read (Elt Ideal) X_arg6) j)
          (toff 0x3D000000#32 arg1 k.val) ⟨fn2 (arg8.view.read (Elt Ideal) f8), fn2 (arg9.view.read (Elt Ideal) f9), fn2 (arg10.view.read (Elt Ideal) f10)⟩).mx r d := by
  have hk : BitVec.toNat (Scalar.indexCast (Scf.iv 0#32 1#32 k.val) : BitVec 32) = j.val := iv_val j k.val hj
  unfold tripL_k0_t5 trip_k0_t5
  dsimp only
  sl_unfold_words
  rw [read_last (S := S512x128) _ _ _ hz]
  simp only [View.readAt_eq_ld, View.ld_unit_zero (S := S512x128) hz]
  have hb5 := ld_blk (arg5.view.read (Elt Ideal) X_arg5) j (![BitVec.toNat (Scalar.indexCast (Scf.iv 0#32 1#32 k.val) : BitVec 32), 0, 0]) (by rw [hk])
  have hb6 := ld_blk (arg6.view.read (Elt Ideal) X_arg6) j (![BitVec.toNat (Scalar.indexCast (Scf.iv 0#32 1#32 k.val) : BitVec 32), 0, 0]) (by rw [hk])
  erw [hb5]
  pointwise [k0_pay128, k0_pay129, blk_apply, ninf, step, stepM, stepP, stepA, score, rowMax, fn2, tile, toff]

/-- Buffer 9 after one trip of head 2's loop, element by element: the step's `nr`. -/
theorem trip5_9 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v253 : FVec Ideal S512x128 .bf16) (v255 : FVec Ideal S512x256 .f32) (v264 : FVec Ideal S512x128 .f32) (X_arg5 : BufTy.Contents (Elt Ideal) arg5.view.ty) (X_arg6 : BufTy.Contents (Elt Ideal) arg6.view.ty) (k : Fin (k0_t5_loop i).trips) (f8 : BufTy.Contents (Elt Ideal) arg8.view.ty) (f9 : BufTy.Contents (Elt Ideal) arg9.view.ty) (f10 : BufTy.Contents (Elt Ideal) arg10.view.ty)  (j : Fin 32) (hj : j.val = k.val) (r : Fin 512) (d : Fin 128) :
    arg9.view.read (Elt Ideal) (arg9.view.writes (Elt Ideal) f9 (tripL_k0_t5 (F := Ideal) 𝒱 c bd i arg2 harg2 arg3 harg3 arg4 harg4 arg5 harg5 arg6 harg6 arg7 harg7 arg8 harg8 arg9 harg9 arg10 harg10 arg1 v26 v253 v255 v264 X_arg5 X_arg6 k f8 f9 f10).2.1) (ix2 r d)
      = (step (score (fn2 v253) (fn2 v255) (tile 256 (by decide) (arg5.view.read (Elt Ideal) X_arg5) j)) (tile 256 (by decide) (arg6.view.read (Elt Ideal) X_arg6) j)
          (toff 0x3D000000#32 arg1 k.val) ⟨fn2 (arg8.view.read (Elt Ideal) f8), fn2 (arg9.view.read (Elt Ideal) f9), fn2 (arg10.view.read (Elt Ideal) f10)⟩).nr r d := by
  have hk : BitVec.toNat (Scalar.indexCast (Scf.iv 0#32 1#32 k.val) : BitVec 32) = j.val := iv_val j k.val hj
  unfold tripL_k0_t5 trip_k0_t5
  dsimp only
  sl_unfold_words
  rw [read_last (S := S512x128) _ _ _ hz]
  simp only [View.readAt_eq_ld, View.ld_unit_zero (S := S512x128) hz]
  have hb5 := ld_blk (arg5.view.read (Elt Ideal) X_arg5) j (![BitVec.toNat (Scalar.indexCast (Scf.iv 0#32 1#32 k.val) : BitVec 32), 0, 0]) (by rw [hk])
  have hb6 := ld_blk (arg6.view.read (Elt Ideal) X_arg6) j (![BitVec.toNat (Scalar.indexCast (Scf.iv 0#32 1#32 k.val) : BitVec 32), 0, 0]) (by rw [hk])
  erw [hb5]
  pointwise [k0_pay128, k0_pay129, blk_apply, ninf, step, stepM, stepP, stepA, score, rowMax, fn2, tile, toff]

/-- Buffer 10 after one trip of head 2's loop, element by element: the step's `ac`. -/
theorem trip5_10 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v253 : FVec Ideal S512x128 .bf16) (v255 : FVec Ideal S512x256 .f32) (v264 : FVec Ideal S512x128 .f32) (X_arg5 : BufTy.Contents (Elt Ideal) arg5.view.ty) (X_arg6 : BufTy.Contents (Elt Ideal) arg6.view.ty) (k : Fin (k0_t5_loop i).trips) (f8 : BufTy.Contents (Elt Ideal) arg8.view.ty) (f9 : BufTy.Contents (Elt Ideal) arg9.view.ty) (f10 : BufTy.Contents (Elt Ideal) arg10.view.ty)  (j : Fin 32) (hj : j.val = k.val) (r : Fin 512) (d : Fin 128) :
    arg10.view.read (Elt Ideal) (arg10.view.writes (Elt Ideal) f10 (tripL_k0_t5 (F := Ideal) 𝒱 c bd i arg2 harg2 arg3 harg3 arg4 harg4 arg5 harg5 arg6 harg6 arg7 harg7 arg8 harg8 arg9 harg9 arg10 harg10 arg1 v26 v253 v255 v264 X_arg5 X_arg6 k f8 f9 f10).2.2) (ix2 r d)
      = (step (score (fn2 v253) (fn2 v255) (tile 256 (by decide) (arg5.view.read (Elt Ideal) X_arg5) j)) (tile 256 (by decide) (arg6.view.read (Elt Ideal) X_arg6) j)
          (toff 0x3D000000#32 arg1 k.val) ⟨fn2 (arg8.view.read (Elt Ideal) f8), fn2 (arg9.view.read (Elt Ideal) f9), fn2 (arg10.view.read (Elt Ideal) f10)⟩).ac r d := by
  have hk : BitVec.toNat (Scalar.indexCast (Scf.iv 0#32 1#32 k.val) : BitVec 32) = j.val := iv_val j k.val hj
  unfold tripL_k0_t5 trip_k0_t5
  dsimp only
  sl_unfold_words
  rw [read_last (S := S512x128) _ _ _ hz]
  simp only [View.readAt_eq_ld, View.ld_unit_zero (S := S512x128) hz]
  have hb5 := ld_blk (arg5.view.read (Elt Ideal) X_arg5) j (![BitVec.toNat (Scalar.indexCast (Scf.iv 0#32 1#32 k.val) : BitVec 32), 0, 0]) (by rw [hk])
  have hb6 := ld_blk (arg6.view.read (Elt Ideal) X_arg6) j (![BitVec.toNat (Scalar.indexCast (Scf.iv 0#32 1#32 k.val) : BitVec 32), 0, 0]) (by rw [hk])
  erw [hb5, hb6]
  pointwise [k0_pay128, k0_pay129, blk_apply, ninf, step, stepM, stepP, stepA, score, rowMax, fn2, tile, toff]

end Cert.AttnIdeal.Value

end
-- ==== Proof.AttnLoop5.lean ====
/- The loop of head 2: as many steps of the running softmax as it has trips. -/
module

public import proofs.«01_k».proof.Proof.AttnLoopBase
public import proofs.«01_k».proof.Proof.AttnTrip5

@[expose] public section

set_option maxRecDepth 16384

noncomputable section

open Idealize.ShloMosaic Idealize.ShloMosaic.TcCoe Idealize.SL.Sem
open Idealize.ShloMosaic.Pipeline (Dat)

namespace Cert.AttnIdeal.Value
open Cert.AttnIdeal Cert.AttnIdeal.Gen Cert.AttnMath

/-- The three buffers after `n` trips of head 2's loop: `n` steps of the running softmax. -/
theorem loop5 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v253 : FVec Ideal S512x128 .bf16) (v255 : FVec Ideal S512x256 .f32) (v264 : FVec Ideal S512x128 .f32) (X_arg5 : BufTy.Contents (Elt Ideal) arg5.view.ty) (X_arg6 : BufTy.Contents (Elt Ideal) arg6.view.ty) (G8 : BufTy.Contents (Elt Ideal) arg8.view.ty) (G9 : BufTy.Contents (Elt Ideal) arg9.view.ty) (G10 : BufTy.Contents (Elt Ideal) arg10.view.ty) (hT : (k0_t5_loop i).trips ≤ 32) :
    ∀ n : Nat, n ≤ (k0_t5_loop i).trips →
    rd arg8 arg9 arg10 (arg8.view.writes (Elt Ideal) G8 (pb_k0_t5 (F := Ideal) 𝒱 c bd i arg2 harg2 arg3 harg3 arg4 harg4 arg5 harg5 arg6 harg6 arg7 harg7 arg8 harg8 arg9 harg9 arg10 harg10 arg1 v26 v253 v255 v264 X_arg5 X_arg6 G8 G9 G10 n).1) (arg9.view.writes (Elt Ideal) G9 (pb_k0_t5 (F := Ideal) 𝒱 c bd i arg2 harg2 arg3 harg3 arg4 harg4 arg5 harg5 arg6 harg6 arg7 harg7 arg8 harg8 arg9 harg9 arg10 harg10 arg1 v26 v253 v255 v264 X_arg5 X_arg6 G8 G9 G10 n).2.1) (arg10.view.writes (Elt Ideal) G10 (pb_k0_t5 (F := Ideal) 𝒱 c bd i arg2 harg2 arg3 harg3 arg4 harg4 arg5 harg5 arg6 harg6 arg7 harg7 arg8 harg8 arg9 harg9 arg10 harg10 arg1 v26 v253 v255 v264 X_arg5 X_arg6 G8 G9 G10 n).2.2)
      = run (fun k => score (fn2 v253) (fn2 v255) (tile 256 (by decide) (arg5.view.read (Elt Ideal) X_arg5) (jj k))) (fun k => tile 256 (by decide) (arg6.view.read (Elt Ideal) X_arg6) (jj k)) (toff 0x3D000000#32 arg1) n (rd arg8 arg9 arg10 G8 G9 G10)
  | 0, _ => rfl
  | n + 1, hn => by
    have ih := loop5 𝒱 c bd i arg2 harg2 arg3 harg3 arg4 harg4 arg5 harg5 arg6 harg6 arg7 harg7 arg8 harg8 arg9 harg9 arg10 harg10 arg1 v26 v253 v255 v264 X_arg5 X_arg6 G8 G9 G10 hT n (Nat.le_of_succ_le hn)
    have hj : (jj n).val = n := Nat.mod_eq_of_lt (lt_of_lt_of_le hn hT)
    rw [run, ← ih]
    have e := pb_k0_t5_succ (F := Ideal) 𝒱 c bd i arg2 harg2 arg3 harg3 arg4 harg4 arg5 harg5 arg6 harg6 arg7 harg7 arg8 harg8 arg9 harg9 arg10 harg10 arg1 v26 v253 v255 v264 X_arg5 X_arg6 G8 G9 G10 ⟨n, hn⟩
    dsimp only at e
    rw [e]
    dsimp only
    rw [View.writes_append, View.writes_append, View.writes_append]
    have e8 := trip5_8 𝒱 c bd i arg2 harg2 arg3 harg3 arg4 harg4 arg5 harg5 arg6 harg6 arg7 harg7 arg8 harg8 arg9 harg9 arg10 harg10 arg1 v26 v253 v255 v264 X_arg5 X_arg6 ⟨n, hn⟩ (arg8.view.writes (Elt Ideal) G8 (pb_k0_t5 (F := Ideal) 𝒱 c bd i arg2 harg2 arg3 harg3 arg4 harg4 arg5 harg5 arg6 harg6 arg7 harg7 arg8 harg8 arg9 harg9 arg10 harg10 arg1 v26 v253 v255 v264 X_arg5 X_arg6 G8 G9 G10 n).1) (arg9.view.writes (Elt Ideal) G9 (pb_k0_t5 (F := Ideal) 𝒱 c bd i arg2 harg2 arg3 harg3 arg4 harg4 arg5 harg5 arg6 harg6 arg7 harg7 arg8 harg8 arg9 harg9 arg10 harg10 arg1 v26 v253 v255 v264 X_arg5 X_arg6 G8 G9 G10 n).2.1) (arg10.view.writes (Elt Ideal) G10 (pb_k0_t5 (F := Ideal) 𝒱 c bd i arg2 harg2 arg3 harg3 arg4 harg4 arg5 harg5 arg6 harg6 arg7 harg7 arg8 harg8 arg9 harg9 arg10 harg10 arg1 v26 v253 v255 v264 X_arg5 X_arg6 G8 G9 G10 n).2.2) (jj n) hj
    have e9 := trip5_9 𝒱 c bd i arg2 harg2 arg3 harg3 arg4 harg4 arg5 harg5 arg6 harg6 arg7 harg7 arg8 harg8 arg9 harg9 arg10 harg10 arg1 v26 v253 v255 v264 X_arg5 X_arg6 ⟨n, hn⟩ (arg8.view.writes (Elt Ideal) G8 (pb_k0_t5 (F := Ideal) 𝒱 c bd i arg2 harg2 arg3 harg3 arg4 harg4 arg5 harg5 arg6 harg6 arg7 harg7 arg8 harg8 arg9 harg9 arg10 harg10 arg1 v26 v253 v255 v264 X_arg5 X_arg6 G8 G9 G10 n).1) (arg9.view.writes (Elt Ideal) G9 (pb_k0_t5 (F := Ideal) 𝒱 c bd i arg2 harg2 arg3 harg3 arg4 harg4 arg5 harg5 arg6 harg6 arg7 harg7 arg8 harg8 arg9 harg9 arg10 harg10 arg1 v26 v253 v255 v264 X_arg5 X_arg6 G8 G9 G10 n).2.1) (arg10.view.writes (Elt Ideal) G10 (pb_k0_t5 (F := Ideal) 𝒱 c bd i arg2 harg2 arg3 harg3 arg4 harg4 arg5 harg5 arg6 harg6 arg7 harg7 arg8 harg8 arg9 harg9 arg10 harg10 arg1 v26 v253 v255 v264 X_arg5 X_arg6 G8 G9 G10 n).2.2) (jj n) hj
    have e10 := trip5_10 𝒱 c bd i arg2 harg2 arg3 harg3 arg4 harg4 arg5 harg5 arg6 harg6 arg7 harg7 arg8 harg8 arg9 harg9 arg10 harg10 arg1 v26 v253 v255 v264 X_arg5 X_arg6 ⟨n, hn⟩ (arg8.view.writes (Elt Ideal) G8 (pb_k0_t5 (F := Ideal) 𝒱 c bd i arg2 harg2 arg3 harg3 arg4 harg4 arg5 harg5 arg6 harg6 arg7 harg7 arg8 harg8 arg9 harg9 arg10 harg10 arg1 v26 v253 v255 v264 X_arg5 X_arg6 G8 G9 G10 n).1) (arg9.view.writes (Elt Ideal) G9 (pb_k0_t5 (F := Ideal) 𝒱 c bd i arg2 harg2 arg3 harg3 arg4 harg4 arg5 harg5 arg6 harg6 arg7 harg7 arg8 harg8 arg9 harg9 arg10 harg10 arg1 v26 v253 v255 v264 X_arg5 X_arg6 G8 G9 G10 n).2.1) (arg10.view.writes (Elt Ideal) G10 (pb_k0_t5 (F := Ideal) 𝒱 c bd i arg2 harg2 arg3 harg3 arg4 harg4 arg5 harg5 arg6 harg6 arg7 harg7 arg8 harg8 arg9 harg9 arg10 harg10 arg1 v26 v253 v255 v264 X_arg5 X_arg6 G8 G9 G10 n).2.2) (jj n) hj
    exact St.ext_at e8 e9 e10

/-- Buffer 8 read after all the trips of head 2's loop. -/
theorem loop5_8 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v253 : FVec Ideal S512x128 .bf16) (v255 : FVec Ideal S512x256 .f32) (v264 : FVec Ideal S512x128 .f32) (X_arg5 : BufTy.Contents (Elt Ideal) arg5.view.ty) (X_arg6 : BufTy.Contents (Elt Ideal) arg6.view.ty) (L8 : List (View.Piece (Elt Ideal) S512x128 .f32)) (L9 : List (View.Piece (Elt Ideal) S512x128 .f32)) (L10 : List (View.Piece (Elt Ideal) S512x128 .f32)) (T : Nat) (hT : T = (k0_t5_loop i).trips) (hT2 : (k0_t5_loop i).trips ≤ 32) :
    arg8.view.read (Elt Ideal) (arg8.view.writes (Elt Ideal) arg8.view.junk ((pb_k0_t5 (F := Ideal) 𝒱 c bd i arg2 harg2 arg3 harg3 arg4 harg4 arg5 harg5 arg6 harg6 arg7 harg7 arg8 harg8 arg9 harg9 arg10 harg10 arg1 v26 v253 v255 v264 X_arg5 X_arg6 (arg8.view.writes (Elt Ideal) arg8.view.junk L8) (arg9.view.writes (Elt Ideal) arg9.view.junk L9) (arg10.view.writes (Elt Ideal) arg10.view.junk L10) T).1 ++ L8))
      = vec (run (fun k => score (fn2 v253) (fn2 v255) (tile 256 (by decide) (arg5.view.read (Elt Ideal) X_arg5) (jj k))) (fun k => tile 256 (by decide) (arg6.view.read (Elt Ideal) X_arg6) (jj k)) (toff 0x3D000000#32 arg1) T (rd arg8 arg9 arg10 (arg8.view.writes (Elt Ideal) arg8.view.junk L8) (arg9.view.writes (Elt Ideal) arg9.view.junk L9) (arg10.view.writes (Elt Ideal) arg10.view.junk L10))).mx := by
  rw [View.writes_append, ← loop5 𝒱 c bd i arg2 harg2 arg3 harg3 arg4 harg4 arg5 harg5 arg6 harg6 arg7 harg7 arg8 harg8 arg9 harg9 arg10 harg10 arg1 v26 v253 v255 v264 X_arg5 X_arg6 _ _ _ hT2 T hT.le]
  exact (vec_fn2 _).symm

/-- Buffer 9 read after all the trips of head 2's loop. -/
theorem loop5_9 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v253 : FVec Ideal S512x128 .bf16) (v255 : FVec Ideal S512x256 .f32) (v264 : FVec Ideal S512x128 .f32) (X_arg5 : BufTy.Contents (Elt Ideal) arg5.view.ty) (X_arg6 : BufTy.Contents (Elt Ideal) arg6.view.ty) (L8 : List (View.Piece (Elt Ideal) S512x128 .f32)) (L9 : List (View.Piece (Elt Ideal) S512x128 .f32)) (L10 : List (View.Piece (Elt Ideal) S512x128 .f32)) (T : Nat) (hT : T = (k0_t5_loop i).trips) (hT2 : (k0_t5_loop i).trips ≤ 32) :
    arg9.view.read (Elt Ideal) (arg9.view.writes (Elt Ideal) arg9.view.junk ((pb_k0_t5 (F := Ideal) 𝒱 c bd i arg2 harg2 arg3 harg3 arg4 harg4 arg5 harg5 arg6 harg6 arg7 harg7 arg8 harg8 arg9 harg9 arg10 harg10 arg1 v26 v253 v255 v264 X_arg5 X_arg6 (arg8.view.writes (Elt Ideal) arg8.view.junk L8) (arg9.view.writes (Elt Ideal) arg9.view.junk L9) (arg10.view.writes (Elt Ideal) arg10.view.junk L10) T).2.1 ++ L9))
      = vec (run (fun k => score (fn2 v253) (fn2 v255) (tile 256 (by decide) (arg5.view.read (Elt Ideal) X_arg5) (jj k))) (fun k => tile 256 (by decide) (arg6.view.read (Elt Ideal) X_arg6) (jj k)) (toff 0x3D000000#32 arg1) T (rd arg8 arg9 arg10 (arg8.view.writes (Elt Ideal) arg8.view.junk L8) (arg9.view.writes (Elt Ideal) arg9.view.junk L9) (arg10.view.writes (Elt Ideal) arg10.view.junk L10))).nr := by
  rw [View.writes_append, ← loop5 𝒱 c bd i arg2 harg2 arg3 harg3 arg4 harg4 arg5 harg5 arg6 harg6 arg7 harg7 arg8 harg8 arg9 harg9 arg10 harg10 arg1 v26 v253 v255 v264 X_arg5 X_arg6 _ _ _ hT2 T hT.le]
  exact (vec_fn2 _).symm

/-- Buffer 10 read after all the trips of head 2's loop. -/
theorem loop5_10 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v253 : FVec Ideal S512x128 .bf16) (v255 : FVec Ideal S512x256 .f32) (v264 : FVec Ideal S512x128 .f32) (X_arg5 : BufTy.Contents (Elt Ideal) arg5.view.ty) (X_arg6 : BufTy.Contents (Elt Ideal) arg6.view.ty) (L8 : List (View.Piece (Elt Ideal) S512x128 .f32)) (L9 : List (View.Piece (Elt Ideal) S512x128 .f32)) (L10 : List (View.Piece (Elt Ideal) S512x128 .f32)) (T : Nat) (hT : T = (k0_t5_loop i).trips) (hT2 : (k0_t5_loop i).trips ≤ 32) :
    arg10.view.read (Elt Ideal) (arg10.view.writes (Elt Ideal) arg10.view.junk ((pb_k0_t5 (F := Ideal) 𝒱 c bd i arg2 harg2 arg3 harg3 arg4 harg4 arg5 harg5 arg6 harg6 arg7 harg7 arg8 harg8 arg9 harg9 arg10 harg10 arg1 v26 v253 v255 v264 X_arg5 X_arg6 (arg8.view.writes (Elt Ideal) arg8.view.junk L8) (arg9.view.writes (Elt Ideal) arg9.view.junk L9) (arg10.view.writes (Elt Ideal) arg10.view.junk L10) T).2.2 ++ L10))
      = vec (run (fun k => score (fn2 v253) (fn2 v255) (tile 256 (by decide) (arg5.view.read (Elt Ideal) X_arg5) (jj k))) (fun k => tile 256 (by decide) (arg6.view.read (Elt Ideal) X_arg6) (jj k)) (toff 0x3D000000#32 arg1) T (rd arg8 arg9 arg10 (arg8.view.writes (Elt Ideal) arg8.view.junk L8) (arg9.view.writes (Elt Ideal) arg9.view.junk L9) (arg10.view.writes (Elt Ideal) arg10.view.junk L10))).ac := by
  rw [View.writes_append, ← loop5 𝒱 c bd i arg2 harg2 arg3 harg3 arg4 harg4 arg5 harg5 arg6 harg6 arg7 harg7 arg8 harg8 arg9 harg9 arg10 harg10 arg1 v26 v253 v255 v264 X_arg5 X_arg6 _ _ _ hT2 T hT.le]
  exact (vec_fn2 _).symm

end Cert.AttnIdeal.Value

end
-- ==== Proof.AttnAfter5.lean ====
/- Head 2: what the buffers read after its loops. -/
module

public import proofs.«01_k».proof.Proof.AttnLoop5

@[expose] public section

set_option maxRecDepth 16384

noncomputable section

open Idealize.ShloMosaic Idealize.ShloMosaic.TcCoe Idealize.SL.Sem
open Idealize.ShloMosaic.Pipeline (Dat)

namespace Cert.AttnIdeal.Value
open Cert.AttnIdeal Cert.AttnIdeal.Gen Cert.AttnMath

theorem trips5 (i : grid0.Coords) : (Scf.trips (k0_t5_loop i).lb (k0_t5_loop i).ub (k0_t5_loop i).st) = (i 1).val := by
  have h : ∀ a : Fin 32, Scf.trips 0#32 (Scalar.addi 0#32 (Scalar.muli (Scalar.divsi (Scalar.subi (BitVec.ofNat 32 a.val) 0#32) 1#32) 1#32)) 1#32 = a.val := by decide +kernel
  exact h (i 1)

theorem trips6 (i : grid0.Coords) : (Scf.trips (k0_t6_loop i).lb (k0_t6_loop i).ub (k0_t6_loop i).st) = 0 := by
  have h : ∀ a : Fin 32, Scf.trips (Scalar.addi 0#32 (Scalar.muli (Scalar.divsi (Scalar.subi (BitVec.ofNat 32 a.val) 0#32) 1#32) 1#32)) (Scalar.addi 0#32 (Scalar.subi (BitVec.ofNat 32 a.val) 0#32)) 1#32 = 0 := by decide +kernel
  exact h (i 1)

/-- Buffer 8 after the whole loop of head 2, in the state the stores before it left. -/
theorem after5_8 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v253 : FVec Ideal S512x128 .bf16) (v255 : FVec Ideal S512x256 .f32) (v264 : FVec Ideal S512x128 .f32) (X_arg5 : BufTy.Contents (Elt Ideal) arg5.view.ty) (X_arg6 : BufTy.Contents (Elt Ideal) arg6.view.ty) (L8 : List (View.Piece (Elt Ideal) S512x128 .f32)) (L9 : List (View.Piece (Elt Ideal) S512x128 .f32)) (L10 : List (View.Piece (Elt Ideal) S512x128 .f32)) :
    arg8.view.read (Elt Ideal) (arg8.view.writes (Elt Ideal) arg8.view.junk ((pb_k0_t5 (F := Ideal) 𝒱 c bd i arg2 harg2 arg3 harg3 arg4 harg4 arg5 harg5 arg6 harg6 arg7 harg7 arg8 harg8 arg9 harg9 arg10 harg10 arg1 v26 v253 v255 v264 X_arg5 X_arg6 (arg8.view.writes (Elt Ideal) arg8.view.junk L8) (arg9.view.writes (Elt Ideal) arg9.view.junk L9) (arg10.view.writes (Elt Ideal) arg10.view.junk L10) (Scf.trips (k0_t5_loop i).lb (k0_t5_loop i).ub (k0_t5_loop i).st)).1 ++ L8))
      = vec (run (fun k => score (fn2 v253) (fn2 v255) (tile 256 (by decide) (arg5.view.read (Elt Ideal) X_arg5) (jj k))) (fun k => tile 256 (by decide) (arg6.view.read (Elt Ideal) X_arg6) (jj k)) (toff 0x3D000000#32 arg1) (i 1).val (rd arg8 arg9 arg10 (arg8.view.writes (Elt Ideal) arg8.view.junk L8) (arg9.view.writes (Elt Ideal) arg9.view.junk L9) (arg10.view.writes (Elt Ideal) arg10.view.junk L10))).mx := by
  rw [loop5_8 𝒱 c bd i arg2 harg2 arg3 harg3 arg4 harg4 arg5 harg5 arg6 harg6 arg7 harg7 arg8 harg8 arg9 harg9 arg10 harg10 arg1 v26 v253 v255 v264 X_arg5 X_arg6 L8 L9 L10 _ rfl (by rw [show (k0_t5_loop i).trips = (i 1).val from trips5 i]; exact (i 1).isLt.le), show (k0_t5_loop i).trips = (i 1).val from trips5 i]

/-- Buffer 9 after the whole loop of head 2, in the state the stores before it left. -/
theorem after5_9 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v253 : FVec Ideal S512x128 .bf16) (v255 : FVec Ideal S512x256 .f32) (v264 : FVec Ideal S512x128 .f32) (X_arg5 : BufTy.Contents (Elt Ideal) arg5.view.ty) (X_arg6 : BufTy.Contents (Elt Ideal) arg6.view.ty) (L8 : List (View.Piece (Elt Ideal) S512x128 .f32)) (L9 : List (View.Piece (Elt Ideal) S512x128 .f32)) (L10 : List (View.Piece (Elt Ideal) S512x128 .f32)) :
    arg9.view.read (Elt Ideal) (arg9.view.writes (Elt Ideal) arg9.view.junk ((pb_k0_t5 (F := Ideal) 𝒱 c bd i arg2 harg2 arg3 harg3 arg4 harg4 arg5 harg5 arg6 harg6 arg7 harg7 arg8 harg8 arg9 harg9 arg10 harg10 arg1 v26 v253 v255 v264 X_arg5 X_arg6 (arg8.view.writes (Elt Ideal) arg8.view.junk L8) (arg9.view.writes (Elt Ideal) arg9.view.junk L9) (arg10.view.writes (Elt Ideal) arg10.view.junk L10) (Scf.trips (k0_t5_loop i).lb (k0_t5_loop i).ub (k0_t5_loop i).st)).2.1 ++ L9))
      = vec (run (fun k => score (fn2 v253) (fn2 v255) (tile 256 (by decide) (arg5.view.read (Elt Ideal) X_arg5) (jj k))) (fun k => tile 256 (by decide) (arg6.view.read (Elt Ideal) X_arg6) (jj k)) (toff 0x3D000000#32 arg1) (i 1).val (rd arg8 arg9 arg10 (arg8.view.writes (Elt Ideal) arg8.view.junk L8) (arg9.view.writes (Elt Ideal) arg9.view.junk L9) (arg10.view.writes (Elt Ideal) arg10.view.junk L10))).nr := by
  rw [loop5_9 𝒱 c bd i arg2 harg2 arg3 harg3 arg4 harg4 arg5 harg5 arg6 harg6 arg7 harg7 arg8 harg8 arg9 harg9 arg10 harg10 arg1 v26 v253 v255 v264 X_arg5 X_arg6 L8 L9 L10 _ rfl (by rw [show (k0_t5_loop i).trips = (i 1).val from trips5 i]; exact (i 1).isLt.le), show (k0_t5_loop i).trips = (i 1).val from trips5 i]

/-- Buffer 10 after the whole loop of head 2, in the state the stores before it left. -/
theorem after5_10 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v253 : FVec Ideal S512x128 .bf16) (v255 : FVec Ideal S512x256 .f32) (v264 : FVec Ideal S512x128 .f32) (X_arg5 : BufTy.Contents (Elt Ideal) arg5.view.ty) (X_arg6 : BufTy.Contents (Elt Ideal) arg6.view.ty) (L8 : List (View.Piece (Elt Ideal) S512x128 .f32)) (L9 : List (View.Piece (Elt Ideal) S512x128 .f32)) (L10 : List (View.Piece (Elt Ideal) S512x128 .f32)) :
    arg10.view.read (Elt Ideal) (arg10.view.writes (Elt Ideal) arg10.view.junk ((pb_k0_t5 (F := Ideal) 𝒱 c bd i arg2 harg2 arg3 harg3 arg4 harg4 arg5 harg5 arg6 harg6 arg7 harg7 arg8 harg8 arg9 harg9 arg10 harg10 arg1 v26 v253 v255 v264 X_arg5 X_arg6 (arg8.view.writes (Elt Ideal) arg8.view.junk L8) (arg9.view.writes (Elt Ideal) arg9.view.junk L9) (arg10.view.writes (Elt Ideal) arg10.view.junk L10) (Scf.trips (k0_t5_loop i).lb (k0_t5_loop i).ub (k0_t5_loop i).st)).2.2 ++ L10))
      = vec (run (fun k => score (fn2 v253) (fn2 v255) (tile 256 (by decide) (arg5.view.read (Elt Ideal) X_arg5) (jj k))) (fun k => tile 256 (by decide) (arg6.view.read (Elt Ideal) X_arg6) (jj k)) (toff 0x3D000000#32 arg1) (i 1).val (rd arg8 arg9 arg10 (arg8.view.writes (Elt Ideal) arg8.view.junk L8) (arg9.view.writes (Elt Ideal) arg9.view.junk L9) (arg10.view.writes (Elt Ideal) arg10.view.junk L10))).ac := by
  rw [loop5_10 𝒱 c bd i arg2 harg2 arg3 harg3 arg4 harg4 arg5 harg5 arg6 harg6 arg7 harg7 arg8 harg8 arg9 harg9 arg10 harg10 arg1 v26 v253 v255 v264 X_arg5 X_arg6 L8 L9 L10 _ rfl (by rw [show (k0_t5_loop i).trips = (i 1).val from trips5 i]; exact (i 1).isLt.le), show (k0_t5_loop i).trips = (i 1).val from trips5 i]

/-- The remainder loop stores nothing. -/
theorem rem6 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v253 : FVec Ideal S512x128 .bf16) (v255 : FVec Ideal S512x256 .f32) (v264 : FVec Ideal S512x128 .f32) (v272 : BitVec 32) (X_arg5 : BufTy.Contents (Elt Ideal) arg5.view.ty) (X_arg6 : BufTy.Contents (Elt Ideal) arg6.view.ty) (G8 : BufTy.Contents (Elt Ideal) arg8.view.ty) (G9 : BufTy.Contents (Elt Ideal) arg9.view.ty) (G10 : BufTy.Contents (Elt Ideal) arg10.view.ty) :
    pb_k0_t6 (F := Ideal) 𝒱 c bd i arg2 harg2 arg3 harg3 arg4 harg4 arg5 harg5 arg6 harg6 arg7 harg7 arg8 harg8 arg9 harg9 arg10 harg10 arg1 v26 v253 v255 v264 v272 X_arg5 X_arg6 G8 G9 G10 (Scf.trips (k0_t6_loop i).lb (k0_t6_loop i).ub (k0_t6_loop i).st) = ([], [], []) := by
  rw [trips6]; rfl

end Cert.AttnIdeal.Value

end
-- ==== Proof.AttnTrip7.lean ====
/- One trip of head 3's loop, element by element. -/
module

public import proofs.«01_k».proof.Proof.AttnTripBase

@[expose] public section

set_option maxRecDepth 16384

noncomputable section

open Idealize.ShloMosaic Idealize.ShloMosaic.TcCoe Idealize.SL.Sem
open Idealize.ShloMosaic.Pipeline (Dat)

namespace Cert.AttnIdeal.Value
open Cert.AttnIdeal Cert.AttnIdeal.Gen Cert.AttnMath

/-- Buffer 8 after one trip of head 3's loop, element by element: the step's `mx`. -/
theorem trip7_8 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v360 : FVec Ideal S512x128 .bf16) (v362 : FVec Ideal S512x256 .f32) (c0_i32_183 : BitVec 32) (X_arg5 : BufTy.Contents (Elt Ideal) arg5.view.ty) (X_arg6 : BufTy.Contents (Elt Ideal) arg6.view.ty) (k : Fin (k0_t7_loop i).trips) (f8 : BufTy.Contents (Elt Ideal) arg8.view.ty) (f9 : BufTy.Contents (Elt Ideal) arg9.view.ty) (f10 : BufTy.Contents (Elt Ideal) arg10.view.ty)  (h0 : c0_i32_183 = 0#32) (j : Fin 32) (hj : j.val = k.val) (r : Fin 512) (d : Fin 128) :
    arg8.view.read (Elt Ideal) (arg8.view.writes (Elt Ideal) f8 (tripL_k0_t7 (F := Ideal) 𝒱 c bd i arg2 harg2 arg3 harg3 arg4 harg4 arg5 harg5 arg6 harg6 arg7 harg7 arg8 harg8 arg9 harg9 arg10 harg10 arg1 v26 v360 v362 c0_i32_183 X_arg5 X_arg6 k f8 f9 f10).1) (ix2 r d)
      = (step (score (fn2 v360) (fn2 v362) (tile 384 (by decide) (arg5.view.read (Elt Ideal) X_arg5) j)) (tile 384 (by decide) (arg6.view.read (Elt Ideal) X_arg6) j)
          (toff 0x3C000000#32 arg1 k.val) ⟨fn2 (arg8.view.read (Elt Ideal) f8), fn2 (arg9.view.read (Elt Ideal) f9), fn2 (arg10.view.read (Elt Ideal) f10)⟩).mx r d := by
  subst h0
  have hk : BitVec.toNat (Scalar.indexCast (Scf.iv 0#32 1#32 k.val) : BitVec 32) = j.val := iv_val j k.val hj
  unfold tripL_k0_t7 trip_k0_t7
  dsimp only
  sl_unfold_words
  rw [read_last (S := S512x128) _ _ _ hz]
  simp only [View.readAt_eq_ld, View.ld_unit_zero (S := S512x128) hz]
  have hb5 := ld_blk (arg5.view.read (Elt Ideal) X_arg5) j (![BitVec.toNat (Scalar.indexCast (Scf.iv 0#32 1#32 k.val) : BitVec 32), 0, 0]) (by rw [hk])
  have hb6 := ld_blk (arg6.view.read (Elt Ideal) X_arg6) j (![BitVec.toNat (Scalar.indexCast (Scf.iv 0#32 1#32 k.val) : BitVec 32), 0, 0]) (by rw [hk])
  erw [hb5]
  pointwise [k0_pay151, k0_pay152, blk_apply, ninf, step, stepM, stepP, stepA, score, rowMax, fn2, tile, toff]

/-- Buffer 9 after one trip of head 3's loop, element by element: the step's `nr`. -/
theorem trip7_9 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v360 : FVec Ideal S512x128 .bf16) (v362 : FVec Ideal S512x256 .f32) (c0_i32_183 : BitVec 32) (X_arg5 : BufTy.Contents (Elt Ideal) arg5.view.ty) (X_arg6 : BufTy.Contents (Elt Ideal) arg6.view.ty) (k : Fin (k0_t7_loop i).trips) (f8 : BufTy.Contents (Elt Ideal) arg8.view.ty) (f9 : BufTy.Contents (Elt Ideal) arg9.view.ty) (f10 : BufTy.Contents (Elt Ideal) arg10.view.ty)  (h0 : c0_i32_183 = 0#32) (j : Fin 32) (hj : j.val = k.val) (r : Fin 512) (d : Fin 128) :
    arg9.view.read (Elt Ideal) (arg9.view.writes (Elt Ideal) f9 (tripL_k0_t7 (F := Ideal) 𝒱 c bd i arg2 harg2 arg3 harg3 arg4 harg4 arg5 harg5 arg6 harg6 arg7 harg7 arg8 harg8 arg9 harg9 arg10 harg10 arg1 v26 v360 v362 c0_i32_183 X_arg5 X_arg6 k f8 f9 f10).2.1) (ix2 r d)
      = (step (score (fn2 v360) (fn2 v362) (tile 384 (by decide) (arg5.view.read (Elt Ideal) X_arg5) j)) (tile 384 (by decide) (arg6.view.read (Elt Ideal) X_arg6) j)
          (toff 0x3C000000#32 arg1 k.val) ⟨fn2 (arg8.view.read (Elt Ideal) f8), fn2 (arg9.view.read (Elt Ideal) f9), fn2 (arg10.view.read (Elt Ideal) f10)⟩).nr r d := by
  subst h0
  have hk : BitVec.toNat (Scalar.indexCast (Scf.iv 0#32 1#32 k.val) : BitVec 32) = j.val := iv_val j k.val hj
  unfold tripL_k0_t7 trip_k0_t7
  dsimp only
  sl_unfold_words
  rw [read_last (S := S512x128) _ _ _ hz]
  simp only [View.readAt_eq_ld, View.ld_unit_zero (S := S512x128) hz]
  have hb5 := ld_blk (arg5.view.read (Elt Ideal) X_arg5) j (![BitVec.toNat (Scalar.indexCast (Scf.iv 0#32 1#32 k.val) : BitVec 32), 0, 0]) (by rw [hk])
  have hb6 := ld_blk (arg6.view.read (Elt Ideal) X_arg6) j (![BitVec.toNat (Scalar.indexCast (Scf.iv 0#32 1#32 k.val) : BitVec 32), 0, 0]) (by rw [hk])
  erw [hb5]
  pointwise [k0_pay151, k0_pay152, blk_apply, ninf, step, stepM, stepP, stepA, score, rowMax, fn2, tile, toff]

/-- Buffer 10 after one trip of head 3's loop, element by element: the step's `ac`. -/
theorem trip7_10 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v360 : FVec Ideal S512x128 .bf16) (v362 : FVec Ideal S512x256 .f32) (c0_i32_183 : BitVec 32) (X_arg5 : BufTy.Contents (Elt Ideal) arg5.view.ty) (X_arg6 : BufTy.Contents (Elt Ideal) arg6.view.ty) (k : Fin (k0_t7_loop i).trips) (f8 : BufTy.Contents (Elt Ideal) arg8.view.ty) (f9 : BufTy.Contents (Elt Ideal) arg9.view.ty) (f10 : BufTy.Contents (Elt Ideal) arg10.view.ty)  (h0 : c0_i32_183 = 0#32) (j : Fin 32) (hj : j.val = k.val) (r : Fin 512) (d : Fin 128) :
    arg10.view.read (Elt Ideal) (arg10.view.writes (Elt Ideal) f10 (tripL_k0_t7 (F := Ideal) 𝒱 c bd i arg2 harg2 arg3 harg3 arg4 harg4 arg5 harg5 arg6 harg6 arg7 harg7 arg8 harg8 arg9 harg9 arg10 harg10 arg1 v26 v360 v362 c0_i32_183 X_arg5 X_arg6 k f8 f9 f10).2.2) (ix2 r d)
      = (step (score (fn2 v360) (fn2 v362) (tile 384 (by decide) (arg5.view.read (Elt Ideal) X_arg5) j)) (tile 384 (by decide) (arg6.view.read (Elt Ideal) X_arg6) j)
          (toff 0x3C000000#32 arg1 k.val) ⟨fn2 (arg8.view.read (Elt Ideal) f8), fn2 (arg9.view.read (Elt Ideal) f9), fn2 (arg10.view.read (Elt Ideal) f10)⟩).ac r d := by
  subst h0
  have hk : BitVec.toNat (Scalar.indexCast (Scf.iv 0#32 1#32 k.val) : BitVec 32) = j.val := iv_val j k.val hj
  unfold tripL_k0_t7 trip_k0_t7
  dsimp only
  sl_unfold_words
  rw [read_last (S := S512x128) _ _ _ hz]
  simp only [View.readAt_eq_ld, View.ld_unit_zero (S := S512x128) hz]
  have hb5 := ld_blk (arg5.view.read (Elt Ideal) X_arg5) j (![BitVec.toNat (Scalar.indexCast (Scf.iv 0#32 1#32 k.val) : BitVec 32), 0, 0]) (by rw [hk])
  have hb6 := ld_blk (arg6.view.read (Elt Ideal) X_arg6) j (![BitVec.toNat (Scalar.indexCast (Scf.iv 0#32 1#32 k.val) : BitVec 32), 0, 0]) (by rw [hk])
  erw [hb5, hb6]
  pointwise [k0_pay151, k0_pay152, blk_apply, ninf, step, stepM, stepP, stepA, score, rowMax, fn2, tile, toff]

end Cert.AttnIdeal.Value

end
-- ==== Proof.AttnLoop7.lean ====
/- The loop of head 3: as many steps of the running softmax as it has trips. -/
module

public import proofs.«01_k».proof.Proof.AttnLoopBase
public import proofs.«01_k».proof.Proof.AttnTrip7

@[expose] public section

set_option maxRecDepth 16384

noncomputable section

open Idealize.ShloMosaic Idealize.ShloMosaic.TcCoe Idealize.SL.Sem
open Idealize.ShloMosaic.Pipeline (Dat)

namespace Cert.AttnIdeal.Value
open Cert.AttnIdeal Cert.AttnIdeal.Gen Cert.AttnMath

/-- The three buffers after `n` trips of head 3's loop: `n` steps of the running softmax. -/
theorem loop7 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v360 : FVec Ideal S512x128 .bf16) (v362 : FVec Ideal S512x256 .f32) (c0_i32_183 : BitVec 32) (X_arg5 : BufTy.Contents (Elt Ideal) arg5.view.ty) (X_arg6 : BufTy.Contents (Elt Ideal) arg6.view.ty) (G8 : BufTy.Contents (Elt Ideal) arg8.view.ty) (G9 : BufTy.Contents (Elt Ideal) arg9.view.ty) (G10 : BufTy.Contents (Elt Ideal) arg10.view.ty) (h0 : c0_i32_183 = 0#32) (hT : (k0_t7_loop i).trips ≤ 32) :
    ∀ n : Nat, n ≤ (k0_t7_loop i).trips →
    rd arg8 arg9 arg10 (arg8.view.writes (Elt Ideal) G8 (pb_k0_t7 (F := Ideal) 𝒱 c bd i arg2 harg2 arg3 harg3 arg4 harg4 arg5 harg5 arg6 harg6 arg7 harg7 arg8 harg8 arg9 harg9 arg10 harg10 arg1 v26 v360 v362 c0_i32_183 X_arg5 X_arg6 G8 G9 G10 n).1) (arg9.view.writes (Elt Ideal) G9 (pb_k0_t7 (F := Ideal) 𝒱 c bd i arg2 harg2 arg3 harg3 arg4 harg4 arg5 harg5 arg6 harg6 arg7 harg7 arg8 harg8 arg9 harg9 arg10 harg10 arg1 v26 v360 v362 c0_i32_183 X_arg5 X_arg6 G8 G9 G10 n).2.1) (arg10.view.writes (Elt Ideal) G10 (pb_k0_t7 (F := Ideal) 𝒱 c bd i arg2 harg2 arg3 harg3 arg4 harg4 arg5 harg5 arg6 harg6 arg7 harg7 arg8 harg8 arg9 harg9 arg10 harg10 arg1 v26 v360 v362 c0_i32_183 X_arg5 X_arg6 G8 G9 G10 n).2.2)
      = run (fun k => score (fn2 v360) (fn2 v362) (tile 384 (by decide) (arg5.view.read (Elt Ideal) X_arg5) (jj k))) (fun k => tile 384 (by decide) (arg6.view.read (Elt Ideal) X_arg6) (jj k)) (toff 0x3C000000#32 arg1) n (rd arg8 arg9 arg10 G8 G9 G10)
  | 0, _ => rfl
  | n + 1, hn => by
    have ih := loop7 𝒱 c bd i arg2 harg2 arg3 harg3 arg4 harg4 arg5 harg5 arg6 harg6 arg7 harg7 arg8 harg8 arg9 harg9 arg10 harg10 arg1 v26 v360 v362 c0_i32_183 X_arg5 X_arg6 G8 G9 G10 h0 hT n (Nat.le_of_succ_le hn)
    have hj : (jj n).val = n := Nat.mod_eq_of_lt (lt_of_lt_of_le hn hT)
    rw [run, ← ih]
    have e := pb_k0_t7_succ (F := Ideal) 𝒱 c bd i arg2 harg2 arg3 harg3 arg4 harg4 arg5 harg5 arg6 harg6 arg7 harg7 arg8 harg8 arg9 harg9 arg10 harg10 arg1 v26 v360 v362 c0_i32_183 X_arg5 X_arg6 G8 G9 G10 ⟨n, hn⟩
    dsimp only at e
    rw [e]
    dsimp only
    rw [View.writes_append, View.writes_append, View.writes_append]
    have e8 := trip7_8 𝒱 c bd i arg2 harg2 arg3 harg3 arg4 harg4 arg5 harg5 arg6 harg6 arg7 harg7 arg8 harg8 arg9 harg9 arg10 harg10 arg1 v26 v360 v362 c0_i32_183 X_arg5 X_arg6 ⟨n, hn⟩ (arg8.view.writes (Elt Ideal) G8 (pb_k0_t7 (F := Ideal) 𝒱 c bd i arg2 harg2 arg3 harg3 arg4 harg4 arg5 harg5 arg6 harg6 arg7 harg7 arg8 harg8 arg9 harg9 arg10 harg10 arg1 v26 v360 v362 c0_i32_183 X_arg5 X_arg6 G8 G9 G10 n).1) (arg9.view.writes (Elt Ideal) G9 (pb_k0_t7 (F := Ideal) 𝒱 c bd i arg2 harg2 arg3 harg3 arg4 harg4 arg5 harg5 arg6 harg6 arg7 harg7 arg8 harg8 arg9 harg9 arg10 harg10 arg1 v26 v360 v362 c0_i32_183 X_arg5 X_arg6 G8 G9 G10 n).2.1) (arg10.view.writes (Elt Ideal) G10 (pb_k0_t7 (F := Ideal) 𝒱 c bd i arg2 harg2 arg3 harg3 arg4 harg4 arg5 harg5 arg6 harg6 arg7 harg7 arg8 harg8 arg9 harg9 arg10 harg10 arg1 v26 v360 v362 c0_i32_183 X_arg5 X_arg6 G8 G9 G10 n).2.2) h0 (jj n) hj
    have e9 := trip7_9 𝒱 c bd i arg2 harg2 arg3 harg3 arg4 harg4 arg5 harg5 arg6 harg6 arg7 harg7 arg8 harg8 arg9 harg9 arg10 harg10 arg1 v26 v360 v362 c0_i32_183 X_arg5 X_arg6 ⟨n, hn⟩ (arg8.view.writes (Elt Ideal) G8 (pb_k0_t7 (F := Ideal) 𝒱 c bd i arg2 harg2 arg3 harg3 arg4 harg4 arg5 harg5 arg6 harg6 arg7 harg7 arg8 harg8 arg9 harg9 arg10 harg10 arg1 v26 v360 v362 c0_i32_183 X_arg5 X_arg6 G8 G9 G10 n).1) (arg9.view.writes (Elt Ideal) G9 (pb_k0_t7 (F := Ideal) 𝒱 c bd i arg2 harg2 arg3 harg3 arg4 harg4 arg5 harg5 arg6 harg6 arg7 harg7 arg8 harg8 arg9 harg9 arg10 harg10 arg1 v26 v360 v362 c0_i32_183 X_arg5 X_arg6 G8 G9 G10 n).2.1) (arg10.view.writes (Elt Ideal) G10 (pb_k0_t7 (F := Ideal) 𝒱 c bd i arg2 harg2 arg3 harg3 arg4 harg4 arg5 harg5 arg6 harg6 arg7 harg7 arg8 harg8 arg9 harg9 arg10 harg10 arg1 v26 v360 v362 c0_i32_183 X_arg5 X_arg6 G8 G9 G10 n).2.2) h0 (jj n) hj
    have e10 := trip7_10 𝒱 c bd i arg2 harg2 arg3 harg3 arg4 harg4 arg5 harg5 arg6 harg6 arg7 harg7 arg8 harg8 arg9 harg9 arg10 harg10 arg1 v26 v360 v362 c0_i32_183 X_arg5 X_arg6 ⟨n, hn⟩ (arg8.view.writes (Elt Ideal) G8 (pb_k0_t7 (F := Ideal) 𝒱 c bd i arg2 harg2 arg3 harg3 arg4 harg4 arg5 harg5 arg6 harg6 arg7 harg7 arg8 harg8 arg9 harg9 arg10 harg10 arg1 v26 v360 v362 c0_i32_183 X_arg5 X_arg6 G8 G9 G10 n).1) (arg9.view.writes (Elt Ideal) G9 (pb_k0_t7 (F := Ideal) 𝒱 c bd i arg2 harg2 arg3 harg3 arg4 harg4 arg5 harg5 arg6 harg6 arg7 harg7 arg8 harg8 arg9 harg9 arg10 harg10 arg1 v26 v360 v362 c0_i32_183 X_arg5 X_arg6 G8 G9 G10 n).2.1) (arg10.view.writes (Elt Ideal) G10 (pb_k0_t7 (F := Ideal) 𝒱 c bd i arg2 harg2 arg3 harg3 arg4 harg4 arg5 harg5 arg6 harg6 arg7 harg7 arg8 harg8 arg9 harg9 arg10 harg10 arg1 v26 v360 v362 c0_i32_183 X_arg5 X_arg6 G8 G9 G10 n).2.2) h0 (jj n) hj
    exact St.ext_at e8 e9 e10

/-- Buffer 8 read after all the trips of head 3's loop. -/
theorem loop7_8 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v360 : FVec Ideal S512x128 .bf16) (v362 : FVec Ideal S512x256 .f32) (c0_i32_183 : BitVec 32) (X_arg5 : BufTy.Contents (Elt Ideal) arg5.view.ty) (X_arg6 : BufTy.Contents (Elt Ideal) arg6.view.ty) (L8 : List (View.Piece (Elt Ideal) S512x128 .f32)) (L9 : List (View.Piece (Elt Ideal) S512x128 .f32)) (L10 : List (View.Piece (Elt Ideal) S512x128 .f32)) (T : Nat) (hT : T = (k0_t7_loop i).trips) (hT2 : (k0_t7_loop i).trips ≤ 32) (h0 : c0_i32_183 = 0#32) :
    arg8.view.read (Elt Ideal) (arg8.view.writes (Elt Ideal) arg8.view.junk ((pb_k0_t7 (F := Ideal) 𝒱 c bd i arg2 harg2 arg3 harg3 arg4 harg4 arg5 harg5 arg6 harg6 arg7 harg7 arg8 harg8 arg9 harg9 arg10 harg10 arg1 v26 v360 v362 c0_i32_183 X_arg5 X_arg6 (arg8.view.writes (Elt Ideal) arg8.view.junk L8) (arg9.view.writes (Elt Ideal) arg9.view.junk L9) (arg10.view.writes (Elt Ideal) arg10.view.junk L10) T).1 ++ L8))
      = vec (run (fun k => score (fn2 v360) (fn2 v362) (tile 384 (by decide) (arg5.view.read (Elt Ideal) X_arg5) (jj k))) (fun k => tile 384 (by decide) (arg6.view.read (Elt Ideal) X_arg6) (jj k)) (toff 0x3C000000#32 arg1) T (rd arg8 arg9 arg10 (arg8.view.writes (Elt Ideal) arg8.view.junk L8) (arg9.view.writes (Elt Ideal) arg9.view.junk L9) (arg10.view.writes (Elt Ideal) arg10.view.junk L10))).mx := by
  rw [View.writes_append, ← loop7 𝒱 c bd i arg2 harg2 arg3 harg3 arg4 harg4 arg5 harg5 arg6 harg6 arg7 harg7 arg8 harg8 arg9 harg9 arg10 harg10 arg1 v26 v360 v362 c0_i32_183 X_arg5 X_arg6 _ _ _ h0 hT2 T hT.le]
  exact (vec_fn2 _).symm

/-- Buffer 9 read after all the trips of head 3's loop. -/
theorem loop7_9 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v360 : FVec Ideal S512x128 .bf16) (v362 : FVec Ideal S512x256 .f32) (c0_i32_183 : BitVec 32) (X_arg5 : BufTy.Contents (Elt Ideal) arg5.view.ty) (X_arg6 : BufTy.Contents (Elt Ideal) arg6.view.ty) (L8 : List (View.Piece (Elt Ideal) S512x128 .f32)) (L9 : List (View.Piece (Elt Ideal) S512x128 .f32)) (L10 : List (View.Piece (Elt Ideal) S512x128 .f32)) (T : Nat) (hT : T = (k0_t7_loop i).trips) (hT2 : (k0_t7_loop i).trips ≤ 32) (h0 : c0_i32_183 = 0#32) :
    arg9.view.read (Elt Ideal) (arg9.view.writes (Elt Ideal) arg9.view.junk ((pb_k0_t7 (F := Ideal) 𝒱 c bd i arg2 harg2 arg3 harg3 arg4 harg4 arg5 harg5 arg6 harg6 arg7 harg7 arg8 harg8 arg9 harg9 arg10 harg10 arg1 v26 v360 v362 c0_i32_183 X_arg5 X_arg6 (arg8.view.writes (Elt Ideal) arg8.view.junk L8) (arg9.view.writes (Elt Ideal) arg9.view.junk L9) (arg10.view.writes (Elt Ideal) arg10.view.junk L10) T).2.1 ++ L9))
      = vec (run (fun k => score (fn2 v360) (fn2 v362) (tile 384 (by decide) (arg5.view.read (Elt Ideal) X_arg5) (jj k))) (fun k => tile 384 (by decide) (arg6.view.read (Elt Ideal) X_arg6) (jj k)) (toff 0x3C000000#32 arg1) T (rd arg8 arg9 arg10 (arg8.view.writes (Elt Ideal) arg8.view.junk L8) (arg9.view.writes (Elt Ideal) arg9.view.junk L9) (arg10.view.writes (Elt Ideal) arg10.view.junk L10))).nr := by
  rw [View.writes_append, ← loop7 𝒱 c bd i arg2 harg2 arg3 harg3 arg4 harg4 arg5 harg5 arg6 harg6 arg7 harg7 arg8 harg8 arg9 harg9 arg10 harg10 arg1 v26 v360 v362 c0_i32_183 X_arg5 X_arg6 _ _ _ h0 hT2 T hT.le]
  exact (vec_fn2 _).symm

/-- Buffer 10 read after all the trips of head 3's loop. -/
theorem loop7_10 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v360 : FVec Ideal S512x128 .bf16) (v362 : FVec Ideal S512x256 .f32) (c0_i32_183 : BitVec 32) (X_arg5 : BufTy.Contents (Elt Ideal) arg5.view.ty) (X_arg6 : BufTy.Contents (Elt Ideal) arg6.view.ty) (L8 : List (View.Piece (Elt Ideal) S512x128 .f32)) (L9 : List (View.Piece (Elt Ideal) S512x128 .f32)) (L10 : List (View.Piece (Elt Ideal) S512x128 .f32)) (T : Nat) (hT : T = (k0_t7_loop i).trips) (hT2 : (k0_t7_loop i).trips ≤ 32) (h0 : c0_i32_183 = 0#32) :
    arg10.view.read (Elt Ideal) (arg10.view.writes (Elt Ideal) arg10.view.junk ((pb_k0_t7 (F := Ideal) 𝒱 c bd i arg2 harg2 arg3 harg3 arg4 harg4 arg5 harg5 arg6 harg6 arg7 harg7 arg8 harg8 arg9 harg9 arg10 harg10 arg1 v26 v360 v362 c0_i32_183 X_arg5 X_arg6 (arg8.view.writes (Elt Ideal) arg8.view.junk L8) (arg9.view.writes (Elt Ideal) arg9.view.junk L9) (arg10.view.writes (Elt Ideal) arg10.view.junk L10) T).2.2 ++ L10))
      = vec (run (fun k => score (fn2 v360) (fn2 v362) (tile 384 (by decide) (arg5.view.read (Elt Ideal) X_arg5) (jj k))) (fun k => tile 384 (by decide) (arg6.view.read (Elt Ideal) X_arg6) (jj k)) (toff 0x3C000000#32 arg1) T (rd arg8 arg9 arg10 (arg8.view.writes (Elt Ideal) arg8.view.junk L8) (arg9.view.writes (Elt Ideal) arg9.view.junk L9) (arg10.view.writes (Elt Ideal) arg10.view.junk L10))).ac := by
  rw [View.writes_append, ← loop7 𝒱 c bd i arg2 harg2 arg3 harg3 arg4 harg4 arg5 harg5 arg6 harg6 arg7 harg7 arg8 harg8 arg9 harg9 arg10 harg10 arg1 v26 v360 v362 c0_i32_183 X_arg5 X_arg6 _ _ _ h0 hT2 T hT.le]
  exact (vec_fn2 _).symm

end Cert.AttnIdeal.Value

end
-- ==== Proof.AttnAfter7.lean ====
/- Head 3: what the buffers read after its loops. -/
module

public import proofs.«01_k».proof.Proof.AttnLoop7

@[expose] public section

set_option maxRecDepth 16384

noncomputable section

open Idealize.ShloMosaic Idealize.ShloMosaic.TcCoe Idealize.SL.Sem
open Idealize.ShloMosaic.Pipeline (Dat)

namespace Cert.AttnIdeal.Value
open Cert.AttnIdeal Cert.AttnIdeal.Gen Cert.AttnMath

theorem trips7 (i : grid0.Coords) : (Scf.trips (k0_t7_loop i).lb (k0_t7_loop i).ub (k0_t7_loop i).st) = (i 1).val := by
  have h : ∀ a : Fin 32, Scf.trips 0#32 (Scalar.addi 0#32 (Scalar.muli (Scalar.divsi (Scalar.subi (BitVec.ofNat 32 a.val) 0#32) 1#32) 1#32)) 1#32 = a.val := by decide +kernel
  exact h (i 1)

theorem trips8 (i : grid0.Coords) : (Scf.trips (k0_t8_loop i).lb (k0_t8_loop i).ub (k0_t8_loop i).st) = 0 := by
  have h : ∀ a : Fin 32, Scf.trips (Scalar.addi 0#32 (Scalar.muli (Scalar.divsi (Scalar.subi (BitVec.ofNat 32 a.val) 0#32) 1#32) 1#32)) (Scalar.addi 0#32 (Scalar.subi (BitVec.ofNat 32 a.val) 0#32)) 1#32 = 0 := by decide +kernel
  exact h (i 1)

/-- Buffer 8 after the whole loop of head 3, in the state the stores before it left. -/
theorem after7_8 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v360 : FVec Ideal S512x128 .bf16) (v362 : FVec Ideal S512x256 .f32) (X_arg5 : BufTy.Contents (Elt Ideal) arg5.view.ty) (X_arg6 : BufTy.Contents (Elt Ideal) arg6.view.ty) (L8 : List (View.Piece (Elt Ideal) S512x128 .f32)) (L9 : List (View.Piece (Elt Ideal) S512x128 .f32)) (L10 : List (View.Piece (Elt Ideal) S512x128 .f32)) :
    arg8.view.read (Elt Ideal) (arg8.view.writes (Elt Ideal) arg8.view.junk ((pb_k0_t7 (F := Ideal) 𝒱 c bd i arg2 harg2 arg3 harg3 arg4 harg4 arg5 harg5 arg6 harg6 arg7 harg7 arg8 harg8 arg9 harg9 arg10 harg10 arg1 v26 v360 v362 0#32 X_arg5 X_arg6 (arg8.view.writes (Elt Ideal) arg8.view.junk L8) (arg9.view.writes (Elt Ideal) arg9.view.junk L9) (arg10.view.writes (Elt Ideal) arg10.view.junk L10) (Scf.trips (k0_t7_loop i).lb (k0_t7_loop i).ub (k0_t7_loop i).st)).1 ++ L8))
      = vec (run (fun k => score (fn2 v360) (fn2 v362) (tile 384 (by decide) (arg5.view.read (Elt Ideal) X_arg5) (jj k))) (fun k => tile 384 (by decide) (arg6.view.read (Elt Ideal) X_arg6) (jj k)) (toff 0x3C000000#32 arg1) (i 1).val (rd arg8 arg9 arg10 (arg8.view.writes (Elt Ideal) arg8.view.junk L8) (arg9.view.writes (Elt Ideal) arg9.view.junk L9) (arg10.view.writes (Elt Ideal) arg10.view.junk L10))).mx := by
  rw [loop7_8 𝒱 c bd i arg2 harg2 arg3 harg3 arg4 harg4 arg5 harg5 arg6 harg6 arg7 harg7 arg8 harg8 arg9 harg9 arg10 harg10 arg1 v26 v360 v362 0#32 X_arg5 X_arg6 L8 L9 L10 _ rfl (by rw [show (k0_t7_loop i).trips = (i 1).val from trips7 i]; exact (i 1).isLt.le) rfl, show (k0_t7_loop i).trips = (i 1).val from trips7 i]

/-- Buffer 9 after the whole loop of head 3, in the state the stores before it left. -/
theorem after7_9 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v360 : FVec Ideal S512x128 .bf16) (v362 : FVec Ideal S512x256 .f32) (X_arg5 : BufTy.Contents (Elt Ideal) arg5.view.ty) (X_arg6 : BufTy.Contents (Elt Ideal) arg6.view.ty) (L8 : List (View.Piece (Elt Ideal) S512x128 .f32)) (L9 : List (View.Piece (Elt Ideal) S512x128 .f32)) (L10 : List (View.Piece (Elt Ideal) S512x128 .f32)) :
    arg9.view.read (Elt Ideal) (arg9.view.writes (Elt Ideal) arg9.view.junk ((pb_k0_t7 (F := Ideal) 𝒱 c bd i arg2 harg2 arg3 harg3 arg4 harg4 arg5 harg5 arg6 harg6 arg7 harg7 arg8 harg8 arg9 harg9 arg10 harg10 arg1 v26 v360 v362 0#32 X_arg5 X_arg6 (arg8.view.writes (Elt Ideal) arg8.view.junk L8) (arg9.view.writes (Elt Ideal) arg9.view.junk L9) (arg10.view.writes (Elt Ideal) arg10.view.junk L10) (Scf.trips (k0_t7_loop i).lb (k0_t7_loop i).ub (k0_t7_loop i).st)).2.1 ++ L9))
      = vec (run (fun k => score (fn2 v360) (fn2 v362) (tile 384 (by decide) (arg5.view.read (Elt Ideal) X_arg5) (jj k))) (fun k => tile 384 (by decide) (arg6.view.read (Elt Ideal) X_arg6) (jj k)) (toff 0x3C000000#32 arg1) (i 1).val (rd arg8 arg9 arg10 (arg8.view.writes (Elt Ideal) arg8.view.junk L8) (arg9.view.writes (Elt Ideal) arg9.view.junk L9) (arg10.view.writes (Elt Ideal) arg10.view.junk L10))).nr := by
  rw [loop7_9 𝒱 c bd i arg2 harg2 arg3 harg3 arg4 harg4 arg5 harg5 arg6 harg6 arg7 harg7 arg8 harg8 arg9 harg9 arg10 harg10 arg1 v26 v360 v362 0#32 X_arg5 X_arg6 L8 L9 L10 _ rfl (by rw [show (k0_t7_loop i).trips = (i 1).val from trips7 i]; exact (i 1).isLt.le) rfl, show (k0_t7_loop i).trips = (i 1).val from trips7 i]

/-- Buffer 10 after the whole loop of head 3, in the state the stores before it left. -/
theorem after7_10 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v360 : FVec Ideal S512x128 .bf16) (v362 : FVec Ideal S512x256 .f32) (X_arg5 : BufTy.Contents (Elt Ideal) arg5.view.ty) (X_arg6 : BufTy.Contents (Elt Ideal) arg6.view.ty) (L8 : List (View.Piece (Elt Ideal) S512x128 .f32)) (L9 : List (View.Piece (Elt Ideal) S512x128 .f32)) (L10 : List (View.Piece (Elt Ideal) S512x128 .f32)) :
    arg10.view.read (Elt Ideal) (arg10.view.writes (Elt Ideal) arg10.view.junk ((pb_k0_t7 (F := Ideal) 𝒱 c bd i arg2 harg2 arg3 harg3 arg4 harg4 arg5 harg5 arg6 harg6 arg7 harg7 arg8 harg8 arg9 harg9 arg10 harg10 arg1 v26 v360 v362 0#32 X_arg5 X_arg6 (arg8.view.writes (Elt Ideal) arg8.view.junk L8) (arg9.view.writes (Elt Ideal) arg9.view.junk L9) (arg10.view.writes (Elt Ideal) arg10.view.junk L10) (Scf.trips (k0_t7_loop i).lb (k0_t7_loop i).ub (k0_t7_loop i).st)).2.2 ++ L10))
      = vec (run (fun k => score (fn2 v360) (fn2 v362) (tile 384 (by decide) (arg5.view.read (Elt Ideal) X_arg5) (jj k))) (fun k => tile 384 (by decide) (arg6.view.read (Elt Ideal) X_arg6) (jj k)) (toff 0x3C000000#32 arg1) (i 1).val (rd arg8 arg9 arg10 (arg8.view.writes (Elt Ideal) arg8.view.junk L8) (arg9.view.writes (Elt Ideal) arg9.view.junk L9) (arg10.view.writes (Elt Ideal) arg10.view.junk L10))).ac := by
  rw [loop7_10 𝒱 c bd i arg2 harg2 arg3 harg3 arg4 harg4 arg5 harg5 arg6 harg6 arg7 harg7 arg8 harg8 arg9 harg9 arg10 harg10 arg1 v26 v360 v362 0#32 X_arg5 X_arg6 L8 L9 L10 _ rfl (by rw [show (k0_t7_loop i).trips = (i 1).val from trips7 i]; exact (i 1).isLt.le) rfl, show (k0_t7_loop i).trips = (i 1).val from trips7 i]

/-- The remainder loop stores nothing. -/
theorem rem8 (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg1 : BitVec 32) (v26 : IVec S512x256 1) (v360 : FVec Ideal S512x128 .bf16) (v362 : FVec Ideal S512x256 .f32) (c0_i32_183 : BitVec 32) (v379 : BitVec 32) (X_arg5 : BufTy.Contents (Elt Ideal) arg5.view.ty) (X_arg6 : BufTy.Contents (Elt Ideal) arg6.view.ty) (G8 : BufTy.Contents (Elt Ideal) arg8.view.ty) (G9 : BufTy.Contents (Elt Ideal) arg9.view.ty) (G10 : BufTy.Contents (Elt Ideal) arg10.view.ty) :
    pb_k0_t8 (F := Ideal) 𝒱 c bd i arg2 harg2 arg3 harg3 arg4 harg4 arg5 harg5 arg6 harg6 arg7 harg7 arg8 harg8 arg9 harg9 arg10 harg10 arg1 v26 v360 v362 c0_i32_183 v379 X_arg5 X_arg6 G8 G9 G10 (Scf.trips (k0_t8_loop i).lb (k0_t8_loop i).ub (k0_t8_loop i).st) = ([], [], []) := by
  rw [trips8]; rfl

end Cert.AttnIdeal.Value

end
-- ==== Proof.AttnMask.lean ====
/- The causal mask and the distances inside a diagonal tile. -/
module

public import proofs.«01_k».proof.Proof.AttnTripBase

@[expose] public section

set_option maxRecDepth 16384

noncomputable section

open Idealize.ShloMosaic Idealize.ShloMosaic.TcCoe Idealize.SL.Sem
open Idealize.ShloMosaic.Pipeline (Dat)

namespace Cert.AttnIdeal.Value
open Cert.AttnIdeal Cert.AttnIdeal.Gen Cert.AttnMath

/-- The row of a stacked query tile within its tile. -/
theorem row_mod (r : Fin 512) : (if BitVec.ofBool (BitVec.sle 256#32 (BitVec.ofNat 32 r.val)) = 1#1 then BitVec.ofNat 32 r.val - 256#32 else BitVec.ofNat 32 r.val)
    = BitVec.ofNat 32 (r.val % 256) := by
  revert r; decide +kernel

theorem toInt_small (n : Nat) (h : n < 2147483648) : (BitVec.ofNat 32 n).toInt = (n : ℤ) := by
  rw [BitVec.toInt_eq_toNat_cond, BitVec.toNat_ofNat]
  split <;> omega

theorem sub_int (c t : Fin 256) : (BitVec.ofNat 32 c.val - BitVec.ofNat 32 t.val).toInt = (c.val : ℤ) - (t.val : ℤ) := by
  rw [BitVec.toInt_sub, toInt_small _ (by omega), toInt_small _ (by omega), Int.bmod_eq_of_le] <;> omega

theorem sle_val (c t : Fin 256) : BitVec.sle (BitVec.ofNat 32 c.val) (BitVec.ofNat 32 t.val) = decide (c.val ≤ t.val) := by
  rw [BitVec.sle, toInt_small _ (by omega), toInt_small _ (by omega)]
  simp

/-- The causal mask of a diagonal tile. -/
theorem mask_apply (r : Fin 512) (c : Fin 256) : k0_pay77 (ix2 r c) = if c.val ≤ r.val % 256 then 1#1 else 0#1 := by
  pointwise [k0_pay77, k0_pay75]
  have h : (Scalar.select (IntOp.cmpi CmpIPredicate.sge (BitVec.ofNat 32 r.val) 256#32) (IntOp.subi (BitVec.ofNat 32 r.val) 256#32) (BitVec.ofNat 32 r.val)) = BitVec.ofNat 32 (r.val % 256) := row_mod r
  rw [h]
  show BitVec.ofBool (BitVec.sle _ _) = _
  rw [sle_val c ⟨r.val % 256, by omega⟩]
  by_cases hc : c.val ≤ r.val % 256 <;> simp [hc]

theorem rel_apply (r : Fin 512) (c : Fin 256) : k0_pay76 (F := Ideal) (ix2 r c) = ((((c.val : ℤ) - ((r.val % 256 : ℕ) : ℤ) : ℤ) : ℝ) : EReal) := by
  pointwise [k0_pay76, k0_pay75]
  have h : (Scalar.select (IntOp.cmpi CmpIPredicate.sge (BitVec.ofNat 32 r.val) 256#32) (IntOp.subi (BitVec.ofNat 32 r.val) 256#32) (BitVec.ofNat 32 r.val)) = BitVec.ofNat 32 (r.val % 256) := row_mod r
  rw [h]
  show (((BitVec.ofNat 32 c.val - BitVec.ofNat 32 (r.val % 256)).toInt : ℝ) : EReal) = _
  rw [sub_int c ⟨r.val % 256, by omega⟩]

end Cert.AttnIdeal.Value

end
-- ==== Proof.AttnRow.lean ====
/- The running softmax of one row of scores: what the three buffers hold, written without a shift. -/
module

public import proofs.«01_k».proof.Proof.AttnStep

@[expose] public section

set_option maxRecDepth 16384

noncomputable section

open Idealize.ShloMosaic Idealize.ShloMosaic.TcCoe Idealize.SL.Sem
open Idealize.ShloMosaic.Pipeline (Dat)

namespace Cert.AttnMath

/-- The unshifted weight of a score: its exponential, zero for a masked score (and for an infinite one, where it plays no part). -/
def wt (x : EReal) (o : ℝ) : ℝ := (Ideal.exp (x - (o : EReal))).toReal

theorem wt_bot (o : ℝ) : wt ⊥ o = 0 := by
  unfold wt; rw [EReal.bot_sub, Ideal.exp_bot, EReal.toReal_zero]

theorem wt_coe (x o : ℝ) : wt (x : EReal) o = Real.exp (x - o) := by
  unfold wt; rw [← EReal.coe_sub, Ideal.exp_coe, EReal.toReal_coe]

/-- Shifts move between a score and its offset. -/
theorem wt_shift (x : EReal) (p o g : ℝ) (h : p - o = -g) : wt (x + (p : EReal)) o = wt (x - (g : EReal)) 0 := by
  unfold wt
  rw [sub_eq_add_neg, sub_eq_add_neg, sub_eq_add_neg, add_assoc, add_assoc, ← EReal.coe_neg, ← EReal.coe_neg, ← EReal.coe_neg, ← EReal.coe_add, ← EReal.coe_add]
  rw [show p + -o = -g + -0 by linarith]

theorem wt_nonneg (x : EReal) (o : ℝ) : 0 ≤ wt x o := by
  induction x using EReal.rec with
  | bot => rw [wt_bot]
  | coe x => rw [wt_coe]; exact (Real.exp_pos _).le
  | top => unfold wt; rw [EReal.top_sub_coe, Ideal.exp_top, EReal.toReal_top]

theorem wt_pos (x : EReal) (o : ℝ) (ht : x ≠ ⊤) (hb : x ≠ ⊥) : 0 < wt x o := by
  induction x using EReal.rec with
  | bot => exact absurd rfl hb
  | coe x => rw [wt_coe]; exact Real.exp_pos _
  | top => exact absurd rfl ht

theorem rowMax_sup (s : Fin 256 → EReal) : rowMax s = Finset.univ.sup s := rfl

/-- The largest score of a row is real when no score is `⊤` and some score is not `⊥`. -/
theorem rowMax_real (s : Fin 256 → EReal) (ht : ∀ c, s c ≠ ⊤) (hb : ∃ c, s c ≠ ⊥) : ∃ R : ℝ, rowMax s = (R : EReal) := by
  have h1 : rowMax s ≠ ⊤ := by
    rw [rowMax_sup]
    exact ne_of_lt ((Finset.sup_lt_iff (by simp)).2 fun c _ => lt_of_le_of_ne le_top (ht c))
  have h2 : rowMax s ≠ ⊥ := by
    obtain ⟨c, hc⟩ := hb
    rw [rowMax_sup]
    intro e
    exact hc (le_bot_iff.1 (e ▸ Finset.le_sup (f := s) (Finset.mem_univ c)))
  exact ⟨(rowMax s).toReal, (EReal.coe_toReal h1 h2).symm⟩

theorem rowMax_bot (s : Fin 256 → EReal) (h : ∀ c, s c = ⊥) : rowMax s = ⊥ := by
  rw [rowMax_sup]
  exact le_bot_iff.1 (Finset.sup_le fun c _ => (h c).le)

theorem rowMax_top (s : Fin 256 → EReal) (c : Fin 256) (h : s c = ⊤) : rowMax s = ⊤ := by
  rw [rowMax_sup]
  exact top_le_iff.1 (h ▸ Finset.le_sup (f := s) (Finset.mem_univ c))

theorem exp_wt (x : EReal) (hx : x ≠ ⊤) (M o : ℝ) : Ideal.exp (x - ((M : EReal) + (o : EReal))) = ((Real.exp (-M) * wt x o : ℝ) : EReal) := by
  induction x using EReal.rec with
  | bot =>
    rw [← EReal.coe_add, EReal.bot_sub]
    simp [wt_bot]
  | coe x =>
    rw [← EReal.coe_add, ← EReal.coe_sub, Ideal.exp_coe, wt_coe, ← Real.exp_add]
    congr 2; ring
  | top => exact absurd rfl hx

/-- A finite sum of reals read as extended reals. -/
theorem coe_sum {ι : Type*} (t : Finset ι) (f : ι → ℝ) : ∑ i ∈ t, ((f i : ℝ) : EReal) = ((∑ i ∈ t, f i : ℝ) : EReal) :=
  by
  classical
  induction t using Finset.induction_on with
  | empty => simp
  | insert a t ha ih => rw [Finset.sum_insert ha, Finset.sum_insert ha, ih, EReal.coe_add]

/-- The three buffers hold, in row `r`, weights adding up to `E` and a weighted sum `V`, both over the exponential of the running maximum; or nothing yet. -/
def Inv (r : Fin 512) (E : ℝ) (V : Fin 128 → ℝ) (S : St) : Prop :=
  (0 < E ∧ ∃ M : ℝ, ∀ d, S.mx r d = (M : EReal) ∧ S.nr r d = ((Real.exp (-M) * E : ℝ) : EReal) ∧ S.ac r d = ((Real.exp (-M) * V d : ℝ) : EReal))
  ∨ (E = 0 ∧ ∀ d, V d = 0 ∧ S.mx r d = ⊥ ∧ S.nr r d = 0 ∧ S.ac r d = 0)

/-- One tile adds its weights. -/
theorem Inv.step {r : Fin 512} {E : ℝ} {V : Fin 128 → ℝ} {S : St} (h : Inv r E V S) (s : Fin 512 → Fin 256 → EReal) (v : Fin 256 → Fin 128 → EReal) (off : EReal)
    (o : ℝ) (ho : off = (o : EReal)) (vr : Fin 256 → Fin 128 → ℝ) (hv : ∀ c d, v c d = (vr c d : EReal)) (ht : ∀ c, s r c ≠ ⊤) :
    Inv r (E + ∑ c, wt (s r c) o) (fun d => V d + ∑ c, wt (s r c) o * vr c d) (AttnMath.step s v off S) := by
  subst ho
  have key : ∀ M' : ℝ, (∀ d, stepM s (o : EReal) S.mx r d = (M' : EReal)) → ∀ d,
      (∑ c, stepP s (o : EReal) S.mx r c) = ((Real.exp (-M') * ∑ c, wt (s r c) o : ℝ) : EReal) ∧
      (∑ c, stepP s (o : EReal) S.mx r c * v c d) = ((Real.exp (-M') * ∑ c, wt (s r c) o * vr c d : ℝ) : EReal) := by
    intro M' hM d
    have hp : ∀ c, stepP s (o : EReal) S.mx r c = ((Real.exp (-M') * wt (s r c) o : ℝ) : EReal) := fun c => by
      rw [stepP, hM, exp_wt _ (ht c)]
    constructor
    · simp only [hp]
      rw [coe_sum, Finset.mul_sum]
    · simp only [hp, hv, ← EReal.coe_mul]
      rw [coe_sum, Finset.mul_sum]
      congr 1; apply Finset.sum_congr rfl; intro c _; ring
  have hw : 0 ≤ ∑ c, wt (s r c) o := Finset.sum_nonneg fun c _ => wt_nonneg _ _
  -- over a running maximum that is real the tile adds its weights, wherever the maximum moves to
  have hgo : ∀ M M' : ℝ, 0 < E → (∀ d, S.mx r d = (M : EReal) ∧ S.nr r d = ((Real.exp (-M) * E : ℝ) : EReal) ∧ S.ac r d = ((Real.exp (-M) * V d : ℝ) : EReal)) →
      (∀ d, stepM s (o : EReal) S.mx r d = (M' : EReal)) →
      Inv r (E + ∑ c, wt (s r c) o) (fun d => V d + ∑ c, wt (s r c) o * vr c d) (AttnMath.step s v o S) := fun M M' hE hS hM => by
    refine Or.inl ⟨by linarith, M', fun d => ⟨hM d, ?_, ?_⟩⟩
    · show stepA s _ S.mx r d * S.nr r d + _ = _
      rw [(key _ hM d).1, stepA, hM, (hS d).1, (hS d).2.1, ← EReal.coe_sub, Ideal.exp_coe, ← EReal.coe_mul, ← EReal.coe_add, ← mul_assoc, ← Real.exp_add]
      congr 1; rw [mul_add]; congr 3; ring
    · show stepA s _ S.mx r d * S.ac r d + _ = _
      rw [(key _ hM d).2, stepA, hM, (hS d).1, (hS d).2.2, ← EReal.coe_sub, Ideal.exp_coe, ← EReal.coe_mul, ← EReal.coe_add, ← mul_assoc, ← Real.exp_add]
      congr 1; rw [mul_add]; congr 3; ring
  by_cases hb : ∃ c, s r c ≠ ⊥
  · obtain ⟨R, hR⟩ := rowMax_real (s r) ht hb
    rcases h with ⟨hE, M, hS⟩ | ⟨hE, hS⟩
    · refine hgo M (max M (R - o)) hE hS fun d => ?_
      rw [stepM, (hS d).1, hR, ← EReal.coe_sub]; exact (EReal.coe_strictMono.monotone.map_max).symm
    · have hM : ∀ d, stepM s (o : EReal) S.mx r d = ((R - o : ℝ) : EReal) := fun d => by
        rw [stepM, (hS d).2.1, hR, ← EReal.coe_sub]; exact max_eq_right bot_le
      obtain ⟨c0, hc0⟩ := hb
      refine Or.inl ⟨?_, R - o, fun d => ⟨hM d, ?_, ?_⟩⟩
      · rw [hE, zero_add]
        exact Finset.sum_pos' (fun c _ => wt_nonneg _ _) ⟨c0, Finset.mem_univ _, wt_pos _ _ (ht c0) hc0⟩
      · show stepA s _ S.mx r d * S.nr r d + _ = _
        rw [(key _ hM d).1, (hS d).2.2.1, mul_zero, zero_add, hE, zero_add]
      · show stepA s _ S.mx r d * S.ac r d + _ = _
        rw [(key _ hM d).2, (hS d).2.2.2, mul_zero, zero_add]
        show _ = ((Real.exp (-(R - o)) * (V d + ∑ c, wt (s r c) o * vr c d) : ℝ) : EReal)
        rw [(hS d).1, zero_add]
  · have hb' : ∀ c, s r c = ⊥ := fun c => by
      by_contra hc; exact hb ⟨c, hc⟩
    have hR := rowMax_bot (s r) hb'
    rcases h with ⟨hE, M, hS⟩ | ⟨hE, hS⟩
    · refine hgo M M hE hS fun d => ?_
      rw [stepM, (hS d).1, hR, EReal.bot_sub]; exact max_eq_left bot_le
    · have hM : ∀ d, stepM s (o : EReal) S.mx r d = ⊥ := fun d => by
        rw [stepM, (hS d).2.1, hR, EReal.bot_sub]; exact max_self _
      have hp : ∀ c, stepP s (o : EReal) S.mx r c = 0 := fun c => by
        rw [stepP, hb', EReal.bot_sub, Ideal.exp_bot]
      refine Or.inr ⟨?_, fun d => ⟨?_, hM d, ?_, ?_⟩⟩
      · simp only [hE, hb', wt_bot, Finset.sum_const_zero, add_zero]
      · simp only [(hS d).1, hb', wt_bot, zero_mul, Finset.sum_const_zero, add_zero]
      · show stepA s _ S.mx r d * S.nr r d + _ = _
        simp only [(hS d).2.2.1, hp, mul_zero, Finset.sum_const_zero, add_zero]
      · show stepA s _ S.mx r d * S.ac r d + _ = _
        simp only [(hS d).2.2.2, hp, mul_zero, zero_mul, Finset.sum_const_zero, add_zero]

/-- The buffers when scores may be infinite: once a score `⊤` was seen (`T`), the sums are zero for good. -/
def Held (r : Fin 512) (T : Prop) (E : ℝ) (V : Fin 128 → ℝ) (S : St) : Prop :=
  (T ∧ ∀ d, S.mx r d = ⊤ ∧ S.nr r d = 0 ∧ S.ac r d = 0) ∨ (¬ T ∧ Inv r E V S)

theorem sub_top (x : EReal) : x - ⊤ = ⊥ := by
  rw [sub_eq_add_neg, EReal.neg_top, EReal.add_bot]

/-- One tile, for any scores. -/
theorem Held.step {r : Fin 512} {T : Prop} {E : ℝ} {V : Fin 128 → ℝ} {S : St} (h : Held r T E V S) (s : Fin 512 → Fin 256 → EReal) (v : Fin 256 → Fin 128 → EReal) (off : EReal)
    (o : ℝ) (ho : off = (o : EReal)) (vr : Fin 256 → Fin 128 → ℝ) (hv : ∀ c d, v c d = (vr c d : EReal)) :
    Held r (T ∨ ∃ c, s r c = ⊤) (E + ∑ c, wt (s r c) o) (fun d => V d + ∑ c, wt (s r c) o * vr c d) (AttnMath.step s v off S) := by
  have htop : (∀ d, stepM s off S.mx r d = ⊤) → (T ∨ ∃ c, s r c = ⊤) →
      Held r (T ∨ ∃ c, s r c = ⊤) (E + ∑ c, wt (s r c) o) (fun d => V d + ∑ c, wt (s r c) o * vr c d) (AttnMath.step s v off S) := fun hM hT => by
    have ha : ∀ d, stepA s off S.mx r d = 0 := fun d => by rw [stepA, hM, sub_top, Ideal.exp_bot]
    have hp : ∀ c, stepP s off S.mx r c = 0 := fun c => by
      rw [stepP, hM, ho, EReal.top_add_coe, sub_top, Ideal.exp_bot]
    refine Or.inl ⟨hT, fun d => ⟨hM d, ?_, ?_⟩⟩
    · show stepA s _ S.mx r d * S.nr r d + _ = _
      simp only [ha, hp, zero_mul, Finset.sum_const_zero, add_zero]
    · show stepA s _ S.mx r d * S.ac r d + _ = _
      simp only [ha, hp, zero_mul, Finset.sum_const_zero, add_zero]
  rcases h with ⟨hT, hS⟩ | ⟨hT, hI⟩
  · refine htop (fun d => ?_) (Or.inl hT)
    rw [stepM, (hS d).1]; exact max_eq_left le_top
  · by_cases hc : ∃ c, s r c = ⊤
    · refine htop (fun d => ?_) (Or.inr hc)
      obtain ⟨c, hc⟩ := hc
      rw [stepM, rowMax_top _ c hc, ho, EReal.top_sub_coe]; exact max_eq_right le_top
    · exact Or.inr ⟨not_or.2 ⟨hT, hc⟩, hI.step s v off o ho vr hv fun c hcc => hc ⟨c, hcc⟩⟩

/-- `n` tiles add all their weights. -/
theorem Held.run {r : Fin 512} {S : St} (s : Nat → Fin 512 → Fin 256 → EReal) (v : Nat → Fin 256 → Fin 128 → EReal) (off : Nat → EReal)
    (o : Nat → ℝ) (vr : Nat → Fin 256 → Fin 128 → ℝ) (h : Inv r 0 (fun _ => 0) S) (n : Nat)
    (ho : ∀ k, k < n → off k = (o k : EReal)) (hv : ∀ k, k < n → ∀ c d, v k c d = (vr k c d : EReal)) :
    Held r (∃ k, k < n ∧ ∃ c, s k r c = ⊤) (∑ k ∈ Finset.range n, ∑ c, wt (s k r c) (o k)) (fun d => ∑ k ∈ Finset.range n, ∑ c, wt (s k r c) (o k) * vr k c d) (AttnMath.run s v off n S) := by
  induction n with
  | zero =>
    simp only [Finset.range_zero, Finset.sum_empty]
    exact Or.inr ⟨fun ⟨k, hk, _⟩ => absurd hk (Nat.not_lt_zero k), h⟩
  | succ n ih =>
    have := (ih (fun k hk => ho k (by omega)) (fun k hk => hv k (by omega))).step (s n) (v n) (off n) (o n) (ho n (by omega)) (vr n) (hv n (by omega))
    simp only [Finset.sum_range_succ]
    have e : ((∃ k, k < n ∧ ∃ c, s k r c = ⊤) ∨ ∃ c, s n r c = ⊤) = (∃ k, k < n + 1 ∧ ∃ c, s k r c = ⊤) := propext ⟨fun h => by
        rcases h with ⟨k, hk, hc⟩ | hc
        · exact ⟨k, by omega, hc⟩
        · exact ⟨n, by omega, hc⟩, fun ⟨k, hk, hc⟩ => by
        rcases Nat.lt_succ_iff_lt_or_eq.1 hk with hk | rfl
        · exact Or.inl ⟨k, hk, hc⟩
        · exact Or.inr hc⟩
    rw [← e]
    exact this

open Classical in
/-- The weighted sum over the normaliser: `⊥` when a score was `⊤` or no weight was there, else the quotient of the real sums. -/
theorem Held.div {r : Fin 512} {T : Prop} {E : ℝ} {V : Fin 128 → ℝ} {S : St} (h : Held r T E V S) (d : Fin 128) :
    Ideal.div (S.ac r d) (S.nr r d) = if T ∨ E = 0 then ⊥ else ((V d / E : ℝ) : EReal) := by
  have h00 : Ideal.div 0 0 = ⊥ := by simp [Ideal.div]
  rcases h with ⟨hT, hS⟩ | ⟨hT, ⟨hE, M, hS⟩ | ⟨h0, hS⟩⟩
  · rw [(hS d).2.1, (hS d).2.2, if_pos (Or.inl hT), h00]
  · rw [if_neg (not_or.2 ⟨hT, hE.ne'⟩), (hS d).2.1, (hS d).2.2, Ideal.div_coe (mul_ne_zero (Real.exp_pos _).ne' hE.ne'), ← EReal.coe_mul, mul_one_div,
      mul_div_mul_left _ _ (Real.exp_pos _).ne']
  · rw [if_pos (Or.inr h0), (hS d).2.2.1, (hS d).2.2.2, h00]

end Cert.AttnMath

end
-- ==== Proof.AttnSpec.lean ====
/- The differential attention's result for one query, for any queries and keys and real values, and what kernel and reference share. -/
module

public import proofs.«01_k».proof.Proof.AttnRow

@[expose] public section

set_option maxRecDepth 16384

noncomputable section

open Idealize.ShloMosaic Idealize.ShloMosaic.TcCoe Idealize.SL.Sem
open Idealize.ShloMosaic.Pipeline (Dat)

namespace Cert.AttnMath

/-- The distance penalty's slope of each head. -/
def headSlope (h : Fin 4) : ℝ := if h.val = 0 then 1 / 2 else if h.val = 1 then 1 / 8 else if h.val = 2 then 1 / 32 else 1 / 128

/-- The unscaled score of query `t` against key `s`, for half `m` of head `h` of batch `b`. -/
def qk (q k : Fin 32768 → Fin 512 → EReal) (b h : Fin 4) (m : Fin 2) (t s : Fin 8192) : EReal :=
  ∑ x : Fin 64, q ⟨b.val * 8192 + t.val, by omega⟩ ⟨h.val * 128 + m.val * 64 + x.val, by omega⟩ * k ⟨b.val * 8192 + s.val, by omega⟩ ⟨h.val * 128 + m.val * 64 + x.val, by omega⟩

/-- The score with its distance penalty, masked for a key after the query. -/
def sc (q k : Fin 32768 → Fin 512 → EReal) (b h : Fin 4) (m : Fin 2) (t s : Fin 8192) : EReal :=
  if s.val ≤ t.val then qk q k b h m t s - ((headSlope h * ((t.val : ℝ) - (s.val : ℝ)) : ℝ) : EReal) else ⊥

/-- The unshifted weight of key `s` for query `t`: zero for a key after the query. -/
def ew (q k : Fin 32768 → Fin 512 → EReal) (b h : Fin 4) (m : Fin 2) (t s : Fin 8192) : ℝ := wt (sc q k b h m t s) 0

/-- The weights' sum. -/
def ewSum (q k : Fin 32768 → Fin 512 → EReal) (b h : Fin 4) (m : Fin 2) (t : Fin 8192) : ℝ := ∑ s, ew q k b h m t s

/-- The weighted sum of the value rows. -/
def ewVal (q k : Fin 32768 → Fin 512 → EReal) (v : Fin 32768 → Fin 512 → ℝ) (b h : Fin 4) (m : Fin 2) (t : Fin 8192) (d : Fin 128) : ℝ :=
  ∑ s, ew q k b h m t s * v ⟨b.val * 8192 + s.val, by omega⟩ ⟨h.val * 128 + d.val, by omega⟩

/-- The row has no softmax: a score is `⊤`, or every score is `⊥`. -/
def NoMap (q k : Fin 32768 → Fin 512 → EReal) (b h : Fin 4) (m : Fin 2) (t : Fin 8192) : Prop :=
  (∃ s, sc q k b h m t s = ⊤) ∨ ewSum q k b h m t = 0

open Classical in
/-- One attention's lane: `⊥` for a row without a softmax. -/
def mapLane (q k : Fin 32768 → Fin 512 → EReal) (v : Fin 32768 → Fin 512 → ℝ) (b h : Fin 4) (m : Fin 2) (t : Fin 8192) (d : Fin 128) : EReal :=
  if NoMap q k b h m t then ⊥ else ((ewVal q k v b h m t d / ewSum q k b h m t : ℝ) : EReal)

/-- The output lane before its normalisation: the difference of the two attentions. -/
def outLane (lam : ℝ) (q k : Fin 32768 → Fin 512 → EReal) (v : Fin 32768 → Fin 512 → ℝ) (b h : Fin 4) (t : Fin 8192) (d : Fin 128) : EReal :=
  mapLane q k v b h 0 t d - (lam : EReal) * mapLane q k v b h 1 t d

/-- The factor of the second attention, from the four rows of its parameter. -/
def lamE (L : Fin 4 → Fin 64 → EReal) : EReal :=
  Ideal.exp (∑ x, L 0 x * L 1 x) - Ideal.exp (∑ x, L 2 x * L 3 x) + Ideal.ofBits FTy.f32 0x3E4CCCCD#32

/-- Real parameters give a real factor. -/
theorem lamE_real (L : Fin 4 → Fin 64 → EReal) (l : Fin 4 → Fin 64 → ℝ) (h : ∀ a x, L a x = (l a x : EReal)) : ∃ r : ℝ, lamE L = (r : EReal) := by
  have hc : ∃ r : ℝ, Ideal.ofBits FTy.f32 0x3E4CCCCD#32 = (r : EReal) := by
    refine ⟨13421773 / 67108864, ?_⟩
    simp [Ideal.ofBits, Ideal.ieee, -EReal.coe_mul]; norm_num
  obtain ⟨r, hr⟩ := hc
  unfold lamE
  rw [hr]
  simp only [h, ← EReal.coe_mul, coe_sum, Ideal.exp_coe, ← EReal.coe_sub, ← EReal.coe_add]
  exact ⟨_, rfl⟩

/-- The head's root-mean-square normalisation with its scale and its constant factor. -/
def headNorm (x sub : Fin 128 → EReal) (d : Fin 128) : EReal :=
  x d * Ideal.rsqrt (Ideal.div (∑ j, x j * x j) (Ideal.ofBits FTy.f32 0x43000000#32) + Ideal.ofBits FTy.f32 0x358637BD#32) * sub d * Ideal.ofBits FTy.f32 0x3F4CCCCD#32

/-- Zero or infinite. -/
def Ext (x : EReal) : Prop := x = 0 ∨ x = ⊤ ∨ x = ⊥

theorem Ext.add {x y : EReal} (hx : Ext x) (hy : Ext y) : Ext (x + y) := by
  rcases hx with rfl | rfl | rfl <;> rcases hy with rfl | rfl | rfl <;> simp [Ext]

theorem Ext.sum {ι : Type*} (t : Finset ι) (f : ι → EReal) (h : ∀ i, Ext (f i)) : Ext (∑ i ∈ t, f i) := by
  classical
  induction t using Finset.induction_on with
  | empty => exact Or.inl Finset.sum_empty
  | insert a t ha ih => rw [Finset.sum_insert ha]; exact (h a).add ih

/-- An infinity times a real number is zero or infinite. -/
theorem Ext.mul_coe {c : EReal} (hc : c = ⊤ ∨ c = ⊥) (r : ℝ) : Ext (c * (r : EReal)) := by
  rcases lt_trichotomy r 0 with hr | rfl | hr
  · rcases hc with rfl | rfl
    · exact Or.inr (Or.inr (EReal.top_mul_coe_of_neg hr))
    · exact Or.inr (Or.inl (EReal.bot_mul_coe_of_neg hr))
  · exact Or.inl (by rw [EReal.coe_zero, mul_zero])
  · rcases hc with rfl | rfl
    · exact Or.inr (Or.inl (EReal.top_mul_coe_of_pos hr))
    · exact Or.inr (Or.inr (EReal.bot_mul_coe_of_pos hr))

theorem Ext.mul_self {x : EReal} (hx : Ext x) : x * x = 0 ∨ x * x = ⊤ := by
  rcases hx with rfl | rfl | rfl <;> simp

/-- A head whose lanes are zero or infinite is normalised to zero. -/
theorem headNorm_ext (x sub : Fin 128 → EReal) (hx : ∀ d, Ext (x d)) (d : Fin 128) : headNorm x sub d = 0 := by
  have h128 : Ideal.ofBits FTy.f32 0x43000000#32 = ((128 : ℝ) : EReal) := by
    simp [Ideal.ofBits, Ideal.ieee, -EReal.coe_mul]; norm_num
  obtain ⟨e, he⟩ : ∃ e : ℝ, Ideal.ofBits FTy.f32 0x358637BD#32 = (e : EReal) := by
    refine ⟨8796093 / 8796093022208, ?_⟩
    simp [Ideal.ofBits, Ideal.ieee, -EReal.coe_mul]; norm_num
  unfold headNorm
  have key : x d * Ideal.rsqrt (Ideal.div (∑ j, x j * x j) (Ideal.ofBits FTy.f32 0x43000000#32) + Ideal.ofBits FTy.f32 0x358637BD#32) = 0 := by
    rcases hx d with h0 | hi
    · rw [h0, zero_mul]
    · have hd : x d * x d = ⊤ := by rcases hi with h | h <;> rw [h] <;> simp
      have hnn : ∀ j ∈ Finset.univ, 0 ≤ x j * x j := fun j _ => by
        rcases (hx j).mul_self with h | h <;> rw [h]
        exact le_top
      have hs : ∑ j, x j * x j = ⊤ := top_le_iff.1 (hd ▸ Finset.single_le_sum (f := fun j => x j * x j) hnn (Finset.mem_univ d))
      rw [hs, h128, he, Ideal.div_coe (by norm_num), EReal.top_mul_coe_of_pos (by norm_num), EReal.top_add_coe, Ideal.rsqrt_top, mul_zero]
  rw [key, zero_mul, zero_mul]

open Classical in
/-- Where a row has no softmax in the first attention, or none in the second and a factor that is not zero, all its coefficients are one infinity. -/
theorem coef_ext (lam : ℝ) (A B : Prop) (h : A ∨ (B ∧ lam ≠ 0)) (x y : EReal) (hA : A → x = ⊥) (hA' : ¬ A → ∃ r : ℝ, x = (r : EReal)) (hB : B → y = ⊥) :
    (x - (lam : EReal) * y) = if A then ⊥ else if 0 < lam then ⊤ else ⊥ := by
  by_cases ha : A
  · rw [if_pos ha, hA ha, EReal.bot_sub]
  · obtain ⟨hb, hl⟩ : B ∧ lam ≠ 0 := h.resolve_left ha
    obtain ⟨r, hr⟩ := hA' ha
    rw [if_neg ha, hB hb, hr]
    rcases lt_or_gt_of_ne hl with hl | hl
    · rw [if_neg (not_lt.2 hl.le), EReal.coe_mul_bot_of_neg hl, sub_top]
    · rw [if_pos hl, EReal.coe_mul_bot_of_pos hl, EReal.coe_sub_bot]

/-- The softmax of scores that are real or masked: any real shift drops out. -/
theorem softmax_wt {n : Nat} (f : Fin n → EReal) (ht : ∀ c, f c ≠ ⊤) (M : ℝ) (hpos : ∑ c, wt (f c) 0 ≠ 0) (c : Fin n) :
    Ideal.div (Ideal.exp (f c - (M : EReal))) (∑ x, Ideal.exp (f x - (M : EReal))) = ((wt (f c) 0 / ∑ x, wt (f x) 0 : ℝ) : EReal) := by
  have h : ∀ x, Ideal.exp (f x - (M : EReal)) = ((Real.exp (-M) * wt (f x) 0 : ℝ) : EReal) := fun x => by
    have := exp_wt (f x) (ht x) M 0
    rwa [EReal.coe_zero, add_zero] at this
  simp only [h]
  rw [coe_sum, ← Finset.mul_sum, Ideal.div_coe (mul_ne_zero (Real.exp_pos _).ne' hpos), ← EReal.coe_mul, mul_one_div, mul_div_mul_left _ _ (Real.exp_pos _).ne']

/-- The largest of finitely many scores, none `⊤` and one not `⊥`, is real. -/
theorem foldMax_real {n : Nat} (f : Fin n → EReal) (ht : ∀ c, f c ≠ ⊤) (hb : ∃ c, f c ≠ ⊥) : ∃ R : ℝ, Finset.univ.fold max ⊥ f = (R : EReal) := by
  have h : Finset.univ.fold max ⊥ f = Finset.univ.sup f := rfl
  have h1 : Finset.univ.sup f ≠ ⊤ := ne_of_lt ((Finset.sup_lt_iff (by simp)).2 fun c _ => lt_of_le_of_ne le_top (ht c))
  have h2 : Finset.univ.sup f ≠ ⊥ := by
    obtain ⟨c, hc⟩ := hb
    intro e
    exact hc (le_bot_iff.1 (e ▸ Finset.le_sup (f := f) (Finset.mem_univ c)))
  exact ⟨(Finset.univ.sup f).toReal, h.trans (EReal.coe_toReal h1 h2).symm⟩

theorem foldMax_sup {n : Nat} (f : Fin n → EReal) : Finset.univ.fold max ⊥ f = Finset.univ.sup f := rfl

open Classical in
/-- The softmax of any scores: `⊥` when one is `⊤` or none has a weight, else the weight over the weights' sum. -/
theorem softmax_any {n : Nat} (f : Fin n → EReal) (c : Fin n) :
    Ideal.div (Ideal.exp (f c - Finset.univ.fold max ⊥ f)) (∑ x, Ideal.exp (f x - Finset.univ.fold max ⊥ f))
      = if (∃ s, f s = ⊤) ∨ ∑ x, wt (f x) 0 = 0 then ⊥ else ((wt (f c) 0 / ∑ x, wt (f x) 0 : ℝ) : EReal) := by
  have h00 : Ideal.div 0 0 = ⊥ := by simp [Ideal.div]
  by_cases h1 : ∃ s, f s = ⊤
  · rw [if_pos (Or.inl h1)]
    obtain ⟨s, hs⟩ := h1
    have hm : Finset.univ.fold max ⊥ f = ⊤ := by
      rw [foldMax_sup]; exact top_le_iff.1 (hs ▸ Finset.le_sup (f := f) (Finset.mem_univ s))
    simp only [hm, sub_top, Ideal.exp_bot, Finset.sum_const_zero, h00]
  · have ht : ∀ c, f c ≠ ⊤ := fun c hc => h1 ⟨c, hc⟩
    by_cases hb : ∃ c, f c ≠ ⊥
    · obtain ⟨M, hM⟩ := foldMax_real f ht hb
      obtain ⟨c0, hc0⟩ := hb
      have hpos : 0 < ∑ x, wt (f x) 0 := Finset.sum_pos' (fun c _ => wt_nonneg _ _) ⟨c0, Finset.mem_univ _, wt_pos _ _ (ht c0) hc0⟩
      rw [if_neg (not_or.2 ⟨h1, hpos.ne'⟩), hM]
      exact softmax_wt f ht M hpos.ne' c
    · have hb' : ∀ c, f c = ⊥ := fun c => by
        by_contra hc; exact hb ⟨c, hc⟩
      simp only [hb', EReal.bot_sub, Ideal.exp_bot, wt_bot, Finset.sum_const_zero, h00, or_true, if_true]

end Cert.AttnMath

end
-- ==== Proof.AttnFin.lean ====
/- The start, the stacked query rows, the penalty and the finishing payload of each head. -/
module

public import proofs.«01_k».proof.Proof.AttnMask
public import proofs.«01_k».proof.Proof.AttnSpec
public import proofs.«01_k».proof.Proof.AttnStep

@[expose] public section

set_option maxRecDepth 16384

noncomputable section

open Idealize.ShloMosaic Idealize.ShloMosaic.TcCoe Idealize.SL.Sem
open Idealize.ShloMosaic.Pipeline (Dat)

namespace Cert.AttnIdeal.Value
open Cert.AttnIdeal Cert.AttnIdeal.Gen Cert.AttnMath

/-- The query rows stacked twice, first with the second half of the lanes cleared, then with the first half cleared. -/
def qstk (Q : Fin 256 → Fin 128 → EReal) (r : Fin 512) (x : Fin 128) : EReal :=
  if h : r.val < 256 then (if x.val < 64 then Q ⟨r.val, h⟩ x else 0) else (if x.val < 64 then 0 else Q ⟨r.val - 256, by omega⟩ x)

theorem lane_lt (x : Fin 128) : IntOp.cmpi CmpIPredicate.slt (BitVec.ofNat 32 x.val) 64#32 = if x.val < 64 then 1#1 else 0#1 := by
  revert x; decide +kernel

theorem lane_ge (x : Fin 128) : IntOp.cmpi CmpIPredicate.sge (BitVec.ofNat 32 x.val) 64#32 = if x.val < 64 then 0#1 else 1#1 := by
  revert x; decide +kernel

theorem sel_lt (p : Prop) [Decidable p] (a b : EReal) : Scalar.select (if p then 1#1 else 0#1) a b = if p then a else b := by
  by_cases h : p <;> simp [h, Scalar.select]

theorem sel_ge (p : Prop) [Decidable p] (a b : EReal) : Scalar.select (if p then 0#1 else 1#1) a b = if p then b else a := by
  by_cases h : p <;> simp [h, Scalar.select]

/-- Head 0's finishing payload: the difference of the two halves' quotients, normalised. -/
theorem fin0 (A N : FVec Ideal S512x128 .f32) (LB : Vec Ideal S4x64 .f32) (SB : Vec Ideal S1x128 .f32) (r : Fin 256) (d : Fin 128) :
    k0_pay98 (k0_pay74 LB) (k0_pay97 A N) SB (ix2 r d) = headNorm (fun d => Ideal.div (A (ix2 ⟨r.val, by omega⟩ d)) (N (ix2 ⟨r.val, by omega⟩ d)) - lamE (fun a x => LB (ix2 a x)) * Ideal.div (A (ix2 ⟨256 + r.val, by omega⟩ d)) (N (ix2 ⟨256 + r.val, by omega⟩ d))) (fun d => SB (ix2 0 d)) d := by
  pointwise [k0_pay98, k0_pay97, k0_pay74, headNorm, lamE]

/-- Head 0's stacked query rows. -/
theorem q0 (Q : Vec Ideal S256x128 .bf16) (r : Fin 512) (x : Fin 128) :
    fn2 (k0_pay78 Q) r x = qstk (fun r d => Q (ix2 r d)) r x := by
  unfold fn2 qstk
  pointwise [k0_pay78, k0_pay99, k0_pay122, k0_pay146, lane_lt, lane_ge, sel_lt, sel_ge]

/-- Head 0's distance penalty inside a tile. -/
theorem b0 (r : Fin 512) (c : Fin 256) :
    fn2 (k0_pay79 (F := Ideal)) r c = Ideal.ofBits .f32 0x3F000000#32 * ((((c.val : ℤ) - ((r.val % 256 : ℕ) : ℤ) : ℤ) : ℝ) : EReal) := by
  unfold fn2
  pointwise [k0_pay79, k0_pay100, k0_pay123, k0_pay147, rel_apply]

/-- Head 0 starts with nothing seen. -/
theorem start0 (r : Fin 512) : Inv r 0 (fun _ => 0) ⟨fn2 (k0_pay81 (F := Ideal) k0_pay80), fn2 (k0_pay82 (F := Ideal)), fn2 (k0_pay83 (F := Ideal))⟩ := by
  refine Or.inr ⟨rfl, fun d => ⟨rfl, ?_, ?_, ?_⟩⟩
  · dsimp only [fn2]
    pointwise [k0_pay81, k0_pay80, k0_pay101, k0_pay124, k0_pay148, ninf]
  · dsimp only [fn2]
    pointwise [k0_pay82, k0_pay103, k0_pay102, k0_pay125, k0_pay149]
  · dsimp only [fn2]
    pointwise [k0_pay83, k0_pay104, k0_pay127, k0_pay126, k0_pay150]

/-- Head 1's finishing payload: the difference of the two halves' quotients, normalised. -/
theorem fin1 (A N : FVec Ideal S512x128 .f32) (LB : Vec Ideal S4x64 .f32) (SB : Vec Ideal S1x128 .f32) (r : Fin 256) (d : Fin 128) :
    k0_pay121 (k0_pay118 SB) (k0_pay119 (k0_pay74 LB) A N) (k0_pay120 (k0_pay74 LB) A N) (ix2 r d) = headNorm (fun d => Ideal.div (A (ix2 ⟨r.val, by omega⟩ d)) (N (ix2 ⟨r.val, by omega⟩ d)) - lamE (fun a x => LB (ix2 a x)) * Ideal.div (A (ix2 ⟨256 + r.val, by omega⟩ d)) (N (ix2 ⟨256 + r.val, by omega⟩ d))) (fun d => SB (ix2 0 d)) d := by
  pointwise [k0_pay121, k0_pay118, k0_pay119, k0_pay120, k0_pay74, headNorm, lamE]

/-- Head 1's stacked query rows. -/
theorem q1 (Q : Vec Ideal S256x128 .bf16) (r : Fin 512) (x : Fin 128) :
    fn2 (k0_pay99 (iota Kind.tc S256x128 32 [1] iota_S256x128_d1_w32) Q) r x = qstk (fun r d => Q (ix2 r d)) r x := by
  unfold fn2 qstk
  pointwise [k0_pay78, k0_pay99, k0_pay122, k0_pay146, lane_lt, lane_ge, sel_lt, sel_ge]

/-- Head 1's distance penalty inside a tile. -/
theorem b1 (r : Fin 512) (c : Fin 256) :
    fn2 (k0_pay100 k0_pay76 (F := Ideal)) r c = Ideal.ofBits .f32 0x3E000000#32 * ((((c.val : ℤ) - ((r.val % 256 : ℕ) : ℤ) : ℤ) : ℝ) : EReal) := by
  unfold fn2
  pointwise [k0_pay79, k0_pay100, k0_pay123, k0_pay147, rel_apply]

/-- Head 1 starts with nothing seen. -/
theorem start1 (r : Fin 512) : Inv r 0 (fun _ => 0) ⟨fn2 (k0_pay101 (F := Ideal)), fn2 (k0_pay103 (F := Ideal) k0_pay102), fn2 (k0_pay104 (F := Ideal))⟩ := by
  refine Or.inr ⟨rfl, fun d => ⟨rfl, ?_, ?_, ?_⟩⟩
  · dsimp only [fn2]
    pointwise [k0_pay81, k0_pay80, k0_pay101, k0_pay124, k0_pay148, ninf]
  · dsimp only [fn2]
    pointwise [k0_pay82, k0_pay103, k0_pay102, k0_pay125, k0_pay149]
  · dsimp only [fn2]
    pointwise [k0_pay83, k0_pay104, k0_pay127, k0_pay126, k0_pay150]

/-- Head 2's finishing payload: the difference of the two halves' quotients, normalised. -/
theorem fin2 (A N : FVec Ideal S512x128 .f32) (LB : Vec Ideal S4x64 .f32) (SB : Vec Ideal S1x128 .f32) (r : Fin 256) (d : Fin 128) :
    k0_pay145 (k0_pay141 SB) (k0_pay142 (k0_pay74 LB) A N) (k0_pay143 (k0_pay74 LB) A N) k0_pay144 (ix2 r d) = headNorm (fun d => Ideal.div (A (ix2 ⟨r.val, by omega⟩ d)) (N (ix2 ⟨r.val, by omega⟩ d)) - lamE (fun a x => LB (ix2 a x)) * Ideal.div (A (ix2 ⟨256 + r.val, by omega⟩ d)) (N (ix2 ⟨256 + r.val, by omega⟩ d))) (fun d => SB (ix2 0 d)) d := by
  pointwise [k0_pay145, k0_pay141, k0_pay142, k0_pay143, k0_pay144, k0_pay74, headNorm, lamE]

/-- Head 2's stacked query rows. -/
theorem q2 (Q : Vec Ideal S256x128 .bf16) (r : Fin 512) (x : Fin 128) :
    fn2 (k0_pay122 (iota Kind.tc S256x128 32 [1] iota_S256x128_d1_w32) Q) r x = qstk (fun r d => Q (ix2 r d)) r x := by
  unfold fn2 qstk
  pointwise [k0_pay78, k0_pay99, k0_pay122, k0_pay146, lane_lt, lane_ge, sel_lt, sel_ge]

/-- Head 2's distance penalty inside a tile. -/
theorem b2 (r : Fin 512) (c : Fin 256) :
    fn2 (k0_pay123 k0_pay76 (F := Ideal)) r c = Ideal.ofBits .f32 0x3D000000#32 * ((((c.val : ℤ) - ((r.val % 256 : ℕ) : ℤ) : ℤ) : ℝ) : EReal) := by
  unfold fn2
  pointwise [k0_pay79, k0_pay100, k0_pay123, k0_pay147, rel_apply]

/-- Head 2 starts with nothing seen. -/
theorem start2 (r : Fin 512) : Inv r 0 (fun _ => 0) ⟨fn2 (k0_pay124 (F := Ideal)), fn2 (k0_pay125 (F := Ideal)), fn2 (k0_pay127 (F := Ideal) k0_pay126)⟩ := by
  refine Or.inr ⟨rfl, fun d => ⟨rfl, ?_, ?_, ?_⟩⟩
  · dsimp only [fn2]
    pointwise [k0_pay81, k0_pay80, k0_pay101, k0_pay124, k0_pay148, ninf]
  · dsimp only [fn2]
    pointwise [k0_pay82, k0_pay103, k0_pay102, k0_pay125, k0_pay149]
  · dsimp only [fn2]
    pointwise [k0_pay83, k0_pay104, k0_pay127, k0_pay126, k0_pay150]

/-- Head 3's finishing payload: the difference of the two halves' quotients, normalised. -/
theorem fin3 (A N : FVec Ideal S512x128 .f32) (LB : Vec Ideal S4x64 .f32) (SB : Vec Ideal S1x128 .f32) (r : Fin 256) (d : Fin 128) :
    k0_pay1 (k0_pay166 (k0_pay74 LB) A N SB) k0_pay167 (ix2 r d) = headNorm (fun d => Ideal.div (A (ix2 ⟨r.val, by omega⟩ d)) (N (ix2 ⟨r.val, by omega⟩ d)) - lamE (fun a x => LB (ix2 a x)) * Ideal.div (A (ix2 ⟨256 + r.val, by omega⟩ d)) (N (ix2 ⟨256 + r.val, by omega⟩ d))) (fun d => SB (ix2 0 d)) d := by
  pointwise [k0_pay1, k0_pay166, k0_pay167, k0_pay74, headNorm, lamE]

/-- Head 3's stacked query rows. -/
theorem q3 (Q : Vec Ideal S256x128 .bf16) (r : Fin 512) (x : Fin 128) :
    fn2 (k0_pay146 (iota Kind.tc S256x128 32 [1] iota_S256x128_d1_w32) Q) r x = qstk (fun r d => Q (ix2 r d)) r x := by
  unfold fn2 qstk
  pointwise [k0_pay78, k0_pay99, k0_pay122, k0_pay146, lane_lt, lane_ge, sel_lt, sel_ge]

/-- Head 3's distance penalty inside a tile. -/
theorem b3 (r : Fin 512) (c : Fin 256) :
    fn2 (k0_pay147 k0_pay76 (F := Ideal)) r c = Ideal.ofBits .f32 0x3C000000#32 * ((((c.val : ℤ) - ((r.val % 256 : ℕ) : ℤ) : ℤ) : ℝ) : EReal) := by
  unfold fn2
  pointwise [k0_pay79, k0_pay100, k0_pay123, k0_pay147, rel_apply]

/-- Head 3 starts with nothing seen. -/
theorem start3 (r : Fin 512) : Inv r 0 (fun _ => 0) ⟨fn2 (k0_pay148 (F := Ideal)), fn2 (k0_pay149 (F := Ideal)), fn2 (k0_pay150 (F := Ideal))⟩ := by
  refine Or.inr ⟨rfl, fun d => ⟨rfl, ?_, ?_, ?_⟩⟩
  · dsimp only [fn2]
    pointwise [k0_pay81, k0_pay80, k0_pay101, k0_pay124, k0_pay148, ninf]
  · dsimp only [fn2]
    pointwise [k0_pay82, k0_pay103, k0_pay102, k0_pay125, k0_pay149]
  · dsimp only [fn2]
    pointwise [k0_pay83, k0_pay104, k0_pay127, k0_pay126, k0_pay150]

end Cert.AttnIdeal.Value

end
-- ==== Proof.AttnTail.lean ====
/- The diagonal tile of each head as one step of the running softmax. -/
module

public import proofs.«01_k».proof.Proof.AttnMask
public import proofs.«01_k».proof.Proof.AttnLoopBase
public import proofs.«01_k».proof.Proof.AttnStep

@[expose] public section

set_option maxRecDepth 16384

noncomputable section

open Idealize.ShloMosaic Idealize.ShloMosaic.TcCoe Idealize.SL.Sem
open Idealize.ShloMosaic.Pipeline (Dat)

namespace Cert.AttnIdeal.Value
open Cert.AttnIdeal Cert.AttnIdeal.Gen Cert.AttnMath

/-- The mask constant reads as bottom. -/
theorem named_mask : Named.named (F := Ideal) (φ := .f32) κ "mask" 0xF149F2CA#32 = (⊥ : EReal) := by
  simp [Named.named, κ]

/-- The score of a diagonal tile: entries right of the diagonal are bottom. -/
noncomputable def mscore (s : Fin 512 → Fin 256 → EReal) : Fin 512 → Fin 256 → EReal :=
  fun r c => Scalar.select (if c.val ≤ r.val % 256 then 1#1 else 0#1) (s r c) ⊥

/-- The diagonal tile's offset as the kernel computes it. -/
noncomputable def zoff (w : BitVec 32) (a : BitVec 32) : EReal := Ideal.ofBits .f32 w * (((Scalar.muli (Scalar.subi a a) 256#32).toInt : ℝ) : EReal)

theorem zoff_eq (w a : BitVec 32) : zoff w a = 0 := by
  have h : Scalar.muli (Scalar.subi a a) 256#32 = 0#32 := by
    show (a - a) * 256#32 = 0#32
    simp
  simp [zoff, h]

/-- Head 0's diagonal tile: the step's `nr`. -/
theorem tail0_nr (q : FVec Ideal S512x128 .bf16) (b : FVec Ideal S512x256 .f32) (X3 X4 : Vec Ideal S32x256x512 .bf16) (j : Fin 32) (a : BitVec 32) (m n : FVec Ideal S512x128 .f32) (S : St) (hm : m = vec S.mx) (hn : n = vec S.nr) :
    k0_pay94 (k0_pay89 k0_pay77 q b (blk X3 j)) (k0_pay90 a) m n = vec (step (mscore (score (fn2 q) (fn2 b) (tile 0 (by decide) X3 j))) (tile 0 (by decide) X4 j) 0 S).nr := by
  rw [← zoff_eq 0x3F000000#32 a]
  subst hm hn
  funext y; idx_vars y
  pointwise [k0_pay94, k0_pay89, k0_pay90, k0_pay95, k0_pay88, k0_pay91, k0_pay92, k0_pay93, vec_apply, step, stepM, stepA, stepP, score, rowMax, fn2, tile, mask_apply, named_mask, blk_apply, ninf, mscore, zoff]

/-- Head 0's diagonal tile: the step's `ac`. -/
theorem tail0_ac (q : FVec Ideal S512x128 .bf16) (b : FVec Ideal S512x256 .f32) (X3 X4 : Vec Ideal S32x256x512 .bf16) (j : Fin 32) (a : BitVec 32) (m n : FVec Ideal S512x128 .f32) (S : St) (hm : m = vec S.mx) (hn : n = vec S.ac) :
    k0_pay95 (k0_pay88 (blk X4 j)) (k0_pay89 k0_pay77 q b (blk X3 j)) (k0_pay90 a) m n = vec (step (mscore (score (fn2 q) (fn2 b) (tile 0 (by decide) X3 j))) (tile 0 (by decide) X4 j) 0 S).ac := by
  rw [← zoff_eq 0x3F000000#32 a]
  subst hm hn
  funext y; idx_vars y
  pointwise [k0_pay94, k0_pay89, k0_pay90, k0_pay95, k0_pay88, k0_pay91, k0_pay92, k0_pay93, vec_apply, step, stepM, stepA, stepP, score, rowMax, fn2, tile, mask_apply, named_mask, blk_apply, ninf, mscore, zoff]

/-- Head 1's diagonal tile: the step's `nr`. -/
theorem tail1_nr (q : FVec Ideal S512x128 .bf16) (b : FVec Ideal S512x256 .f32) (X3 X4 : Vec Ideal S32x256x512 .bf16) (j : Fin 32) (a : BitVec 32) (m n : FVec Ideal S512x128 .f32) (S : St) (hm : m = vec S.mx) (hn : n = vec S.nr) :
    k0_pay115 (k0_pay110 k0_pay77 q b (blk X3 j)) (k0_pay111 a) m (k0_pay112 a k0_pay77 q b (blk X3 j) m) n = vec (step (mscore (score (fn2 q) (fn2 b) (tile 128 (by decide) X3 j))) (tile 128 (by decide) X4 j) 0 S).nr := by
  rw [← zoff_eq 0x3E000000#32 a]
  subst hm hn
  funext y; idx_vars y
  pointwise [k0_pay115, k0_pay110, k0_pay111, k0_pay112, k0_pay116, k0_pay109, k0_pay113, k0_pay114, vec_apply, step, stepM, stepA, stepP, score, rowMax, fn2, tile, mask_apply, named_mask, blk_apply, ninf, mscore, zoff]

/-- Head 1's diagonal tile: the step's `ac`. -/
theorem tail1_ac (q : FVec Ideal S512x128 .bf16) (b : FVec Ideal S512x256 .f32) (X3 X4 : Vec Ideal S32x256x512 .bf16) (j : Fin 32) (a : BitVec 32) (m n : FVec Ideal S512x128 .f32) (S : St) (hm : m = vec S.mx) (hn : n = vec S.ac) :
    k0_pay116 (k0_pay109 (blk X4 j)) (k0_pay110 k0_pay77 q b (blk X3 j)) (k0_pay111 a) m (k0_pay112 a k0_pay77 q b (blk X3 j) m) n = vec (step (mscore (score (fn2 q) (fn2 b) (tile 128 (by decide) X3 j))) (tile 128 (by decide) X4 j) 0 S).ac := by
  rw [← zoff_eq 0x3E000000#32 a]
  subst hm hn
  funext y; idx_vars y
  pointwise [k0_pay115, k0_pay110, k0_pay111, k0_pay112, k0_pay116, k0_pay109, k0_pay113, k0_pay114, vec_apply, step, stepM, stepA, stepP, score, rowMax, fn2, tile, mask_apply, named_mask, blk_apply, ninf, mscore, zoff]

/-- Head 2's diagonal tile: the step's `nr`. -/
theorem tail2_nr (q : FVec Ideal S512x128 .bf16) (b : FVec Ideal S512x256 .f32) (X3 X4 : Vec Ideal S32x256x512 .bf16) (j : Fin 32) (a : BitVec 32) (m n : FVec Ideal S512x128 .f32) (S : St) (hm : m = vec S.mx) (hn : n = vec S.nr) :
    k0_pay138 (k0_pay136 a k0_pay77 q b (blk X3 j) m) (k0_pay137 a k0_pay77 q b (blk X3 j) m) n = vec (step (mscore (score (fn2 q) (fn2 b) (tile 256 (by decide) X3 j))) (tile 256 (by decide) X4 j) 0 S).nr := by
  rw [← zoff_eq 0x3D000000#32 a]
  subst hm hn
  funext y; idx_vars y
  pointwise [k0_pay138, k0_pay136, k0_pay137, k0_pay139, k0_pay132, k0_pay133, k0_pay134, k0_pay135, vec_apply, step, stepM, stepA, stepP, score, rowMax, fn2, tile, mask_apply, named_mask, blk_apply, ninf, mscore, zoff]

/-- Head 2's diagonal tile: the step's `ac`. -/
theorem tail2_ac (q : FVec Ideal S512x128 .bf16) (b : FVec Ideal S512x256 .f32) (X3 X4 : Vec Ideal S32x256x512 .bf16) (j : Fin 32) (a : BitVec 32) (m n : FVec Ideal S512x128 .f32) (S : St) (hm : m = vec S.mx) (hn : n = vec S.ac) :
    k0_pay139 (k0_pay132 (blk X4 j)) (k0_pay136 a k0_pay77 q b (blk X3 j) m) (k0_pay137 a k0_pay77 q b (blk X3 j) m) n = vec (step (mscore (score (fn2 q) (fn2 b) (tile 256 (by decide) X3 j))) (tile 256 (by decide) X4 j) 0 S).ac := by
  rw [← zoff_eq 0x3D000000#32 a]
  subst hm hn
  funext y; idx_vars y
  pointwise [k0_pay138, k0_pay136, k0_pay137, k0_pay139, k0_pay132, k0_pay133, k0_pay134, k0_pay135, vec_apply, step, stepM, stepA, stepP, score, rowMax, fn2, tile, mask_apply, named_mask, blk_apply, ninf, mscore, zoff]

/-- Head 3's diagonal tile: the step's `nr`. -/
theorem tail3_nr (q : FVec Ideal S512x128 .bf16) (b : FVec Ideal S512x256 .f32) (X3 X4 : Vec Ideal S32x256x512 .bf16) (j : Fin 32) (a : BitVec 32) (m n : FVec Ideal S512x128 .f32) (S : St) (hm : m = vec S.mx) (hn : n = vec S.nr) :
    k0_pay163 (k0_pay161 a k0_pay77 q b (blk X3 j) m n) (k0_pay162 a k0_pay77 q b (blk X3 j) m) = vec (step (mscore (score (fn2 q) (fn2 b) (tile 384 (by decide) X3 j))) (tile 384 (by decide) X4 j) 0 S).nr := by
  rw [← zoff_eq 0x3C000000#32 a]
  subst hm hn
  funext y; idx_vars y
  pointwise [k0_pay163, k0_pay161, k0_pay162, k0_pay164, k0_pay155, k0_pay159, k0_pay160, k0_pay156, k0_pay157, k0_pay158, vec_apply, step, stepM, stepA, stepP, score, rowMax, fn2, tile, mask_apply, named_mask, blk_apply, ninf, mscore, zoff]

/-- Head 3's diagonal tile: the step's `ac`. -/
theorem tail3_ac (q : FVec Ideal S512x128 .bf16) (b : FVec Ideal S512x256 .f32) (X3 X4 : Vec Ideal S32x256x512 .bf16) (j : Fin 32) (a : BitVec 32) (m n : FVec Ideal S512x128 .f32) (S : St) (hm : m = vec S.mx) (hn : n = vec S.ac) :
    k0_pay164 (k0_pay155 (blk X4 j)) (k0_pay159 a k0_pay77 q b (blk X3 j) m) (k0_pay160 a k0_pay77 q b (blk X3 j) m) n = vec (step (mscore (score (fn2 q) (fn2 b) (tile 384 (by decide) X3 j))) (tile 384 (by decide) X4 j) 0 S).ac := by
  rw [← zoff_eq 0x3C000000#32 a]
  subst hm hn
  funext y; idx_vars y
  pointwise [k0_pay163, k0_pay161, k0_pay162, k0_pay164, k0_pay155, k0_pay159, k0_pay160, k0_pay156, k0_pay157, k0_pay158, vec_apply, step, stepM, stepA, stepP, score, rowMax, fn2, tile, mask_apply, named_mask, blk_apply, ninf, mscore, zoff]

end Cert.AttnIdeal.Value

end
-- ==== Proof.AttnHead.lean ====
/- One head of the attention kernel for any queries and keys and real values: the running softmax over the tiles is the whole row's weights. -/
module

public import proofs.«01_k».proof.Proof.AttnFin
public import proofs.«01_k».proof.Proof.AttnTail

@[expose] public section

set_option maxRecDepth 16384

noncomputable section

open Idealize.ShloMosaic Idealize.ShloMosaic.TcCoe Idealize.SL.Sem
open Idealize.ShloMosaic.Pipeline (Dat)

namespace Cert.AttnIdeal.Value
open Cert.AttnIdeal Cert.AttnIdeal.Gen Cert.AttnMath

/-- A tile's offset is the slope times the tile distance. -/
theorem toff_real (w : BitVec 32) (h : Fin 4) (hw : Ideal.ofBits .f32 w = ((headSlope h : ℝ) : EReal)) (qi : Nat) (hqi : qi < 32) (k : Nat) (hk : k < qi) :
    toff w (BitVec.ofNat 32 qi) k = ((headSlope h * (((qi : ℝ) - (k : ℝ)) * 256) : ℝ) : EReal) := by
  have e : ∀ qi k : Fin 32, (Scalar.muli (Scalar.subi (BitVec.ofNat 32 qi.val) (Scf.iv 0#32 1#32 k.val)) 256#32 : BitVec 32).toInt = ((qi.val : ℤ) - (k.val : ℤ)) * 256 := by
    decide +kernel
  have e' := e ⟨qi, hqi⟩ ⟨k, by omega⟩
  dsimp only at e'
  show Ideal.ofBits .f32 w * (((Scalar.muli (Scalar.subi (BitVec.ofNat 32 qi) (Scf.iv 0#32 1#32 k)) 256#32 : BitVec 32).toInt : ℝ) : EReal) = _
  rw [e', hw, ← EReal.coe_mul]
  push_cast
  rfl

/-- A sum over all keys that vanishes after tile `qi` is the sum over the tiles up to `qi`. -/
theorem sum_keys (f : Fin 8192 → ℝ) (qi : Nat) (hqi : qi < 32) (hz : ∀ s : Fin 8192, (qi + 1) * 256 ≤ s.val → f s = 0) :
    ∑ s, f s = (∑ k ∈ Finset.range qi, ∑ c : Fin 256, f ⟨(jj k).val * 256 + c.val, by have := (jj k).isLt; omega⟩) + ∑ c : Fin 256, f ⟨qi * 256 + c.val, by omega⟩ := by
  have hj : ∀ k, k < 32 → (jj k).val = k := fun k hk => Nat.mod_eq_of_lt hk
  have e1 : ∑ s, f s = ∑ k ∈ Finset.range 32, ∑ c : Fin 256, f ⟨(jj k).val * 256 + c.val, by have := (jj k).isLt; omega⟩ := by
    rw [Fin.sum_univ_tiles 32 256 rfl f, Finset.sum_range]
    refine Finset.sum_congr rfl fun k _ => Finset.sum_congr rfl fun c _ => ?_
    congr 1
    exact Fin.ext (by dsimp only; rw [hj k.val k.isLt])
  have e2 : (∑ c : Fin 256, f ⟨qi * 256 + c.val, by omega⟩) = ∑ c : Fin 256, f ⟨(jj qi).val * 256 + c.val, by have := (jj qi).isLt; omega⟩ := by
    refine Finset.sum_congr rfl fun c _ => ?_
    congr 1
    exact Fin.ext (by dsimp only; rw [hj qi hqi])
  rw [e1, e2, ← Finset.sum_range_succ (fun k => ∑ c : Fin 256, f ⟨(jj k).val * 256 + c.val, by have := (jj k).isLt; omega⟩)]
  refine (Finset.sum_subset (Finset.range_mono (by omega)) fun k hk hk' => Finset.sum_eq_zero fun c _ => hz _ ?_).symm
  have h1 := Finset.mem_range.1 hk
  have h2 : qi + 1 ≤ k := by
    by_contra hcon
    exact hk' (Finset.mem_range.2 (by omega))
  have h3 := hj k h1
  dsimp only
  rw [h3]
  nlinarith

/-- The stacked query rows against a key row: half `r / 256` of the head's lanes. -/
theorem stk_dot (Q : Fin 256 → Fin 128 → EReal) (K : Fin 128 → EReal) (m : Fin 2) (rr : Fin 256) (r : Fin 512) (hr : r.val = m.val * 256 + rr.val) :
    (∑ x, qstk Q r x * K x) = ∑ x : Fin 64, Q rr ⟨m.val * 64 + x.val, by omega⟩ * K ⟨m.val * 64 + x.val, by omega⟩ := by
  have hm : m = 0 ∨ m = 1 := by omega
  rw [Fin.sum_univ_two_halves 64 64 rfl]
  rcases hm with rfl | rfl
  · have hlt : r.val < 256 := by simp at hr; omega
    have hrr : (⟨r.val, hlt⟩ : Fin 256) = rr := Fin.ext (by simp at hr; exact hr)
    have h1 : ∀ k : Fin 64, qstk Q r ⟨k.val, by omega⟩ = Q rr ⟨k.val, by omega⟩ := fun k => by
      unfold qstk; rw [dif_pos hlt, if_pos (by exact k.isLt), hrr]
    have h2 : ∀ k : Fin 64, qstk Q r ⟨64 + k.val, by omega⟩ = 0 := fun k => by
      unfold qstk; rw [dif_pos hlt, if_neg (by dsimp only; omega)]
    simp only [h1, h2, zero_mul, Finset.sum_const_zero, add_zero]
    refine Finset.sum_congr rfl fun k _ => ?_
    congr 2 <;> exact Fin.ext (by simp)
  · have hge : ¬ r.val < 256 := by simp at hr; omega
    have hrr : (⟨r.val - 256, by omega⟩ : Fin 256) = rr := Fin.ext (by simp at hr; dsimp only; omega)
    have h1 : ∀ k : Fin 64, qstk Q r ⟨k.val, by omega⟩ = 0 := fun k => by
      unfold qstk; rw [dif_neg hge, if_pos (by exact k.isLt)]
    have h2 : ∀ k : Fin 64, qstk Q r ⟨64 + k.val, by omega⟩ = Q rr ⟨64 + k.val, by omega⟩ := fun k => by
      unfold qstk; rw [dif_neg hge, if_neg (by dsimp only; omega), hrr]
    simp only [h1, h2, zero_mul, Finset.sum_const_zero, zero_add]
    refine Finset.sum_congr rfl fun k _ => ?_
    congr 2 <;> exact Fin.ext (by simp)

/-- A real shift neither makes nor removes `⊤`. -/
theorem shift_top (x : EReal) (p g : ℝ) : x + (p : EReal) = ⊤ ↔ x - (g : EReal) = ⊤ := by
  induction x using EReal.rec with
  | bot => simp
  | coe x => rw [← EReal.coe_add, ← EReal.coe_sub]; simp only [EReal.coe_ne_top]
  | top => rw [EReal.top_add_coe, EReal.top_sub_coe]

/-- One head, from the start over the full tiles and the diagonal tile: the weighted sum over the normaliser is the attention of row `r`. -/
theorem head_real (q k_ : Fin 32768 → Fin 512 → EReal) (v : Fin 32768 → Fin 512 → ℝ) (b h : Fin 4) (qi : Nat) (hqi : qi < 32) (m : Fin 2) (rr : Fin 256) (r : Fin 512) (hr : r.val = m.val * 256 + rr.val)
    (w : BitVec 32) (hw : Ideal.ofBits .f32 w = ((headSlope h : ℝ) : EReal))
    (QB : Fin 256 → Fin 128 → EReal) (hQ : ∀ r d, QB r d = (q ⟨b.val * 8192 + (qi * 256 + r.val), by omega⟩ ⟨h.val * 128 + d.val, by omega⟩ : EReal))
    (qs : Fin 512 → Fin 128 → EReal) (hqs : ∀ r x, qs r x = qstk QB r x)
    (bs : Fin 512 → Fin 256 → EReal) (hbs : ∀ r c, bs r c = Ideal.ofBits .f32 w * ((((c.val : ℤ) - ((r.val % 256 : ℕ) : ℤ) : ℤ) : ℝ) : EReal))
    (o : Nat) (ho : o + 128 ≤ 512) (hoh : o = h.val * 128)
    (X3 X4 : FVec Ideal S32x256x512 .bf16)
    (hX3 : ∀ (j : Fin 32) (c : Fin 256) (l : Fin 512), X3 (ix3 j c l) = (k_ ⟨b.val * 8192 + (j.val * 256 + c.val), by omega⟩ l : EReal))
    (hX4 : ∀ (j : Fin 32) (c : Fin 256) (l : Fin 512), X4 (ix3 j c l) = (v ⟨b.val * 8192 + (j.val * 256 + c.val), by omega⟩ l : EReal))
    (S0 : St) (h0 : Inv r 0 (fun _ => 0) S0) (d : Fin 128) (t : Fin 8192) (ht : t.val = qi * 256 + rr.val) (qf : Fin 32) (hqf : qf.val = qi)
    (T : St) (hT : T = step (mscore (score qs bs (tile o ho X3 qf))) (tile o ho X4 qf) 0
      (run (fun k => score qs bs (tile o ho X3 (jj k))) (fun k => tile o ho X4 (jj k)) (toff w (BitVec.ofNat 32 qi)) qi S0)) :
    Ideal.div (T.ac r d) (T.nr r d) = mapLane q k_ v b h m t d := by
  subst hT
  have hrm : r.val % 256 = rr.val := by omega
  -- the score of row `r` against key `c` of tile `j`
  have hs : ∀ (j : Fin 32) (c : Fin 256), score qs bs (tile o ho X3 j) r c
      = qk q k_ b h m t ⟨j.val * 256 + c.val, by omega⟩ + ((headSlope h * ((c.val : ℝ) - (rr.val : ℝ)) : ℝ) : EReal) := fun j c => by
    have e1 : ∀ x : Fin 128, tile o ho X3 j c x = k_ ⟨b.val * 8192 + (j.val * 256 + c.val), by omega⟩ ⟨h.val * 128 + x.val, by omega⟩ := fun x => by
      unfold tile; rw [hX3]; subst hoh; rfl
    have e2 : QB = fun r d => q ⟨b.val * 8192 + (qi * 256 + r.val), by omega⟩ ⟨h.val * 128 + d.val, by omega⟩ := by
      funext r d; exact hQ r d
    unfold score
    simp only [hqs, e1, e2]
    rw [stk_dot (fun r d => q ⟨b.val * 8192 + (qi * 256 + r.val), by omega⟩ ⟨h.val * 128 + d.val, by omega⟩)
      (fun x => k_ ⟨b.val * 8192 + (j.val * 256 + c.val), by omega⟩ ⟨h.val * 128 + x.val, by omega⟩) m rr r hr, hbs, hw, hrm, ← EReal.coe_mul]
    congr 1
    · unfold qk
      refine Finset.sum_congr rfl fun x _ => ?_
      subst hoh
      congr 2 <;> exact Fin.ext (by dsimp only; omega)
    · push_cast
      rfl
  have hv : ∀ (j : Fin 32) (c : Fin 256) (d : Fin 128), tile o ho X4 j c d = ((v ⟨b.val * 8192 + (j.val * 256 + c.val), by omega⟩ ⟨h.val * 128 + d.val, by omega⟩ : ℝ) : EReal) := fun j c d => by
    unfold tile; rw [hX4]; subst hoh; rfl
  have hjq : ∀ k, k < qi → (jj k).val = k := fun k hk => Nat.mod_eq_of_lt (by omega)
  have e4 : (t.val : ℝ) = (qi : ℝ) * 256 + (rr.val : ℝ) := by rw [ht]; push_cast; rfl
  -- the score of a key in a full tile, with its penalty
  have hsc : ∀ k, k < qi → ∀ c : Fin 256, sc q k_ b h m t ⟨(jj k).val * 256 + c.val, by have := (jj k).isLt; omega⟩
      = qk q k_ b h m t ⟨(jj k).val * 256 + c.val, by have := (jj k).isLt; omega⟩ - ((headSlope h * ((t.val : ℝ) - ((k : ℝ) * 256 + (c.val : ℝ))) : ℝ) : EReal) := fun k hk c => by
    rw [sc, if_pos (by dsimp only; rw [hjq k hk, ht]; have := c.isLt; nlinarith)]
    have e3 : (((⟨(jj k).val * 256 + c.val, by have := (jj k).isLt; omega⟩ : Fin 8192).val : ℕ) : ℝ) = (k : ℝ) * 256 + (c.val : ℝ) := by
      dsimp only; rw [hjq k hk]; push_cast; rfl
    rw [e3]
  have hscm : ∀ c : Fin 256, c.val ≤ rr.val → sc q k_ b h m t ⟨qi * 256 + c.val, by omega⟩
      = qk q k_ b h m t ⟨qi * 256 + c.val, by omega⟩ - ((headSlope h * ((t.val : ℝ) - ((qi : ℝ) * 256 + (c.val : ℝ))) : ℝ) : EReal) := fun c hc => by
    rw [sc, if_pos (by dsimp only; omega)]
    have e3 : (((⟨qi * 256 + c.val, by omega⟩ : Fin 8192).val : ℕ) : ℝ) = (qi : ℝ) * 256 + (c.val : ℝ) := by
      dsimp only; push_cast; rfl
    rw [e3]
  have hscz : ∀ c : Fin 256, ¬ c.val ≤ rr.val → sc q k_ b h m t ⟨qi * 256 + c.val, by omega⟩ = ⊥ := fun c hc => by
    rw [sc, if_neg (by dsimp only; omega)]
  have e5 : ∀ c : Fin 256, (⟨qf.val * 256 + c.val, by omega⟩ : Fin 8192) = ⟨qi * 256 + c.val, by omega⟩ := fun c => Fin.ext (by dsimp only; rw [hqf])
  -- the weights
  have hwt : ∀ k, k < qi → ∀ c : Fin 256, wt (score qs bs (tile o ho X3 (jj k)) r c) (headSlope h * (((qi : ℝ) - (k : ℝ)) * 256)) = ew q k_ b h m t ⟨(jj k).val * 256 + c.val, by have := (jj k).isLt; omega⟩ := fun k hk c => by
    rw [hs, ew, hsc k hk c]
    exact wt_shift _ _ _ _ (by rw [e4]; ring)
  have hwm : ∀ c : Fin 256, wt (mscore (score qs bs (tile o ho X3 qf)) r c) 0 = ew q k_ b h m t ⟨qi * 256 + c.val, by omega⟩ := fun c => by
    unfold mscore
    rw [sel_lt, hrm, ew]
    by_cases hc : c.val ≤ rr.val
    · rw [if_pos hc, hscm c hc, hs, e5]
      exact wt_shift _ _ _ _ (by rw [e4]; ring)
    · rw [if_neg hc, hscz c hc]
  -- the infinite scores
  have htop : ((∃ k, k < qi ∧ ∃ c, score qs bs (tile o ho X3 (jj k)) r c = ⊤) ∨ ∃ c, mscore (score qs bs (tile o ho X3 qf)) r c = ⊤) ↔ ∃ s, sc q k_ b h m t s = ⊤ := by
    constructor
    · rintro (⟨k, hk, c, hc⟩ | ⟨c, hc⟩)
      · rw [hs] at hc
        exact ⟨_, by rw [hsc k hk c]; exact (shift_top _ _ _).1 hc⟩
      · unfold mscore at hc
        rw [sel_lt, hrm] at hc
        by_cases hcr : c.val ≤ rr.val
        · rw [if_pos hcr, hs, e5] at hc
          exact ⟨_, by rw [hscm c hcr]; exact (shift_top _ _ _).1 hc⟩
        · rw [if_neg hcr] at hc
          exact absurd hc bot_ne_top
    · rintro ⟨s, hst⟩
      have hle : s.val ≤ t.val := by
        by_contra hcon
        rw [sc, if_neg hcon] at hst
        exact absurd hst bot_ne_top
      by_cases hlt : s.val < qi * 256
      · have hk : s.val / 256 < qi := by omega
        have es : s = ⟨(jj (s.val / 256)).val * 256 + (⟨s.val % 256, by omega⟩ : Fin 256).val, by have := (jj (s.val / 256)).isLt; dsimp only; omega⟩ :=
          Fin.ext (by dsimp only; rw [hjq _ hk]; omega)
        refine Or.inl ⟨s.val / 256, hk, ⟨s.val % 256, by omega⟩, ?_⟩
        rw [es, hsc _ hk] at hst
        rw [hs]
        exact (shift_top _ _ _).2 hst
      · have hcr : (⟨s.val - qi * 256, by have := rr.isLt; omega⟩ : Fin 256).val ≤ rr.val := by dsimp only; omega
        have es : s = ⟨qi * 256 + (⟨s.val - qi * 256, by have := rr.isLt; omega⟩ : Fin 256).val, by dsimp only; omega⟩ := Fin.ext (by dsimp only; omega)
        refine Or.inr ⟨⟨s.val - qi * 256, by have := rr.isLt; omega⟩, ?_⟩
        rw [es, hscm _ hcr] at hst
        unfold mscore
        rw [sel_lt, hrm, if_pos hcr, hs, e5]
        exact (shift_top _ _ _).2 hst
  have hz : ∀ s : Fin 8192, (qi + 1) * 256 ≤ s.val → ew q k_ b h m t s = 0 := fun s hs => by
    rw [ew, sc, if_neg (by have := rr.isLt; omega), wt_bot]
  have hI := Held.run (fun k => score qs bs (tile o ho X3 (jj k))) (fun k => tile o ho X4 (jj k)) (toff w (BitVec.ofNat 32 qi))
    (fun k => headSlope h * (((qi : ℝ) - (k : ℝ)) * 256)) (fun k c d => v ⟨b.val * 8192 + ((jj k).val * 256 + c.val), by have := (jj k).isLt; omega⟩ ⟨h.val * 128 + d.val, by omega⟩) h0 qi
    (fun k hk => toff_real w h hw qi hqi k hk) (fun k _ c d => hv _ c d)
  have hJ := hI.step (mscore (score qs bs (tile o ho X3 qf))) (tile o ho X4 qf) 0 0 EReal.coe_zero.symm
    (fun c d => v ⟨b.val * 8192 + (qf.val * 256 + c.val), by omega⟩ ⟨h.val * 128 + d.val, by omega⟩) (fun c d => hv qf c d)
  have hE : (∑ k ∈ Finset.range qi, ∑ c, wt (score qs bs (tile o ho X3 (jj k)) r c) (headSlope h * (((qi : ℝ) - (k : ℝ)) * 256)))
      + ∑ c, wt (mscore (score qs bs (tile o ho X3 qf)) r c) 0 = ewSum q k_ b h m t := by
    unfold ewSum
    rw [sum_keys _ qi hqi hz]
    congr 1
    · exact Finset.sum_congr rfl fun k hk => Finset.sum_congr rfl fun c _ => hwt k (Finset.mem_range.1 hk) c
    · exact Finset.sum_congr rfl fun c _ => hwm c
  have hV : (∑ k ∈ Finset.range qi, ∑ c, wt (score qs bs (tile o ho X3 (jj k)) r c) (headSlope h * (((qi : ℝ) - (k : ℝ)) * 256)) * v ⟨b.val * 8192 + ((jj k).val * 256 + c.val), by have := (jj k).isLt; omega⟩ ⟨h.val * 128 + d.val, by omega⟩)
      + ∑ c, wt (mscore (score qs bs (tile o ho X3 qf)) r c) 0 * v ⟨b.val * 8192 + (qf.val * 256 + c.val), by omega⟩ ⟨h.val * 128 + d.val, by omega⟩ = ewVal q k_ v b h m t d := by
    unfold ewVal
    rw [sum_keys (fun s => ew q k_ b h m t s * v ⟨b.val * 8192 + s.val, by omega⟩ ⟨h.val * 128 + d.val, by omega⟩) qi hqi (fun s hs => by rw [hz s hs, zero_mul])]
    congr 1
    · exact Finset.sum_congr rfl fun k hk => Finset.sum_congr rfl fun c _ => by rw [hwt k (Finset.mem_range.1 hk) c]
    · refine Finset.sum_congr rfl fun c _ => ?_
      rw [hwm c]; congr 2; exact Fin.ext (by dsimp only; rw [hqf])
  refine (hJ.div d).trans ?_
  unfold mapLane NoMap
  rw [hE, htop]
  congr 3

end Cert.AttnIdeal.Value

end
-- ==== Proof.AttnOut.lean ====
/- What each head of the attention kernel writes, for any queries and keys and real values. -/
module

public import proofs.«01_k».proof.Proof.AttnHead

@[expose] public section

set_option maxRecDepth 16384

noncomputable section

open Idealize.ShloMosaic Idealize.ShloMosaic.TcCoe Idealize.SL.Sem
open Idealize.ShloMosaic.Pipeline (Dat)

namespace Cert.AttnIdeal.Value
open Cert.AttnIdeal Cert.AttnIdeal.Gen Cert.AttnMath

theorem slope0 : Ideal.ofBits .f32 0x3F000000#32 = ((headSlope 0 : ℝ) : EReal) := by
  simp [Ideal.ofBits, Ideal.ieee, headSlope, -EReal.coe_mul]; norm_num

set_option maxHeartbeats 1600000 in
/-- What head 0 writes: the normalised difference of its two attentions. -/
theorem head0_val (q k_ : Fin 32768 → Fin 512 → EReal) (v : Fin 32768 → Fin 512 → ℝ) (b : Fin 4) (qi : Fin 32) (a : BitVec 32) (ha : a = BitVec.ofNat 32 qi.val)
    (LB : Vec Ideal S4x64 .f32) (SB : Vec Ideal S1x128 .f32) (Q : Vec Ideal S256x128 .bf16) (X3 X4 : Vec Ideal S32x256x512 .bf16) (KB VB : FVec Ideal S1x256x512 .bf16) (hKB : KB = blk X3 qi) (hVB : VB = blk X4 qi)
    (hQ : ∀ (r : Fin 256) (d : Fin 128), Q (ix2 r d) = (q ⟨b.val * 8192 + (qi.val * 256 + r.val), by omega⟩ ⟨(0 : Fin 4).val * 128 + d.val, by omega⟩ : EReal))
    (hX3 : ∀ (j : Fin 32) (c : Fin 256) (l : Fin 512), X3 (ix3 j c l) = (k_ ⟨b.val * 8192 + (j.val * 256 + c.val), by omega⟩ l : EReal))
    (hX4 : ∀ (j : Fin 32) (c : Fin 256) (l : Fin 512), X4 (ix3 j c l) = (v ⟨b.val * 8192 + (j.val * 256 + c.val), by omega⟩ l : EReal))
    (lam : ℝ) (hl : lamE (fun a x => LB (ix2 a x)) = (lam : EReal)) (r : Fin 256) (d : Fin 128)
    (m n cc : FVec Ideal S512x128 .f32) (R : St) (hR : R = run (fun k => score (fn2 (k0_pay78 Q)) (fn2 (k0_pay79 (F := Ideal))) (tile 0 (by decide) X3 (jj k))) (fun k => tile 0 (by decide) X4 (jj k)) (toff 0x3F000000#32 a) qi.val ⟨fn2 (k0_pay81 (F := Ideal) k0_pay80), fn2 (k0_pay82 (F := Ideal)), fn2 (k0_pay83 (F := Ideal))⟩)
    (hm : m = vec R.mx) (hn : n = vec R.nr) (hc : cc = vec R.ac) :
    k0_pay98 (k0_pay74 LB) (k0_pay97 (k0_pay95 (k0_pay88 VB) (k0_pay89 k0_pay77 (k0_pay78 Q) (k0_pay79 (F := Ideal)) KB) (k0_pay90 a) m cc) (k0_pay94 (k0_pay89 k0_pay77 (k0_pay78 Q) (k0_pay79 (F := Ideal)) KB) (k0_pay90 a) m n)) SB (ix2 r d)
      = headNorm (fun d => outLane lam q k_ v b 0 ⟨qi.val * 256 + r.val, by omega⟩ d) (fun d => SB (ix2 0 d)) d := by
  subst hKB hVB ha
  rw [tail0_nr _ _ X3 X4 qi _ m n R hm hn, tail0_ac _ _ X3 X4 qi _ m cc R hm hc, fin0, hl]
  congr 1
  funext d
  rw [vec_apply, vec_apply, vec_apply, vec_apply,
    head_real q k_ v b 0 qi.val qi.isLt 0 r ⟨r.val, by omega⟩ (by simp) _ slope0 (fun r d => Q (ix2 r d)) hQ _ (fun r x => q0 Q r x) _ (fun r c => b0 r c) 0 (by decide) rfl X3 X4 hX3 hX4 _ (start0 _) d ⟨qi.val * 256 + r.val, by omega⟩ rfl qi rfl _ (by rw [hR]),
    head_real q k_ v b 0 qi.val qi.isLt 1 r ⟨256 + r.val, by omega⟩ (by simp) _ slope0 (fun r d => Q (ix2 r d)) hQ _ (fun r x => q0 Q r x) _ (fun r c => b0 r c) 0 (by decide) rfl X3 X4 hX3 hX4 _ (start0 _) d ⟨qi.val * 256 + r.val, by omega⟩ rfl qi rfl _ (by rw [hR])]
  rfl

theorem slope1 : Ideal.ofBits .f32 0x3E000000#32 = ((headSlope 1 : ℝ) : EReal) := by
  simp [Ideal.ofBits, Ideal.ieee, headSlope, -EReal.coe_mul]; norm_num

set_option maxHeartbeats 1600000 in
/-- What head 1 writes: the normalised difference of its two attentions. -/
theorem head1_val (q k_ : Fin 32768 → Fin 512 → EReal) (v : Fin 32768 → Fin 512 → ℝ) (b : Fin 4) (qi : Fin 32) (a : BitVec 32) (ha : a = BitVec.ofNat 32 qi.val)
    (LB : Vec Ideal S4x64 .f32) (SB : Vec Ideal S1x128 .f32) (Q : Vec Ideal S256x128 .bf16) (X3 X4 : Vec Ideal S32x256x512 .bf16) (KB VB : FVec Ideal S1x256x512 .bf16) (hKB : KB = blk X3 qi) (hVB : VB = blk X4 qi)
    (hQ : ∀ (r : Fin 256) (d : Fin 128), Q (ix2 r d) = (q ⟨b.val * 8192 + (qi.val * 256 + r.val), by omega⟩ ⟨(1 : Fin 4).val * 128 + d.val, by omega⟩ : EReal))
    (hX3 : ∀ (j : Fin 32) (c : Fin 256) (l : Fin 512), X3 (ix3 j c l) = (k_ ⟨b.val * 8192 + (j.val * 256 + c.val), by omega⟩ l : EReal))
    (hX4 : ∀ (j : Fin 32) (c : Fin 256) (l : Fin 512), X4 (ix3 j c l) = (v ⟨b.val * 8192 + (j.val * 256 + c.val), by omega⟩ l : EReal))
    (lam : ℝ) (hl : lamE (fun a x => LB (ix2 a x)) = (lam : EReal)) (r : Fin 256) (d : Fin 128)
    (m n cc : FVec Ideal S512x128 .f32) (R : St) (hR : R = run (fun k => score (fn2 (k0_pay99 (iota Kind.tc S256x128 32 [1] iota_S256x128_d1_w32) Q)) (fn2 (k0_pay100 (F := Ideal) k0_pay76)) (tile 128 (by decide) X3 (jj k))) (fun k => tile 128 (by decide) X4 (jj k)) (toff 0x3E000000#32 a) qi.val ⟨fn2 (k0_pay101 (F := Ideal)), fn2 (k0_pay103 (F := Ideal) k0_pay102), fn2 (k0_pay104 (F := Ideal))⟩)
    (hm : m = vec R.mx) (hn : n = vec R.nr) (hc : cc = vec R.ac) :
    k0_pay121 (k0_pay118 SB) (k0_pay119 (k0_pay74 LB) (k0_pay116 (k0_pay109 VB) (k0_pay110 k0_pay77 (k0_pay99 (iota Kind.tc S256x128 32 [1] iota_S256x128_d1_w32) Q) (k0_pay100 (F := Ideal) k0_pay76) KB) (k0_pay111 a) m (k0_pay112 a k0_pay77 (k0_pay99 (iota Kind.tc S256x128 32 [1] iota_S256x128_d1_w32) Q) (k0_pay100 (F := Ideal) k0_pay76) KB m) cc) (k0_pay115 (k0_pay110 k0_pay77 (k0_pay99 (iota Kind.tc S256x128 32 [1] iota_S256x128_d1_w32) Q) (k0_pay100 (F := Ideal) k0_pay76) KB) (k0_pay111 a) m (k0_pay112 a k0_pay77 (k0_pay99 (iota Kind.tc S256x128 32 [1] iota_S256x128_d1_w32) Q) (k0_pay100 (F := Ideal) k0_pay76) KB m) n)) (k0_pay120 (k0_pay74 LB) (k0_pay116 (k0_pay109 VB) (k0_pay110 k0_pay77 (k0_pay99 (iota Kind.tc S256x128 32 [1] iota_S256x128_d1_w32) Q) (k0_pay100 (F := Ideal) k0_pay76) KB) (k0_pay111 a) m (k0_pay112 a k0_pay77 (k0_pay99 (iota Kind.tc S256x128 32 [1] iota_S256x128_d1_w32) Q) (k0_pay100 (F := Ideal) k0_pay76) KB m) cc) (k0_pay115 (k0_pay110 k0_pay77 (k0_pay99 (iota Kind.tc S256x128 32 [1] iota_S256x128_d1_w32) Q) (k0_pay100 (F := Ideal) k0_pay76) KB) (k0_pay111 a) m (k0_pay112 a k0_pay77 (k0_pay99 (iota Kind.tc S256x128 32 [1] iota_S256x128_d1_w32) Q) (k0_pay100 (F := Ideal) k0_pay76) KB m) n)) (ix2 r d)
      = headNorm (fun d => outLane lam q k_ v b 1 ⟨qi.val * 256 + r.val, by omega⟩ d) (fun d => SB (ix2 0 d)) d := by
  subst hKB hVB ha
  rw [tail1_nr _ _ X3 X4 qi _ m n R hm hn, tail1_ac _ _ X3 X4 qi _ m cc R hm hc, fin1, hl]
  congr 1
  funext d
  rw [vec_apply, vec_apply, vec_apply, vec_apply,
    head_real q k_ v b 1 qi.val qi.isLt 0 r ⟨r.val, by omega⟩ (by simp) _ slope1 (fun r d => Q (ix2 r d)) hQ _ (fun r x => q1 Q r x) _ (fun r c => b1 r c) 128 (by decide) rfl X3 X4 hX3 hX4 _ (start1 _) d ⟨qi.val * 256 + r.val, by omega⟩ rfl qi rfl _ (by rw [hR]),
    head_real q k_ v b 1 qi.val qi.isLt 1 r ⟨256 + r.val, by omega⟩ (by simp) _ slope1 (fun r d => Q (ix2 r d)) hQ _ (fun r x => q1 Q r x) _ (fun r c => b1 r c) 128 (by decide) rfl X3 X4 hX3 hX4 _ (start1 _) d ⟨qi.val * 256 + r.val, by omega⟩ rfl qi rfl _ (by rw [hR])]
  rfl

theorem slope2 : Ideal.ofBits .f32 0x3D000000#32 = ((headSlope 2 : ℝ) : EReal) := by
  simp [Ideal.ofBits, Ideal.ieee, headSlope, -EReal.coe_mul]; norm_num

set_option maxHeartbeats 1600000 in
/-- What head 2 writes: the normalised difference of its two attentions. -/
theorem head2_val (q k_ : Fin 32768 → Fin 512 → EReal) (v : Fin 32768 → Fin 512 → ℝ) (b : Fin 4) (qi : Fin 32) (a : BitVec 32) (ha : a = BitVec.ofNat 32 qi.val)
    (LB : Vec Ideal S4x64 .f32) (SB : Vec Ideal S1x128 .f32) (Q : Vec Ideal S256x128 .bf16) (X3 X4 : Vec Ideal S32x256x512 .bf16) (KB VB : FVec Ideal S1x256x512 .bf16) (hKB : KB = blk X3 qi) (hVB : VB = blk X4 qi)
    (hQ : ∀ (r : Fin 256) (d : Fin 128), Q (ix2 r d) = (q ⟨b.val * 8192 + (qi.val * 256 + r.val), by omega⟩ ⟨(2 : Fin 4).val * 128 + d.val, by omega⟩ : EReal))
    (hX3 : ∀ (j : Fin 32) (c : Fin 256) (l : Fin 512), X3 (ix3 j c l) = (k_ ⟨b.val * 8192 + (j.val * 256 + c.val), by omega⟩ l : EReal))
    (hX4 : ∀ (j : Fin 32) (c : Fin 256) (l : Fin 512), X4 (ix3 j c l) = (v ⟨b.val * 8192 + (j.val * 256 + c.val), by omega⟩ l : EReal))
    (lam : ℝ) (hl : lamE (fun a x => LB (ix2 a x)) = (lam : EReal)) (r : Fin 256) (d : Fin 128)
    (m n cc : FVec Ideal S512x128 .f32) (R : St) (hR : R = run (fun k => score (fn2 (k0_pay122 (iota Kind.tc S256x128 32 [1] iota_S256x128_d1_w32) Q)) (fn2 (k0_pay123 (F := Ideal) k0_pay76)) (tile 256 (by decide) X3 (jj k))) (fun k => tile 256 (by decide) X4 (jj k)) (toff 0x3D000000#32 a) qi.val ⟨fn2 (k0_pay124 (F := Ideal)), fn2 (k0_pay125 (F := Ideal)), fn2 (k0_pay127 (F := Ideal) k0_pay126)⟩)
    (hm : m = vec R.mx) (hn : n = vec R.nr) (hc : cc = vec R.ac) :
    k0_pay145 (k0_pay141 SB) (k0_pay142 (k0_pay74 LB) (k0_pay139 (k0_pay132 VB) (k0_pay136 a k0_pay77 (k0_pay122 (iota Kind.tc S256x128 32 [1] iota_S256x128_d1_w32) Q) (k0_pay123 (F := Ideal) k0_pay76) KB m) (k0_pay137 a k0_pay77 (k0_pay122 (iota Kind.tc S256x128 32 [1] iota_S256x128_d1_w32) Q) (k0_pay123 (F := Ideal) k0_pay76) KB m) cc) (k0_pay138 (k0_pay136 a k0_pay77 (k0_pay122 (iota Kind.tc S256x128 32 [1] iota_S256x128_d1_w32) Q) (k0_pay123 (F := Ideal) k0_pay76) KB m) (k0_pay137 a k0_pay77 (k0_pay122 (iota Kind.tc S256x128 32 [1] iota_S256x128_d1_w32) Q) (k0_pay123 (F := Ideal) k0_pay76) KB m) n)) (k0_pay143 (k0_pay74 LB) (k0_pay139 (k0_pay132 VB) (k0_pay136 a k0_pay77 (k0_pay122 (iota Kind.tc S256x128 32 [1] iota_S256x128_d1_w32) Q) (k0_pay123 (F := Ideal) k0_pay76) KB m) (k0_pay137 a k0_pay77 (k0_pay122 (iota Kind.tc S256x128 32 [1] iota_S256x128_d1_w32) Q) (k0_pay123 (F := Ideal) k0_pay76) KB m) cc) (k0_pay138 (k0_pay136 a k0_pay77 (k0_pay122 (iota Kind.tc S256x128 32 [1] iota_S256x128_d1_w32) Q) (k0_pay123 (F := Ideal) k0_pay76) KB m) (k0_pay137 a k0_pay77 (k0_pay122 (iota Kind.tc S256x128 32 [1] iota_S256x128_d1_w32) Q) (k0_pay123 (F := Ideal) k0_pay76) KB m) n)) k0_pay144 (ix2 r d)
      = headNorm (fun d => outLane lam q k_ v b 2 ⟨qi.val * 256 + r.val, by omega⟩ d) (fun d => SB (ix2 0 d)) d := by
  subst hKB hVB ha
  rw [tail2_nr _ _ X3 X4 qi _ m n R hm hn, tail2_ac _ _ X3 X4 qi _ m cc R hm hc, fin2, hl]
  congr 1
  funext d
  rw [vec_apply, vec_apply, vec_apply, vec_apply,
    head_real q k_ v b 2 qi.val qi.isLt 0 r ⟨r.val, by omega⟩ (by simp) _ slope2 (fun r d => Q (ix2 r d)) hQ _ (fun r x => q2 Q r x) _ (fun r c => b2 r c) 256 (by decide) rfl X3 X4 hX3 hX4 _ (start2 _) d ⟨qi.val * 256 + r.val, by omega⟩ rfl qi rfl _ (by rw [hR]),
    head_real q k_ v b 2 qi.val qi.isLt 1 r ⟨256 + r.val, by omega⟩ (by simp) _ slope2 (fun r d => Q (ix2 r d)) hQ _ (fun r x => q2 Q r x) _ (fun r c => b2 r c) 256 (by decide) rfl X3 X4 hX3 hX4 _ (start2 _) d ⟨qi.val * 256 + r.val, by omega⟩ rfl qi rfl _ (by rw [hR])]
  rfl

theorem slope3 : Ideal.ofBits .f32 0x3C000000#32 = ((headSlope 3 : ℝ) : EReal) := by
  simp [Ideal.ofBits, Ideal.ieee, headSlope, -EReal.coe_mul]; norm_num

set_option maxHeartbeats 1600000 in
/-- What head 3 writes: the normalised difference of its two attentions. -/
theorem head3_val (q k_ : Fin 32768 → Fin 512 → EReal) (v : Fin 32768 → Fin 512 → ℝ) (b : Fin 4) (qi : Fin 32) (a : BitVec 32) (ha : a = BitVec.ofNat 32 qi.val)
    (LB : Vec Ideal S4x64 .f32) (SB : Vec Ideal S1x128 .f32) (Q : Vec Ideal S256x128 .bf16) (X3 X4 : Vec Ideal S32x256x512 .bf16) (KB VB : FVec Ideal S1x256x512 .bf16) (hKB : KB = blk X3 qi) (hVB : VB = blk X4 qi)
    (hQ : ∀ (r : Fin 256) (d : Fin 128), Q (ix2 r d) = (q ⟨b.val * 8192 + (qi.val * 256 + r.val), by omega⟩ ⟨(3 : Fin 4).val * 128 + d.val, by omega⟩ : EReal))
    (hX3 : ∀ (j : Fin 32) (c : Fin 256) (l : Fin 512), X3 (ix3 j c l) = (k_ ⟨b.val * 8192 + (j.val * 256 + c.val), by omega⟩ l : EReal))
    (hX4 : ∀ (j : Fin 32) (c : Fin 256) (l : Fin 512), X4 (ix3 j c l) = (v ⟨b.val * 8192 + (j.val * 256 + c.val), by omega⟩ l : EReal))
    (lam : ℝ) (hl : lamE (fun a x => LB (ix2 a x)) = (lam : EReal)) (r : Fin 256) (d : Fin 128)
    (m n cc : FVec Ideal S512x128 .f32) (R : St) (hR : R = run (fun k => score (fn2 (k0_pay146 (iota Kind.tc S256x128 32 [1] iota_S256x128_d1_w32) Q)) (fn2 (k0_pay147 (F := Ideal) k0_pay76)) (tile 384 (by decide) X3 (jj k))) (fun k => tile 384 (by decide) X4 (jj k)) (toff 0x3C000000#32 a) qi.val ⟨fn2 (k0_pay148 (F := Ideal)), fn2 (k0_pay149 (F := Ideal)), fn2 (k0_pay150 (F := Ideal))⟩)
    (hm : m = vec R.mx) (hn : n = vec R.nr) (hc : cc = vec R.ac) :
    k0_pay1 (k0_pay166 (k0_pay74 LB) (k0_pay164 (k0_pay155 VB) (k0_pay159 a k0_pay77 (k0_pay146 (iota Kind.tc S256x128 32 [1] iota_S256x128_d1_w32) Q) (k0_pay147 (F := Ideal) k0_pay76) KB m) (k0_pay160 a k0_pay77 (k0_pay146 (iota Kind.tc S256x128 32 [1] iota_S256x128_d1_w32) Q) (k0_pay147 (F := Ideal) k0_pay76) KB m) cc) (k0_pay163 (k0_pay161 a k0_pay77 (k0_pay146 (iota Kind.tc S256x128 32 [1] iota_S256x128_d1_w32) Q) (k0_pay147 (F := Ideal) k0_pay76) KB m n) (k0_pay162 a k0_pay77 (k0_pay146 (iota Kind.tc S256x128 32 [1] iota_S256x128_d1_w32) Q) (k0_pay147 (F := Ideal) k0_pay76) KB m)) SB) k0_pay167 (ix2 r d)
      = headNorm (fun d => outLane lam q k_ v b 3 ⟨qi.val * 256 + r.val, by omega⟩ d) (fun d => SB (ix2 0 d)) d := by
  subst hKB hVB ha
  rw [tail3_nr _ _ X3 X4 qi _ m n R hm hn, tail3_ac _ _ X3 X4 qi _ m cc R hm hc, fin3, hl]
  congr 1
  funext d
  rw [vec_apply, vec_apply, vec_apply, vec_apply,
    head_real q k_ v b 3 qi.val qi.isLt 0 r ⟨r.val, by omega⟩ (by simp) _ slope3 (fun r d => Q (ix2 r d)) hQ _ (fun r x => q3 Q r x) _ (fun r c => b3 r c) 384 (by decide) rfl X3 X4 hX3 hX4 _ (start3 _) d ⟨qi.val * 256 + r.val, by omega⟩ rfl qi rfl _ (by rw [hR]),
    head_real q k_ v b 3 qi.val qi.isLt 1 r ⟨256 + r.val, by omega⟩ (by simp) _ slope3 (fun r d => Q (ix2 r d)) hQ _ (fun r x => q3 Q r x) _ (fun r c => b3 r c) 384 (by decide) rfl X3 X4 hX3 hX4 _ (start3 _) d ⟨qi.val * 256 + r.val, by omega⟩ rfl qi rfl _ (by rw [hR])]
  rfl

end Cert.AttnIdeal.Value

end
-- ==== Proof.AttnKernel.lean ====
/- The output block of the attention kernel. -/
module

public import proofs.«01_k».proof.Proof.AttnAfter1
public import proofs.«01_k».proof.Proof.AttnAfter3
public import proofs.«01_k».proof.Proof.AttnAfter5
public import proofs.«01_k».proof.Proof.AttnAfter7
public import proofs.«01_k».proof.Proof.AttnOut

@[expose] public section

set_option maxRecDepth 16384

noncomputable section

open Idealize.ShloMosaic Idealize.ShloMosaic.TcCoe Idealize.SL.Sem
open Idealize.ShloMosaic.Pipeline (Dat)

namespace Cert.AttnIdeal.Value
open Cert.AttnIdeal Cert.AttnIdeal.Gen Cert.AttnMath

/-- Lanes `o ..` of the query block. -/
theorem ld_lane (X : Vec Ideal S256x512 .bf16) (o : Nat) (ho : o + 128 ≤ 512) (off : Fin 2 → Nat) (h : off = ![0, o])
    (inb : ∀ a, off a + S256x128.size a ≤ S256x512.size a) (r : Fin 256) (d : Fin 128) :
    View.ld (Val := Elt Ideal) (e' := .bf16) X (Rect.unit (s := S256x512) off S256x128.size inb) (ix2 r d) = X (ix2 r ⟨o + d.val, by omega⟩) := by
  subst h
  show X _ = _
  congr 1
  funext a
  fin_cases a <;> exact Fin.ext (by simp [Rect.emb, Rect.unit])

theorem emb_lane (o : Nat) (ho : o + 128 ≤ 512) (inb : ∀ a, (![0, o] : Fin 2 → Nat) a + S256x128.size a ≤ S256x512.size a) (r : Fin 256) (d : Fin 128) :
    (Rect.unit (s := S256x512) ![0, o] S256x128.size inb).emb (ix2 r d) = ix2 r ⟨o + d.val, by omega⟩ := by
  funext a
  fin_cases a <;> exact Fin.ext (by simp [Rect.emb, Rect.unit])

/-- Four stores, one per head, read back: each lane reads its head's payload. -/
theorem canon4 (P0 P1 P2 P3 : S256x128.Idx → Elt Ideal .f32) (G : S256x512.Idx → Elt Ideal .f32) (i0 i1 i2 i3)
    (h0 : ∀ (r : Fin 256) (d : Fin 128), P0 (ix2 r d) = G (ix2 r ⟨0 + d.val, by omega⟩))
    (h1 : ∀ (r : Fin 256) (d : Fin 128), P1 (ix2 r d) = G (ix2 r ⟨128 + d.val, by omega⟩))
    (h2 : ∀ (r : Fin 256) (d : Fin 128), P2 (ix2 r d) = G (ix2 r ⟨256 + d.val, by omega⟩))
    (h3 : ∀ (r : Fin 256) (d : Fin 128), P3 (ix2 r d) = G (ix2 r ⟨384 + d.val, by omega⟩)) (y : S256x512.Idx) :
    View.canon (Val := Elt Ideal) (s := S256x512) (e := .f32) [⟨Rect.unit ![0, 384] S256x128.size i3, P3⟩, ⟨Rect.unit ![0, 256] S256x128.size i2, P2⟩, ⟨Rect.unit ![0, 128] S256x128.size i1, P1⟩, ⟨Rect.unit ![0, 0] S256x128.size i0, P0⟩] y = G y := by
  refine View.canon_apply_of_pieces G _ ?_ y ?_
  · intro p hp
    simp only [List.mem_cons, List.not_mem_nil, or_false] at hp
    rcases hp with rfl | rfl | rfl | rfl
    all_goals
      intro x
      dsimp only at x ⊢
    · obtain ⟨r, d, rfl⟩ : ∃ (r : Fin 256) (d : Fin 128), x = ix2 r d := ⟨x 0, x 1, by funext a; fin_cases a <;> rfl⟩
      exact (h3 r d).trans (congrArg G (emb_lane 384 (by decide) i3 r d).symm)
    · obtain ⟨r, d, rfl⟩ : ∃ (r : Fin 256) (d : Fin 128), x = ix2 r d := ⟨x 0, x 1, by funext a; fin_cases a <;> rfl⟩
      exact (h2 r d).trans (congrArg G (emb_lane 256 (by decide) i2 r d).symm)
    · obtain ⟨r, d, rfl⟩ : ∃ (r : Fin 256) (d : Fin 128), x = ix2 r d := ⟨x 0, x 1, by funext a; fin_cases a <;> rfl⟩
      exact (h1 r d).trans (congrArg G (emb_lane 128 (by decide) i1 r d).symm)
    · obtain ⟨r, d, rfl⟩ : ∃ (r : Fin 256) (d : Fin 128), x = ix2 r d := ⟨x 0, x 1, by funext a; fin_cases a <;> rfl⟩
      exact (h0 r d).trans (congrArg G (emb_lane 0 (by decide) i0 r d).symm)
  · have e0 : (y 0).val < 256 := (y 0).isLt
    have e1 : (y 1).val < 512 := (y 1).isLt
    by_cases c3 : 384 ≤ (y 1).val
    · refine ⟨⟨Rect.unit ![0, 384] S256x128.size i3, P3⟩, by simp, (Rect.mem_set_unit (inb := i3)).2 fun a => ?_⟩
      fin_cases a <;> constructor <;> simp <;> omega
    by_cases c2 : 256 ≤ (y 1).val
    · refine ⟨⟨Rect.unit ![0, 256] S256x128.size i2, P2⟩, by simp, (Rect.mem_set_unit (inb := i2)).2 fun a => ?_⟩
      fin_cases a <;> constructor <;> simp <;> omega
    by_cases c1 : 128 ≤ (y 1).val
    · refine ⟨⟨Rect.unit ![0, 128] S256x128.size i1, P1⟩, by simp, (Rect.mem_set_unit (inb := i1)).2 fun a => ?_⟩
      fin_cases a <;> constructor <;> simp <;> omega
    · refine ⟨⟨Rect.unit ![0, 0] S256x128.size i0, P0⟩, by simp, (Rect.mem_set_unit (inb := i0)).2 fun a => ?_⟩
      fin_cases a <;> constructor <;> simp <;> omega

/-- The attention of block row `qi` of batch `b`, as the block's element `y`. -/
def blockOut (lam : ℝ) (q k_ : Fin 32768 → Fin 512 → EReal) (v : Fin 32768 → Fin 512 → ℝ) (b : Fin 4) (qi : Fin 32) (SB : Vec Ideal S1x128 .f32) (y : S256x512.Idx) : EReal :=
  headNorm (fun d => outLane lam q k_ v b ⟨(y 1).val / 128, by have : (y 1).val < 512 := (y 1).isLt; omega⟩ ⟨qi.val * 256 + (y 0).val, by have : (y 0).val < 256 := (y 0).isLt; omega⟩ d) (fun d => SB (ix2 0 d)) ⟨(y 1).val % 128, by omega⟩

theorem blockOut_at (lam : ℝ) (q k_ : Fin 32768 → Fin 512 → EReal) (v : Fin 32768 → Fin 512 → ℝ) (b : Fin 4) (qi : Fin 32) (SB : Vec Ideal S1x128 .f32) (h : Fin 4) (r : Fin 256) (d : Fin 128) (l : Fin 512) (hl : l.val = h.val * 128 + d.val) :
    blockOut lam q k_ v b qi SB (ix2 r l) = headNorm (fun d => outLane lam q k_ v b h ⟨qi.val * 256 + r.val, by omega⟩ d) (fun d => SB (ix2 0 d)) d := by
  have e1 : (⟨((ix2 r l : S256x512.Idx) 1).val / 128, by have : ((ix2 r l : S256x512.Idx) 1).val < 512 := ((ix2 r l : S256x512.Idx) 1).isLt; omega⟩ : Fin 4) = h := Fin.ext (by show l.val / 128 = _; omega)
  have e2 : (⟨((ix2 r l : S256x512.Idx) 1).val % 128, by omega⟩ : Fin 128) = d := Fin.ext (by show l.val % 128 = _; omega)
  unfold blockOut
  rw [e1, e2]
  rfl

set_option maxHeartbeats 8000000 in
/-- What the body leaves in the output block: the attention of its rows. -/
theorem out_real  (c : Dev nD) (i : grid0.Coords) (arg2 : Memref sig .tc .vmem S4x64 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S32x256x512 .bf16) (harg5 : arg5.IsWhole) (arg6 : Memref sig .tc .vmem S32x256x512 .bf16) (harg6 : arg6.IsWhole) (arg7 : Memref sig .tc .vmem S256x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole)
    (x0 : Vec Ideal S4x64 .f32) (x1 : Vec Ideal S1x128 .f32) (x2 : Vec Ideal S256x512 .bf16) (x3 : Vec Ideal S32x256x512 .bf16) (x4 : Vec Ideal S32x256x512 .bf16)
    (q k_ : Fin 32768 → Fin 512 → EReal) (v : Fin 32768 → Fin 512 → ℝ) (b : Fin 4) (qi : Fin 32) (hqi : (i 1).val = qi.val)
    (hx2 : ∀ (r : Fin 256) (l : Fin 512), x2 (ix2 r l) = (q ⟨b.val * 8192 + (qi.val * 256 + r.val), by omega⟩ l : EReal))
    (hX3 : ∀ (j : Fin 32) (c : Fin 256) (l : Fin 512), x3 (ix3 j c l) = (k_ ⟨b.val * 8192 + (j.val * 256 + c.val), by omega⟩ l : EReal))
    (hX4 : ∀ (j : Fin 32) (c : Fin 256) (l : Fin 512), x4 (ix3 j c l) = (v ⟨b.val * 8192 + (j.val * 256 + c.val), by omega⟩ l : EReal))
    (lam : ℝ) (hl : lamE (fun a x => x0 (ix2 a x)) = (lam : EReal)) (y : S256x512.Idx) :
    out0_A_5 (F := Ideal) c i arg2 harg2 arg3 harg3 arg4 harg4 arg5 harg5 arg6 harg6 arg7 harg7 arg8 harg8 arg9 harg9 arg10 harg10 x0 x1 x2 x3 x4 y = blockOut lam q k_ v b qi x1 y := by
  have hcov := cover0_A_5 (F := Ideal) c i arg2 harg2 arg3 harg3 arg4 harg4 arg5 harg5 arg6 harg6 arg7 harg7 arg8 harg8 arg9 harg9 arg10 harg10 x0 x1 x2 x3 x4
  have hoff : (![BitVec.toNat (Scalar.indexCast (BitVec.ofNat 32 (i 1).val) : BitVec 32), 0, 0] : Fin 3 → Nat) = ![qi.val, 0, 0] := by
    rw [hqi]
    have : ∀ j : Fin 32, BitVec.toNat (Scalar.indexCast (BitVec.ofNat 32 j.val) : BitVec 32) = j.val := by decide +kernel
    rw [this]
  unfold kernelRun0_A at hcov
  unfold out0_A_5 kernelRun0_A
  dsimp only at hcov ⊢
  rw [View.read_writes_eq_canon]
  · sl_unfold_words
    simp only [↓View.readCov, ↓View.readAt_eq_ld, ↓View.ld_unit_zero (S := S512x128) hz, ↓View.ld_unit_zero (S := S4x64) hz, ↓View.ld_unit_zero (S := S1x128) hz, ↓read_last (S := S512x128) _ _ _ hz, ↓rem2, ↓rem4, ↓rem6, ↓rem8, ↓List.nil_append]
    rw [after7_8, after7_9, after7_10]
    simp only [↓rd, ↓read_last (S := S512x128) _ _ _ hz]
    rw [after5_8, after5_9, after5_10]
    simp only [↓rd, ↓read_last (S := S512x128) _ _ _ hz]
    rw [after3_8, after3_9, after3_10]
    simp only [↓rd, ↓read_last (S := S512x128) _ _ _ hz]
    rw [after1_8, after1_9, after1_10]
    simp only [↓rd, ↓read_last (S := S512x128) _ _ _ hz]
    simp only [harg2.read_unread, harg3.read_unread, harg4.read_unread, harg5.read_unread, harg6.read_unread]
    clear hcov
    refine canon4 _ _ _ _ (blockOut lam q k_ v b qi x1) _ _ _ _ ?_ ?_ ?_ ?_ y
    · intro r d
      refine Eq.trans ?_ (blockOut_at lam q k_ v b qi x1 0 r d _ rfl).symm
      refine head0_val q k_ v b qi _ (by rw [hqi]) _ _ _ x3 x4 _ _ (ld_blk x3 qi _ hoff _) (ld_blk x4 qi _ hoff _) (fun r d => (ld_lane x2 0 (by decide) _ rfl _ r d).trans (hx2 r _)) hX3 hX4 lam ?_ r d _ _ _ _ (by rw [← hqi]) rfl rfl rfl
      simpa only [View.ld_unit_zero (S := S4x64) hz] using hl
    · intro r d
      refine Eq.trans ?_ (blockOut_at lam q k_ v b qi x1 1 r d _ rfl).symm
      refine head1_val q k_ v b qi _ (by rw [hqi]) _ _ _ x3 x4 _ _ (ld_blk x3 qi _ hoff _) (ld_blk x4 qi _ hoff _) (fun r d => (ld_lane x2 128 (by decide) _ rfl _ r d).trans (hx2 r _)) hX3 hX4 lam ?_ r d _ _ _ _ (by rw [← hqi]) rfl rfl rfl
      simpa only [View.ld_unit_zero (S := S4x64) hz] using hl
    · intro r d
      refine Eq.trans ?_ (blockOut_at lam q k_ v b qi x1 2 r d _ rfl).symm
      refine head2_val q k_ v b qi _ (by rw [hqi]) _ _ _ x3 x4 _ _ (ld_blk x3 qi _ hoff _) (ld_blk x4 qi _ hoff _) (fun r d => (ld_lane x2 256 (by decide) _ rfl _ r d).trans (hx2 r _)) hX3 hX4 lam ?_ r d _ _ _ _ (by rw [← hqi]) rfl rfl rfl
      simpa only [View.ld_unit_zero (S := S4x64) hz] using hl
    · intro r d
      refine Eq.trans ?_ (blockOut_at lam q k_ v b qi x1 3 r d _ rfl).symm
      refine head3_val q k_ v b qi _ (by rw [hqi]) _ _ _ x3 x4 _ _ (ld_blk x3 qi _ hoff _) (ld_blk x4 qi _ hoff _) (fun r d => (ld_lane x2 384 (by decide) _ rfl _ r d).trans (hx2 r _)) hX3 hX4 lam ?_ r d _ _ _ _ (by rw [← hqi]) rfl rfl rfl
      simpa only [View.ld_unit_zero (S := S4x64) hz] using hl
  · exact hcov

end Cert.AttnIdeal.Value

end
-- ==== Proof.AttnRefDef.lean ====
/- The attention reference as named steps. -/
module

public import proofs.«01_k».proof.Proof.Gen.AttnRefIdeal.Run
public import proofs.«01_k».proof.Proof.AttnSpec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnMath

theorem hostMax5 {n0 n1 n2 n3 n4 : Nat} (x : FVec Ideal ⟨5, ![n0, n1, n2, n3, n4]⟩ .f32) (b : BitVec 32) (h : (⟨5, ![n0, n1, n2, n3, n4]⟩ : Shape).ReducesTo [4] ⟨4, ![n0, n1, n2, n3]⟩)
    (hu : 0 < (⟨0, ![]⟩ : Shape).numel) (i : Fin n0) (j : Fin n1) (k : Fin n2) (l : Fin n3) :
    Host.reduce FloatOps.maximumf x (constant ⟨0, ![]⟩ .f32 b) h hu (ix4 i j k l) = Finset.univ.fold max (Ideal.ofBits .f32 b) (fun c : Fin n4 => x (ix5 i j k l c)) := by
  pointwise []

theorem slice5 {n : Nat} (o : Fin 2) (x : FVec Ideal ⟨5, ![2, 4, 4, n, n]⟩ .f32) (h1 : (⟨5, ![2, 4, 4, n, n]⟩ : Shape).Slices ![o.val, 0, 0, 0, 0] ⟨5, ![1, 4, 4, n, n]⟩)
    (h2 : (⟨5, ![1, 4, 4, n, n]⟩ : Shape).ShapeCasts ⟨4, ![4, 4, n, n]⟩) (b h : Fin 4) (t s : Fin n) :
    shapeCast ⟨4, ![4, 4, n, n]⟩ (extractStridedSlice ⟨5, ![1, 4, 4, n, n]⟩ ![o.val, 0, 0, 0, 0] x h1) h2 (ix4 b h t s) = x (ix5 o b h t s) := by
  refine (shapeCast_dropUnit_apply ![4, 4, n, n] _ h2 _).trans ?_
  refine (extractStridedSlice_apply _ x h1 _ (ix5 o b h t s) ?_)
  intro a
  match a with
  | ⟨0, _⟩ => exact (Nat.add_zero _).symm
  | ⟨1, _⟩ => exact (Nat.zero_add _).symm
  | ⟨2, _⟩ => exact (Nat.zero_add _).symm
  | ⟨3, _⟩ => exact (Nat.zero_add _).symm
  | ⟨4, _⟩ => exact (Nat.zero_add _).symm

end Cert.AttnMath

namespace Cert.AttnMath

/-- The larger of a constant and a host maximum over the last of five axes, at an index. -/
theorem gM {n0 n1 n2 n3 n4 : Nat} (x : FVec Ideal ⟨5, ![n0, n1, n2, n3, n4]⟩ .f32) (b : BitVec 32) (h : (⟨5, ![n0, n1, n2, n3, n4]⟩ : Shape).ReducesTo [4] ⟨4, ![n0, n1, n2, n3]⟩)
    (hu : 0 < (⟨0, ![]⟩ : Shape).numel) (hb : (⟨0, ![]⟩ : Shape).BroadcastsInDim ⟨4, ![n0, n1, n2, n3]⟩ ![]) (i : Fin n0) (j : Fin n1) (k : Fin n2) (l : Fin n3) :
    (maximumf (broadcastInDim ⟨4, ![n0, n1, n2, n3]⟩ ![] hb (constant ⟨0, ![]⟩ .f32 b)) (Host.reduce FloatOps.maximumf x (constant ⟨0, ![]⟩ .f32 b) h hu) : FVec Ideal ⟨4, ![n0, n1, n2, n3]⟩ .f32) (ix4 i j k l)
      = max (Ideal.ofBits .f32 b) (Finset.univ.fold max (Ideal.ofBits .f32 b) (fun c : Fin n4 => x (ix5 i j k l c))) := by
  pointwise [hostMax5]

/-- The first half minus a multiple of the second half, at an index. -/
theorem gD {n : Nat} (x : FVec Ideal ⟨5, ![2, 4, 4, n, n]⟩ .f32) (g : FVec Ideal ⟨0, ![]⟩ .f32) (h0 : (⟨5, ![2, 4, 4, n, n]⟩ : Shape).Slices ![0, 0, 0, 0, 0] ⟨5, ![1, 4, 4, n, n]⟩)
    (h1 : (⟨5, ![2, 4, 4, n, n]⟩ : Shape).Slices ![1, 0, 0, 0, 0] ⟨5, ![1, 4, 4, n, n]⟩) (h2 : (⟨5, ![1, 4, 4, n, n]⟩ : Shape).ShapeCasts ⟨4, ![4, 4, n, n]⟩)
    (hb : (⟨0, ![]⟩ : Shape).BroadcastsInDim ⟨4, ![4, 4, n, n]⟩ ![]) (b h : Fin 4) (t s : Fin n) :
    (subf (shapeCast ⟨4, ![4, 4, n, n]⟩ (extractStridedSlice ⟨5, ![1, 4, 4, n, n]⟩ ![0, 0, 0, 0, 0] x h0) h2) (mulf (broadcastInDim ⟨4, ![4, 4, n, n]⟩ ![] hb g)
      (shapeCast ⟨4, ![4, 4, n, n]⟩ (extractStridedSlice ⟨5, ![1, 4, 4, n, n]⟩ ![1, 0, 0, 0, 0] x h1) h2)) : FVec Ideal ⟨4, ![4, 4, n, n]⟩ .f32) (ix4 b h t s)
      = x (ix5 0 b h t s) - g ix0 * x (ix5 1 b h t s) := by
  have e0 := slice5 0 x h0 h2 b h t s
  have e1 := slice5 1 x h1 h2 b h t s
  have el : (broadcastInDim ⟨4, ![4, 4, n, n]⟩ ![] hb g) (ix4 b h t s) = g ix0 := by pointwise []
  exact congr (congrArg (fun x y : EReal => x - y) e0) (congr (congrArg (fun x y : EReal => x * y) el) e1)

end Cert.AttnMath

namespace Cert.AttnRefIdeal.Value
open Cert.AttnRefIdeal Cert.AttnRefIdeal.Gen Cert.AttnMath

/-- The reference's masked scores. -/
def rS (Q K : FVec Ideal S32768x512 .bf16) : FVec Ideal S2x4x4x8192x8192 .f32 := (select (broadcastInDim S2x4x4x8192x8192 ![3, 4] bcast_S8192x8192_S2x4x4x8192x8192_3_4 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (subf (Host.dotGeneral dot_S4x8192x4x2x64_S4x8192x4x2x64_S2x4x4x8192x8192_4_4_1_1_302_302 none (shapeCast _ (extf .f32 Q bitsLt_bf16_f32) shapeCasts_S32768x512_S4x8192x4x2x64) (shapeCast _ (extf .f32 K bitsLt_bf16_f32) shapeCasts_S32768x512_S4x8192x4x2x64)) (broadcastInDim S2x4x4x8192x8192 ![0, 1, 2, 3, 4] bcast_S1x1x4x8192x8192_S2x4x4x8192x8192_0_1_2_3_4 (broadcastInDim S1x1x4x8192x8192 ![2, 3, 4] bcast_S4x8192x8192_S1x1x4x8192x8192_2_3_4 (mulf (broadcastInDim S4x8192x8192 ![0, 1, 2] bcast_S4x1x1_S4x8192x8192_0_1_2 (broadcastInDim S4x1x1 ![0] bcast_S4_S4x1x1_0 ((fun i => FloatOps.ofBits .f32 (lit0 (S4.rowMajor i)))))) (broadcastInDim S4x8192x8192 ![0, 1, 2] bcast_S1x8192x8192_S4x8192x8192_0_1_2 (broadcastInDim S1x8192x8192 ![1, 2] bcast_S8192x8192_S1x8192x8192_1_2 (sitofp .f32 (subi (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0))))))))))) (broadcastInDim S2x4x4x8192x8192 ![] bcast_S_S2x4x4x8192x8192 (id (constant S_ .f32 0xFF800000#32))))

/-- The reference's largest score of each row. -/
def rM (Q K : FVec Ideal S32768x512 .bf16) : FVec Ideal S2x4x4x8192 .f32 := (maximumf (broadcastInDim S2x4x4x8192 ![] bcast_S_S2x4x4x8192 (constant S_ .f32 0xFF800000#32)) (Host.reduce FloatOps.maximumf (rS Q K) (constant S_ .f32 0xFF800000#32) reducesTo_S2x4x4x8192x8192_S2x4x4x8192_d4 h_S_))

/-- The reference's shifted exponentials. -/
def rE (Q K : FVec Ideal S32768x512 .bf16) : FVec Ideal S2x4x4x8192x8192 .f32 := (Host.exp (subf (rS Q K) (broadcastInDim S2x4x4x8192x8192 ![0, 1, 2, 3, 4] bcast_S2x4x4x8192x1_S2x4x4x8192x8192_0_1_2_3_4 (broadcastInDim S2x4x4x8192x1 ![0, 1, 2, 3] bcast_S2x4x4x8192_S2x4x4x8192x1_0_1_2_3 (rM Q K)))))

/-- The reference's softmax. -/
def rP (Q K : FVec Ideal S32768x512 .bf16) : FVec Ideal S2x4x4x8192x8192 .f32 := (Host.divf (rE Q K) (broadcastInDim S2x4x4x8192x8192 ![0, 1, 2, 3, 4] bcast_S2x4x4x8192x1_S2x4x4x8192x8192_0_1_2_3_4 (broadcastInDim S2x4x4x8192x1 ![0, 1, 2, 3] bcast_S2x4x4x8192_S2x4x4x8192x1_0_1_2_3 (Host.reduceAdd (rE Q K) (constant S_ .f32 0x00000000#32) reducesTo_S2x4x4x8192x8192_S2x4x4x8192_d4 h_S_))))

/-- The reference's factor of the second softmax. -/
def rL (LAM : FVec Ideal S1x4x64 .f32) : FVec Ideal S_ .f32 := (addf (subf (Host.exp (Host.reduceAdd (mulf (shapeCast _ (extractStridedSlice S1x64 ![0, 0] (shapeCast _ LAM shapeCasts_S1x4x64_S4x64) slices_S4x64_S1x64_0_0) shapeCasts_S1x64_S64) (shapeCast _ (extractStridedSlice S1x64 ![1, 0] (shapeCast _ LAM shapeCasts_S1x4x64_S4x64) slices_S4x64_S1x64_1_0) shapeCasts_S1x64_S64)) (constant S_ .f32 0x00000000#32) reducesTo_S64_S_d0 h_S_)) (Host.exp (Host.reduceAdd (mulf (shapeCast _ (extractStridedSlice S1x64 ![2, 0] (shapeCast _ LAM shapeCasts_S1x4x64_S4x64) slices_S4x64_S1x64_2_0) shapeCasts_S1x64_S64) (shapeCast _ (extractStridedSlice S1x64 ![3, 0] (shapeCast _ LAM shapeCasts_S1x4x64_S4x64) slices_S4x64_S1x64_3_0) shapeCasts_S1x64_S64)) (constant S_ .f32 0x00000000#32) reducesTo_S64_S_d0 h_S_))) (constant S_ .f32 0x3E4CCCCD#32))

/-- The reference's difference of the two softmaxes. -/
def rD (LAM : FVec Ideal S1x4x64 .f32) (Q K : FVec Ideal S32768x512 .bf16) : FVec Ideal S4x4x8192x8192 .f32 := (subf (shapeCast _ (extractStridedSlice S1x4x4x8192x8192 ![0, 0, 0, 0, 0] (rP Q K) slices_S2x4x4x8192x8192_S1x4x4x8192x8192_0_0_0_0_0) shapeCasts_S1x4x4x8192x8192_S4x4x8192x8192) (mulf (broadcastInDim S4x4x8192x8192 ![] bcast_S_S4x4x8192x8192 (rL LAM)) (shapeCast _ (extractStridedSlice S1x4x4x8192x8192 ![1, 0, 0, 0, 0] (rP Q K) slices_S2x4x4x8192x8192_S1x4x4x8192x8192_1_0_0_0_0) shapeCasts_S1x4x4x8192x8192_S4x4x8192x8192)))

/-- The reference's attention output before its normalisation. -/
def rO (LAM : FVec Ideal S1x4x64 .f32) (Q K V : FVec Ideal S32768x512 .bf16) : FVec Ideal S4x8192x4x128 .f32 := (transpose S4x8192x4x128 [0, 3, 1, 2] (Host.dotGeneral dot_S4x8192x4x128_S4x4x8192x8192_S4x4x128x8192_1_3_3_2_02_01 none (shapeCast _ (extf .f32 V bitsLt_bf16_f32) shapeCasts_S32768x512_S4x8192x4x128) (rD LAM Q K)) transposes_S4x4x128x8192_S4x8192x4x128_0_3_1_2)

/-- The reference's normalised attention output. -/
def rT (LAM : FVec Ideal S1x4x64 .f32) (SUB : FVec Ideal S1x128 .f32) (Q K V : FVec Ideal S32768x512 .bf16) : FVec Ideal S4x8192x4x128 .f32 := (mulf (mulf (mulf (rO LAM Q K V) (broadcastInDim S4x8192x4x128 ![0, 1, 2, 3] bcast_S4x8192x4x1_S4x8192x4x128_0_1_2_3 (Host.rsqrt (addf (Host.divf (broadcastInDim S4x8192x4x1 ![0, 1, 2] bcast_S4x8192x4_S4x8192x4x1_0_1_2 (Host.reduceAdd (mulf (rO LAM Q K V) (rO LAM Q K V)) (constant S_ .f32 0x00000000#32) reducesTo_S4x8192x4x128_S4x8192x4_d3 h_S_)) (broadcastInDim S4x8192x4x1 ![] bcast_S_S4x8192x4x1 (constant S_ .f32 0x43000000#32))) (broadcastInDim S4x8192x4x1 ![] bcast_S_S4x8192x4x1 (constant S_ .f32 0x358637BD#32)))))) (broadcastInDim S4x8192x4x128 ![0, 1, 2, 3] bcast_S1x1x1x128_S4x8192x4x128_0_1_2_3 (broadcastInDim S1x1x1x128 ![3] bcast_S128_S1x1x1x128_3 (shapeCast _ SUB shapeCasts_S1x128_S128)))) (broadcastInDim S4x8192x4x128 ![] bcast_S_S4x8192x4x128 (constant S_ .f32 0x3F4CCCCD#32)))

/-- The reference's result as rows. -/
def rR (LAM : FVec Ideal S1x4x64 .f32) (SUB : FVec Ideal S1x128 .f32) (Q K V : FVec Ideal S32768x512 .bf16) : FVec Ideal S32768x512 .f32 :=
  shapeCast _ (rT LAM SUB Q K V) shapeCasts_S4x8192x4x128_S32768x512

end Cert.AttnRefIdeal.Value

end
-- ==== Proof.AttnRef.lean ====
/- The attention reference read at an index, for any queries and keys and real values. -/
module

public import proofs.«01_k».proof.Proof.AttnRefDef
public import proofs.«01_k».proof.Proof.AttnMask

@[expose] public section

set_option maxRecDepth 16384

noncomputable section

open Idealize.ShloMosaic Idealize.ShloMosaic.TcCoe Idealize.SL.Sem
open Idealize.ShloMosaic.Pipeline (Dat)

namespace Cert.AttnRefIdeal.Value
open Cert.AttnRefIdeal Cert.AttnRefIdeal.Gen Cert.AttnMath

theorem res_eq (m : (ℓ : Loc nD τ sig) → Buf (Elt Ideal) ℓ) (c : Dev nD) : res_out0 m c
    = rR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold res_out0 res_main_v81 rR rT rO rD rL rP rE rM rS
  rfl

theorem rE_at (Q K : FVec Ideal S32768x512 .bf16) (m : Fin 2) (b h : Fin 4) (t s : Fin 8192) : rE Q K (ix5 m b h t s) = Ideal.exp (rS Q K (ix5 m b h t s) - rM Q K (ix4 m b h t)) := by
  pointwise [rE]

theorem rP_at (Q K : FVec Ideal S32768x512 .bf16) (m : Fin 2) (b h : Fin 4) (t s : Fin 8192) : rP Q K (ix5 m b h t s) = Ideal.div (rE Q K (ix5 m b h t s)) (∑ x, rE Q K (ix5 m b h t x)) := by
  pointwise [rP]

theorem rL_at (LAM : FVec Ideal S1x4x64 .f32) : rL LAM ix0 = lamE (fun a x => LAM (ix3 0 a x)) := by
  pointwise [rL, lamE]

theorem rO_at (LAM : FVec Ideal S1x4x64 .f32) (Q K V : FVec Ideal S32768x512 .bf16) (b h : Fin 4) (t : Fin 8192) (d : Fin 128) : rO LAM Q K V (ix4 b t h d)
    = ∑ x : Fin 8192, V (ix2 ⟨b.val * 8192 + x.val, by omega⟩ ⟨h.val * 128 + d.val, by omega⟩) * rD LAM Q K (ix4 b h t x) := by
  pointwise [rO]

theorem rT_at (LAM : FVec Ideal S1x4x64 .f32) (SUB : FVec Ideal S1x128 .f32) (Q K V : FVec Ideal S32768x512 .bf16) (b h : Fin 4) (t : Fin 8192) (d : Fin 128) : rT LAM SUB Q K V (ix4 b t h d)
    = headNorm (fun d => rO LAM Q K V (ix4 b t h d)) (fun d => SUB (ix2 0 d)) d := by
  pointwise [rT, headNorm]

theorem rR_at (LAM : FVec Ideal S1x4x64 .f32) (SUB : FVec Ideal S1x128 .f32) (Q K V : FVec Ideal S32768x512 .bf16) (r : Fin 32768) (l : Fin 512) : rR LAM SUB Q K V (ix2 r l)
    = rT LAM SUB Q K V (ix4 ⟨r.val / 8192, by omega⟩ ⟨r.val % 8192, by omega⟩ ⟨l.val / 128, by omega⟩ ⟨l.val % 128, by omega⟩) := by
  pointwise [rR]

theorem rM_at (Q K : FVec Ideal S32768x512 .bf16) (m : Fin 2) (b h : Fin 4) (t : Fin 8192) : rM Q K (ix4 m b h t)
    = max (Ideal.ofBits FTy.f32 0xFF800000#32) (Finset.univ.fold max (Ideal.ofBits FTy.f32 0xFF800000#32) (fun x => rS Q K (ix5 m b h t x))) := by
  unfold rM
  exact gM (n0 := 2) (n1 := 4) (n2 := 4) (n3 := 8192) (n4 := 8192) (rS Q K) 0xFF800000#32 reducesTo_S2x4x4x8192x8192_S2x4x4x8192_d4 h_S_ bcast_S_S2x4x4x8192 m b h t

theorem rD_at (LAM : FVec Ideal S1x4x64 .f32) (Q K : FVec Ideal S32768x512 .bf16) (b h : Fin 4) (t s : Fin 8192) : rD LAM Q K (ix4 b h t s)
    = rP Q K (ix5 0 b h t s) - rL LAM ix0 * rP Q K (ix5 1 b h t s) := by
  unfold rD
  exact gD (n := 8192) (rP Q K) (rL LAM) slices_S2x4x4x8192x8192_S1x4x4x8192x8192_0_0_0_0_0 slices_S2x4x4x8192x8192_S1x4x4x8192x8192_1_0_0_0_0 shapeCasts_S1x4x4x8192x8192_S4x4x8192x8192 bcast_S_S4x4x8192x8192 b h t s

theorem bot_bits : Ideal.ofBits .f32 0xFF800000#32 = (⊥ : EReal) := Cert.AttnIdeal.Value.ninf

/-- The slope constants. -/
theorem slope_bits (h : Fin 4) : Ideal.ofBits FTy.f32 (lit0 (S4.rowMajor (ix1 h))) = ((headSlope h : ℝ) : EReal) := by
  have e : ∀ h : Fin 4, lit0 (S4.rowMajor (ix1 h)) = (if h.val = 0 then 0x3F000000#32 else if h.val = 1 then 0x3E000000#32 else if h.val = 2 then 0x3D000000#32 else 0x3C000000#32) := by decide +kernel
  rw [e]
  fin_cases h <;> (simp [headSlope, Ideal.ofBits, Ideal.ieee, -EReal.coe_mul]; try norm_num)

theorem rS_at (Q K : FVec Ideal S32768x512 .bf16) (m : Fin 2) (b h : Fin 4) (t s : Fin 8192) : rS Q K (ix5 m b h t s)
    = (Scalar.select (IntOp.cmpi CmpIPredicate.sle (BitVec.ofNat 32 s.val) (BitVec.ofNat 32 t.val))
      ((∑ x : Fin 64, Q (ix2 ⟨b.val * 8192 + t.val, by omega⟩ ⟨h.val * 128 + m.val * 64 + x.val, by omega⟩) * K (ix2 ⟨b.val * 8192 + s.val, by omega⟩ ⟨h.val * 128 + m.val * 64 + x.val, by omega⟩) : EReal) -
        ((headSlope h : ℝ) : EReal) * (((IntOp.subi (BitVec.ofNat 32 t.val) (BitVec.ofNat 32 s.val)).toInt : ℝ) : EReal))
      (⊥ : EReal) : EReal) := by
  have hz : (id (constant (F := Ideal) S_ FTy.f32 0xFF800000#32) ix0 : EReal) = ⊥ := bot_bits
  pointwise [rS, slope_bits]
  rw [hz]
  rfl

/-- The masked score with its distance penalty. -/
theorem rS_sc (Q K : FVec Ideal S32768x512 .bf16) (m : Fin 2) (b h : Fin 4) (t s : Fin 8192) :
    rS Q K (ix5 m b h t s) = sc (fun r c => Q (ix2 r c)) (fun r c => K (ix2 r c)) b h m t s := by
  have hsub : (IntOp.subi (BitVec.ofNat 32 t.val) (BitVec.ofNat 32 s.val)).toInt = (t.val : ℤ) - (s.val : ℤ) := by
    show (BitVec.ofNat 32 t.val - BitVec.ofNat 32 s.val).toInt = _
    rw [BitVec.toInt_sub, Cert.AttnIdeal.Value.toInt_small _ (by omega), Cert.AttnIdeal.Value.toInt_small _ (by omega), Int.bmod_eq_of_le] <;> omega
  have hsle : IntOp.cmpi CmpIPredicate.sle (BitVec.ofNat 32 s.val) (BitVec.ofNat 32 t.val) = if s.val ≤ t.val then 1#1 else 0#1 := by
    show BitVec.ofBool (BitVec.sle _ _) = _
    rw [BitVec.sle, Cert.AttnIdeal.Value.toInt_small _ (by omega), Cert.AttnIdeal.Value.toInt_small _ (by omega)]
    by_cases hc : s.val ≤ t.val <;> simp [hc]
  rw [rS_at, hsub, hsle, ← EReal.coe_mul]
  unfold sc
  by_cases hc : s.val ≤ t.val
  · rw [if_pos hc, if_pos hc]
    show (_ : EReal) - _ = _
    unfold qk
    push_cast
    rfl
  · rw [if_neg hc, if_neg hc]
    rfl

open Classical in
/-- The reference's softmax is the weight over the weights' sum, and `⊥` for a row without a softmax. -/
theorem rP_map (Q K : FVec Ideal S32768x512 .bf16) (m : Fin 2) (b h : Fin 4) (t s : Fin 8192) :
    rP Q K (ix5 m b h t s) = if NoMap (fun r c => Q (ix2 r c)) (fun r c => K (ix2 r c)) b h m t then ⊥
      else ((ew (fun r c => Q (ix2 r c)) (fun r c => K (ix2 r c)) b h m t s / ewSum (fun r c => Q (ix2 r c)) (fun r c => K (ix2 r c)) b h m t : ℝ) : EReal) := by
  rw [rP_at]
  simp only [rE_at, rM_at, bot_bits, rS_sc, max_eq_right (bot_le (a := (_ : EReal)))]
  refine (softmax_any (fun s => sc (fun r c => Q (ix2 r c)) (fun r c => K (ix2 r c)) b h m t s) s).trans ?_
  unfold NoMap ewSum ew
  congr 1

/-- The reference's attention output before its normalisation: the kernel's, or both have only zero and infinite lanes. -/
theorem rO_cases (LAM : FVec Ideal S1x4x64 .f32) (Q K V : FVec Ideal S32768x512 .bf16) (lam : ℝ) (v : Fin 32768 → Fin 512 → ℝ) (hl : rL LAM ix0 = (lam : EReal))
    (hv : ∀ r c, V (ix2 r c) = (v r c : EReal)) (b h : Fin 4) (t : Fin 8192) :
    (∀ d, rO LAM Q K V (ix4 b t h d) = outLane lam (fun r c => Q (ix2 r c)) (fun r c => K (ix2 r c)) v b h t d)
    ∨ ((∀ d, Ext (rO LAM Q K V (ix4 b t h d))) ∧ ∀ d, Ext (outLane lam (fun r c => Q (ix2 r c)) (fun r c => K (ix2 r c)) v b h t d)) := by
  classical
  set q := fun r c => Q (ix2 r c)
  set k := fun r c => K (ix2 r c)
  by_cases hd : NoMap q k b h 0 t ∨ (NoMap q k b h 1 t ∧ lam ≠ 0)
  · right
    obtain ⟨c, hc, hcc⟩ : ∃ c : EReal, (c = ⊤ ∨ c = ⊥) ∧ c = if NoMap q k b h 0 t then ⊥ else if 0 < lam then ⊤ else ⊥ := by
      refine ⟨_, ?_, rfl⟩
      split
      · exact Or.inr rfl
      · split
        · exact Or.inl rfl
        · exact Or.inr rfl
    refine ⟨fun d => ?_, fun d => ?_⟩
    · rw [rO_at]
      refine Ext.sum _ _ fun s => ?_
      rw [rD_at, hl, hv, coef_ext lam _ _ hd _ _ (fun h' => by rw [rP_map, if_pos h']) (fun h' => ⟨_, by rw [rP_map, if_neg h']⟩) (fun h' => by rw [rP_map, if_pos h']), ← hcc, mul_comm]
      exact Ext.mul_coe hc _
    · unfold outLane
      rw [coef_ext lam _ _ hd _ _ (fun h' => by rw [mapLane, if_pos h']) (fun h' => ⟨_, by rw [mapLane, if_neg h']⟩) (fun h' => by rw [mapLane, if_pos h']), ← hcc]
      exact Or.inr hc
  · left
    intro d
    have h0 : ¬ NoMap q k b h 0 t := fun h' => hd (Or.inl h')
    -- the second attention, where it counts
    have hp : ∀ s, (lam : EReal) * rP Q K (ix5 1 b h t s) = ((lam * (ew q k b h 1 t s / ewSum q k b h 1 t) : ℝ) : EReal) := fun s => by
      rw [rP_map]
      by_cases h1 : NoMap q k b h 1 t
      · have hz : lam = 0 := by
          by_contra hz
          exact hd (Or.inr ⟨h1, hz⟩)
        rw [hz, EReal.coe_zero, zero_mul, zero_mul, EReal.coe_zero]
      · rw [if_neg h1, ← EReal.coe_mul]
    have hm : (lam : EReal) * mapLane q k v b h 1 t d = ((lam * (ewVal q k v b h 1 t d / ewSum q k b h 1 t) : ℝ) : EReal) := by
      unfold mapLane
      by_cases h1 : NoMap q k b h 1 t
      · have hz : lam = 0 := by
          by_contra hz
          exact hd (Or.inr ⟨h1, hz⟩)
        rw [hz, EReal.coe_zero, zero_mul, zero_mul, EReal.coe_zero]
      · rw [if_neg h1, ← EReal.coe_mul]
    rw [rO_at]
    unfold outLane
    rw [hm, mapLane, if_neg h0, ← EReal.coe_sub]
    have hf : ∀ s, rP Q K (ix5 0 b h t s) = ((ew q k b h 0 t s / ewSum q k b h 0 t : ℝ) : EReal) := fun s => by rw [rP_map, if_neg h0]
    simp only [rD_at, hl, hp, hv, hf, ← EReal.coe_mul, ← EReal.coe_sub]
    rw [coe_sum]
    congr 1
    unfold ewVal
    rw [Finset.sum_div, Finset.sum_div, Finset.mul_sum, ← Finset.sum_sub_distrib]
    exact Finset.sum_congr rfl fun s _ => by ring

/-- The reference's result at a row and a lane. -/
theorem rR_real (LAM : FVec Ideal S1x4x64 .f32) (SUB : FVec Ideal S1x128 .f32) (Q K V : FVec Ideal S32768x512 .bf16) (lam : ℝ) (v : Fin 32768 → Fin 512 → ℝ) (hl : lamE (fun a x => LAM (ix3 0 a x)) = (lam : EReal))
    (hv : ∀ r c, V (ix2 r c) = (v r c : EReal)) (b h : Fin 4) (t : Fin 8192) (d : Fin 128)
    (r : Fin 32768) (l : Fin 512) (hr : r.val = b.val * 8192 + t.val) (hll : l.val = h.val * 128 + d.val) :
    rR LAM SUB Q K V (ix2 r l) = headNorm (fun d => outLane lam (fun r c => Q (ix2 r c)) (fun r c => K (ix2 r c)) v b h t d) (fun d => SUB (ix2 0 d)) d := by
  rw [rR_at]
  have e1 : (⟨r.val / 8192, by omega⟩ : Fin 4) = b := Fin.ext (by dsimp only; omega)
  have e2 : (⟨r.val % 8192, by omega⟩ : Fin 8192) = t := Fin.ext (by dsimp only; omega)
  have e3 : (⟨l.val / 128, by omega⟩ : Fin 4) = h := Fin.ext (by dsimp only; omega)
  have e4 : (⟨l.val % 128, by omega⟩ : Fin 128) = d := Fin.ext (by dsimp only; omega)
  rw [e1, e2, e3, e4, rT_at]
  rcases rO_cases LAM Q K V lam v ((rL_at LAM).trans hl) hv b h t with hO | ⟨hO, hU⟩
  · simp only [hO]
  · rw [headNorm_ext _ _ hO, headNorm_ext _ _ hU]

end Cert.AttnRefIdeal.Value

end
-- ==== Proof.AttnValue.lean ====
/- The attention kernel's result array is the reference's result. -/
module

public import proofs.«01_k».proof.Proof.AttnKernel
public import proofs.«01_k».proof.Proof.AttnRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnIdeal.Value
open Cert.AttnIdeal Cert.AttnIdeal.Gen Cert.AttnMath

variable (m : (ℓ : Loc nD τ sig) → Buf (Elt Ideal) ℓ)

/-- The windows' block indices at every grid point: the query and output rows move with the point, the keys and values with the batch. -/
theorem idx : ∀ t : Fin cfg0.N, win0_0.index t = ![0, 0] ∧ win0_1.index t = ![0, 0] ∧ win0_2.index t = ![t.val, 0]
    ∧ win0_3.index t = ![t.val / 32, 0, 0] ∧ win0_4.index t = ![t.val / 32, 0, 0] ∧ win0_5.index t = ![t.val, 0] :=
  (by decide +kernel : ∀ t : Fin grid0.N, _)

/-- The query tile's number at a grid point. -/
theorem coord1 : ∀ t : Fin cfg0.N, (grid0.coords t 1).val = t.val % 32 :=
  (by decide +kernel : ∀ t : Fin grid0.N, _)

/-- The staged parameter rows. -/
theorem lam_at (c : Dev nD) (t : Fin cfg0.N) (a : Fin 4) (x : Fin 64) :
    (show FVec Ideal S4x64 .f32 from iblk m c 0 t) (ix2 a x) = m ((c : Thread nD τ).loc main_arg0) (ix3 0 a x) := by
  blk_point [iblk, V, idx t]

/-- The staged norm weights. -/
theorem sub_at (c : Dev nD) (t : Fin cfg0.N) (x : Fin 128) :
    (show FVec Ideal S1x128 .f32 from iblk m c 1 t) (ix2 0 x) = m ((c : Thread nD τ).loc main_arg1) (ix2 0 x) := by
  blk_point [iblk, V, idx t]

/-- The staged query rows. -/
theorem q_at (c : Dev nD) (t : Fin cfg0.N) (ht : t.val < 128) (r : Fin 256) (l : Fin 512) :
    (show FVec Ideal S256x512 .bf16 from iblk m c 2 t) (ix2 r l) = m ((c : Thread nD τ).loc main_arg2) (ix2 ⟨t.val * 256 + r.val, by omega⟩ l) := by
  blk_point [iblk, V, idx t]

/-- The staged keys. -/
theorem k_at (c : Dev nD) (t : Fin cfg0.N) (ht : t.val < 128) (j : Fin 32) (r : Fin 256) (l : Fin 512) :
    (show FVec Ideal S32x256x512 .bf16 from iblk m c 3 t) (ix3 j r l) = m ((c : Thread nD τ).loc main_arg3) (ix2 ⟨(t.val / 32 * 32 + j.val) * 256 + r.val, by omega⟩ l) := by
  blk_point [iblk, V, idx t]

/-- The staged values. -/
theorem v_at (c : Dev nD) (t : Fin cfg0.N) (ht : t.val < 128) (j : Fin 32) (r : Fin 256) (l : Fin 512) :
    (show FVec Ideal S32x256x512 .bf16 from iblk m c 4 t) (ix3 j r l) = m ((c : Thread nD τ).loc main_arg4) (ix2 ⟨(t.val / 32 * 32 + j.val) * 256 + r.val, by omega⟩ l) := by
  blk_point [iblk, V, idx t]

/-- The result array after the run is the reference's result, where the parameter's factor and the value rows are real numbers. -/
theorem final (c : Dev nD) (lam : ℝ) (v : Fin 32768 → Fin 512 → ℝ) (hl : lamE (fun a x => m ((c : Thread nD τ).loc main_arg0) (ix3 0 a x)) = (lam : EReal))
    (hv : ∀ r l, m ((c : Thread nD τ).loc main_arg4) (ix2 r l) = (v r l : EReal)) :
    (dats m 0 c).arrAt 5 (cfgs 0).N = Cert.AttnRefIdeal.Value.rR (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  have ht : t.val < 128 := lt_of_lt_of_eq t.isLt N_0
  blk_simp
  rw [after0_5]; unfold Gen.outsAt0
  have y0 : (y 0).val < 256 := (y 0).isLt
  have y1 : (y 1).val < 512 := (y 1).isLt
  have e : (((View.whole main_v5).slice (win0_5.rect t)).emb y : S32768x512.Idx)
      = ix2 ⟨t.val * 256 + (y 0).val, by have : (y 0).val < 256 := (y 0).isLt; omega⟩ ⟨(y 1).val, (y 1).isLt⟩ := by
    blk_ext [idx t]
  rw [e]
  have ey : y = ix2 (⟨(y 0).val, y0⟩ : Fin 256) (⟨(y 1).val, y1⟩ : Fin 512) := by blk_ext
  refine (out_real _ _ _ _ _ _ _ _ _ _ _ _ _ _ _ _ _ _ _ _ _ _ _ _ _ (fun r l => m ((c : Thread nD τ).loc main_arg2) (ix2 r l)) (fun r l => m ((c : Thread nD τ).loc main_arg3) (ix2 r l)) v ⟨t.val / 32, by omega⟩ ⟨t.val % 32, by omega⟩ (coord1 t) ?_ ?_ ?_ lam ?_ _).trans ?_
  · intro r l
    refine (q_at m c t ht r l).trans ?_
    congr 2; exact Fin.ext (by dsimp only; omega)
  · intro j r l
    refine (k_at m c t ht j r l).trans ?_
    congr 2; exact Fin.ext (by dsimp only; omega)
  · intro j r l
    refine (v_at m c t ht j r l).trans ((hv _ _).trans ?_)
    congr 2; exact Fin.ext (by dsimp only; omega)
  · refine Eq.trans ?_ hl
    congr 1; funext a x; exact lam_at m c t a x
  · refine (congrArg (blockOut lam (fun r l => m ((c : Thread nD τ).loc main_arg2) (ix2 r l)) (fun r l => m ((c : Thread nD τ).loc main_arg3) (ix2 r l)) v _ _ _) ey).trans ?_
    refine (blockOut_at lam (fun r l => m ((c : Thread nD τ).loc main_arg2) (ix2 r l)) (fun r l => m ((c : Thread nD τ).loc main_arg3) (ix2 r l)) v _ _ _ ⟨(y 1).val / 128, by omega⟩ ⟨(y 0).val, y0⟩ ⟨(y 1).val % 128, by omega⟩ ⟨(y 1).val, y1⟩ (by dsimp only; omega)).trans ?_
    refine Eq.trans ?_ (Cert.AttnRefIdeal.Value.rR_real _ _ _ _ _ lam v hl hv ⟨t.val / 32, by omega⟩ ⟨(y 1).val / 128, by omega⟩ ⟨t.val % 32 * 256 + (y 0).val, by omega⟩ ⟨(y 1).val % 128, by omega⟩ _ _ (by dsimp only; omega) (by dsimp only; omega)).symm
    congr 1; funext d; exact sub_at m c t d

end Cert.AttnIdeal.Value

end
-- ==== Proof.AttnPre.lean ====
/- The precondition read as real numbers. -/
module

public import proofs.«01_k».proof.Proof.Gen.Pre_finite
public import proofs.«01_k».proof.Proof.AttnSpec
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.Pre_finite.Value
open Cert.Pre_finite Cert.Pre_finite.Gen

/-- A value whose magnitude is below infinity is a real number. -/
theorem lt_inf (x : EReal) (h : (FloatOps.cmpf (F := Ideal) (φ := .f32) .olt (FloatOps.absf (F := Ideal) (φ := .f32) x) (FloatOps.ofBits (F := Ideal) .f32 0x7F800000#32)) = 1#1) : ∃ r : ℝ, x = (r : EReal) := by
  have hi : Ideal.ofBits .f32 0x7F800000#32 = ⊤ := by simp [Ideal.ofBits, Ideal.ieee]
  have h1 : max x (-x) < Ideal.ofBits .f32 0x7F800000#32 := by
    by_contra hc
    exact absurd h (by
      show ¬ (Ideal.cmp .olt (max x (-x)) (Ideal.ofBits .f32 0x7F800000#32) = 1#1)
      simp [Ideal.cmp, hc])
  rw [hi] at h1
  induction x using EReal.rec with
  | bot => exact absurd h1 (by simp)
  | coe r => exact ⟨r, rfl⟩
  | top => exact absurd h1 (by simp)

/-- A test of every element read back at one of them, at any extents. -/
theorem test2 {n p : Nat} (x : FVec Ideal ⟨2, ![n, p]⟩ .f32) (hb : S_.BroadcastsInDim ⟨2, ![n, p]⟩ (![] : Fin 0 → Fin 2)) (hr : (⟨2, ![n, p]⟩ : Shape).ReducesTo [0, 1] S_) (hu : 0 < S_.numel) (j : S_.Idx)
    (h : Host.reduce IntOp.andi (cmpf .olt (Host.absf x) (broadcastInDim ⟨2, ![n, p]⟩ ![] hb (constant S_ .f32 0x7F800000#32))) (constantI S_ 1 1#1) hr hu j = 1#1) (i : (⟨2, ![n, p]⟩ : Shape).Idx) :
    ∃ r : ℝ, x i = (r : EReal) := by
  haveI : Subsingleton S_.Idx := ⟨fun a b => funext fun k => k.elim0⟩
  exact lt_inf _ (Host.reduce_andi_all _ _ hr hu j h i)

theorem test3 {n p o : Nat} (x : FVec Ideal ⟨3, ![n, p, o]⟩ .f32) (hb : S_.BroadcastsInDim ⟨3, ![n, p, o]⟩ (![] : Fin 0 → Fin 3)) (hr : (⟨3, ![n, p, o]⟩ : Shape).ReducesTo [0, 1, 2] S_) (hu : 0 < S_.numel) (j : S_.Idx)
    (h : Host.reduce IntOp.andi (cmpf .olt (Host.absf x) (broadcastInDim ⟨3, ![n, p, o]⟩ ![] hb (constant S_ .f32 0x7F800000#32))) (constantI S_ 1 1#1) hr hu j = 1#1) (i : (⟨3, ![n, p, o]⟩ : Shape).Idx) :
    ∃ r : ℝ, x i = (r : EReal) := by
  haveI : Subsingleton S_.Idx := ⟨fun a b => funext fun k => k.elim0⟩
  exact lt_inf _ (Host.reduce_andi_all _ _ hr hu j h i)

theorem and_one (a b : BitVec 1) (h : IntOp.andi a b = 1#1) : a = 1#1 ∧ b = 1#1 := by
  revert a b; decide

/-- The precondition: every element of the parameter and of the value rows is a real number. -/
theorem real (a0 : FVec Ideal S1x4x64 .f32) (a1 : FVec Ideal S1x128 .f32) (a2 a3 a4 : FVec Ideal S32768x512 .bf16) (h : @fn facts Ideal _ a0 a1 a2 a3 a4 = fun _ => 1#1) :
    (∀ i, ∃ r : ℝ, a0 i = (r : EReal)) ∧ (∀ i, ∃ r : ℝ, a4 i = (r : EReal)) := by
  have j : S_.Idx := fun k => k.elim0
  have h' := congrFun h j
  unfold fn at h'
  dsimp only at h'
  obtain ⟨h1, h4⟩ := and_one _ _ h'
  exact ⟨fun i => test3 (n := 1) (p := 4) (o := 64) a0 _ _ _ j h1 i, fun i => test2 (n := 32768) (p := 512) _ _ _ _ j h4 i⟩

end Cert.Pre_finite.Value

end
-- ==== Proof.AttnClaim.lean ====
/- The attention: kernel and reference end with equal results. -/
module

public import proofs.«01_k».proof.Defs
public import proofs.«01_k».proof.Proof.AttnValue
public import proofs.«01_k».proof.Proof.AttnPre
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof
open Cert.AttnMath

set_option maxHeartbeats 1600000 in
/-- On equal arguments, the values and the factor's parameters real numbers, the attention kernel's result is the reference's. -/
theorem attn : @Cert.algebraic_AttnIdeal_AttnRefIdeal_pre_finite Cert.AttnIdeal.Gen.facts Cert.AttnRefIdeal.Gen.facts Cert.Pre_finite.Gen.facts := by
  pair_intro
  · run_from Cert.AttnIdeal.Value.run_blocks m g
  · run_from Cert.AttnRefIdeal.Value.run m' g'
    obtain ⟨h0, h1, h2, h3, h4⟩ := hagree c
    obtain ⟨p0, p4⟩ := Cert.Pre_finite.Value.real _ _ _ _ _ (hpre c)
    choose v hv using p4
    choose l hl using p0
    obtain ⟨lam, hlam⟩ := lamE_real (fun a x => m ((c : Thread Cert.AttnIdeal.nD Cert.AttnIdeal.τ).loc Cert.AttnIdeal.main_arg0) (ix3 0 a x)) (fun a x => l (ix3 0 a x)) (fun a x => hl _)
    refine Eq.trans ?_ (Cert.AttnIdeal.Value.final m c lam (fun r l => v (ix2 r l)) hlam (fun r l => hv _)).symm
    refine (Cert.AttnRefIdeal.Value.res_eq m' c).trans ?_
    rw [h0, h1, h2, h3, h4]

end Cert.Proof

end
-- ==== Proof.SampleProjRow.lean ====
/- The sample's input projection: the projected row, in the reference and in one block of the kernel. -/
module

public import proofs.«01_k».proof.Proof.Gen.SampleProjIdeal.Value
public import proofs.«01_k».proof.Proof.Gen.SampleProjRefIdeal.Run
public import proofs.«01_k».proof.Proof.ProjRow
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SampleProjRefIdeal.Value

open Cert.SampleProjRefIdeal Cert.SampleProjRefIdeal.Gen ResidRow

/-- All 4680 projected columns of every row, as the reference writes them. -/
def zall (X : FVec Ideal S128x1x1024 .f32) (G : FVec Ideal S1x1024 .f32) (W : FVec Ideal S1x1024x4680 .f32) : FVec Ideal S128x4680 .f32 :=
  shapeCast _ (Host.dotGeneral dot_S128x1x1024_S1024x4680_S128x1x4680_2_0_01_1_n_n none (mulf (mulf X (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf X X) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 (shapeCast _ G shapeCasts_S1x1024_S1024)))) (shapeCast _ W shapeCasts_S1x1024x4680_S1024x4680)) shapeCasts_S128x1x4680_S128x4680

/-- Row `R`, normalised. -/
def xrow (X : FVec Ideal S128x1x1024 .f32) (G : FVec Ideal S1x1024 .f32) (R : Fin 128) : Fin 1024 → EReal :=
  rms (fun l => X (ix3 R 0 l)) (fun l => G (ix2 0 l))

/-- A projected column of a row is the sum of the normalised row times the weight column. -/
theorem zall_at (X : FVec Ideal S128x1x1024 .f32) (G : FVec Ideal S1x1024 .f32) (W : FVec Ideal S1x1024x4680 .f32) (R : Fin 128) (l : Fin 4680) :
    zall X G W (ix2 R l) = ∑ k : Fin 1024, xrow X G R k * W (ix3 0 k l) := by
  pointwise [zall]
  simp only [xrow, rms]

end Cert.SampleProjRefIdeal.Value

namespace Cert.SampleProjIdeal.Value

open Cert.SampleProjIdeal Cert.SampleProjIdeal.Gen ResidRow Cert.SampleProjRefIdeal.Value

variable (m : (ℓ : Loc nD τ sig) → Buf (Elt Ideal) ℓ)

/-- The windows' block indices at every grid point: rows move with the point, the scale and the weights stay. -/
theorem idx : ∀ t : Fin cfg0.N, win0_0.index t = ![t.val, 0] ∧ win0_1.index t = ![0, 0] ∧ win0_2.index t = ![0, 0] ∧ win0_3.index t = ![0, 0]
    ∧ win0_4.index t = ![t.val, 0]    ∧ win0_5.index t = ![t.val, 0]    ∧ win0_6.index t = ![t.val, 0]    ∧ win0_7.index t = ![t.val, 0]
    ∧ win0_8.index t = ![t.val, 0]    ∧ win0_9.index t = ![t.val, 0]    ∧ win0_10.index t = ![t.val, 0]    ∧ win0_11.index t = ![t.val, 0]
    ∧ win0_12.index t = ![t.val, 0]    ∧ win0_13.index t = ![t.val, 0]    ∧ win0_14.index t = ![t.val, 0]    ∧ win0_15.index t = ![t.val, 0]
    ∧ win0_16.index t = ![t.val, 0]    ∧ win0_17.index t = ![t.val, 0]    ∧ win0_18.index t = ![t.val, 0]    ∧ win0_19.index t = ![t.val, 0] :=
  (by decide +kernel : ∀ t : Fin grid0.N, _)

/-- The normalised rows of one block. -/
theorem pay7_at (b0 : FVec Ideal S128x1024 .f32) (b1 : FVec Ideal S1x1024 .f32) (r : Fin 128) (k : Fin 1024) :
    k0_pay7 (F := Ideal) b0 b1 (ix2 r k) = rms (fun l => b0 (ix2 r l)) (fun l => b1 (ix2 0 l)) k := by
  pointwise [k0_pay7]
  simp only [rms]

/-- The staged rows are the rows of the reshaped input. -/
theorem x_at (c : Dev nD) (t : Fin cfg0.N) (r : Fin 128) (R : Fin 128) (hR : R.val = t.val * 128 + r.val) (l : Fin 1024) :
    (show FVec Ideal S128x1024 .f32 from iblk m c 0 t) (ix2 r l) = m ((c : Thread nD τ).loc main_arg0) (ix3 R 0 l) := by
  blk_point [iblk, V, idx t]

theorem g_at (c : Dev nD) (t : Fin cfg0.N) (l : Fin 1024) :
    (show FVec Ideal S1x1024 .f32 from iblk m c 1 t) (ix2 0 l) = m ((c : Thread nD τ).loc main_arg1) (ix2 0 l) := by
  blk_point [iblk, V, idx t]

/-- The staged main weights are the first 4608 columns. -/
theorem w_at (c : Dev nD) (t : Fin cfg0.N) (k : Fin 1024) (l : Fin 4608) :
    (show FVec Ideal S1024x4608 .bf16 from iblk m c 2 t) (ix2 k l) = m ((c : Thread nD τ).loc main_arg2) (ix3 0 k ⟨l, by omega⟩) := by
  blk_point [iblk, V, idx t]

/-- Block row `r` of point `t`, normalised, is row `128·t + r` of the reference's normalised rows. -/
theorem xn_at (c : Dev nD) (t : Fin cfg0.N) (r : Fin 128) (R : Fin 128) (hR : R.val = t.val * 128 + r.val) (k : Fin 1024) :
    k0_pay7 (F := Ideal) (iblk m c 0 t) (iblk m c 1 t) (ix2 r k) = xrow (m ((c : Thread nD τ).loc main_arg0)) (m ((c : Thread nD τ).loc main_arg1)) R k := by
  refine (pay7_at _ _ r k).trans ?_
  unfold xrow
  congr 1
  · funext l; exact x_at m c t r R hR l
  · funext l; exact g_at m c t l

/-- The normalised block rows, as the body's later parts name them. -/
theorem pay19_eq (x0 : FVec Ideal S128x1024 .f32) (x1 : FVec Ideal S1x1024 .f32) (x2 : FVec Ideal S1024x4608 .bf16) (x3 : FVec Ideal S1024x256 .bf16) :
    k0_pay19 (F := Ideal) x0 x1 x2 x3 = k0_pay7 x0 x1 := by
  funext j
  idx_vars j
  pointwise [k0_pay19, k0_pay7]

/-- The third column block's products, as a matmul of the normalised block rows. -/
theorem pay20_eq (x0 : FVec Ideal S128x1024 .f32) (x1 : FVec Ideal S1x1024 .f32) (x2 : FVec Ideal S1024x4608 .bf16) (x3 : FVec Ideal S1024x256 .bf16) :
    k0_pay20 (F := Ideal) x0 x1 x2 x3 = k0_pay9 x0 x1 (View.ld x2 r0_5) := by
  funext j
  idx_vars j
  pointwise [k0_pay20, k0_pay11, k0_pay9, k0_pay7]

/-- A projected column block: the normalised block rows times a column block of the weights is the reference's columns. -/
theorem seg_at (c : Dev nD) (t : Fin cfg0.N) (r : Fin 128) (R : Fin 128) (hR : R.val = t.val * 128 + r.val) (l : Fin 4608) (z : Fin 4680) (hz : z.val = l.val) :
    ∑ k : Fin 1024, k0_pay7 (F := Ideal) (iblk m c 0 t) (iblk m c 1 t) (ix2 r k) * (show FVec Ideal S1024x4608 .bf16 from iblk m c 2 t) (ix2 k l)
      = zall (m ((c : Thread nD τ).loc main_arg0)) (m ((c : Thread nD τ).loc main_arg1)) (m ((c : Thread nD τ).loc main_arg2)) (ix2 R z) := by
  have hzz : (⟨l, by omega⟩ : Fin 4680) = z := Fin.ext hz.symm
  refine Eq.trans ?_ (zall_at ..).symm
  refine Finset.sum_congr rfl fun k _ => ?_
  rw [xn_at m c t r R hR k, w_at m c t k l, hzz]

/-- The tail weights at the region's entry. -/
theorem v7_eq (c : Dev nD) : V m c main_v7 = truncf .bf16 (Cert.ProjIdeal.Value.tailW (m ((c : Thread nD τ).loc main_arg2))) bitsLt_bf16_f32 := by
  rfl

set_option maxHeartbeats 1600000 in
/-- The staged tail weights: the 64 index-key columns, the same again, the 8 head-weight columns. -/
theorem tail_at (c : Dev nD) (t : Fin cfg0.N) (k : Fin 1024) (l : Fin 256) (hl : l.val < 136) (z : Fin 4680)
    (hz : z.val = if l.val < 64 then 4608 + l.val else 4544 + l.val) :
    (show FVec Ideal S1024x256 .bf16 from iblk m c 3 t) (ix2 k l) = m ((c : Thread nD τ).loc main_arg2) (ix3 0 k z) := by
  refine Eq.trans ?_ (Cert.ProjIdeal.Value.tailW_at _ k l hl z hz)
  have e : (show FVec Ideal S1024x256 .bf16 from iblk m c 3 t) (ix2 k l) = V m c main_v7 (ix2 k l) := by
    blk_simp [iblk]
    congr 1
    blk_ext [idx t]
  rw [e, v7_eq]
  rfl

/-- The same for the tail's columns. -/
theorem tseg_at (c : Dev nD) (t : Fin cfg0.N) (r : Fin 128) (R : Fin 128) (hR : R.val = t.val * 128 + r.val) (l : Fin 256) (hl : l.val < 136) (z : Fin 4680)
    (hz : z.val = if l.val < 64 then 4608 + l.val else 4544 + l.val) :
    ∑ k : Fin 1024, k0_pay7 (F := Ideal) (iblk m c 0 t) (iblk m c 1 t) (ix2 r k) * (show FVec Ideal S1024x256 .bf16 from iblk m c 3 t) (ix2 k l)
      = zall (m ((c : Thread nD τ).loc main_arg0)) (m ((c : Thread nD τ).loc main_arg1)) (m ((c : Thread nD τ).loc main_arg2)) (ix2 R z) := by
  refine Eq.trans ?_ (zall_at ..).symm
  refine Finset.sum_congr rfl fun k _ => ?_
  rw [xn_at m c t r R hR k, tail_at m c t k l hl z hz]

end Cert.SampleProjIdeal.Value

end
-- ==== Proof.SampleProjA.lean ====
/- The sample's input projection: each result array of the kernel is the reference's. -/
module

public import proofs.«01_k».proof.Proof.SampleProjRow

@[expose] public section

set_option maxRecDepth 16384

noncomputable section

open Idealize.ShloMosaic Idealize.ShloMosaic.TcCoe Idealize.SL.Sem
open Idealize.ShloMosaic.Pipeline (Dat)

namespace Cert.SampleProjIdeal.Value

open Cert.SampleProjIdeal Cert.SampleProjIdeal.Gen ResidRow Cert.SampleProjRefIdeal.Value

variable (m : (ℓ : Loc nD τ sig) → Buf (Elt Ideal) ℓ)

/-- All projected columns of every row, over the kernel's arguments. -/
abbrev zkSampleA (c : Dev nD) := zall (m ((c : Thread nD τ).loc main_arg0)) (m ((c : Thread nD τ).loc main_arg1)) (m ((c : Thread nD τ).loc main_arg2))

/-- Result 0 of the call is the reference's. -/
theorem final4 (c : Dev nD) : (dats m 0 c).arrAt 4 (cfgs 0).N = (show FVec Ideal Cert.SampleProjRefIdeal.S128x512 .bf16 from truncf .bf16 (mulf (extractStridedSlice Cert.SampleProjRefIdeal.S128x512 ![0, 0] (zkSampleA m c) Cert.SampleProjRefIdeal.Gen.slices_S128x4680_S128x512_0_0) (broadcastInDim Cert.SampleProjRefIdeal.S128x512 ![] Cert.SampleProjRefIdeal.Gen.bcast_S_S128x512 (constant Cert.SampleProjRefIdeal.S_ .f32 0x3E000000#32))) Cert.SampleProjRefIdeal.Gen.bitsLt_bf16_f32) := by
  refine (dats m 0 c).arrAt_eq_of_covers 4 _ (by decide +kernel) fun t _ y => ?_
  have ht : t.val < 1 := lt_of_lt_of_eq t.isLt N_0
  blk_simp
  rw [after0_4]; frame_out
  have e : (((View.whole main_v11_0).slice (win0_4.rect t)).emb y : S128x512.Idx)
      = ix2 ⟨t.val * 128 + (y 0).val, by have : (y 0).val < 128 := (y 0).isLt; omega⟩ ⟨(y 1).val, (y 1).isLt⟩ := by blk_ext [idx t]
  rw [e]
  rw [show y = ix2 (⟨(y 0).val, (y 0).isLt⟩ : Fin 128) (⟨(y 1).val, (y 1).isLt⟩ : Fin 512) from by blk_ext]
  generalize hr : (⟨(y 0).val, (y 0).isLt⟩ : Fin 128) = r
  generalize hl : (⟨(y 1).val, (y 1).isLt⟩ : Fin 512) = l
  clear hr hl e y
  try rw [pay19_eq]
  try rw [pay20_eq]
  pointwise [k0_pay8]
  exact Ideal.mul_congr (seg_at m c t r _ (by omega) ⟨l.val, by omega⟩ _ rfl) rfl

/-- Result 1 of the call is the reference's. -/
theorem final5 (c : Dev nD) : (dats m 0 c).arrAt 5 (cfgs 0).N = (show FVec Ideal Cert.SampleProjRefIdeal.S128x512 .f32 from extractStridedSlice Cert.SampleProjRefIdeal.S128x512 ![0, 512] (zkSampleA m c) Cert.SampleProjRefIdeal.Gen.slices_S128x4680_S128x512_0_512) := by
  refine (dats m 0 c).arrAt_eq_of_covers 5 _ (by decide +kernel) fun t _ y => ?_
  have ht : t.val < 1 := lt_of_lt_of_eq t.isLt N_0
  blk_simp
  rw [after0_5]; frame_out
  have e : (((View.whole main_v11_1).slice (win0_5.rect t)).emb y : S128x512.Idx)
      = ix2 ⟨t.val * 128 + (y 0).val, by have : (y 0).val < 128 := (y 0).isLt; omega⟩ ⟨(y 1).val, (y 1).isLt⟩ := by blk_ext [idx t]
  rw [e]
  rw [show y = ix2 (⟨(y 0).val, (y 0).isLt⟩ : Fin 128) (⟨(y 1).val, (y 1).isLt⟩ : Fin 512) from by blk_ext]
  generalize hr : (⟨(y 0).val, (y 0).isLt⟩ : Fin 128) = r
  generalize hl : (⟨(y 1).val, (y 1).isLt⟩ : Fin 512) = l
  clear hr hl e y
  try rw [pay19_eq]
  try rw [pay20_eq]
  pointwise [k0_pay9]
  exact seg_at m c t r _ (by omega) ⟨512 + l.val, by omega⟩ _ rfl

/-- Result 2 of the call is the reference's. -/
theorem final6 (c : Dev nD) : (dats m 0 c).arrAt 6 (cfgs 0).N = (show FVec Ideal Cert.SampleProjRefIdeal.S128x512 .bf16 from truncf .bf16 (extractStridedSlice Cert.SampleProjRefIdeal.S128x512 ![0, 512] (zkSampleA m c) Cert.SampleProjRefIdeal.Gen.slices_S128x4680_S128x512_0_512) Cert.SampleProjRefIdeal.Gen.bitsLt_bf16_f32) := by
  refine (dats m 0 c).arrAt_eq_of_covers 6 _ (by decide +kernel) fun t _ y => ?_
  have ht : t.val < 1 := lt_of_lt_of_eq t.isLt N_0
  blk_simp
  rw [after0_6]; frame_out
  have e : (((View.whole main_v11_2).slice (win0_6.rect t)).emb y : S128x512.Idx)
      = ix2 ⟨t.val * 128 + (y 0).val, by have : (y 0).val < 128 := (y 0).isLt; omega⟩ ⟨(y 1).val, (y 1).isLt⟩ := by blk_ext [idx t]
  rw [e]
  rw [show y = ix2 (⟨(y 0).val, (y 0).isLt⟩ : Fin 128) (⟨(y 1).val, (y 1).isLt⟩ : Fin 512) from by blk_ext]
  generalize hr : (⟨(y 0).val, (y 0).isLt⟩ : Fin 128) = r
  generalize hl : (⟨(y 1).val, (y 1).isLt⟩ : Fin 512) = l
  clear hr hl e y
  try rw [pay19_eq]
  try rw [pay20_eq]
  pointwise [k0_pay10, k0_pay9]
  exact seg_at m c t r _ (by omega) ⟨512 + l.val, by omega⟩ _ rfl

/-- Result 3 of the call is the reference's. -/
theorem final7 (c : Dev nD) : (dats m 0 c).arrAt 7 (cfgs 0).N = (show FVec Ideal Cert.SampleProjRefIdeal.S128x512 .f32 from extractStridedSlice Cert.SampleProjRefIdeal.S128x512 ![0, 1024] (zkSampleA m c) Cert.SampleProjRefIdeal.Gen.slices_S128x4680_S128x512_0_1024) := by
  refine (dats m 0 c).arrAt_eq_of_covers 7 _ (by decide +kernel) fun t _ y => ?_
  have ht : t.val < 1 := lt_of_lt_of_eq t.isLt N_0
  blk_simp
  rw [after0_7]; frame_out
  have e : (((View.whole main_v11_3).slice (win0_7.rect t)).emb y : S128x512.Idx)
      = ix2 ⟨t.val * 128 + (y 0).val, by have : (y 0).val < 128 := (y 0).isLt; omega⟩ ⟨(y 1).val, (y 1).isLt⟩ := by blk_ext [idx t]
  rw [e]
  rw [show y = ix2 (⟨(y 0).val, (y 0).isLt⟩ : Fin 128) (⟨(y 1).val, (y 1).isLt⟩ : Fin 512) from by blk_ext]
  generalize hr : (⟨(y 0).val, (y 0).isLt⟩ : Fin 128) = r
  generalize hl : (⟨(y 1).val, (y 1).isLt⟩ : Fin 512) = l
  clear hr hl e y
  try rw [pay19_eq]
  try rw [pay20_eq]
  pointwise [k0_pay9]
  exact seg_at m c t r _ (by omega) ⟨1024 + l.val, by omega⟩ _ rfl

/-- Result 4 of the call is the reference's. -/
theorem final8 (c : Dev nD) : (dats m 0 c).arrAt 8 (cfgs 0).N = (show FVec Ideal Cert.SampleProjRefIdeal.S128x512 .bf16 from truncf .bf16 (extractStridedSlice Cert.SampleProjRefIdeal.S128x512 ![0, 1024] (zkSampleA m c) Cert.SampleProjRefIdeal.Gen.slices_S128x4680_S128x512_0_1024) Cert.SampleProjRefIdeal.Gen.bitsLt_bf16_f32) := by
  refine (dats m 0 c).arrAt_eq_of_covers 8 _ (by decide +kernel) fun t _ y => ?_
  have ht : t.val < 1 := lt_of_lt_of_eq t.isLt N_0
  blk_simp
  rw [after0_8]; frame_out
  have e : (((View.whole main_v11_4).slice (win0_8.rect t)).emb y : S128x512.Idx)
      = ix2 ⟨t.val * 128 + (y 0).val, by have : (y 0).val < 128 := (y 0).isLt; omega⟩ ⟨(y 1).val, (y 1).isLt⟩ := by blk_ext [idx t]
  rw [e]
  rw [show y = ix2 (⟨(y 0).val, (y 0).isLt⟩ : Fin 128) (⟨(y 1).val, (y 1).isLt⟩ : Fin 512) from by blk_ext]
  generalize hr : (⟨(y 0).val, (y 0).isLt⟩ : Fin 128) = r
  generalize hl : (⟨(y 1).val, (y 1).isLt⟩ : Fin 512) = l
  clear hr hl e y
  try rw [pay19_eq]
  try rw [pay20_eq]
  pointwise [k0_pay12, k0_pay9]
  exact seg_at m c t r _ (by omega) ⟨1024 + l.val, by omega⟩ _ rfl

/-- Result 5 of the call is the reference's. -/
theorem final9 (c : Dev nD) : (dats m 0 c).arrAt 9 (cfgs 0).N = (show FVec Ideal Cert.SampleProjRefIdeal.S128x512 .f32 from extractStridedSlice Cert.SampleProjRefIdeal.S128x512 ![0, 1536] (zkSampleA m c) Cert.SampleProjRefIdeal.Gen.slices_S128x4680_S128x512_0_1536) := by
  refine (dats m 0 c).arrAt_eq_of_covers 9 _ (by decide +kernel) fun t _ y => ?_
  have ht : t.val < 1 := lt_of_lt_of_eq t.isLt N_0
  blk_simp
  rw [after0_9]; frame_out
  have e : (((View.whole main_v11_5).slice (win0_9.rect t)).emb y : S128x512.Idx)
      = ix2 ⟨t.val * 128 + (y 0).val, by have : (y 0).val < 128 := (y 0).isLt; omega⟩ ⟨(y 1).val, (y 1).isLt⟩ := by blk_ext [idx t]
  rw [e]
  rw [show y = ix2 (⟨(y 0).val, (y 0).isLt⟩ : Fin 128) (⟨(y 1).val, (y 1).isLt⟩ : Fin 512) from by blk_ext]
  generalize hr : (⟨(y 0).val, (y 0).isLt⟩ : Fin 128) = r
  generalize hl : (⟨(y 1).val, (y 1).isLt⟩ : Fin 512) = l
  clear hr hl e y
  try rw [pay19_eq]
  try rw [pay20_eq]
  pointwise [k0_pay13]
  exact seg_at m c t r _ (by omega) ⟨1536 + l.val, by omega⟩ _ rfl

/-- Result 6 of the call is the reference's. -/
theorem final10 (c : Dev nD) : (dats m 0 c).arrAt 10 (cfgs 0).N = (show FVec Ideal Cert.SampleProjRefIdeal.S128x512 .bf16 from truncf .bf16 (mulf (extractStridedSlice Cert.SampleProjRefIdeal.S128x512 ![0, 2048] (zkSampleA m c) Cert.SampleProjRefIdeal.Gen.slices_S128x4680_S128x512_0_2048) (broadcastInDim Cert.SampleProjRefIdeal.S128x512 ![] Cert.SampleProjRefIdeal.Gen.bcast_S_S128x512 (constant Cert.SampleProjRefIdeal.S_ .f32 0x3DB504F3#32))) Cert.SampleProjRefIdeal.Gen.bitsLt_bf16_f32) := by
  refine (dats m 0 c).arrAt_eq_of_covers 10 _ (by decide +kernel) fun t _ y => ?_
  have ht : t.val < 1 := lt_of_lt_of_eq t.isLt N_0
  blk_simp
  rw [after0_10]; frame_out
  have e : (((View.whole main_v11_6).slice (win0_10.rect t)).emb y : S128x512.Idx)
      = ix2 ⟨t.val * 128 + (y 0).val, by have : (y 0).val < 128 := (y 0).isLt; omega⟩ ⟨(y 1).val, (y 1).isLt⟩ := by blk_ext [idx t]
  rw [e]
  rw [show y = ix2 (⟨(y 0).val, (y 0).isLt⟩ : Fin 128) (⟨(y 1).val, (y 1).isLt⟩ : Fin 512) from by blk_ext]
  generalize hr : (⟨(y 0).val, (y 0).isLt⟩ : Fin 128) = r
  generalize hl : (⟨(y 1).val, (y 1).isLt⟩ : Fin 512) = l
  clear hr hl e y
  try rw [pay19_eq]
  try rw [pay20_eq]
  pointwise [k0_pay14]
  exact Ideal.mul_congr (seg_at m c t r _ (by omega) ⟨2048 + l.val, by omega⟩ _ rfl) rfl

/-- Result 7 of the call is the reference's. -/
theorem final11 (c : Dev nD) : (dats m 0 c).arrAt 11 (cfgs 0).N = (show FVec Ideal Cert.SampleProjRefIdeal.S128x512 .f32 from extractStridedSlice Cert.SampleProjRefIdeal.S128x512 ![0, 2560] (zkSampleA m c) Cert.SampleProjRefIdeal.Gen.slices_S128x4680_S128x512_0_2560) := by
  refine (dats m 0 c).arrAt_eq_of_covers 11 _ (by decide +kernel) fun t _ y => ?_
  have ht : t.val < 1 := lt_of_lt_of_eq t.isLt N_0
  blk_simp
  rw [after0_11]; frame_out
  have e : (((View.whole main_v11_7).slice (win0_11.rect t)).emb y : S128x512.Idx)
      = ix2 ⟨t.val * 128 + (y 0).val, by have : (y 0).val < 128 := (y 0).isLt; omega⟩ ⟨(y 1).val, (y 1).isLt⟩ := by blk_ext [idx t]
  rw [e]
  rw [show y = ix2 (⟨(y 0).val, (y 0).isLt⟩ : Fin 128) (⟨(y 1).val, (y 1).isLt⟩ : Fin 512) from by blk_ext]
  generalize hr : (⟨(y 0).val, (y 0).isLt⟩ : Fin 128) = r
  generalize hl : (⟨(y 1).val, (y 1).isLt⟩ : Fin 512) = l
  clear hr hl e y
  try rw [pay19_eq]
  try rw [pay20_eq]
  pointwise [k0_pay15]
  exact seg_at m c t r _ (by omega) ⟨2560 + l.val, by omega⟩ _ rfl

end Cert.SampleProjIdeal.Value

end
-- ==== Proof.SampleProjB.lean ====
/- The sample's input projection: each result array of the kernel is the reference's. -/
module

public import proofs.«01_k».proof.Proof.SampleProjRow

@[expose] public section

set_option maxRecDepth 16384

noncomputable section

open Idealize.ShloMosaic Idealize.ShloMosaic.TcCoe Idealize.SL.Sem
open Idealize.ShloMosaic.Pipeline (Dat)

namespace Cert.SampleProjIdeal.Value

open Cert.SampleProjIdeal Cert.SampleProjIdeal.Gen ResidRow Cert.SampleProjRefIdeal.Value

variable (m : (ℓ : Loc nD τ sig) → Buf (Elt Ideal) ℓ)

/-- All projected columns of every row, over the kernel's arguments. -/
abbrev zkSampleB (c : Dev nD) := zall (m ((c : Thread nD τ).loc main_arg0)) (m ((c : Thread nD τ).loc main_arg1)) (m ((c : Thread nD τ).loc main_arg2))

/-- Result 8 of the call is the reference's. -/
theorem final12 (c : Dev nD) : (dats m 0 c).arrAt 12 (cfgs 0).N = (show FVec Ideal Cert.SampleProjRefIdeal.S128x512 .bf16 from truncf .bf16 (extractStridedSlice Cert.SampleProjRefIdeal.S128x512 ![0, 2560] (zkSampleB m c) Cert.SampleProjRefIdeal.Gen.slices_S128x4680_S128x512_0_2560) Cert.SampleProjRefIdeal.Gen.bitsLt_bf16_f32) := by
  refine (dats m 0 c).arrAt_eq_of_covers 12 _ (by decide +kernel) fun t _ y => ?_
  have ht : t.val < 1 := lt_of_lt_of_eq t.isLt N_0
  blk_simp
  rw [after0_12]; frame_out
  have e : (((View.whole main_v11_8).slice (win0_12.rect t)).emb y : S128x512.Idx)
      = ix2 ⟨t.val * 128 + (y 0).val, by have : (y 0).val < 128 := (y 0).isLt; omega⟩ ⟨(y 1).val, (y 1).isLt⟩ := by blk_ext [idx t]
  rw [e]
  rw [show y = ix2 (⟨(y 0).val, (y 0).isLt⟩ : Fin 128) (⟨(y 1).val, (y 1).isLt⟩ : Fin 512) from by blk_ext]
  generalize hr : (⟨(y 0).val, (y 0).isLt⟩ : Fin 128) = r
  generalize hl : (⟨(y 1).val, (y 1).isLt⟩ : Fin 512) = l
  clear hr hl e y
  try rw [pay19_eq]
  try rw [pay20_eq]
  pointwise [k0_pay16, k0_pay15]
  exact seg_at m c t r _ (by omega) ⟨2560 + l.val, by omega⟩ _ rfl

/-- Result 9 of the call is the reference's. -/
theorem final13 (c : Dev nD) : (dats m 0 c).arrAt 13 (cfgs 0).N = (show FVec Ideal Cert.SampleProjRefIdeal.S128x512 .f32 from extractStridedSlice Cert.SampleProjRefIdeal.S128x512 ![0, 3072] (zkSampleB m c) Cert.SampleProjRefIdeal.Gen.slices_S128x4680_S128x512_0_3072) := by
  refine (dats m 0 c).arrAt_eq_of_covers 13 _ (by decide +kernel) fun t _ y => ?_
  have ht : t.val < 1 := lt_of_lt_of_eq t.isLt N_0
  blk_simp
  rw [after0_13]; frame_out
  have e : (((View.whole main_v11_9).slice (win0_13.rect t)).emb y : S128x512.Idx)
      = ix2 ⟨t.val * 128 + (y 0).val, by have : (y 0).val < 128 := (y 0).isLt; omega⟩ ⟨(y 1).val, (y 1).isLt⟩ := by blk_ext [idx t]
  rw [e]
  rw [show y = ix2 (⟨(y 0).val, (y 0).isLt⟩ : Fin 128) (⟨(y 1).val, (y 1).isLt⟩ : Fin 512) from by blk_ext]
  generalize hr : (⟨(y 0).val, (y 0).isLt⟩ : Fin 128) = r
  generalize hl : (⟨(y 1).val, (y 1).isLt⟩ : Fin 512) = l
  clear hr hl e y
  try rw [pay19_eq]
  try rw [pay20_eq]
  pointwise [k0_pay17]
  exact seg_at m c t r _ (by omega) ⟨3072 + l.val, by omega⟩ _ rfl

/-- Result 10 of the call is the reference's. -/
theorem final14 (c : Dev nD) : (dats m 0 c).arrAt 14 (cfgs 0).N = (show FVec Ideal Cert.SampleProjRefIdeal.S128x512 .bf16 from truncf .bf16 (extractStridedSlice Cert.SampleProjRefIdeal.S128x512 ![0, 3072] (zkSampleB m c) Cert.SampleProjRefIdeal.Gen.slices_S128x4680_S128x512_0_3072) Cert.SampleProjRefIdeal.Gen.bitsLt_bf16_f32) := by
  refine (dats m 0 c).arrAt_eq_of_covers 14 _ (by decide +kernel) fun t _ y => ?_
  have ht : t.val < 1 := lt_of_lt_of_eq t.isLt N_0
  blk_simp
  rw [after0_14]; frame_out
  have e : (((View.whole main_v11_10).slice (win0_14.rect t)).emb y : S128x512.Idx)
      = ix2 ⟨t.val * 128 + (y 0).val, by have : (y 0).val < 128 := (y 0).isLt; omega⟩ ⟨(y 1).val, (y 1).isLt⟩ := by blk_ext [idx t]
  rw [e]
  rw [show y = ix2 (⟨(y 0).val, (y 0).isLt⟩ : Fin 128) (⟨(y 1).val, (y 1).isLt⟩ : Fin 512) from by blk_ext]
  generalize hr : (⟨(y 0).val, (y 0).isLt⟩ : Fin 128) = r
  generalize hl : (⟨(y 1).val, (y 1).isLt⟩ : Fin 512) = l
  clear hr hl e y
  try rw [pay19_eq]
  try rw [pay20_eq]
  pointwise [k0_pay18, k0_pay17]
  exact seg_at m c t r _ (by omega) ⟨3072 + l.val, by omega⟩ _ rfl

/-- Result 11 of the call is the reference's. -/
theorem final15 (c : Dev nD) : (dats m 0 c).arrAt 15 (cfgs 0).N = (show FVec Ideal Cert.SampleProjRefIdeal.S128x512 .f32 from extractStridedSlice Cert.SampleProjRefIdeal.S128x512 ![0, 3584] (zkSampleB m c) Cert.SampleProjRefIdeal.Gen.slices_S128x4680_S128x512_0_3584) := by
  refine (dats m 0 c).arrAt_eq_of_covers 15 _ (by decide +kernel) fun t _ y => ?_
  have ht : t.val < 1 := lt_of_lt_of_eq t.isLt N_0
  blk_simp
  rw [after0_15]; frame_out
  have e : (((View.whole main_v11_11).slice (win0_15.rect t)).emb y : S128x512.Idx)
      = ix2 ⟨t.val * 128 + (y 0).val, by have : (y 0).val < 128 := (y 0).isLt; omega⟩ ⟨(y 1).val, (y 1).isLt⟩ := by blk_ext [idx t]
  rw [e]
  rw [show y = ix2 (⟨(y 0).val, (y 0).isLt⟩ : Fin 128) (⟨(y 1).val, (y 1).isLt⟩ : Fin 512) from by blk_ext]
  generalize hr : (⟨(y 0).val, (y 0).isLt⟩ : Fin 128) = r
  generalize hl : (⟨(y 1).val, (y 1).isLt⟩ : Fin 512) = l
  clear hr hl e y
  try rw [pay19_eq]
  try rw [pay20_eq]
  pointwise [k0_pay1]
  exact seg_at m c t r _ (by omega) ⟨3584 + l.val, by omega⟩ _ rfl

/-- Result 12 of the call is the reference's. -/
theorem final16 (c : Dev nD) : (dats m 0 c).arrAt 16 (cfgs 0).N = (show FVec Ideal Cert.SampleProjRefIdeal.S128x512 .bf16 from truncf .bf16 (mulf (extractStridedSlice Cert.SampleProjRefIdeal.S128x512 ![0, 4096] (zkSampleB m c) Cert.SampleProjRefIdeal.Gen.slices_S128x4680_S128x512_0_4096) (broadcastInDim Cert.SampleProjRefIdeal.S128x512 ![] Cert.SampleProjRefIdeal.Gen.bcast_S_S128x512 (constant Cert.SampleProjRefIdeal.S_ .f32 0x3E000000#32))) Cert.SampleProjRefIdeal.Gen.bitsLt_bf16_f32) := by
  refine (dats m 0 c).arrAt_eq_of_covers 16 _ (by decide +kernel) fun t _ y => ?_
  have ht : t.val < 1 := lt_of_lt_of_eq t.isLt N_0
  blk_simp
  rw [after0_16]; frame_out
  have e : (((View.whole main_v11_12).slice (win0_16.rect t)).emb y : S128x512.Idx)
      = ix2 ⟨t.val * 128 + (y 0).val, by have : (y 0).val < 128 := (y 0).isLt; omega⟩ ⟨(y 1).val, (y 1).isLt⟩ := by blk_ext [idx t]
  rw [e]
  rw [show y = ix2 (⟨(y 0).val, (y 0).isLt⟩ : Fin 128) (⟨(y 1).val, (y 1).isLt⟩ : Fin 512) from by blk_ext]
  generalize hr : (⟨(y 0).val, (y 0).isLt⟩ : Fin 128) = r
  generalize hl : (⟨(y 1).val, (y 1).isLt⟩ : Fin 512) = l
  clear hr hl e y
  try rw [pay19_eq]
  try rw [pay20_eq]
  pointwise [k0_pay2]
  exact Ideal.mul_congr (seg_at m c t r _ (by omega) ⟨4096 + l.val, by omega⟩ _ rfl) rfl

/-- Result 13 of the call is the reference's. -/
theorem final17 (c : Dev nD) : (dats m 0 c).arrAt 17 (cfgs 0).N = (show FVec Ideal Cert.SampleProjRefIdeal.S128x64 .f32 from (extractStridedSlice Cert.SampleProjRefIdeal.S128x64 ![0, 4608] (zkSampleB m c) Cert.SampleProjRefIdeal.Gen.slices_S128x4680_S128x64_0_4608)) := by
  refine (dats m 0 c).arrAt_eq_of_covers 17 _ (by decide +kernel) fun t _ y => ?_
  have ht : t.val < 1 := lt_of_lt_of_eq t.isLt N_0
  blk_simp
  rw [after0_17]; frame_out
  have e : (((View.whole main_v11_13).slice (win0_17.rect t)).emb y : S128x64.Idx)
      = ix2 ⟨t.val * 128 + (y 0).val, by have : (y 0).val < 128 := (y 0).isLt; omega⟩ ⟨(y 1).val, (y 1).isLt⟩ := by blk_ext [idx t]
  rw [e]
  rw [show y = ix2 (⟨(y 0).val, (y 0).isLt⟩ : Fin 128) (⟨(y 1).val, (y 1).isLt⟩ : Fin 64) from by blk_ext]
  generalize hr : (⟨(y 0).val, (y 0).isLt⟩ : Fin 128) = r
  generalize hl : (⟨(y 1).val, (y 1).isLt⟩ : Fin 64) = l
  clear hr hl e y
  try rw [pay19_eq]
  try rw [pay20_eq]
  pointwise [k0_pay4, k0_pay3]
  exact tseg_at m c t r _ (by omega) ⟨l.val, by omega⟩ (by dsimp only; omega) _ (by dsimp only; split <;> omega)

/-- Result 14 of the call is the reference's. -/
theorem final18 (c : Dev nD) : (dats m 0 c).arrAt 18 (cfgs 0).N = (show FVec Ideal Cert.SampleProjRefIdeal.S128x128 .bf16 from truncf .bf16 (concatenate Cert.SampleProjRefIdeal.S128x128 1 [⟨Cert.SampleProjRefIdeal.S128x64, (extractStridedSlice Cert.SampleProjRefIdeal.S128x64 ![0, 4608] (zkSampleB m c) Cert.SampleProjRefIdeal.Gen.slices_S128x4680_S128x64_0_4608)⟩, ⟨Cert.SampleProjRefIdeal.S128x64, (extractStridedSlice Cert.SampleProjRefIdeal.S128x64 ![0, 4608] (zkSampleB m c) Cert.SampleProjRefIdeal.Gen.slices_S128x4680_S128x64_0_4608)⟩] Cert.SampleProjRefIdeal.Gen.concatenates_S128x64_S128x64_S128x128_d1) Cert.SampleProjRefIdeal.Gen.bitsLt_bf16_f32) := by
  refine (dats m 0 c).arrAt_eq_of_covers 18 _ (by decide +kernel) fun t _ y => ?_
  have ht : t.val < 1 := lt_of_lt_of_eq t.isLt N_0
  blk_simp
  rw [after0_18]; frame_out
  have e : (((View.whole main_v11_14).slice (win0_18.rect t)).emb y : S128x128.Idx)
      = ix2 ⟨t.val * 128 + (y 0).val, by have : (y 0).val < 128 := (y 0).isLt; omega⟩ ⟨(y 1).val, (y 1).isLt⟩ := by blk_ext [idx t]
  rw [e]
  rw [show y = ix2 (⟨(y 0).val, (y 0).isLt⟩ : Fin 128) (⟨(y 1).val, (y 1).isLt⟩ : Fin 128) from by blk_ext]
  generalize hr : (⟨(y 0).val, (y 0).isLt⟩ : Fin 128) = r
  generalize hl : (⟨(y 1).val, (y 1).isLt⟩ : Fin 128) = l
  clear hr hl e y
  try rw [pay19_eq]
  try rw [pay20_eq]
  pointwise [k0_pay5, k0_pay3]
  split
  · exact tseg_at m c t r _ (by omega) ⟨l.val, by omega⟩ (by dsimp only; omega) _ (by dsimp only; split <;> omega)
  · exact tseg_at m c t r _ (by omega) ⟨l.val, by omega⟩ (by dsimp only; omega) _ (by dsimp only; split <;> omega)

/-- Result 15 of the call is the reference's. -/
theorem final19 (c : Dev nD) : (dats m 0 c).arrAt 19 (cfgs 0).N = (show FVec Ideal Cert.SampleProjRefIdeal.S128x8 .f32 from mulf (extractStridedSlice Cert.SampleProjRefIdeal.S128x8 ![0, 4672] (zkSampleB m c) Cert.SampleProjRefIdeal.Gen.slices_S128x4680_S128x8_0_4672) (broadcastInDim Cert.SampleProjRefIdeal.S128x8 ![] Cert.SampleProjRefIdeal.Gen.bcast_S_S128x8 (constant Cert.SampleProjRefIdeal.S_ .f32 0x3EB504F3#32))) := by
  refine (dats m 0 c).arrAt_eq_of_covers 19 _ (by decide +kernel) fun t _ y => ?_
  have ht : t.val < 1 := lt_of_lt_of_eq t.isLt N_0
  blk_simp
  rw [after0_19]; frame_out
  have e : (((View.whole main_v11_15).slice (win0_19.rect t)).emb y : S128x8.Idx)
      = ix2 ⟨t.val * 128 + (y 0).val, by have : (y 0).val < 128 := (y 0).isLt; omega⟩ ⟨(y 1).val, (y 1).isLt⟩ := by blk_ext [idx t]
  rw [e]
  rw [show y = ix2 (⟨(y 0).val, (y 0).isLt⟩ : Fin 128) (⟨(y 1).val, (y 1).isLt⟩ : Fin 8) from by blk_ext]
  generalize hr : (⟨(y 0).val, (y 0).isLt⟩ : Fin 128) = r
  generalize hl : (⟨(y 1).val, (y 1).isLt⟩ : Fin 8) = l
  clear hr hl e y
  try rw [pay19_eq]
  try rw [pay20_eq]
  pointwise [k0_pay6, k0_pay3]
  exact Ideal.mul_congr (tseg_at m c t r _ (by omega) ⟨128 + l.val, by omega⟩ (by dsimp only; omega) _ (by dsimp only; split <;> omega)) rfl

end Cert.SampleProjIdeal.Value

end
-- ==== Proof.SampleProjClaim.lean ====
/- The sample's input projection: kernel and reference end with equal results. -/
module

public import proofs.«01_k».proof.Defs
public import proofs.«01_k».proof.Proof.SampleProjA
public import proofs.«01_k».proof.Proof.SampleProjB
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof

set_option maxHeartbeats 1600000 in
/-- On equal arguments the projection kernel's sixteen results are the reference's. -/
theorem sampleProj : @Cert.algebraic_SampleProjIdeal_SampleProjRefIdeal Cert.SampleProjIdeal.Gen.facts Cert.SampleProjRefIdeal.Gen.facts := by
  pair_intro
  · run_from Cert.SampleProjIdeal.Value.run_blocks m g
  · run_from Cert.SampleProjRefIdeal.Value.run m' g'
    · exact (Cert.SampleProjIdeal.Value.final4 m c).symm
    · exact (Cert.SampleProjIdeal.Value.final5 m c).symm
    · exact (Cert.SampleProjIdeal.Value.final6 m c).symm
    · exact (Cert.SampleProjIdeal.Value.final7 m c).symm
    · exact (Cert.SampleProjIdeal.Value.final8 m c).symm
    · exact (Cert.SampleProjIdeal.Value.final9 m c).symm
    · exact (Cert.SampleProjIdeal.Value.final10 m c).symm
    · exact (Cert.SampleProjIdeal.Value.final11 m c).symm
    · exact (Cert.SampleProjIdeal.Value.final12 m c).symm
    · exact (Cert.SampleProjIdeal.Value.final13 m c).symm
    · exact (Cert.SampleProjIdeal.Value.final14 m c).symm
    · exact (Cert.SampleProjIdeal.Value.final15 m c).symm
    · exact (Cert.SampleProjIdeal.Value.final16 m c).symm
    · exact (Cert.SampleProjIdeal.Value.final17 m c).symm
    · have h2 := (hagree c).2.2
      rw [h2]
      exact (Cert.SampleProjIdeal.Value.final18 m c).symm
    · exact (Cert.SampleProjIdeal.Value.final19 m c).symm

end Cert.Proof

end
-- ==== Proof.SampleResidRef.lean ====
/- What the sample's residual update's reference computes, row by row. -/
module

public import proofs.«01_k».proof.Proof.Gen.SampleResidRefIdeal.Run
public import proofs.«01_k».proof.Proof.ResidSpec

@[expose] public section

set_option maxRecDepth 16384

noncomputable section

open Idealize.ShloMosaic Idealize.ShloMosaic.TcCoe Idealize.SL.Sem

namespace Cert.SampleResidRefIdeal.Value

open Cert.SampleResidRefIdeal Cert.SampleResidRefIdeal.Gen ResidRow

/-- `a · silu(d)` on rows, as the reference writes it. -/
def gated (a d : FVec Ideal S128x512 .f32) : FVec Ideal S128x1x512 .f32 :=
  mulf (shapeCast _ a shapeCasts_S128x512_S128x1x512) (mulf (shapeCast _ d shapeCasts_S128x512_S128x1x512) (Host.divf (broadcastInDim S128x1x512 ![] bcast_S_S128x1x512 (constant S_ .f32 0x3F800000#32)) (addf (broadcastInDim S128x1x512 ![] bcast_S_S128x1x512 (constant S_ .f32 0x3F800000#32)) (Host.exp (Host.negf (shapeCast _ d shapeCasts_S128x512_S128x1x512))))))

/-- The stream after the output projection. -/
def hid (x : FVec Ideal S128x1x1024 .f32) (a b d e : FVec Ideal S128x512 .f32) (wo : FVec Ideal S1x1024x1024 .f32) : FVec Ideal S128x1x1024 .f32 :=
  addf x (Host.dotGeneral dot_S128x1x1024_S1024x1024_S128x1x1024_2_0_01_1_n_n none (concatenate S128x1x1024 2 [⟨S128x1x512, gated a d⟩, ⟨S128x1x512, gated b e⟩] concatenates_S128x1x512_S128x1x512_S128x1x1024_d2) (shapeCast _ wo shapeCasts_S1x1024x1024_S1024x1024))

/-- The root-mean-square normalisation without its scale. -/
def nrm (h : FVec Ideal S128x1x1024 .f32) : FVec Ideal S128x1x1024 .f32 :=
  mulf h (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf h h) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))

/-- The stream after the gated projection. -/
def upd (h : FVec Ideal S128x1x1024 .f32) (p : FVec Ideal S1x128x1x256 .f32) (gp : FVec Ideal S1x1024 .f32) (wg : FVec Ideal S1x1024x1024 .f32)
    (wp : FVec Ideal S1x256x1024 .f32) : FVec Ideal S128x1x1024 .f32 :=
  addf h (mulf (Host.divf (broadcastInDim S128x1x1024 ![] bcast_S_S128x1x1024 (constant S_ .f32 0x3F800000#32)) (addf (broadcastInDim S128x1x1024 ![] bcast_S_S128x1x1024 (constant S_ .f32 0x3F800000#32)) (Host.exp (Host.negf (Host.dotGeneral dot_S128x1x1024_S1024x1024_S128x1x1024_2_0_01_1_n_n none (mulf (nrm h) (broadcastInDim S128x1x1024 ![0, 1, 2] bcast_S1x1x1024_S128x1x1024_0_1_2 (broadcastInDim S1x1x1024 ![2] bcast_S1024_S1x1x1024_2 (shapeCast _ gp shapeCasts_S1x1024_S1024)))) (shapeCast _ wg shapeCasts_S1x1024x1024_S1024x1024)))))) (Host.dotGeneral dot_S128x1x256_S256x1024_S128x1x1024_2_0_01_1_n_n none (shapeCast _ p shapeCasts_S1x128x1x256_S128x1x256) (shapeCast _ wp shapeCasts_S1x256x1024_S256x1024)))

/-- The normalised stream as rows: the reference's result. -/
def fin (h : FVec Ideal S128x1x1024 .f32) (g : FVec Ideal S1024 .f32) : FVec Ideal S128x1024 .f32 :=
  shapeCast _ (mulf (nrm h) (broadcastInDim S128x1x1024 ![0, 1, 2] bcast_S1x1x1024_S128x1x1024_0_1_2 (broadcastInDim S1x1x1024 ![2] bcast_S1024_S1x1x1024_2 g))) shapeCasts_S128x1x1024_S128x1024

/-- The reference's result is the composition of the four steps above. -/
theorem res_eq (m : (ℓ : Loc nD τ sig) → Buf (Elt Ideal) ℓ) (c : Dev nD) : res_out0 m c
    = fin (upd (hid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)))
        (m ((c.tc : Thread nD τ).loc main_arg5)) (m ((c.tc : Thread nD τ).loc main_arg7)) (m ((c.tc : Thread nD τ).loc main_arg8)) (m ((c.tc : Thread nD τ).loc main_arg9)))
        (m ((c.tc : Thread nD τ).loc main_arg10)) := by
  unfold res_out0 res_main_v52 fin upd hid nrm gated
  rfl

theorem gated_at (a d : FVec Ideal S128x512 .f32) (b : Fin 128) (k : Fin 512) :
    gated a d (ix3 b 0 k) = a (ix2 b k) * (d (ix2 b k) * sigm (d (ix2 b k))) := by
  pointwise [gated]
  simp only [sigm]

theorem hid_at (x : FVec Ideal S128x1x1024 .f32) (a b d e : FVec Ideal S128x512 .f32) (wo : FVec Ideal S1x1024x1024 .f32)
    (i : Fin 128) (l : Fin 1024) :
    hid x a b d e wo (ix3 i 0 l) = h1 (fun l => x (ix3 i 0 l)) (fun k => gated a d (ix3 i 0 k)) (fun k => gated b e (ix3 i 0 k)) (fun k l => wo (ix3 0 k l)) l := by
  pointwise [hid]
  simp only [h1, add_assoc]

theorem nrm_at (h : FVec Ideal S128x1x1024 .f32) (g : Fin 1024 → EReal) (i : Fin 128) (l : Fin 1024) :
    nrm h (ix3 i 0 l) * g l = rms (fun l => h (ix3 i 0 l)) g l := by
  pointwise [nrm]
  simp only [rms]

theorem upd_at (h : FVec Ideal S128x1x1024 .f32) (p : FVec Ideal S1x128x1x256 .f32) (gp : FVec Ideal S1x1024 .f32) (wg : FVec Ideal S1x1024x1024 .f32)
    (wp : FVec Ideal S1x256x1024 .f32) (i : Fin 128) (l : Fin 1024) :
    upd h p gp wg wp (ix3 i 0 l) = h2 (fun l => h (ix3 i 0 l)) (fun k => p (ix4 0 i 0 k)) (fun l => gp (ix2 0 l)) (fun k l => wg (ix3 0 k l)) (fun k l => wp (ix3 0 k l)) l := by
  pointwise [upd]
  simp only [h2, sigm, ← nrm_at]

theorem fin_at (h : FVec Ideal S128x1x1024 .f32) (g : FVec Ideal S1024 .f32) (r : Fin 128) (l : Fin 1024) :
    fin h g (ix2 r l) = rms (fun l => h (ix3 r 0 l)) (fun l => g (ix1 l)) l := by
  rw [← nrm_at]
  pointwise [fin]

end Cert.SampleResidRefIdeal.Value

end
-- ==== Proof.SampleResidValue.lean ====
/- The sample's residual update: the kernel's result array is the reference's result of the same arguments. -/
module

public import proofs.«01_k».proof.Proof.Gen.SampleResidIdeal.Value
public import proofs.«01_k».proof.Proof.SampleResidRef
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SampleResidIdeal.Value

open Cert.SampleResidIdeal Cert.SampleResidIdeal.Gen ResidRow

variable (m : (ℓ : Loc nD τ sig) → Buf (Elt Ideal) ℓ)

/-- The first payload at row `r`, lane `l`: the row after the output projection. -/
theorem pay1_at (v0 v1 v10 v11 : FVec Ideal S128x512 .f32) (v20 : FVec Ideal S128x1024 .f32) (v22 v26 : FVec Ideal S512x1024 .bf16)
    (wo : Fin 1024 → Fin 1024 → EReal) (h22 : ∀ (k : Fin 512) (l : Fin 1024), v22 (ix2 k l) = wo ⟨k, by omega⟩ l)
    (h26 : ∀ (k : Fin 512) (l : Fin 1024), v26 (ix2 k l) = wo ⟨512 + k, by omega⟩ l) (r : Fin 128) (l : Fin 1024) :
    k0_pay1 (F := Ideal) v0 v1 v10 v11 v20 v22 v26 (ix2 r l)
      = h1 (fun l => v20 (ix2 r l)) (fun k => v0 (ix2 r k) * (v1 (ix2 r k) * sigm (v1 (ix2 r k))))
          (fun k => v10 (ix2 r k) * (v11 (ix2 r k) * sigm (v11 (ix2 r k)))) wo l := by
  pointwise [k0_pay1]
  simp only [h1, h22, h26, ← silu_eq, zero_sub, sub_eq_add_neg, zero_add]

/-- The stored payload at row `r`, lane `l`. -/
theorem pay4_at (v29 : FVec Ideal S128x1024 .f32) (v31 : FVec Ideal S1x1024 .f32) (v34 : FVec Ideal S128x1 .f32)
    (v45 : FVec Ideal S1024x1024 .bf16) (v55 : FVec Ideal S128x256 .f32) (v58 : FVec Ideal S256x1024 .bf16) (v63 : FVec Ideal S1x1024 .f32)
    (r : Fin 128) (h34 : v34 (ix2 r 0) = ∑ k : Fin 1024, v29 (ix2 r k) * v29 (ix2 r k)) (l : Fin 1024) :
    k0_pay4 (F := Ideal) v29 v31 v34 (Scalar.ofBits .f32 0x44800000#32) v45 v55 v58 v63 (ix2 r l)
      = rms (h2 (fun l => v29 (ix2 r l)) (fun k => v55 (ix2 r k)) (fun l => v31 (ix2 0 l)) (fun k l => v45 (ix2 k l)) (fun k l => v58 (ix2 k l)))
          (fun l => v63 (ix2 0 l)) l := by
  pointwise [k0_pay4]
  simp only [rms, h2, sigm, h34, zero_sub, sub_eq_add_neg, zero_add]

/-- The windows' block indices at every grid point: the row windows move with the point, the weights stay. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![0, 0] ∧ win0_7.index t = ![0, 0] ∧ win0_8.index t = ![0, 0] ∧ win0_9.index t = ![0, 0]
    ∧ win0_10.index t = ![0, 0] ∧ win0_11.index t = ![t.val, 0] :=
  (by decide +kernel : ∀ t : Fin grid0.N, _)

/-- The reference's result over the kernel's argument arrays. -/
abbrev goal (c : Dev nD) : FVec Ideal S128x1024 .f32 :=
  Cert.SampleResidRefIdeal.Value.fin (Cert.SampleResidRefIdeal.Value.upd (Cert.SampleResidRefIdeal.Value.hid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)))
        (m ((c : Thread nD τ).loc main_arg5)) (m ((c : Thread nD τ).loc main_arg7)) (m ((c : Thread nD τ).loc main_arg8)) (m ((c : Thread nD τ).loc main_arg9)))
        (m ((c : Thread nD τ).loc main_arg10))

/-- One row of one block: when the staged blocks hold row `R` of the row arrays and the whole weights, the body's stored
    payload at (`r`, `l`) is the reference's result at (`R`, `l`). -/
theorem core (b0 : FVec Ideal S128x1024 .f32) (b1 b2 b3 b4 : FVec Ideal S128x512 .f32) (b5 : FVec Ideal S128x256 .f32)
    (w1 w2 : FVec Ideal S512x1024 .bf16) (b7 : FVec Ideal S1x1024 .f32) (b8 : FVec Ideal S1024x1024 .bf16) (b9 : FVec Ideal S256x1024 .bf16) (b10 : FVec Ideal S1x1024 .f32)
    (X : FVec Ideal S128x1x1024 .f32) (A1 A2 A3 A4 : FVec Ideal S128x512 .f32) (P : FVec Ideal S1x128x1x256 .f32)
    (W : FVec Ideal S1x1024x1024 .f32) (G : FVec Ideal S1x1024 .f32) (Wg : FVec Ideal S1x1024x1024 .f32) (Wp : FVec Ideal S1x256x1024 .f32)
    (Gf : FVec Ideal S1024 .f32) (R : Fin 128) (r : Fin 128)
    (h0 : ∀ l : Fin 1024, b0 (ix2 r l) = X (ix3 R 0 l))
    (h1' : ∀ k : Fin 512, b1 (ix2 r k) = A1 (ix2 R k)) (h2' : ∀ k : Fin 512, b2 (ix2 r k) = A2 (ix2 R k))
    (h3 : ∀ k : Fin 512, b3 (ix2 r k) = A3 (ix2 R k)) (h4 : ∀ k : Fin 512, b4 (ix2 r k) = A4 (ix2 R k))
    (h5 : ∀ k : Fin 256, b5 (ix2 r k) = P (ix4 0 R 0 k))
    (hw1 : ∀ (k : Fin 512) (l : Fin 1024), w1 (ix2 k l) = W (ix3 0 ⟨k, by omega⟩ l))
    (hw2 : ∀ (k : Fin 512) (l : Fin 1024), w2 (ix2 k l) = W (ix3 0 ⟨512 + k, by omega⟩ l))
    (h7 : ∀ l : Fin 1024, b7 (ix2 0 l) = G (ix2 0 l)) (h8 : ∀ k l : Fin 1024, b8 (ix2 k l) = Wg (ix3 0 k l))
    (h9 : ∀ (k : Fin 256) (l : Fin 1024), b9 (ix2 k l) = Wp (ix3 0 k l)) (h10 : ∀ l : Fin 1024, b10 (ix2 0 l) = Gf (ix1 l))
    (l : Fin 1024) :
    k0_pay4 (F := Ideal) (k0_pay1 b1 b3 b2 b4 b0 w1 w2) (k0_pay2 b7) (k0_pay3 b1 b3 b2 b4 b0 w1 w2) (FloatOps.ofBits .f32 0x44800000#32) b8 b5 b9 b10 (ix2 r l)
      = Cert.SampleResidRefIdeal.Value.fin (Cert.SampleResidRefIdeal.Value.upd (Cert.SampleResidRefIdeal.Value.hid X A1 A2 A3 A4 W) P G Wg Wp) Gf (ix2 R l) := by
  refine (pay4_at _ _ _ b8 b5 b9 b10 r (by pointwise [k0_pay3]) l).trans ?_
  refine Eq.trans ?_ (Cert.SampleResidRefIdeal.Value.fin_at _ Gf R l).symm
  have e7 : ∀ l : Fin 1024, k0_pay2 (F := Ideal) b7 (ix2 0 l) = G (ix2 0 l) := fun l => by pointwise [k0_pay2]; exact h7 l
  have eh : ∀ l : Fin 1024, k0_pay1 (F := Ideal) b1 b3 b2 b4 b0 w1 w2 (ix2 r l)
      = Cert.SampleResidRefIdeal.Value.hid X A1 A2 A3 A4 W (ix3 R 0 l) := fun l => by
    refine (pay1_at b1 b3 b2 b4 b0 w1 w2 (fun k l => W (ix3 0 k l)) hw1 hw2 r l).trans ?_
    refine Eq.trans ?_ (Cert.SampleResidRefIdeal.Value.hid_at ..).symm
    simp only [h0, h1', h2', h3, h4, Cert.SampleResidRefIdeal.Value.gated_at]
  simp only [Cert.SampleResidRefIdeal.Value.upd_at, e7, eh, h5, h8, h9, h10]

/-- The staged output weights are the whole weight argument. -/
theorem wout_at (c : Dev nD) (t : Fin cfg0.N) (k l : Fin 1024) :
    (show FVec Ideal S1024x1024 .bf16 from iblk m c 6 t) (ix2 k l) = m ((c : Thread nD τ).loc main_arg6) (ix3 0 k l) := by
  blk_point [iblk, V, idx t]

/-- The result array after the run is the reference's result. -/
theorem final (c : Dev nD) : (dats m 0 c).arrAt 11 (cfgs 0).N = goal m c := by
  refine (dats m 0 c).arrAt_eq_of_covers 11 _ (by decide +kernel) fun t _ y => ?_
  have ht : t.val < 1 := lt_of_lt_of_eq t.isLt N_0
  blk_simp
  rw [after0_11]; frame_out
  have e : (((View.whole main_v12).slice (win0_11.rect t)).emb y : S128x1024.Idx)
      = ix2 ⟨t.val * 128 + (y 0).val, by have : (y 0).val < 128 := (y 0).isLt; omega⟩ ⟨(y 1).val, (y 1).isLt⟩ := by
    blk_ext [idx t]
  rw [e]
  rw [show y = ix2 (⟨(y 0).val, (y 0).isLt⟩ : Fin 128) (⟨(y 1).val, (y 1).isLt⟩ : Fin 1024) from by blk_ext]
  refine core (iblk m c 0 t) (iblk m c 1 t) (iblk m c 2 t) (iblk m c 3 t) (iblk m c 4 t) (iblk m c 5 t) _ _ (iblk m c 7 t) (iblk m c 8 t) (iblk m c 9 t) (iblk m c 10 t)
    _ _ _ _ _ _ _ _ _ _ _ _ _ ?_ ?_ ?_ ?_ ?_ ?_ ?_ ?_ ?_ ?_ ?_ ?_ _
  all_goals intros
  case refine_7 => pointwise; refine Eq.trans ?_ (wout_at m c t _ _); rfl
  case refine_8 => pointwise; refine Eq.trans ?_ (wout_at m c t _ _); rfl
  all_goals blk_point [iblk, V, idx t]

end Cert.SampleResidIdeal.Value

end
-- ==== Proof.SampleResidClaim.lean ====
/- The sample's residual update: kernel and reference end with equal results. -/
module

public import proofs.«01_k».proof.Defs
public import proofs.«01_k».proof.Proof.SampleResidValue
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof

set_option maxHeartbeats 1600000 in
/-- On equal arguments the residual kernel's result is the reference's. -/
theorem sampleResid : @Cert.algebraic_SampleResidIdeal_SampleResidRefIdeal Cert.SampleResidIdeal.Gen.facts Cert.SampleResidRefIdeal.Gen.facts := by
  pair_intro
  · run_from Cert.SampleResidIdeal.Value.run_blocks m g
  · run_from Cert.SampleResidRefIdeal.Value.run m' g'
    obtain ⟨h0, h1, h2, h3, h4, h5, h6, h7, h8, h9, h10⟩ := hagree c
    refine Eq.trans ?_ (Cert.SampleResidIdeal.Value.final m c).symm
    refine (Cert.SampleResidRefIdeal.Value.res_eq m' c).trans ?_
    rw [h0, h1, h2, h3, h4, h5, h6, h7, h8, h9, h10]

end Cert.Proof

end
-- ==== Proof.SampleIdxRow.lean ====
/- The sample's index scores: one stored block of scores, score by score. -/
module

public import proofs.«01_k».proof.Proof.Gen.SampleIdxIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.SampleIdxIdeal.Value

open Cert.SampleIdxIdeal Cert.SampleIdxIdeal.Gen

/-- The score of one key under eight query heads: each head's product with the key, cut at zero, times its weight, summed. -/
def score (q : Fin 8 → Fin 64 → EReal) (w : Fin 8 → EReal) (k : Fin 64 → EReal) : EReal :=
  ∑ h : Fin 8, w h * max (∑ d : Fin 64, q h d * k d) 0

/-- The padded queries: the eight heads, then eight rows of zeros. -/
theorem pay3_lo (x : FVec Ideal S1x8x64 .bf16) (h : Fin 8) (d : Fin 64) :
    k0_pay3 (F := Ideal) x (ix2 (⟨h, by omega⟩ : Fin 16) d) = x (ix3 0 h d) := by
  pointwise [k0_pay3]

theorem pay4_lo (x : FVec Ideal S1x8x1 .f32) (h : Fin 8) :
    k0_pay4 (F := Ideal) x (ix2 (⟨h, by omega⟩ : Fin 16) 0) = x (ix3 0 h 0) := by
  pointwise [k0_pay4]

theorem pay4_hi (x : FVec Ideal S1x8x1 .f32) (h : Fin 8) :
    k0_pay4 (F := Ideal) x (ix2 (⟨8 + h, by omega⟩ : Fin 16) 0) = 0 := by
  pointwise [k0_pay4]

theorem pay8_at (a : FVec Ideal S16x64 .bf16) (b : FVec Ideal S16x1 .f32) (k : FVec Ideal S1x1x128x64 .f32) (l : Fin 128) :
    k0_pay8 (F := Ideal) a b k (ix3 0 0 l) = ∑ h : Fin 16, b (ix2 h 0) * max (∑ d : Fin 64, a (ix2 h d) * k (ix4 0 0 l d)) 0 := by
  pointwise [k0_pay8]

/-- A stored block of scores: every key of the page under the eight heads; the eight rows of zeros add nothing. -/
theorem pay_at (x : FVec Ideal S1x8x64 .bf16) (w : FVec Ideal S1x8x1 .f32) (k : FVec Ideal S1x1x128x64 .f32) (l : Fin 128) :
    k0_pay8 (F := Ideal) (k0_pay3 x) (k0_pay4 w) k (ix3 0 0 l)
      = score (fun h d => x (ix3 0 h d)) (fun h => w (ix3 0 h 0)) (fun d => k (ix4 0 0 l d)) := by
  rw [pay8_at]
  refine (Fin.sum_univ_add (a := 8) (b := 8) _).trans ?_
  refine (congrArg₂ (· + ·) (Finset.sum_congr rfl fun h _ => ?_) (Finset.sum_eq_zero fun h _ => ?_)).trans (add_zero (score _ _ _))
  · exact congrArg₂ (fun a b => a * max b 0) (pay4_lo w h) (Finset.sum_congr rfl fun d _ => congrArg (· * _) (pay3_lo x h d))
  · exact (congrArg (· * _) (pay4_hi w h)).trans (zero_mul _)

theorem emb_page (o : Nat) (ho : o + 128 ≤ 1024) (inb : ∀ a, (![0, 0, o] : Fin 3 → Nat) a + S1x1x128.size a ≤ S1x1x1024.size a) (l : Fin 128) :
    (Rect.unit (s := S1x1x1024) ![0, 0, o] S1x1x128.size inb).emb (ix3 0 0 l) = ix3 0 0 ⟨o + l.val, by omega⟩ := by
  funext a
  fin_cases a <;> exact Fin.ext (by simp [Rect.emb, Rect.unit])

/-- One store of a page's scores agrees with `G` on its lanes. -/
theorem piece (P : S1x1x128.Idx → Elt Ideal .f32) (G : S1x1x1024.Idx → Elt Ideal .f32) (o : Nat) (ho : o + 128 ≤ 1024) (inb)
    (h : ∀ l : Fin 128, P (ix3 0 0 l) = G (ix3 0 0 ⟨o + l.val, by omega⟩)) (x : S1x1x128.Idx) :
    P x = G ((Rect.unit (s := S1x1x1024) ![0, 0, o] S1x1x128.size inb).emb x) := by
  obtain ⟨l, rfl⟩ : ∃ l : Fin 128, x = ix3 0 0 l := ⟨x 2, by funext a; fin_cases a <;> first | rfl | exact Subsingleton.elim (α := Fin 1) _ _⟩
  exact (h l).trans (congrArg G (emb_page o ho inb l).symm)

/-- Eight stores, one per page, read back: each lane reads its page's payload. -/
theorem canon8 (P : Fin 8 → S1x1x128.Idx → Elt Ideal .f32) (G : S1x1x1024.Idx → Elt Ideal .f32) (i0 i1 i2 i3 i4 i5 i6 i7)
    (h : ∀ (r : Fin 8) (l : Fin 128), P r (ix3 0 0 l) = G (ix3 0 0 ⟨r.val * 128 + l.val, by omega⟩)) (y : S1x1x1024.Idx)
    (hy : ∃ pc ∈ ([⟨Rect.unit ![0, 0, 896] S1x1x128.size i7, P 7⟩, ⟨Rect.unit ![0, 0, 768] S1x1x128.size i6, P 6⟩, ⟨Rect.unit ![0, 0, 640] S1x1x128.size i5, P 5⟩, ⟨Rect.unit ![0, 0, 512] S1x1x128.size i4, P 4⟩, ⟨Rect.unit ![0, 0, 384] S1x1x128.size i3, P 3⟩, ⟨Rect.unit ![0, 0, 256] S1x1x128.size i2, P 2⟩, ⟨Rect.unit ![0, 0, 128] S1x1x128.size i1, P 1⟩, ⟨Rect.unit ![0, 0, 0] S1x1x128.size i0, P 0⟩] : List (View.Piece (Elt Ideal) S1x1x1024 .f32)), y ∈ pc.1.set) :
    View.canon (Val := Elt Ideal) (s := S1x1x1024) (e := .f32) [⟨Rect.unit ![0, 0, 896] S1x1x128.size i7, P 7⟩, ⟨Rect.unit ![0, 0, 768] S1x1x128.size i6, P 6⟩, ⟨Rect.unit ![0, 0, 640] S1x1x128.size i5, P 5⟩, ⟨Rect.unit ![0, 0, 512] S1x1x128.size i4, P 4⟩, ⟨Rect.unit ![0, 0, 384] S1x1x128.size i3, P 3⟩, ⟨Rect.unit ![0, 0, 256] S1x1x128.size i2, P 2⟩, ⟨Rect.unit ![0, 0, 128] S1x1x128.size i1, P 1⟩, ⟨Rect.unit ![0, 0, 0] S1x1x128.size i0, P 0⟩] y = G y := by
  refine View.canon_apply_of_pieces G _ ?_ y hy
  intro p hp
  simp only [List.mem_cons, List.not_mem_nil, or_false] at hp
  rcases hp with rfl | rfl | rfl | rfl | rfl | rfl | rfl | rfl
  · exact piece _ G 896 (by decide) i7 (h 7)
  · exact piece _ G 768 (by decide) i6 (h 6)
  · exact piece _ G 640 (by decide) i5 (h 5)
  · exact piece _ G 512 (by decide) i4 (h 4)
  · exact piece _ G 384 (by decide) i3 (h 3)
  · exact piece _ G 256 (by decide) i2 (h 2)
  · exact piece _ G 128 (by decide) i1 (h 1)
  · exact piece _ G 0 (by decide) i0 (h 0)

/-- What the body leaves in its block: every key of its eight pages under the eight heads. -/
theorem out_at (c : Dev nD) (i : grid0.Coords) (arg3 harg3 arg4 harg4 arg5 harg5 arg6 harg6 arg7 harg7 arg8 harg8 arg9 harg9 arg10 harg10 arg11 harg11 arg12 harg12 arg13 harg13)
    (x0 : FVec Ideal S1x8x64 .bf16) (x1 : FVec Ideal S1x8x1 .f32) (x2 x3 x4 x5 x6 x7 x8 x9 : FVec Ideal S1x1x128x64 .f32) (xt0) (G : S1x1x1024.Idx → Elt Ideal .f32)
    (h : ∀ (r : Fin 8) (l : Fin 128), score (fun h d => x0 (ix3 0 h d)) (fun h => x1 (ix3 0 h 0)) (fun d => (![x2, x3, x4, x5, x6, x7, x8, x9] : Fin 8 → FVec Ideal S1x1x128x64 .f32) r (ix4 0 0 l d))
      = G (ix3 0 0 ⟨r.val * 128 + l.val, by omega⟩)) (y : S1x1x1024.Idx) :
    out0_A_10 (F := Ideal) c i arg3 harg3 arg4 harg4 arg5 harg5 arg6 harg6 arg7 harg7 arg8 harg8 arg9 harg9 arg10 harg10 arg11 harg11 arg12 harg12 arg13 harg13 x0 x1 x2 x3 x4 x5 x6 x7 x8 x9 xt0 y = G y := by
  have hcov := cover0_A_10 (F := Ideal) c i arg3 harg3 arg4 harg4 arg5 harg5 arg6 harg6 arg7 harg7 arg8 harg8 arg9 harg9 arg10 harg10 arg11 harg11 arg12 harg12 arg13 harg13 x0 x1 x2 x3 x4 x5 x6 x7 x8 x9 xt0
  unfold out0_A_10
  rw [View.read_writes_eq_canon _ _ _ hcov]
  have hy := hcov y
  clear hcov
  revert hy
  unfold kernelRun0_A
  dsimp only
  have hz4 : (![0, 0, 0, 0] : Fin 4 → Nat) = fun _ => 0 := by decide
  have hz3 : (![0, 0, 0] : Fin 3 → Nat) = fun _ => 0 := by decide
  sl_unfold_words
  simp only [↓View.readCov, ↓View.readAt_eq_ld, ↓View.ld_unit_zero (S := S1x1x128x64) hz4, ↓View.ld_unit_zero (S := S1x8x64) hz3, ↓View.ld_unit_zero (S := S1x8x1) hz3, harg3.read_unread, harg4.read_unread, harg5.read_unread, harg6.read_unread, harg7.read_unread, harg8.read_unread, harg9.read_unread, harg10.read_unread, harg11.read_unread, harg12.read_unread]
  intro hy
  refine canon8 (fun r => k0_pay8 (F := Ideal) (k0_pay3 x0) (k0_pay4 x1) ((![x2, x3, x4, x5, x6, x7, x8, x9] : Fin 8 → FVec Ideal S1x1x128x64 .f32) r)) G _ _ _ _ _ _ _ _ (fun r l => (pay_at x0 x1 _ l).trans (h r l)) y hy

end Cert.SampleIdxIdeal.Value

end
-- ==== Proof.SampleIdxBlock.lean ====
/- The sample's index scores: what each window of the kernel stages at each grid point. -/
module

public import proofs.«01_k».proof.Proof.SampleIdxRow
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SampleIdxIdeal.Value

open Cert.SampleIdxIdeal Cert.SampleIdxIdeal.Gen

variable (m : (ℓ : Loc nD τ sig) → Buf (Elt Ideal) ℓ)

/-- The grid point of a step: the sequence, then the group of eight pages. -/
theorem coords : ∀ t : Fin grid0.N, (grid0.coords t 0).val = t.val / 8 ∧ (grid0.coords t 1).val = t.val % 8 := by decide +kernel

theorem lt0 (i : grid0.Coords) : (i 0).val < 128 := (i 0).isLt
theorem lt1 (i : grid0.Coords) : (i 1).val < 8 := (i 1).isLt

/-- The page table's entry that page `r` of a step's group reads. -/
def pidx (i : grid0.Coords) (r : Fin 8) : S128x64.Idx := ix2 ⟨(i 0).val, lt0 i⟩ ⟨(i 1).val * 8 + r.val, by have := lt1 i; omega⟩

theorem word_idx (i : grid0.Coords) (r : Fin 8) (inb) (x : S1x1.Idx) :
    (Rect.unit (s := S128x64) ![(Scalar.indexCast (BitVec.ofNat 32 (i 0).val) : BitVec 32).toNat, (Scalar.indexCast (Scalar.addi (Scalar.muli (BitVec.ofNat 32 (i 1).val) 8#32) (BitVec.ofNat 32 r.val)) : BitVec 32).toNat] S1x1.size inb).emb x = pidx i r := by
  have e0 : ∀ j : Fin 128, (Scalar.indexCast (BitVec.ofNat 32 j.val) : BitVec 32).toNat = j.val := by decide +kernel
  have e1 : ∀ (j r : Fin 8), (Scalar.indexCast (Scalar.addi (Scalar.muli (BitVec.ofNat 32 j.val) 8#32) (BitVec.ofNat 32 r.val)) : BitVec 32).toNat = j.val * 8 + r.val := by decide +kernel
  have x0 : (x 0).val = 0 := by have : (x 0).val < 1 := (x 0).isLt; omega
  have x1 : (x 1).val = 0 := by have : (x 1).val < 1 := (x 1).isLt; omega
  funext a
  fin_cases a
  · refine Fin.ext ?_
    show (Scalar.indexCast (BitVec.ofNat 32 (i 0).val) : BitVec 32).toNat + 1 * (x 0).val = (i 0).val
    rw [x0]; exact e0 ⟨_, lt0 i⟩
  · refine Fin.ext ?_
    show (Scalar.indexCast (Scalar.addi (Scalar.muli (BitVec.ofNat 32 (i 1).val) 8#32) (BitVec.ofNat 32 r.val)) : BitVec 32).toNat + 1 * (x 1).val = (i 1).val * 8 + r.val
    rw [x1]; exact e1 ⟨_, lt1 i⟩ r

theorem tr2 (pf : pre0.Contents (Elt Ideal)) (i : grid0.Coords) : cc0_transform_2 k0_off1_inb numel1_S1x1 pf i 1 = ((show IVec S128x64 32 from pf 0) (pidx i 0)).toNat :=
  congrArg (fun x => ((show IVec S128x64 32 from pf 0) x).toNat) (word_idx i 0 _ _)
theorem tr3 (pf : pre0.Contents (Elt Ideal)) (i : grid0.Coords) : cc0_transform_3 k0_off1_inb numel1_S1x1 pf i 1 = ((show IVec S128x64 32 from pf 0) (pidx i 1)).toNat :=
  congrArg (fun x => ((show IVec S128x64 32 from pf 0) x).toNat) (word_idx i 1 _ _)
theorem tr4 (pf : pre0.Contents (Elt Ideal)) (i : grid0.Coords) : cc0_transform_4 k0_off1_inb numel1_S1x1 pf i 1 = ((show IVec S128x64 32 from pf 0) (pidx i 2)).toNat :=
  congrArg (fun x => ((show IVec S128x64 32 from pf 0) x).toNat) (word_idx i 2 _ _)
theorem tr5 (pf : pre0.Contents (Elt Ideal)) (i : grid0.Coords) : cc0_transform_5 k0_off1_inb numel1_S1x1 pf i 1 = ((show IVec S128x64 32 from pf 0) (pidx i 3)).toNat :=
  congrArg (fun x => ((show IVec S128x64 32 from pf 0) x).toNat) (word_idx i 3 _ _)
theorem tr6 (pf : pre0.Contents (Elt Ideal)) (i : grid0.Coords) : cc0_transform_6 k0_off1_inb numel1_S1x1 pf i 1 = ((show IVec S128x64 32 from pf 0) (pidx i 4)).toNat :=
  congrArg (fun x => ((show IVec S128x64 32 from pf 0) x).toNat) (word_idx i 4 _ _)
theorem tr7 (pf : pre0.Contents (Elt Ideal)) (i : grid0.Coords) : cc0_transform_7 k0_off1_inb numel1_S1x1 pf i 1 = ((show IVec S128x64 32 from pf 0) (pidx i 5)).toNat :=
  congrArg (fun x => ((show IVec S128x64 32 from pf 0) x).toNat) (word_idx i 5 _ _)
theorem tr8 (pf : pre0.Contents (Elt Ideal)) (i : grid0.Coords) : cc0_transform_8 k0_off1_inb numel1_S1x1 pf i 1 = ((show IVec S128x64 32 from pf 0) (pidx i 6)).toNat :=
  congrArg (fun x => ((show IVec S128x64 32 from pf 0) x).toNat) (word_idx i 6 _ _)
theorem tr9 (pf : pre0.Contents (Elt Ideal)) (i : grid0.Coords) : cc0_transform_9 k0_off1_inb numel1_S1x1 pf i 1 = ((show IVec S128x64 32 from pf 0) (pidx i 7)).toNat :=
  congrArg (fun x => ((show IVec S128x64 32 from pf 0) x).toNat) (word_idx i 7 _ _)

/-- An index of the pool from its four coordinates. -/
theorem pool_ext (j : S1x10240x128x64.Idx) (p : Fin 10240) (l : Fin 128) (d : Fin 64) (h1 : (j 1).val = p.val) (h2 : (j 2).val = l.val) (h3 : (j 3).val = d.val) :
    j = ix4 0 p l d := by
  funext a
  fin_cases a
  · exact Subsingleton.elim (α := Fin 1) _ _
  · exact Fin.ext h1
  · exact Fin.ext h2
  · exact Fin.ext h3

/-- The page table as the kernel finds it. -/
abbrev pt (m : (ℓ : Loc nD τ sig) → Buf (Elt Ideal) ℓ) (c : Dev nD) : IVec S128x64 32 := m ((c : Thread nD τ).loc main_arg0)

theorem tbl_eq (c : Dev nD) : (show IVec S128x64 32 from tbl m 0) = pt m c := by
  obtain rfl : c = 0 := Subsingleton.elim _ _
  exact V_main_arg0 m 0

/-- What the window of page 0 of a group stages: the page that the table names. -/
theorem key2 (hO : Ok m) (c : Dev nD) (t : Fin (cfgM m hO).N) (p : Fin 10240) (hp : p.val = (pt m c (pidx (grid0.coords t) 0)).toNat) (l : Fin 128) (d : Fin 64) :
    (show FVec Ideal S1x1x128x64 .f32 from iblk m hO c 2 t) (ix4 0 0 l d) = m ((c : Thread nD τ).loc main_arg3) (ix4 0 p l d) := by
  refine (congrArg (fun f : FVec Ideal S1x10240x128x64 .f32 => f ((((cfgM m hO).win 2).blk t).view.emb (ix4 0 0 l d))) (V_main_arg3 m c)).trans ?_
  refine congrArg (m ((c : Thread nD τ).loc main_arg3)) (pool_ext _ p l d ?_ ?_ ?_)
  · refine (Pipeline.Window.rect_emb_val ((cfgM m hO).win 2) t (ix4 0 0 l d) (1 : Fin 4) rfl).trans ?_
    show cc0_transform_2 k0_off1_inb numel1_S1x1 (tbl m) (grid0.coords t) 1 * 1 + 0 = p.val
    rw [tr2, hp, tbl_eq m c]; omega
  · refine (Pipeline.Window.rect_emb_val ((cfgM m hO).win 2) t (ix4 0 0 l d) (2 : Fin 4) rfl).trans ?_
    show 0 * 128 + l.val = l.val
    omega
  · refine (Pipeline.Window.rect_emb_val ((cfgM m hO).win 2) t (ix4 0 0 l d) (3 : Fin 4) rfl).trans ?_
    show 0 * 64 + d.val = d.val
    omega

/-- What the window of page 1 of a group stages: the page that the table names. -/
theorem key3 (hO : Ok m) (c : Dev nD) (t : Fin (cfgM m hO).N) (p : Fin 10240) (hp : p.val = (pt m c (pidx (grid0.coords t) 1)).toNat) (l : Fin 128) (d : Fin 64) :
    (show FVec Ideal S1x1x128x64 .f32 from iblk m hO c 3 t) (ix4 0 0 l d) = m ((c : Thread nD τ).loc main_arg3) (ix4 0 p l d) := by
  refine (congrArg (fun f : FVec Ideal S1x10240x128x64 .f32 => f ((((cfgM m hO).win 3).blk t).view.emb (ix4 0 0 l d))) (V_main_arg3 m c)).trans ?_
  refine congrArg (m ((c : Thread nD τ).loc main_arg3)) (pool_ext _ p l d ?_ ?_ ?_)
  · refine (Pipeline.Window.rect_emb_val ((cfgM m hO).win 3) t (ix4 0 0 l d) (1 : Fin 4) rfl).trans ?_
    show cc0_transform_3 k0_off1_inb numel1_S1x1 (tbl m) (grid0.coords t) 1 * 1 + 0 = p.val
    rw [tr3, hp, tbl_eq m c]; omega
  · refine (Pipeline.Window.rect_emb_val ((cfgM m hO).win 3) t (ix4 0 0 l d) (2 : Fin 4) rfl).trans ?_
    show 0 * 128 + l.val = l.val
    omega
  · refine (Pipeline.Window.rect_emb_val ((cfgM m hO).win 3) t (ix4 0 0 l d) (3 : Fin 4) rfl).trans ?_
    show 0 * 64 + d.val = d.val
    omega

/-- What the window of page 2 of a group stages: the page that the table names. -/
theorem key4 (hO : Ok m) (c : Dev nD) (t : Fin (cfgM m hO).N) (p : Fin 10240) (hp : p.val = (pt m c (pidx (grid0.coords t) 2)).toNat) (l : Fin 128) (d : Fin 64) :
    (show FVec Ideal S1x1x128x64 .f32 from iblk m hO c 4 t) (ix4 0 0 l d) = m ((c : Thread nD τ).loc main_arg3) (ix4 0 p l d) := by
  refine (congrArg (fun f : FVec Ideal S1x10240x128x64 .f32 => f ((((cfgM m hO).win 4).blk t).view.emb (ix4 0 0 l d))) (V_main_arg3 m c)).trans ?_
  refine congrArg (m ((c : Thread nD τ).loc main_arg3)) (pool_ext _ p l d ?_ ?_ ?_)
  · refine (Pipeline.Window.rect_emb_val ((cfgM m hO).win 4) t (ix4 0 0 l d) (1 : Fin 4) rfl).trans ?_
    show cc0_transform_4 k0_off1_inb numel1_S1x1 (tbl m) (grid0.coords t) 1 * 1 + 0 = p.val
    rw [tr4, hp, tbl_eq m c]; omega
  · refine (Pipeline.Window.rect_emb_val ((cfgM m hO).win 4) t (ix4 0 0 l d) (2 : Fin 4) rfl).trans ?_
    show 0 * 128 + l.val = l.val
    omega
  · refine (Pipeline.Window.rect_emb_val ((cfgM m hO).win 4) t (ix4 0 0 l d) (3 : Fin 4) rfl).trans ?_
    show 0 * 64 + d.val = d.val
    omega

/-- What the window of page 3 of a group stages: the page that the table names. -/
theorem key5 (hO : Ok m) (c : Dev nD) (t : Fin (cfgM m hO).N) (p : Fin 10240) (hp : p.val = (pt m c (pidx (grid0.coords t) 3)).toNat) (l : Fin 128) (d : Fin 64) :
    (show FVec Ideal S1x1x128x64 .f32 from iblk m hO c 5 t) (ix4 0 0 l d) = m ((c : Thread nD τ).loc main_arg3) (ix4 0 p l d) := by
  refine (congrArg (fun f : FVec Ideal S1x10240x128x64 .f32 => f ((((cfgM m hO).win 5).blk t).view.emb (ix4 0 0 l d))) (V_main_arg3 m c)).trans ?_
  refine congrArg (m ((c : Thread nD τ).loc main_arg3)) (pool_ext _ p l d ?_ ?_ ?_)
  · refine (Pipeline.Window.rect_emb_val ((cfgM m hO).win 5) t (ix4 0 0 l d) (1 : Fin 4) rfl).trans ?_
    show cc0_transform_5 k0_off1_inb numel1_S1x1 (tbl m) (grid0.coords t) 1 * 1 + 0 = p.val
    rw [tr5, hp, tbl_eq m c]; omega
  · refine (Pipeline.Window.rect_emb_val ((cfgM m hO).win 5) t (ix4 0 0 l d) (2 : Fin 4) rfl).trans ?_
    show 0 * 128 + l.val = l.val
    omega
  · refine (Pipeline.Window.rect_emb_val ((cfgM m hO).win 5) t (ix4 0 0 l d) (3 : Fin 4) rfl).trans ?_
    show 0 * 64 + d.val = d.val
    omega

/-- What the window of page 4 of a group stages: the page that the table names. -/
theorem key6 (hO : Ok m) (c : Dev nD) (t : Fin (cfgM m hO).N) (p : Fin 10240) (hp : p.val = (pt m c (pidx (grid0.coords t) 4)).toNat) (l : Fin 128) (d : Fin 64) :
    (show FVec Ideal S1x1x128x64 .f32 from iblk m hO c 6 t) (ix4 0 0 l d) = m ((c : Thread nD τ).loc main_arg3) (ix4 0 p l d) := by
  refine (congrArg (fun f : FVec Ideal S1x10240x128x64 .f32 => f ((((cfgM m hO).win 6).blk t).view.emb (ix4 0 0 l d))) (V_main_arg3 m c)).trans ?_
  refine congrArg (m ((c : Thread nD τ).loc main_arg3)) (pool_ext _ p l d ?_ ?_ ?_)
  · refine (Pipeline.Window.rect_emb_val ((cfgM m hO).win 6) t (ix4 0 0 l d) (1 : Fin 4) rfl).trans ?_
    show cc0_transform_6 k0_off1_inb numel1_S1x1 (tbl m) (grid0.coords t) 1 * 1 + 0 = p.val
    rw [tr6, hp, tbl_eq m c]; omega
  · refine (Pipeline.Window.rect_emb_val ((cfgM m hO).win 6) t (ix4 0 0 l d) (2 : Fin 4) rfl).trans ?_
    show 0 * 128 + l.val = l.val
    omega
  · refine (Pipeline.Window.rect_emb_val ((cfgM m hO).win 6) t (ix4 0 0 l d) (3 : Fin 4) rfl).trans ?_
    show 0 * 64 + d.val = d.val
    omega

/-- What the window of page 5 of a group stages: the page that the table names. -/
theorem key7 (hO : Ok m) (c : Dev nD) (t : Fin (cfgM m hO).N) (p : Fin 10240) (hp : p.val = (pt m c (pidx (grid0.coords t) 5)).toNat) (l : Fin 128) (d : Fin 64) :
    (show FVec Ideal S1x1x128x64 .f32 from iblk m hO c 7 t) (ix4 0 0 l d) = m ((c : Thread nD τ).loc main_arg3) (ix4 0 p l d) := by
  refine (congrArg (fun f : FVec Ideal S1x10240x128x64 .f32 => f ((((cfgM m hO).win 7).blk t).view.emb (ix4 0 0 l d))) (V_main_arg3 m c)).trans ?_
  refine congrArg (m ((c : Thread nD τ).loc main_arg3)) (pool_ext _ p l d ?_ ?_ ?_)
  · refine (Pipeline.Window.rect_emb_val ((cfgM m hO).win 7) t (ix4 0 0 l d) (1 : Fin 4) rfl).trans ?_
    show cc0_transform_7 k0_off1_inb numel1_S1x1 (tbl m) (grid0.coords t) 1 * 1 + 0 = p.val
    rw [tr7, hp, tbl_eq m c]; omega
  · refine (Pipeline.Window.rect_emb_val ((cfgM m hO).win 7) t (ix4 0 0 l d) (2 : Fin 4) rfl).trans ?_
    show 0 * 128 + l.val = l.val
    omega
  · refine (Pipeline.Window.rect_emb_val ((cfgM m hO).win 7) t (ix4 0 0 l d) (3 : Fin 4) rfl).trans ?_
    show 0 * 64 + d.val = d.val
    omega

/-- What the window of page 6 of a group stages: the page that the table names. -/
theorem key8 (hO : Ok m) (c : Dev nD) (t : Fin (cfgM m hO).N) (p : Fin 10240) (hp : p.val = (pt m c (pidx (grid0.coords t) 6)).toNat) (l : Fin 128) (d : Fin 64) :
    (show FVec Ideal S1x1x128x64 .f32 from iblk m hO c 8 t) (ix4 0 0 l d) = m ((c : Thread nD τ).loc main_arg3) (ix4 0 p l d) := by
  refine (congrArg (fun f : FVec Ideal S1x10240x128x64 .f32 => f ((((cfgM m hO).win 8).blk t).view.emb (ix4 0 0 l d))) (V_main_arg3 m c)).trans ?_
  refine congrArg (m ((c : Thread nD τ).loc main_arg3)) (pool_ext _ p l d ?_ ?_ ?_)
  · refine (Pipeline.Window.rect_emb_val ((cfgM m hO).win 8) t (ix4 0 0 l d) (1 : Fin 4) rfl).trans ?_
    show cc0_transform_8 k0_off1_inb numel1_S1x1 (tbl m) (grid0.coords t) 1 * 1 + 0 = p.val
    rw [tr8, hp, tbl_eq m c]; omega
  · refine (Pipeline.Window.rect_emb_val ((cfgM m hO).win 8) t (ix4 0 0 l d) (2 : Fin 4) rfl).trans ?_
    show 0 * 128 + l.val = l.val
    omega
  · refine (Pipeline.Window.rect_emb_val ((cfgM m hO).win 8) t (ix4 0 0 l d) (3 : Fin 4) rfl).trans ?_
    show 0 * 64 + d.val = d.val
    omega

/-- What the window of page 7 of a group stages: the page that the table names. -/
theorem key9 (hO : Ok m) (c : Dev nD) (t : Fin (cfgM m hO).N) (p : Fin 10240) (hp : p.val = (pt m c (pidx (grid0.coords t) 7)).toNat) (l : Fin 128) (d : Fin 64) :
    (show FVec Ideal S1x1x128x64 .f32 from iblk m hO c 9 t) (ix4 0 0 l d) = m ((c : Thread nD τ).loc main_arg3) (ix4 0 p l d) := by
  refine (congrArg (fun f : FVec Ideal S1x10240x128x64 .f32 => f ((((cfgM m hO).win 9).blk t).view.emb (ix4 0 0 l d))) (V_main_arg3 m c)).trans ?_
  refine congrArg (m ((c : Thread nD τ).loc main_arg3)) (pool_ext _ p l d ?_ ?_ ?_)
  · refine (Pipeline.Window.rect_emb_val ((cfgM m hO).win 9) t (ix4 0 0 l d) (1 : Fin 4) rfl).trans ?_
    show cc0_transform_9 k0_off1_inb numel1_S1x1 (tbl m) (grid0.coords t) 1 * 1 + 0 = p.val
    rw [tr9, hp, tbl_eq m c]; omega
  · refine (Pipeline.Window.rect_emb_val ((cfgM m hO).win 9) t (ix4 0 0 l d) (2 : Fin 4) rfl).trans ?_
    show 0 * 128 + l.val = l.val
    omega
  · refine (Pipeline.Window.rect_emb_val ((cfgM m hO).win 9) t (ix4 0 0 l d) (3 : Fin 4) rfl).trans ?_
    show 0 * 64 + d.val = d.val
    omega

/-- The block indices of the windows that do not read the table. -/
theorem idx : ∀ t : Fin grid0.N, cc0_transform_0 (grid0.coords t) = ![t.val / 8, 0, 0] ∧ cc0_transform_1 (grid0.coords t) = ![t.val / 8, 0, 0]
    ∧ cc0_transform_10 (grid0.coords t) = ![t.val / 8, 0, t.val % 8] := by decide +kernel

theorem V_v0 (c : Dev nD) (b : Fin 128) (h : Fin 8) (d : Fin 64) :
    (show FVec Ideal S128x8x64 .bf16 from V m c main_v0) (ix3 b h d) = m ((c : Thread nD τ).loc main_arg1) (ix2 b ⟨h.val * 64 + d.val, by omega⟩) := by
  show (show FVec Ideal S128x8x64 .bf16 from StableHlo.after hostOps0 (fun b => m (c, b)) (Proc.devRef .tc main_v0)) (ix3 b h d) = _
  blk_point []

theorem V_v1 (c : Dev nD) (b : Fin 128) (h : Fin 8) :
    (show FVec Ideal S128x8x1 .f32 from V m c main_v1) (ix3 b h 0) = m ((c : Thread nD τ).loc main_arg2) (ix2 b h) := by
  show (show FVec Ideal S128x8x1 .f32 from StableHlo.after hostOps0 (fun b => m (c, b)) (Proc.devRef .tc main_v1)) (ix3 b h 0) = _
  blk_point []

theorem ix3_ext {n k l : Nat} (j : (⟨3, ![n, k, l]⟩ : Shape).Idx) (x : Fin n) (y : Fin k) (z : Fin l) (h0 : (j 0).val = x.val) (h1 : (j 1).val = y.val) (h2 : (j 2).val = z.val) :
    j = ix3 x y z := by
  funext a
  fin_cases a
  · exact Fin.ext h0
  · exact Fin.ext h1
  · exact Fin.ext h2

theorem tlt (hO : Ok m) (t : Fin (cfgM m hO).N) : t.val < 1024 := t.isLt

/-- The staged queries are the sequence's row. -/
theorem q_at (hO : Ok m) (c : Dev nD) (t : Fin (cfgM m hO).N) (h : Fin 8) (d : Fin 64) :
    (show FVec Ideal S1x8x64 .bf16 from iblk m hO c 0 t) (ix3 0 h d) = m ((c : Thread nD τ).loc main_arg1) (ix2 ⟨t.val / 8, by have := tlt m hO t; omega⟩ ⟨h.val * 64 + d.val, by omega⟩) := by
  refine Eq.trans ?_ (V_v0 m c _ h d)
  refine congrArg (show FVec Ideal S128x8x64 .bf16 from V m c main_v0) (ix3_ext (((cfgM m hO).win 0).blk t |>.view.emb (ix3 0 h d)) _ _ _ ?_ ?_ ?_)
  · refine (Pipeline.Window.rect_emb_val ((cfgM m hO).win 0) t (ix3 0 h d) (0 : Fin 3) rfl).trans ?_
    show cc0_transform_0 (grid0.coords t) 0 * 1 + 0 = t.val / 8
    rw [(idx t).1]; show t.val / 8 * 1 + 0 = _; omega
  · refine (Pipeline.Window.rect_emb_val ((cfgM m hO).win 0) t (ix3 0 h d) (1 : Fin 3) rfl).trans ?_
    show cc0_transform_0 (grid0.coords t) 1 * 8 + h.val = h.val
    rw [(idx t).1]; show 0 * 8 + h.val = _; omega
  · refine (Pipeline.Window.rect_emb_val ((cfgM m hO).win 0) t (ix3 0 h d) (2 : Fin 3) rfl).trans ?_
    show cc0_transform_0 (grid0.coords t) 2 * 64 + d.val = d.val
    rw [(idx t).1]; show 0 * 64 + d.val = _; omega

/-- The staged head weights are the sequence's row. -/
theorem w_at (hO : Ok m) (c : Dev nD) (t : Fin (cfgM m hO).N) (h : Fin 8) :
    (show FVec Ideal S1x8x1 .f32 from iblk m hO c 1 t) (ix3 0 h 0) = m ((c : Thread nD τ).loc main_arg2) (ix2 ⟨t.val / 8, by have := tlt m hO t; omega⟩ h) := by
  refine Eq.trans ?_ (V_v1 m c _ h)
  refine congrArg (show FVec Ideal S128x8x1 .f32 from V m c main_v1) (ix3_ext (((cfgM m hO).win 1).blk t |>.view.emb (ix3 0 h 0)) _ _ _ ?_ ?_ ?_)
  · refine (Pipeline.Window.rect_emb_val ((cfgM m hO).win 1) t (ix3 0 h 0) (0 : Fin 3) rfl).trans ?_
    show cc0_transform_1 (grid0.coords t) 0 * 1 + 0 = t.val / 8
    rw [(idx t).2.1]; show t.val / 8 * 1 + 0 = _; omega
  · refine (Pipeline.Window.rect_emb_val ((cfgM m hO).win 1) t (ix3 0 h 0) (1 : Fin 3) rfl).trans ?_
    show cc0_transform_1 (grid0.coords t) 1 * 8 + h.val = h.val
    rw [(idx t).2.1]; show 0 * 8 + h.val = _; omega
  · refine (Pipeline.Window.rect_emb_val ((cfgM m hO).win 1) t (ix3 0 h 0) (2 : Fin 3) rfl).trans ?_
    show cc0_transform_1 (grid0.coords t) 2 * 1 + 0 = 0
    rw [(idx t).2.1]; rfl

/-- Where the result's window writes: the sequence's row, the group's 1024 positions. -/
theorem out_emb (hO : Ok m) (t : Fin (cfgM m hO).N) (y : S1x1x1024.Idx) :
    ((((cfgM m hO).win 10).blk t).view.emb y : S128x1x8192.Idx) = ix3 ⟨t.val / 8, by have := tlt m hO t; omega⟩ 0 ⟨t.val % 8 * 1024 + (y 2).val, by have : (y 2).val < 1024 := (y 2).isLt; omega⟩ := by
  have y0 : (y 0).val = 0 := by have : (y 0).val < 1 := (y 0).isLt; omega
  have y1 : (y 1).val = 0 := by have : (y 1).val < 1 := (y 1).isLt; omega
  refine ix3_ext _ _ _ _ ?_ ?_ ?_
  · refine (Pipeline.Window.rect_emb_val ((cfgM m hO).win 10) t y (0 : Fin 3) rfl).trans ?_
    show cc0_transform_10 (grid0.coords t) 0 * 1 + (y 0).val = t.val / 8
    rw [(idx t).2.2, y0]; show t.val / 8 * 1 + 0 = _; omega
  · refine (Pipeline.Window.rect_emb_val ((cfgM m hO).win 10) t y (1 : Fin 3) rfl).trans ?_
    show cc0_transform_10 (grid0.coords t) 1 * 1 + (y 1).val = 0
    rw [(idx t).2.2, y1]; rfl
  · refine (Pipeline.Window.rect_emb_val ((cfgM m hO).win 10) t y (2 : Fin 3) rfl).trans ?_
    show cc0_transform_10 (grid0.coords t) 2 * 1024 + (y 2).val = _
    rw [(idx t).2.2]; rfl

/-- The result's blocks cover the result. -/
theorem cover (hO : Ok m) (i : S128x1x8192.Idx) : ∃ t : Fin (cfgM m hO).N, ((cfgM m hO).win 10).flush t = true ∧ i ∈ (((cfgM m hO).win 10).blk t).view.set := by
  have h0 : (i 0).val < 128 := (i 0).isLt
  have h1 : (i 1).val < 1 := (i 1).isLt
  have h2 : (i 2).val < 8192 := (i 2).isLt
  have hN : (i 0).val * 8 + (i 2).val / 1024 < (cfgM m hO).N := by show _ < 1024; omega
  refine ⟨⟨(i 0).val * 8 + (i 2).val / 1024, hN⟩, flush0_10 (adm m hO) _, ?_⟩
  have e : i = (((cfgM m hO).win 10).blk ⟨(i 0).val * 8 + (i 2).val / 1024, hN⟩).view.emb (ix3 0 0 ⟨(i 2).val % 1024, Nat.mod_lt _ (by norm_num)⟩ : S1x1x1024.Idx) := by
    rw [out_emb]
    refine ix3_ext i _ _ _ ?_ ?_ ?_
    · show (i 0).val = ((i 0).val * 8 + (i 2).val / 1024) / 8; omega
    · show (i 1).val = 0; omega
    · show (i 2).val = ((i 0).val * 8 + (i 2).val / 1024) % 8 * 1024 + (i 2).val % 1024; omega
  have aux : ∀ (S : Finset S128x1x8192.Idx) (j : S128x1x8192.Idx), j ∈ S → i = j → i ∈ S := by rintro S j h rfl; exact h
  exact aux _ _ (View.emb_mem_set _ _) e

end Cert.SampleIdxIdeal.Value

end
-- ==== Proof.SampleIdxPre.lean ====
/- The sample's index scores: what the precondition says of the page table, and that every window is then inside the pool. -/
module

public import proofs.«01_k».proof.Defs
public import proofs.«01_k».proof.Proof.Gen.Pre_pages_in_pool
public import proofs.«01_k».proof.Proof.Gen.SampleIdx.Frame
public import proofs.«01_k».proof.Proof.Gen.SampleIdxIdeal.Frame
public import Idealize.ShloMosaic.Lib.ReduceAll

@[expose] public section

set_option maxRecDepth 16384

noncomputable section

open Idealize.ShloMosaic Idealize.ShloMosaic.TcCoe Idealize.SL.Sem

namespace Cert.Pre_pages_in_pool.Value

open Cert.Pre_pages_in_pool Cert.Pre_pages_in_pool.Gen

/-- A word that is at least 0 and at most 10239 as a signed number is at most 10239 as an unsigned one. -/
theorem bound (v : BitVec 32) (h : IntOp.andi (IntOp.cmpi .sge v 0#32) (IntOp.cmpi .sle v 10239#32) = 1#1) : v.toNat ≤ 10239 := by
  have h2 : ∀ a b : BitVec 1, IntOp.andi a b = 1#1 → a = 1#1 ∧ b = 1#1 := by decide
  obtain ⟨h0, h1⟩ := h2 _ _ h
  have hb : ∀ b : Bool, BitVec.ofBool b = 1#1 → b = true := by decide
  have e0 := hb _ h0
  have e1 := hb _ h1
  simp only [BitVec.sle, decide_eq_true_eq, BitVec.toInt_eq_toNat_cond] at e0 e1
  simp at e0 e1
  omega

/-- The precondition: every entry of the page table names a page of the pool. -/
theorem word {F : FTy → Type} [FloatOps F] (tb : IVec S128x64 32) (q : FVec F S128x512 .bf16) (w : FVec F S128x8 .f32) (k : FVec F S1x10240x128x64 .f32)
    (h : @fn facts F _ tb q w k = fun _ => 1#1) (i : S128x64.Idx) : (tb i).toNat ≤ 10239 := by
  haveI : Subsingleton S_.Idx := ⟨fun a b => funext fun k => k.elim0⟩
  have j : S_.Idx := fun k => k.elim0
  have h' := congrFun h j
  unfold fn at h'
  dsimp only at h'
  exact bound _ (Host.reduce_andi_all _ _ _ _ j h' i)

end Cert.Pre_pages_in_pool.Value

namespace Cert.SampleIdxIdeal.Value

open Cert.SampleIdxIdeal Cert.SampleIdxIdeal.Gen

/-- Under the precondition every window that a page number places is inside the pool. -/
theorem ok {F : FTy → Type} [FloatOps F] (m : (ℓ : Loc nD τ sig) → Buf (Elt F) ℓ)
    (h : ∀ i : S128x64.Idx, ((show IVec S128x64 32 from m (((0 : Dev nD) : Thread nD τ).loc main_arg0)) i).toNat ≤ 10239) : Ok m := by
  have ht : ∀ i : S128x64.Idx, ((show IVec S128x64 32 from tbl m 0) i).toNat ≤ 10239 := by
    intro i
    have e : tbl m 0 = m (((0 : Dev nD) : Thread nD τ).loc main_arg0) := V_main_arg0 m 0
    rw [e]; exact h i
  refine ⟨fun i => ⟨fun a => ?_, Or.inl rfl⟩, fun i => ⟨fun a => ?_, Or.inl rfl⟩, fun i => ⟨fun a => ?_, Or.inl rfl⟩, fun i => ⟨fun a => ?_, Or.inl rfl⟩,
    fun i => ⟨fun a => ?_, Or.inl rfl⟩, fun i => ⟨fun a => ?_, Or.inl rfl⟩, fun i => ⟨fun a => ?_, Or.inl rfl⟩, fun i => ⟨fun a => ?_, Or.inl rfl⟩⟩
  all_goals
    fin_cases a
    · show (0 + 1) * 1 ≤ 1; decide
    · refine (?_ : ∀ n : ℕ, n ≤ 10239 → (n + 1) * 1 ≤ 10240) _ (ht _)
      intro n hn; omega
    · show (0 + 1) * 128 ≤ 128; decide
    · show (0 + 1) * 64 ≤ 64; decide

end Cert.SampleIdxIdeal.Value

namespace Cert.SampleIdx.Value

open Cert.SampleIdx Cert.SampleIdx.Gen

/-- Under the precondition every window that a page number places is inside the pool. -/
theorem ok {F : FTy → Type} [FloatOps F] (m : (ℓ : Loc nD τ sig) → Buf (Elt F) ℓ)
    (h : ∀ i : S128x64.Idx, ((show IVec S128x64 32 from m (((0 : Dev nD) : Thread nD τ).loc main_arg0)) i).toNat ≤ 10239) : Ok m := by
  have ht : ∀ i : S128x64.Idx, ((show IVec S128x64 32 from tbl m 0) i).toNat ≤ 10239 := by
    intro i
    have e : tbl m 0 = m (((0 : Dev nD) : Thread nD τ).loc main_arg0) := V_main_arg0 m 0
    rw [e]; exact h i
  refine ⟨fun i => ⟨fun a => ?_, Or.inl rfl⟩, fun i => ⟨fun a => ?_, Or.inl rfl⟩, fun i => ⟨fun a => ?_, Or.inl rfl⟩, fun i => ⟨fun a => ?_, Or.inl rfl⟩,
    fun i => ⟨fun a => ?_, Or.inl rfl⟩, fun i => ⟨fun a => ?_, Or.inl rfl⟩, fun i => ⟨fun a => ?_, Or.inl rfl⟩, fun i => ⟨fun a => ?_, Or.inl rfl⟩⟩
  all_goals
    fin_cases a
    · show (0 + 1) * 1 ≤ 1; decide
    · refine (?_ : ∀ n : ℕ, n ≤ 10239 → (n + 1) * 1 ≤ 10240) _ (ht _)
      intro n hn; omega
    · show (0 + 1) * 128 ≤ 128; decide
    · show (0 + 1) * 64 ≤ 64; decide

end Cert.SampleIdx.Value

end
-- ==== Proof.SampleIdxRef.lean ====
/- The sample's index scores: what the reference computes, score by score. -/
module

public import proofs.«01_k».proof.Proof.Gen.SampleIdxRefIdeal.Run
public import proofs.«01_k».proof.Proof.SampleIdxRow

@[expose] public section

set_option maxRecDepth 16384

noncomputable section

open Idealize.ShloMosaic Idealize.ShloMosaic.TcCoe Idealize.SL.Sem

namespace Cert.SampleIdxRefIdeal.Value

open Cert.SampleIdxRefIdeal Cert.SampleIdxRefIdeal.Gen
open Cert.SampleIdxIdeal.Value (score)

/-- The page table made into gather positions: entries below zero would count from the end; a leading zero picks the pool. -/
def pages (pt : IVec S128x64 32) : IVec S128x64x2 32 :=
  concatenate S128x64x2 2 [⟨S128x64x1, (broadcastInDim S128x64x1 ![0, 1] bcast_S128x64_S128x64x1_0_1 (id (broadcastInDim S128x64 ![] bcast_S_S128x64 (constantI S_ 32 0#32))))⟩, ⟨S128x64x1, (broadcastInDim S128x64x1 ![0, 1] bcast_S128x64_S128x64x1_0_1 (select (cmpi .slt pt (broadcastInDim S128x64 ![] bcast_S_S128x64 (constantI S_ 32 0#32))) (addi pt (broadcastInDim S128x64 ![] bcast_S_S128x64 (constantI S_ 32 10240#32))) pt))⟩] concatenates_S128x64x1_S128x64x1_S128x64x2_d2

/-- The keys each sequence's pages hold, in the sequence's order. -/
def keys (pt : IVec S128x64 32) (k : FVec Ideal S1x10240x128x64 .f32) : FVec Ideal S128x64x128x64 .f32 :=
  Host.gather gather_S1x10240x128x64_S128x64x2_S128x64x128x64_23_01_n_n_01_2_1112864 k (pages pt)

/-- The reference's result. -/
def fin (pt : IVec S128x64 32) (q : FVec Ideal S128x512 .bf16) (w : FVec Ideal S128x8 .f32) (k : FVec Ideal S1x10240x128x64 .f32) : FVec Ideal S128x8192 .f32 :=
  Host.dotGeneral dot_S128x8_S128x8x8192_S128x8192_1_1_n_2_0_0 none w (maximumf (Host.dotGeneral dot_S128x8x64_S128x8192x64_S128x8x8192_2_2_1_1_0_0 none (shapeCast _ q shapeCasts_S128x512_S128x8x64) (shapeCast _ (keys pt k) shapeCasts_S128x64x128x64_S128x8192x64)) (broadcastInDim S128x8x8192 ![] bcast_S_S128x8x8192 (constant S_ .f32 0x00000000#32)))

theorem pages_0 (pt : IVec S128x64 32) (b : Fin 128) (j : Fin 64) : pages pt (ix3 b j 0) = 0#32 := by
  pointwise [pages]
  rfl

theorem pages_1 (pt : IVec S128x64 32) (b : Fin 128) (j : Fin 64) (h : (pt (ix2 b j)).toNat ≤ 10239) : pages pt (ix3 b j 1) = pt (ix2 b j) := by
  pointwise [pages]
  have hn : ¬ (pt (ix2 b j)).slt 0#32 = true := by
    simp [BitVec.slt, BitVec.toInt_eq_toNat_cond]; omega
  simp [IntOp.cmpi, hn]
  rfl

abbrev gd : GatherDims S1x10240x128x64 S128x64x2 S128x64x128x64 := gather_S1x10240x128x64_S128x64x2_S128x64x128x64_23_01_n_n_01_2_1112864

/-- A key of a sequence's page is that page's key in the pool. -/
theorem keys_at (pt : IVec S128x64 32) (k : FVec Ideal S1x10240x128x64 .f32) (b : Fin 128) (j : Fin 64) (l : Fin 128) (d : Fin 64) (h : (pt (ix2 b j)).toNat ≤ 10239) :
    keys pt k (ix4 b j l d) = k (ix4 0 ⟨(pt (ix2 b j)).toNat, by omega⟩ l d) := by
  unfold keys Host.gather
  congr 1
  funext a
  refine Fin.ext ?_
  show gd.start (ix4 b j l d) (pages pt) a + gd.batchCoord (ix4 b j l d) a + gd.offCoord (ix4 b j l d) a = _
  rw [GatherDims.batchCoord_eq_zero _ _ _ List.not_mem_nil]
  have s0 : ∀ h, gd.siIdx (ix4 b j l d) ⟨List.idxOf (0 : Fin 4) gd.startIndexMap, h⟩ = ix3 b j 0 := fun _ => by
    funext e; refine Fin.ext ?_
    match e with
    | ⟨0, _⟩ => rfl
    | ⟨1, _⟩ => rfl
    | ⟨2, _⟩ => rfl
  have s1 : ∀ h, gd.siIdx (ix4 b j l d) ⟨List.idxOf (1 : Fin 4) gd.startIndexMap, h⟩ = ix3 b j 1 := fun _ => by
    funext e; refine Fin.ext ?_
    match e with
    | ⟨0, _⟩ => rfl
    | ⟨1, _⟩ => rfl
    | ⟨2, _⟩ => rfl
  have c : a = 0 ∨ a = 1 ∨ a = 2 ∨ a = 3 := by revert a; decide
  rcases c with rfl | rfl | rfl | rfl
  · rw [GatherDims.offCoord_eq_zero _ _ _ (fun h => ((GatherDims.mem_sKept _ _).mp h).1 (by decide))]
    unfold GatherDims.start
    rw [dif_pos (by decide), s0, pages_0]
    rfl
  · rw [GatherDims.offCoord_eq_zero _ _ _ (fun h => ((GatherDims.mem_sKept _ _).mp h).1 (by decide))]
    unfold GatherDims.start
    rw [dif_pos (by decide), s1, pages_1 pt b j h]
    have e : (pt (ix2 b j)).toInt.toNat = (pt (ix2 b j)).toNat := by
      rw [BitVec.toInt_eq_toNat_cond]; split <;> omega
    show min (pt (ix2 b j)).toInt.toNat 10239 + 0 + 0 = (pt (ix2 b j)).toNat
    omega
  · unfold GatherDims.start GatherDims.offCoord
    rw [dif_neg (by decide), dif_pos (by decide)]
    show 0 + 0 + l.val = l.val
    omega
  · unfold GatherDims.start GatherDims.offCoord
    rw [dif_neg (by decide), dif_pos (by decide)]
    show 0 + 0 + d.val = d.val
    omega

theorem fin_at (pt : IVec S128x64 32) (q : FVec Ideal S128x512 .bf16) (w : FVec Ideal S128x8 .f32) (k : FVec Ideal S1x10240x128x64 .f32) (b : Fin 128) (p : Fin 8192) :
    fin pt q w k (ix2 b p) = score (fun h d => q (ix2 b ⟨h.val * 64 + d.val, by omega⟩)) (fun h => w (ix2 b h)) (fun d => keys pt k (ix4 b ⟨p.val / 128, by omega⟩ ⟨p.val % 128, by omega⟩ d)) := by
  pointwise [fin, score]

end Cert.SampleIdxRefIdeal.Value

end
-- ==== Proof.SampleIdxValue.lean ====
/- The sample's index scores: the kernel's result array is the reference's result of the same arguments. -/
module

public import proofs.«01_k».proof.Proof.SampleIdxBlock
public import proofs.«01_k».proof.Proof.SampleIdxPre
public import proofs.«01_k».proof.Proof.SampleIdxRef

@[expose] public section

set_option maxRecDepth 16384

noncomputable section

open Idealize.ShloMosaic Idealize.ShloMosaic.TcCoe Idealize.SL.Sem
open Idealize.ShloMosaic.Pipeline (Dat)

namespace Cert.SampleIdxIdeal.Value

open Cert.SampleIdxIdeal Cert.SampleIdxIdeal.Gen

variable (m : (ℓ : Loc nD τ sig) → Buf (Elt Ideal) ℓ)

/-- The reference's result over the kernel's argument arrays. -/
abbrev goal (c : Dev nD) : FVec Ideal S128x8192 .f32 :=
  Cert.SampleIdxRefIdeal.Value.fin (pt m c) (m ((c : Thread nD τ).loc main_arg1)) (m ((c : Thread nD τ).loc main_arg2)) (m ((c : Thread nD τ).loc main_arg3))

/-- The table entry that page `r` of step `t`'s group reads, in the step's own number. -/
theorem pidx_eq (t : Fin grid0.N) (r : Fin 8) (b : Fin 128) (j : Fin 64) (hb : b.val = t.val / 8) (hj : j.val = t.val % 8 * 8 + r.val) : pidx (grid0.coords t) r = ix2 b j := by
  funext a
  fin_cases a
  · exact Fin.ext ((coords t).1.trans hb.symm)
  · refine Fin.ext ?_
    show (grid0.coords t 1).val * 8 + r.val = j.val
    rw [(coords t).2, hj]

/-- One position of one page: the scores of the staged blocks are the reference's at the position's place in the sequence. -/
theorem core (c : Dev nD) (hb : ∀ i, (pt m c i).toNat ≤ 10239) (t : Fin grid0.N) (r : Fin 8) (l : Fin 128) (b : Fin 128) (hbt : b.val = t.val / 8) (p : Fin 8192) (hp : p.val = t.val % 8 * 1024 + (r.val * 128 + l.val))
    (x0 : FVec Ideal S1x8x64 .bf16) (x1 : FVec Ideal S1x8x1 .f32) (x : FVec Ideal S1x1x128x64 .f32)
    (h0 : ∀ (h : Fin 8) (d : Fin 64), x0 (ix3 0 h d) = m ((c : Thread nD τ).loc main_arg1) (ix2 b ⟨h.val * 64 + d.val, by omega⟩))
    (h1 : ∀ h : Fin 8, x1 (ix3 0 h 0) = m ((c : Thread nD τ).loc main_arg2) (ix2 b h))
    (hx : ∀ (q : Fin 10240), q.val = (pt m c (pidx (grid0.coords t) r)).toNat → ∀ (l : Fin 128) (d : Fin 64), x (ix4 0 0 l d) = m ((c : Thread nD τ).loc main_arg3) (ix4 0 q l d)) :
    score (fun h d => x0 (ix3 0 h d)) (fun h => x1 (ix3 0 h 0)) (fun d => x (ix4 0 0 l d)) = goal m c (ix2 b p) := by
  rw [goal, Cert.SampleIdxRefIdeal.Value.fin_at]
  have ej : (⟨p.val / 128, by omega⟩ : Fin 64).val = t.val % 8 * 8 + r.val := by show p.val / 128 = _; omega
  have el : (⟨p.val % 128, by omega⟩ : Fin 128) = l := Fin.ext (by show p.val % 128 = _; omega)
  have ek : ∀ d : Fin 64, x (ix4 0 0 l d) = Cert.SampleIdxRefIdeal.Value.keys (pt m c) (m ((c : Thread nD τ).loc main_arg3)) (ix4 b ⟨p.val / 128, by omega⟩ ⟨p.val % 128, by omega⟩ d) := fun d => by
    rw [Cert.SampleIdxRefIdeal.Value.keys_at _ _ _ _ _ _ (hb _), el]
    exact hx _ (by rw [pidx_eq t r b _ hbt ej]) l d
  simp only [h0, h1, ek]

/-- A property of each of eight blocks, at the block of any number. -/
theorem pick {α : Type} (P : Fin 8 → α → Prop) (x0 x1 x2 x3 x4 x5 x6 x7 : α) (h0 : P 0 x0) (h1 : P 1 x1) (h2 : P 2 x2) (h3 : P 3 x3) (h4 : P 4 x4) (h5 : P 5 x5) (h6 : P 6 x6) (h7 : P 7 x7) (r : Fin 8) :
    P r ((![x0, x1, x2, x3, x4, x5, x6, x7] : Fin 8 → α) r) := by
  fin_cases r
  exacts [h0, h1, h2, h3, h4, h5, h6, h7]

/-- What a step's body leaves in the result's block: the reference's result at the block's place. -/
theorem outs (hO : Ok m) (c : Dev nD) (hb : ∀ i, (pt m c i).toNat ≤ 10239) (t : Fin (cfgM m hO).N) (y : S1x1x1024.Idx) :
    outsAt0 m hO c t y = goal m c (ix2 ⟨t.val / 8, by have := tlt m hO t; omega⟩ ⟨t.val % 8 * 1024 + (y 2).val, by have : (y 2).val < 1024 := (y 2).isLt; omega⟩) := by
  have ht := tlt m hO t
  have hq := q_at m hO c t
  have hw := w_at m hO c t
  have k2 := key2 m hO c t
  have k3 := key3 m hO c t
  have k4 := key4 m hO c t
  have k5 := key5 m hO c t
  have k6 := key6 m hO c t
  have k7 := key7 m hO c t
  have k8 := key8 m hO c t
  have k9 := key9 m hO c t
  unfold outsAt0
  generalize (iblk m hO c 0 t) = x0 at hq ⊢
  generalize (iblk m hO c 1 t) = x1 at hw ⊢
  generalize (iblk m hO c 2 t) = x2 at k2 ⊢
  generalize (iblk m hO c 3 t) = x3 at k3 ⊢
  generalize (iblk m hO c 4 t) = x4 at k4 ⊢
  generalize (iblk m hO c 5 t) = x5 at k5 ⊢
  generalize (iblk m hO c 6 t) = x6 at k6 ⊢
  generalize (iblk m hO c 7 t) = x7 at k7 ⊢
  generalize (iblk m hO c 8 t) = x8 at k8 ⊢
  generalize (iblk m hO c 9 t) = x9 at k9 ⊢
  refine out_at c (grid0.coords t) _ _ _ _ _ _ _ _ _ _ _ _ _ _ _ _ _ _ _ _ _ _ x0 x1 x2 x3 x4 x5 x6 x7 x8 x9 _
    (fun y : S1x1x1024.Idx => goal m c (ix2 ⟨t.val / 8, by omega⟩ ⟨t.val % 8 * 1024 + (y 2).val, by have : (y 2).val < 1024 := (y 2).isLt; omega⟩)) (fun r l => ?_) y
  refine core m c hb t r l ⟨t.val / 8, by omega⟩ rfl ⟨t.val % 8 * 1024 + (r.val * 128 + l.val), by omega⟩ rfl x0 x1 _ hq hw ?_
  exact pick (fun (r : Fin 8) (x : FVec Ideal S1x1x128x64 .f32) => ∀ q : Fin 10240, q.val = (pt m c (pidx (grid0.coords t) r)).toNat → ∀ (l : Fin 128) (d : Fin 64), x (ix4 0 0 l d) = m ((c : Thread nD τ).loc main_arg3) (ix4 0 q l d))
    x2 x3 x4 x5 x6 x7 x8 x9 k2 k3 k4 k5 k6 k7 k8 k9 r

/-- The reference's result in the shape the kernel writes it. -/
def gfin (c : Dev nD) : S128x1x8192.Idx → Elt Ideal .f32 := fun i => goal m c (ix2 ⟨(i 0).val, (i 0).isLt⟩ ⟨(i 2).val, (i 2).isLt⟩)

/-- The result array after the run is the reference's result. -/
theorem final (hO : Ok m) (c : Dev nD) (hb : ∀ i, (pt m c i).toNat ≤ 10239) :
    (dats m hO 0 c).arrAt 10 (cfgM m hO).N = gfin m c := by
  refine (dats m hO 0 c).arrAt_eq_of_emb 10 (gfin m c) ?_ ?_
  · intro t _ y
    rw [after0_10]
    refine Eq.trans ?_ (congrArg (gfin m c) (out_emb m hO t y)).symm
    exact outs m hO c hb t y
  · exact cover m hO

/-- The result buffer after the run: the reference's result. -/
theorem tail (hO : Ok m) (c : Dev nD) (hb : ∀ i, (pt m c i).toNat ≤ 10239) :
    Pipeline.afterTail pcfgs (fun _ => adm m hO) (dats m hO) 0 (V0 m) [hostOps1] c main_v3 = goal m c := by
  have e : Pipeline.withArrays (Pipeline.pin pcfgs (fun _ => adm m hO) 0).spec c (V0 m c) (fun w => (dats m hO 0 c).arrAt w (Pipeline.pin pcfgs (fun _ => adm m hO) 0).N) (Proc.devRef .tc main_v2)
      = gfin m c :=
    (Pipeline.withArrays_arr_shared _ c (V0 m c) _ (Dat.arrAt_sharedIn (dats m hO 0 c) sharedIn0 (V0 m c) (A_eq m hO c) _) (10 : Fin 11)).trans (final m hO c hb)
  unfold Pipeline.afterTail
  generalize Pipeline.withArrays (Pipeline.pin pcfgs (fun _ => adm m hO) 0).spec c (V0 m c) (fun w => (dats m hO 0 c).arrAt w (Pipeline.pin pcfgs (fun _ => adm m hO) 0).N) = W at e ⊢
  show StableHlo.after hostOps1 W (Proc.devRef .tc main_v3) = goal m c
  have e3 : StableHlo.after hostOps1 W (Proc.devRef .tc main_v3) = shapeCast S128x8192 (W (Proc.devRef .tc main_v2)) shapeCasts_S128x1x8192_S128x8192 := by
    exact (StableHlo.reshape_result main_v2 main_v3 (rfl : (.f32 : EltTy) = .f32) shapeCasts_S128x1x8192_S128x8192 (by decide) (by decide) W)
  rw [e3, e]
  unfold gfin
  funext i
  rw [show i = ix2 (⟨(i 0).val, (i 0).isLt⟩ : Fin 128) (⟨(i 1).val, (i 1).isLt⟩ : Fin 8192) from by blk_ext]
  pointwise

end Cert.SampleIdxIdeal.Value

end
-- ==== Proof.SampleIdxClaim.lean ====
/- The sample's index scores: the kernel runs under its precondition, and kernel and reference end with equal results. -/
module

public import proofs.«01_k».proof.Defs
public import proofs.«01_k».proof.Proof.SampleIdxValue
public import proofs.«01_k».proof.Proof.Gen.Pre_pages_in_pool
public import proofs.«01_k».proof.Proof.Gen.SampleIdx.Frame
public import proofs.«01_k».proof.Proof.Gen.SampleIdxIdeal.Frame
public import proofs.«01_k».proof.Proof.Gen.SampleIdxRefIdeal.Run
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SampleIdxIdeal.Value

open Cert.SampleIdxIdeal Cert.SampleIdxIdeal.Gen

/-- The kernel runs to the reference's result over its own arguments, and leaves the arguments as they were. -/
theorem run_fin (m : (ℓ : Loc nD τ sig) → Buf (Elt Ideal) ℓ) (ρ : Dev nD → PrngReg) (hb : ∀ (c : Dev nD) i, (pt m c i).toNat ≤ 10239) :
    θ_run (defs (F := Ideal)) (onTc (τ := τ) (main (F := Ideal))) ⟨m, fun _ => 0, ρ⟩ (fun r => ∀ c : Dev nD,
      r.2.mem ((c.tc : Thread nD τ).loc main_v3) = goal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun r h c => ⟨(h.1 c).trans (tail m (ok m (hb 0)) c (hb c)), h.2 c⟩)
    (θ_run_and ((θ_run _ _ _).mono (fun r h c => (h c).2 main_v3 (by decide : main_v3 ∈ Pipeline.restRefs sig spec0)) (run_main m ρ (ok m (hb 0)))) (unchanged m ρ (ok m (hb 0))))

end Cert.SampleIdxIdeal.Value

namespace Cert.Proof

/-- The program runs, leaves its arguments and ends quiescent, when every page number is in the pool. -/
theorem quietSampleIdx : @Cert.quiescent_SampleIdx Cert.SampleIdx.Gen.facts Cert.Pre_pages_in_pool.Gen.facts := fun m ρ h =>
  Cert.SampleIdx.Gen.frame m ρ (Cert.SampleIdx.Value.ok m (Cert.Pre_pages_in_pool.Value.word _ _ _ _ (h 0)))

/-- The same of its ideal. -/
theorem quietSampleIdxIdeal : @Cert.quiescent_SampleIdxIdeal Cert.SampleIdxIdeal.Gen.facts Cert.Pre_pages_in_pool.Gen.facts := fun m ρ h =>
  Cert.SampleIdxIdeal.Gen.frame m ρ (Cert.SampleIdxIdeal.Value.ok m (Cert.Pre_pages_in_pool.Value.word _ _ _ _ (h 0)))

/-- The reference runs, leaves its arguments and ends quiescent. -/
theorem quietSampleIdxRef : @Cert.quiescent_SampleIdxRefIdeal Cert.SampleIdxRefIdeal.Gen.facts := fun m ρ _ =>
  (θ_run _ _ _).mono (fun r h => ⟨fun c => (h c).2, Idealize.ShloMosaic.sem_eq_zero_of_no_sems (by decide) r.2⟩) (Cert.SampleIdxRefIdeal.Value.run m ρ)

set_option maxHeartbeats 1600000 in
/-- On equal arguments, when every page number is in the pool, the kernel's scores are the reference's. -/
theorem sampleIdx : @Cert.algebraic_SampleIdxIdeal_SampleIdxRefIdeal Cert.SampleIdxIdeal.Gen.facts Cert.SampleIdxRefIdeal.Gen.facts Cert.Pre_pages_in_pool.Gen.facts := by
  intro m g m' g' hpre hagree
  refine ⟨fun c => Cert.SampleIdxIdeal.Value.goal m c, Cert.SampleIdxIdeal.Value.run_fin m g (fun c => Cert.Pre_pages_in_pool.Value.word _ _ _ _ (hpre c)), ?_⟩
  refine (θ_run _ _ _).mono (fun r h c => ⟨(h c).1.trans ?_, (h c).2⟩) (Cert.SampleIdxRefIdeal.Value.run m' g')
  obtain ⟨h0, h1, h2, h3⟩ := hagree c
  show Cert.SampleIdxRefIdeal.Value.fin _ _ _ _ = Cert.SampleIdxRefIdeal.Value.fin _ _ _ _
  rw [h0, h1, h2, h3]

end Cert.Proof

end
-- ==== Proof.lean ====
/- The claims about the kernels, each taken from the module that proves it. -/
module

public import proofs.«01_k».proof.Defs
public import proofs.«01_k».proof.Proof.ProjClaim
public import proofs.«01_k».proof.Proof.ResidClaim
public import proofs.«01_k».proof.Proof.AttnClaim
public import proofs.«01_k».proof.Proof.SampleProjClaim
public import proofs.«01_k».proof.Proof.SampleResidClaim
public import proofs.«01_k».proof.Proof.SampleIdxClaim
public import proofs.«01_k».proof.Proof.Gen.AttnIdeal.Value
public import proofs.«01_k».proof.Proof.Gen.Attn.Frame
public import proofs.«01_k».proof.Proof.Gen.AttnIdeal.Frame
public import proofs.«01_k».proof.Proof.Gen.Proj.Frame
public import proofs.«01_k».proof.Proof.Gen.ProjIdeal.Frame
public import proofs.«01_k».proof.Proof.Gen.Resid.Frame
public import proofs.«01_k».proof.Proof.Gen.ResidIdeal.Frame
public import proofs.«01_k».proof.Proof.Gen.AttnRefIdeal.Run
public import proofs.«01_k».proof.Proof.Gen.ProjRefIdeal.Run
public import proofs.«01_k».proof.Proof.Gen.ResidRefIdeal.Run
public import proofs.«01_k».proof.Proof.Gen.Pre_finite
public import proofs.«01_k».proof.Proof.Gen.SampleProj.Frame
public import proofs.«01_k».proof.Proof.Gen.SampleProjIdeal.Frame
public import proofs.«01_k».proof.Proof.Gen.SampleProjIdeal.Value
public import proofs.«01_k».proof.Proof.Gen.SampleResid.Frame
public import proofs.«01_k».proof.Proof.Gen.SampleResidIdeal.Frame
public import proofs.«01_k».proof.Proof.Gen.SampleResidIdeal.Value
public import proofs.«01_k».proof.Proof.Gen.SampleProjRefIdeal.Run
public import proofs.«01_k».proof.Proof.Gen.SampleResidRefIdeal.Run
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The reference AttnRefIdeal runs, leaves its arguments and ends quiescent. -/
theorem quietAttnRef : @Cert.quiescent_AttnRefIdeal Cert.AttnRefIdeal.Gen.facts := fun m ρ _ =>
  (θ_run _ _ _).mono (fun r h => ⟨fun c => (h c).2, Idealize.ShloMosaic.sem_eq_zero_of_no_sems (by decide) r.2⟩) (Cert.AttnRefIdeal.Value.run m ρ)

/-- The reference ProjRefIdeal runs, leaves its arguments and ends quiescent. -/
theorem quietProjRef : @Cert.quiescent_ProjRefIdeal Cert.ProjRefIdeal.Gen.facts := fun m ρ _ =>
  (θ_run _ _ _).mono (fun r h => ⟨fun c => (h c).2.2.2.2.2.2.2.2.2.2.2.2.2.2.2.2, Idealize.ShloMosaic.sem_eq_zero_of_no_sems (by decide) r.2⟩) (Cert.ProjRefIdeal.Value.run m ρ)

/-- The reference ResidRefIdeal runs, leaves its arguments and ends quiescent. -/
theorem quietResidRef : @Cert.quiescent_ResidRefIdeal Cert.ResidRefIdeal.Gen.facts := fun m ρ _ =>
  (θ_run _ _ _).mono (fun r h => ⟨fun c => (h c).2, Idealize.ShloMosaic.sem_eq_zero_of_no_sems (by decide) r.2⟩) (Cert.ResidRefIdeal.Value.run m ρ)

/-- The reference SampleProjRefIdeal runs, leaves its arguments and ends quiescent. -/
theorem quietSampleProjRef : @Cert.quiescent_SampleProjRefIdeal Cert.SampleProjRefIdeal.Gen.facts := fun m ρ _ =>
  (θ_run _ _ _).mono (fun r h => ⟨fun c => (h c).2.2.2.2.2.2.2.2.2.2.2.2.2.2.2.2, Idealize.ShloMosaic.sem_eq_zero_of_no_sems (by decide) r.2⟩) (Cert.SampleProjRefIdeal.Value.run m ρ)

/-- The reference SampleResidRefIdeal runs, leaves its arguments and ends quiescent. -/
theorem quietSampleResidRef : @Cert.quiescent_SampleResidRefIdeal Cert.SampleResidRefIdeal.Gen.facts := fun m ρ _ =>
  (θ_run _ _ _).mono (fun r h => ⟨fun c => (h c).2, Idealize.ShloMosaic.sem_eq_zero_of_no_sems (by decide) r.2⟩) (Cert.SampleResidRefIdeal.Value.run m ρ)

/-- Every claim about the kernels. -/
theorem claim : Cert.Claim :=
  ⟨Cert.Attn.Gen.facts, Cert.AttnIdeal.Gen.facts, Cert.AttnRefIdeal.Gen.facts, Cert.Proj.Gen.facts, Cert.ProjIdeal.Gen.facts, Cert.ProjRefIdeal.Gen.facts, Cert.Resid.Gen.facts, Cert.ResidIdeal.Gen.facts, Cert.ResidRefIdeal.Gen.facts, Cert.SampleProj.Gen.facts, Cert.SampleProjIdeal.Gen.facts, Cert.SampleProjRefIdeal.Gen.facts, Cert.SampleResid.Gen.facts, Cert.SampleResidIdeal.Gen.facts, Cert.SampleResidRefIdeal.Gen.facts, Cert.SampleIdx.Gen.facts, Cert.SampleIdxIdeal.Gen.facts, Cert.SampleIdxRefIdeal.Gen.facts, Cert.Pre_finite.Gen.facts, Cert.Pre_pages_in_pool.Gen.facts,
    fun m ρ _ => Cert.Attn.Gen.frame m ρ,
    fun m ρ _ => Cert.AttnIdeal.Gen.frame m ρ,
    fun m ρ _ => Cert.AttnIdeal.Gen.frame m ρ,
    quietAttnRef,
    fun m ρ _ => quietAttnRef m ρ trivial,
    fun m ρ _ => Cert.Proj.Gen.frame m ρ,
    fun m ρ _ => Cert.ProjIdeal.Gen.frame m ρ,
    quietProjRef,
    fun m ρ _ => Cert.Resid.Gen.frame m ρ,
    fun m ρ _ => Cert.ResidIdeal.Gen.frame m ρ,
    quietResidRef,
    fun m ρ _ => Cert.SampleProj.Gen.frame m ρ,
    fun m ρ _ => Cert.SampleProjIdeal.Gen.frame m ρ,
    quietSampleProjRef,
    fun m ρ _ => Cert.SampleResid.Gen.frame m ρ,
    fun m ρ _ => Cert.SampleResidIdeal.Gen.frame m ρ,
    quietSampleResidRef,
    quietSampleIdx,
    quietSampleIdxIdeal,
    quietSampleIdxRef,
    fun m ρ _ => quietSampleIdxRef m ρ trivial,
    IdealRules.named_const.statement Cert.AttnIdeal.κ "mask" .f32 0xF149F2CA#32 ⊥ rfl,
    attn,
    trivial,
    proj,
    trivial,
    resid,
    trivial,
    sampleProj,
    trivial,
    sampleResid,
    trivial,
    sampleIdx⟩

end Cert.Proof

end
